-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_logits [hPre_finite_logits : Cert.Pre_finite_logits.Facts] (m : (ℓ : Loc Cert.KernelIdeal.nD Cert.KernelIdeal.τ Cert.KernelIdeal.sig) → Buf (Elt Ideal) ℓ) : Prop :=
  ∀ c : Dev Cert.KernelIdeal.nD,
    (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_logits.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_logits [hPre_finite_logits : Cert.Pre_finite_logits.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_logits.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_above_minus_inf [hPre_above_minus_inf : Cert.Pre_above_minus_inf.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_above_minus_inf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21))).1 = (fun _ => 1#1)
    ∧ (Cert.Pre_above_minus_inf.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6)) (m ((c.tc : Thread Cert.Kernel2Ideal.nD Cert.Kernel2Ideal.τ).loc Cert.Kernel2Ideal.main_arg7)) (m ((c.tc : Thread Cert.Kernel2Ideal.nD Cert.Kernel2Ideal.τ).loc Cert.Kernel2Ideal.main_arg8)) (m ((c.tc : Thread Cert.Kernel2Ideal.nD Cert.Kernel2Ideal.τ).loc Cert.Kernel2Ideal.main_arg9)) (m ((c.tc : Thread Cert.Kernel2Ideal.nD Cert.Kernel2Ideal.τ).loc Cert.Kernel2Ideal.main_arg10)) (m ((c.tc : Thread Cert.Kernel2Ideal.nD Cert.Kernel2Ideal.τ).loc Cert.Kernel2Ideal.main_arg11)) (m ((c.tc : Thread Cert.Kernel2Ideal.nD Cert.Kernel2Ideal.τ).loc Cert.Kernel2Ideal.main_arg12)) (m ((c.tc : Thread Cert.Kernel2Ideal.nD Cert.Kernel2Ideal.τ).loc Cert.Kernel2Ideal.main_arg13)) (m ((c.tc : Thread Cert.Kernel2Ideal.nD Cert.Kernel2Ideal.τ).loc Cert.Kernel2Ideal.main_arg14)) (m ((c.tc : Thread Cert.Kernel2Ideal.nD Cert.Kernel2Ideal.τ).loc Cert.Kernel2Ideal.main_arg15)) (m ((c.tc : Thread Cert.Kernel2Ideal.nD Cert.Kernel2Ideal.τ).loc Cert.Kernel2Ideal.main_arg16)) (m ((c.tc : Thread Cert.Kernel2Ideal.nD Cert.Kernel2Ideal.τ).loc Cert.Kernel2Ideal.main_arg17)) (m ((c.tc : Thread Cert.Kernel2Ideal.nD Cert.Kernel2Ideal.τ).loc Cert.Kernel2Ideal.main_arg18)) (m ((c.tc : Thread Cert.Kernel2Ideal.nD Cert.Kernel2Ideal.τ).loc Cert.Kernel2Ideal.main_arg19)) (m ((c.tc : Thread Cert.Kernel2Ideal.nD Cert.Kernel2Ideal.τ).loc Cert.Kernel2Ideal.main_arg20)) (m ((c.tc : Thread Cert.Kernel2Ideal.nD Cert.Kernel2Ideal.τ).loc Cert.Kernel2Ideal.main_arg21))).2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_above_minus_inf [hPre_above_minus_inf : Cert.Pre_above_minus_inf.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_above_minus_inf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20)) (m ((c.tc : Thread Cert.Reference2Ideal.nD Cert.Reference2Ideal.τ).loc Cert.Reference2Ideal.main_arg21))).1 = (fun _ => 1#1)
    ∧ (Cert.Pre_above_minus_inf.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6)) (m ((c.tc : Thread Cert.Reference2Ideal.nD Cert.Reference2Ideal.τ).loc Cert.Reference2Ideal.main_arg7)) (m ((c.tc : Thread Cert.Reference2Ideal.nD Cert.Reference2Ideal.τ).loc Cert.Reference2Ideal.main_arg8)) (m ((c.tc : Thread Cert.Reference2Ideal.nD Cert.Reference2Ideal.τ).loc Cert.Reference2Ideal.main_arg9)) (m ((c.tc : Thread Cert.Reference2Ideal.nD Cert.Reference2Ideal.τ).loc Cert.Reference2Ideal.main_arg10)) (m ((c.tc : Thread Cert.Reference2Ideal.nD Cert.Reference2Ideal.τ).loc Cert.Reference2Ideal.main_arg11)) (m ((c.tc : Thread Cert.Reference2Ideal.nD Cert.Reference2Ideal.τ).loc Cert.Reference2Ideal.main_arg12)) (m ((c.tc : Thread Cert.Reference2Ideal.nD Cert.Reference2Ideal.τ).loc Cert.Reference2Ideal.main_arg13)) (m ((c.tc : Thread Cert.Reference2Ideal.nD Cert.Reference2Ideal.τ).loc Cert.Reference2Ideal.main_arg14)) (m ((c.tc : Thread Cert.Reference2Ideal.nD Cert.Reference2Ideal.τ).loc Cert.Reference2Ideal.main_arg15)) (m ((c.tc : Thread Cert.Reference2Ideal.nD Cert.Reference2Ideal.τ).loc Cert.Reference2Ideal.main_arg16)) (m ((c.tc : Thread Cert.Reference2Ideal.nD Cert.Reference2Ideal.τ).loc Cert.Reference2Ideal.main_arg17)) (m ((c.tc : Thread Cert.Reference2Ideal.nD Cert.Reference2Ideal.τ).loc Cert.Reference2Ideal.main_arg18)) (m ((c.tc : Thread Cert.Reference2Ideal.nD Cert.Reference2Ideal.τ).loc Cert.Reference2Ideal.main_arg19)) (m ((c.tc : Thread Cert.Reference2Ideal.nD Cert.Reference2Ideal.τ).loc Cert.Reference2Ideal.main_arg20)) (m ((c.tc : Thread Cert.Reference2Ideal.nD Cert.Reference2Ideal.τ).loc Cert.Reference2Ideal.main_arg21))).2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_inner_above_minus_inf [hPre_inner_above_minus_inf : Cert.Pre_inner_above_minus_inf.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_inner_above_minus_inf.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_inner_above_minus_inf.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_inner_above_minus_inf [hPre_inner_above_minus_inf : Cert.Pre_inner_above_minus_inf.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_inner_above_minus_inf.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_inner_above_minus_inf.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_first_above_minus_inf [hPre_first_above_minus_inf : Cert.Pre_first_above_minus_inf.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_first_above_minus_inf.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).1 = (fun _ => 1#1)
    ∧ (Cert.Pre_first_above_minus_inf.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5)) (m ((c.tc : Thread Cert.Kernel4Ideal.nD Cert.Kernel4Ideal.τ).loc Cert.Kernel4Ideal.main_arg6))).2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_first_above_minus_inf [hPre_first_above_minus_inf : Cert.Pre_first_above_minus_inf.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_first_above_minus_inf.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).1 = (fun _ => 1#1)
    ∧ (Cert.Pre_first_above_minus_inf.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5)) (m ((c.tc : Thread Cert.Reference4Ideal.nD Cert.Reference4Ideal.τ).loc Cert.Reference4Ideal.main_arg6))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_logits [hKernelIdeal : Cert.KernelIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_logits m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_logits [hReferenceIdeal : Cert.ReferenceIdeal.Facts] [hPre_finite_logits : Cert.Pre_finite_logits.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_logits m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16)
      ∧ r.2.mem ((c.tc : Thread Cert.Kernel2.nD Cert.Kernel2.τ).loc Cert.Kernel2.main_arg17) = m ((c.tc : Thread Cert.Kernel2.nD Cert.Kernel2.τ).loc Cert.Kernel2.main_arg17)
      ∧ r.2.mem ((c.tc : Thread Cert.Kernel2.nD Cert.Kernel2.τ).loc Cert.Kernel2.main_arg18) = m ((c.tc : Thread Cert.Kernel2.nD Cert.Kernel2.τ).loc Cert.Kernel2.main_arg18)
      ∧ r.2.mem ((c.tc : Thread Cert.Kernel2.nD Cert.Kernel2.τ).loc Cert.Kernel2.main_arg19) = m ((c.tc : Thread Cert.Kernel2.nD Cert.Kernel2.τ).loc Cert.Kernel2.main_arg19)
      ∧ r.2.mem ((c.tc : Thread Cert.Kernel2.nD Cert.Kernel2.τ).loc Cert.Kernel2.main_arg20) = m ((c.tc : Thread Cert.Kernel2.nD Cert.Kernel2.τ).loc Cert.Kernel2.main_arg20)
      ∧ r.2.mem ((c.tc : Thread Cert.Kernel2.nD Cert.Kernel2.τ).loc Cert.Kernel2.main_arg21) = m ((c.tc : Thread Cert.Kernel2.nD Cert.Kernel2.τ).loc Cert.Kernel2.main_arg21))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ r.2.sem = fun _ => 0)

def quiescent_Kernel2Ideal_pre_above_minus_inf [hKernel2Ideal : Cert.Kernel2Ideal.Facts] [hPre_above_minus_inf : Cert.Pre_above_minus_inf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_above_minus_inf m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
      ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
      ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
      ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
      ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
      ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21))
      ∧ r.2.sem = fun _ => 0)

def quiescent_Reference2Ideal_pre_above_minus_inf [hReference2Ideal : Cert.Reference2Ideal.Facts] [hPre_above_minus_inf : Cert.Pre_above_minus_inf.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_above_minus_inf m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16)
      ∧ r.2.mem ((c.tc : Thread Cert.Reference2Ideal.nD Cert.Reference2Ideal.τ).loc Cert.Reference2Ideal.main_arg17) = m ((c.tc : Thread Cert.Reference2Ideal.nD Cert.Reference2Ideal.τ).loc Cert.Reference2Ideal.main_arg17)
      ∧ r.2.mem ((c.tc : Thread Cert.Reference2Ideal.nD Cert.Reference2Ideal.τ).loc Cert.Reference2Ideal.main_arg18) = m ((c.tc : Thread Cert.Reference2Ideal.nD Cert.Reference2Ideal.τ).loc Cert.Reference2Ideal.main_arg18)
      ∧ r.2.mem ((c.tc : Thread Cert.Reference2Ideal.nD Cert.Reference2Ideal.τ).loc Cert.Reference2Ideal.main_arg19) = m ((c.tc : Thread Cert.Reference2Ideal.nD Cert.Reference2Ideal.τ).loc Cert.Reference2Ideal.main_arg19)
      ∧ r.2.mem ((c.tc : Thread Cert.Reference2Ideal.nD Cert.Reference2Ideal.τ).loc Cert.Reference2Ideal.main_arg20) = m ((c.tc : Thread Cert.Reference2Ideal.nD Cert.Reference2Ideal.τ).loc Cert.Reference2Ideal.main_arg20)
      ∧ r.2.mem ((c.tc : Thread Cert.Reference2Ideal.nD Cert.Reference2Ideal.τ).loc Cert.Reference2Ideal.main_arg21) = m ((c.tc : Thread Cert.Reference2Ideal.nD Cert.Reference2Ideal.τ).loc Cert.Reference2Ideal.main_arg21))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_inner_above_minus_inf [hKernel3Ideal : Cert.Kernel3Ideal.Facts] [hPre_inner_above_minus_inf : Cert.Pre_inner_above_minus_inf.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_inner_above_minus_inf m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_inner_above_minus_inf [hReference3Ideal : Cert.Reference3Ideal.Facts] [hPre_inner_above_minus_inf : Cert.Pre_inner_above_minus_inf.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_inner_above_minus_inf m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Kernel4Ideal_pre_first_above_minus_inf [hKernel4Ideal : Cert.Kernel4Ideal.Facts] [hPre_first_above_minus_inf : Cert.Pre_first_above_minus_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_first_above_minus_inf m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Reference4Ideal_pre_first_above_minus_inf [hReference4Ideal : Cert.Reference4Ideal.Facts] [hPre_first_above_minus_inf : Cert.Pre_first_above_minus_inf.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_first_above_minus_inf m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def preserves_Kernel_KernelIdeal : Prop :=
  True

def algebraic_KernelIdeal_ReferenceIdeal_pre_finite_logits [hKernelIdeal : Cert.KernelIdeal.Facts] [hReferenceIdeal : Cert.ReferenceIdeal.Facts] [hPre_finite_logits : Cert.Pre_finite_logits.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_logits m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v102) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal_pre_above_minus_inf [hKernel2Ideal : Cert.Kernel2Ideal.Facts] [hReference2Ideal : Cert.Reference2Ideal.Facts] [hPre_above_minus_inf : Cert.Pre_above_minus_inf.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_above_minus_inf m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)
      ∧ m' ((c.tc : Thread Cert.Reference2Ideal.nD Cert.Reference2Ideal.τ).loc Cert.Reference2Ideal.main_arg17) = m ((c.tc : Thread Cert.Kernel2Ideal.nD Cert.Kernel2Ideal.τ).loc Cert.Kernel2Ideal.main_arg17)
      ∧ m' ((c.tc : Thread Cert.Reference2Ideal.nD Cert.Reference2Ideal.τ).loc Cert.Reference2Ideal.main_arg18) = m ((c.tc : Thread Cert.Kernel2Ideal.nD Cert.Kernel2Ideal.τ).loc Cert.Kernel2Ideal.main_arg18)
      ∧ m' ((c.tc : Thread Cert.Reference2Ideal.nD Cert.Reference2Ideal.τ).loc Cert.Reference2Ideal.main_arg19) = m ((c.tc : Thread Cert.Kernel2Ideal.nD Cert.Kernel2Ideal.τ).loc Cert.Kernel2Ideal.main_arg19)
      ∧ m' ((c.tc : Thread Cert.Reference2Ideal.nD Cert.Reference2Ideal.τ).loc Cert.Reference2Ideal.main_arg20) = m ((c.tc : Thread Cert.Kernel2Ideal.nD Cert.Kernel2Ideal.τ).loc Cert.Kernel2Ideal.main_arg20)
      ∧ m' ((c.tc : Thread Cert.Reference2Ideal.nD Cert.Reference2Ideal.τ).loc Cert.Reference2Ideal.main_arg21) = m ((c.tc : Thread Cert.Kernel2Ideal.nD Cert.Kernel2Ideal.τ).loc Cert.Kernel2Ideal.main_arg21)) →
    ∃ (v0 : (c : Dev Cert.Kernel2Ideal.nD) → Buf (Elt Ideal) ((c.tc : Thread Cert.Kernel2Ideal.nD Cert.Kernel2Ideal.τ).loc Cert.Kernel2Ideal.main_v44)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v44) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16)
          ∧ r.2.mem ((c.tc : Thread Cert.Kernel2Ideal.nD Cert.Kernel2Ideal.τ).loc Cert.Kernel2Ideal.main_arg17) = m ((c.tc : Thread Cert.Kernel2Ideal.nD Cert.Kernel2Ideal.τ).loc Cert.Kernel2Ideal.main_arg17)
          ∧ r.2.mem ((c.tc : Thread Cert.Kernel2Ideal.nD Cert.Kernel2Ideal.τ).loc Cert.Kernel2Ideal.main_arg18) = m ((c.tc : Thread Cert.Kernel2Ideal.nD Cert.Kernel2Ideal.τ).loc Cert.Kernel2Ideal.main_arg18)
          ∧ r.2.mem ((c.tc : Thread Cert.Kernel2Ideal.nD Cert.Kernel2Ideal.τ).loc Cert.Kernel2Ideal.main_arg19) = m ((c.tc : Thread Cert.Kernel2Ideal.nD Cert.Kernel2Ideal.τ).loc Cert.Kernel2Ideal.main_arg19)
          ∧ r.2.mem ((c.tc : Thread Cert.Kernel2Ideal.nD Cert.Kernel2Ideal.τ).loc Cert.Kernel2Ideal.main_arg20) = m ((c.tc : Thread Cert.Kernel2Ideal.nD Cert.Kernel2Ideal.τ).loc Cert.Kernel2Ideal.main_arg20)
          ∧ r.2.mem ((c.tc : Thread Cert.Kernel2Ideal.nD Cert.Kernel2Ideal.τ).loc Cert.Kernel2Ideal.main_arg21) = m ((c.tc : Thread Cert.Kernel2Ideal.nD Cert.Kernel2Ideal.τ).loc Cert.Kernel2Ideal.main_arg21))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v101) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16)
          ∧ r.2.mem ((c.tc : Thread Cert.Reference2Ideal.nD Cert.Reference2Ideal.τ).loc Cert.Reference2Ideal.main_arg17) = m' ((c.tc : Thread Cert.Reference2Ideal.nD Cert.Reference2Ideal.τ).loc Cert.Reference2Ideal.main_arg17)
          ∧ r.2.mem ((c.tc : Thread Cert.Reference2Ideal.nD Cert.Reference2Ideal.τ).loc Cert.Reference2Ideal.main_arg18) = m' ((c.tc : Thread Cert.Reference2Ideal.nD Cert.Reference2Ideal.τ).loc Cert.Reference2Ideal.main_arg18)
          ∧ r.2.mem ((c.tc : Thread Cert.Reference2Ideal.nD Cert.Reference2Ideal.τ).loc Cert.Reference2Ideal.main_arg19) = m' ((c.tc : Thread Cert.Reference2Ideal.nD Cert.Reference2Ideal.τ).loc Cert.Reference2Ideal.main_arg19)
          ∧ r.2.mem ((c.tc : Thread Cert.Reference2Ideal.nD Cert.Reference2Ideal.τ).loc Cert.Reference2Ideal.main_arg20) = m' ((c.tc : Thread Cert.Reference2Ideal.nD Cert.Reference2Ideal.τ).loc Cert.Reference2Ideal.main_arg20)
          ∧ r.2.mem ((c.tc : Thread Cert.Reference2Ideal.nD Cert.Reference2Ideal.τ).loc Cert.Reference2Ideal.main_arg21) = m' ((c.tc : Thread Cert.Reference2Ideal.nD Cert.Reference2Ideal.τ).loc Cert.Reference2Ideal.main_arg21))

def preserves_Kernel3_Kernel3Ideal : Prop :=
  True

def algebraic_Kernel3Ideal_Reference3Ideal_pre_inner_above_minus_inf [hKernel3Ideal : Cert.Kernel3Ideal.Facts] [hReference3Ideal : Cert.Reference3Ideal.Facts] [hPre_inner_above_minus_inf : Cert.Pre_inner_above_minus_inf.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_inner_above_minus_inf m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v80) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_first_above_minus_inf [hKernel4Ideal : Cert.Kernel4Ideal.Facts] [hReference4Ideal : Cert.Reference4Ideal.Facts] [hPre_first_above_minus_inf : Cert.Pre_first_above_minus_inf.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_first_above_minus_inf m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v8)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v8) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v78) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite_logits : Cert.Pre_finite_logits.Facts) (hPre_above_minus_inf : Cert.Pre_above_minus_inf.Facts) (hPre_inner_above_minus_inf : Cert.Pre_inner_above_minus_inf.Facts) (hPre_first_above_minus_inf : Cert.Pre_first_above_minus_inf.Facts),
    quiescent_Kernel (hKernel := hKernel)
    ∧ quiescent_KernelIdeal (hKernelIdeal := hKernelIdeal)
    ∧ quiescent_KernelIdeal_pre_finite_logits (hKernelIdeal := hKernelIdeal) (hPre_finite_logits := hPre_finite_logits)
    ∧ quiescent_ReferenceIdeal (hReferenceIdeal := hReferenceIdeal)
    ∧ quiescent_ReferenceIdeal_pre_finite_logits (hReferenceIdeal := hReferenceIdeal) (hPre_finite_logits := hPre_finite_logits)
    ∧ quiescent_Kernel2 (hKernel2 := hKernel2)
    ∧ quiescent_Kernel2Ideal (hKernel2Ideal := hKernel2Ideal)
    ∧ quiescent_Kernel2Ideal_pre_above_minus_inf (hKernel2Ideal := hKernel2Ideal) (hPre_above_minus_inf := hPre_above_minus_inf)
    ∧ quiescent_Reference2Ideal (hReference2Ideal := hReference2Ideal)
    ∧ quiescent_Reference2Ideal_pre_above_minus_inf (hReference2Ideal := hReference2Ideal) (hPre_above_minus_inf := hPre_above_minus_inf)
    ∧ quiescent_Kernel3 (hKernel3 := hKernel3)
    ∧ quiescent_Kernel3Ideal (hKernel3Ideal := hKernel3Ideal)
    ∧ quiescent_Kernel3Ideal_pre_inner_above_minus_inf (hKernel3Ideal := hKernel3Ideal) (hPre_inner_above_minus_inf := hPre_inner_above_minus_inf)
    ∧ quiescent_Reference3Ideal (hReference3Ideal := hReference3Ideal)
    ∧ quiescent_Reference3Ideal_pre_inner_above_minus_inf (hReference3Ideal := hReference3Ideal) (hPre_inner_above_minus_inf := hPre_inner_above_minus_inf)
    ∧ quiescent_Kernel4 (hKernel4 := hKernel4)
    ∧ quiescent_Kernel4Ideal (hKernel4Ideal := hKernel4Ideal)
    ∧ quiescent_Kernel4Ideal_pre_first_above_minus_inf (hKernel4Ideal := hKernel4Ideal) (hPre_first_above_minus_inf := hPre_first_above_minus_inf)
    ∧ quiescent_Reference4Ideal (hReference4Ideal := hReference4Ideal)
    ∧ quiescent_Reference4Ideal_pre_first_above_minus_inf (hReference4Ideal := hReference4Ideal) (hPre_first_above_minus_inf := hPre_first_above_minus_inf)
    ∧ preserves_Kernel_KernelIdeal
    ∧ algebraic_KernelIdeal_ReferenceIdeal_pre_finite_logits (hKernelIdeal := hKernelIdeal) (hReferenceIdeal := hReferenceIdeal) (hPre_finite_logits := hPre_finite_logits)
    ∧ preserves_Kernel2_Kernel2Ideal
    ∧ algebraic_Kernel2Ideal_Reference2Ideal_pre_above_minus_inf (hKernel2Ideal := hKernel2Ideal) (hReference2Ideal := hReference2Ideal) (hPre_above_minus_inf := hPre_above_minus_inf)
    ∧ preserves_Kernel3_Kernel3Ideal
    ∧ algebraic_Kernel3Ideal_Reference3Ideal_pre_inner_above_minus_inf (hKernel3Ideal := hKernel3Ideal) (hReference3Ideal := hReference3Ideal) (hPre_inner_above_minus_inf := hPre_inner_above_minus_inf)
    ∧ preserves_Kernel4_Kernel4Ideal
    ∧ algebraic_Kernel4Ideal_Reference4Ideal_pre_first_above_minus_inf (hKernel4Ideal := hKernel4Ideal) (hReference4Ideal := hReference4Ideal) (hPre_first_above_minus_inf := hPre_first_above_minus_inf)
-- ==== Pre_above_minus_inf.lean ====
abbrev S4x8448x1024 : Shape := ⟨3, ![4, 8448, 1024]⟩
abbrev S4x8448x512 : Shape := ⟨3, ![4, 8448, 512]⟩
abbrev S4x8448x4x128 : Shape := ⟨4, ![4, 8448, 4, 128]⟩
abbrev S4x9x1024 : Shape := ⟨3, ![4, 9, 1024]⟩
abbrev S9x1024 : Shape := ⟨2, ![9, 1024]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S4x8192x512 : Shape := ⟨3, ![4, 8192, 512]⟩
abbrev S4x8192x4x128 : Shape := ⟨4, ![4, 8192, 4, 128]⟩
abbrev S4x8192x1024 : Shape := ⟨3, ![4, 8192, 1024]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x1x1x1024 : Shape := ⟨4, ![4, 1, 1, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩

class Facts : Prop where
  shapeCasts_S4x9x1024_S4x9x1x1024 : S4x9x1024.ShapeCasts S4x9x1x1024
  slices_S4x8448x512_S4x8192x512_0_256_0 : S4x8448x512.Slices ![0, 256, 0] S4x8192x512
  slices_S4x8448x4x128_S4x8192x4x128_0_256_0_0 : S4x8448x4x128.Slices ![0, 256, 0, 0] S4x8192x4x128
  slices_S4x8448x1024_S4x8192x1024_0_256_0 : S4x8448x1024.Slices ![0, 256, 0] S4x8192x1024
  reducesTo_S4x8192x4x128_S4x8192x4_d3 : S4x8192x4x128.ReducesTo [3] S4x8192x4
  h_S_ : 0 < S_.numel
  bcast_S4x8192x4_S4x8192x4x1_0_1_2 : S4x8192x4.BroadcastsInDim S4x8192x4x1 (![0, 1, 2] : Fin 3 → Fin S4x8192x4x1.rank)
  bcast_S_S4x8192x4x1 : S_.BroadcastsInDim S4x8192x4x1 (![] : Fin 0 → Fin S4x8192x4x1.rank)
  bcast_S4x8192x4x1_S4x8192x4x128_0_1_2_3 : S4x8192x4x1.BroadcastsInDim S4x8192x4x128 (![0, 1, 2, 3] : Fin 4 → Fin S4x8192x4x128.rank)
  bcast_S128_S1x1x1x128_3 : S128.BroadcastsInDim S1x1x1x128 (![3] : Fin 1 → Fin S1x1x1x128.rank)
  bcast_S1x1x1x128_S4x8192x4x128_0_1_2_3 : S1x1x1x128.BroadcastsInDim S4x8192x4x128 (![0, 1, 2, 3] : Fin 4 → Fin S4x8192x4x128.rank)
  shapeCasts_S4x8192x4x128_S4x8192x512 : S4x8192x4x128.ShapeCasts S4x8192x512
  bcast_S_S4x8192x512 : S_.BroadcastsInDim S4x8192x512 (![] : Fin 0 → Fin S4x8192x512.rank)
  slices_S4x9x1x1024_S4x1x1x1024_0_5_0_0 : S4x9x1x1024.Slices ![0, 5, 0, 0] S4x1x1x1024
  shapeCasts_S4x1x1x1024_S4x1x1024 : S4x1x1x1024.ShapeCasts S4x1x1024
  bcast_S4x1x1024_S4x8192x1024_0_1_2 : S4x1x1024.BroadcastsInDim S4x8192x1024 (![0, 1, 2] : Fin 3 → Fin S4x8192x1024.rank)
  reducesTo_S4x8192x1024_S4x8192_d2 : S4x8192x1024.ReducesTo [2] S4x8192
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  slices_S4x9x1x1024_S4x1x1x1024_0_7_0_0 : S4x9x1x1024.Slices ![0, 7, 0, 0] S4x1x1x1024
  bcast_S_S4x1x1024 : S_.BroadcastsInDim S4x1x1024 (![] : Fin 0 → Fin S4x1x1024.rank)
  slices_S4x9x1x1024_S4x1x1x1024_0_6_0_0 : S4x9x1x1024.Slices ![0, 6, 0, 0] S4x1x1x1024
  slices_S4x8192x5632_S4x8192x2816_0_0_0 : S4x8192x5632.Slices ![0, 0, 0] S4x8192x2816
  slices_S4x8192x5632_S4x8192x2816_0_0_2816 : S4x8192x5632.Slices ![0, 0, 2816] S4x8192x2816
  bcast_S_S4x8192x2816 : S_.BroadcastsInDim S4x8192x2816 (![] : Fin 0 → Fin S4x8192x2816.rank)
  dot_S4x8192x512_S512x1024_S4x8192x1024_2_0_01_1_n_n_wf : DotDims.WF S4x8192x512 S512x1024 S4x8192x1024 [2] [0] [0, 1] [1] [] []
  dot_S4x8192x1024_S1024x1024_S4x8192x1024_2_0_01_1_n_n_wf : DotDims.WF S4x8192x1024 S1024x1024 S4x8192x1024 [2] [0] [0, 1] [1] [] []
  dot_S4x8192x1024_S1024x5632_S4x8192x5632_2_0_01_1_n_n_wf : DotDims.WF S4x8192x1024 S1024x5632 S4x8192x5632 [2] [0] [0, 1] [1] [] []

variable [Facts]

def dot_S4x8192x512_S512x1024_S4x8192x1024_2_0_01_1_n_n : DotDims S4x8192x512 S512x1024 S4x8192x1024 where
  lhsContracting := [2]
  rhsContracting := [0]
  lhsNonContracting := [0, 1]
  rhsNonContracting := [1]
  lhsBatch := []
  rhsBatch := []
  wf := dot_S4x8192x512_S512x1024_S4x8192x1024_2_0_01_1_n_n_wf
def dot_S4x8192x1024_S1024x1024_S4x8192x1024_2_0_01_1_n_n : DotDims S4x8192x1024 S1024x1024 S4x8192x1024 where
  lhsContracting := [2]
  rhsContracting := [0]
  lhsNonContracting := [0, 1]
  rhsNonContracting := [1]
  lhsBatch := []
  rhsBatch := []
  wf := dot_S4x8192x1024_S1024x1024_S4x8192x1024_2_0_01_1_n_n_wf
def dot_S4x8192x1024_S1024x5632_S4x8192x5632_2_0_01_1_n_n : DotDims S4x8192x1024 S1024x5632 S4x8192x5632 where
  lhsContracting := [2]
  rhsContracting := [0]
  lhsNonContracting := [0, 1]
  rhsNonContracting := [1]
  lhsBatch := []
  rhsBatch := []
  wf := dot_S4x8192x1024_S1024x5632_S4x8192x5632_2_0_01_1_n_n_wf
def fn_silu {F : FTy → Type} [FloatOps F] (arg0 : FVec F S4x8192x512 .f32) : FVec F S4x8192x512 .f32 :=
  let v0 : FVec F S4x8192x512 .f32 := Host.negf arg0
  let v1 : FVec F S4x8192x512 .f32 := Host.exp v0
  let cst : FVec F S_ .f32 := constant S_ .f32 0x3F800000#32
  let v2 : FVec F S4x8192x512 .f32 := broadcastInDim S4x8192x512 ![] bcast_S_S4x8192x512 cst
  let v3 : FVec F S4x8192x512 .f32 := addf v2 v1
  let cst_0 : FVec F S_ .f32 := constant S_ .f32 0x3F800000#32
  let v4 : FVec F S4x8192x512 .f32 := broadcastInDim S4x8192x512 ![] bcast_S_S4x8192x512 cst_0
  let v5 : FVec F S4x8192x512 .f32 := Host.divf v4 v3
  let v6 : FVec F S4x8192x512 .f32 := mulf arg0 v5
  v6

def fn_part4 {F : FTy → Type} [FloatOps F] (main_arg6 : FVec F S4x8448x512 .f32) (main_arg20 : FVec F S1024x5632 .f32) (main_v0 : FVec F S4x9x1x1024 .f32) (main_v83 : FVec F S4x8192x1024 .f32) : IVec S4x8192x512 1 × IVec S4x8192x2816 1 :=
  let main_v84 : FVec F S4x1x1x1024 .f32 := (extractStridedSlice S4x1x1x1024 ![0, 6, 0, 0] · slices_S4x9x1x1024_S4x1x1x1024_0_6_0_0) main_v0
  let main_v85 : FVec F S4x1x1024 .f32 := shapeCast S4x1x1024 main_v84 shapeCasts_S4x1x1x1024_S4x1x1024
  let main_v86 : FVec F S4x8192x1024 .f32 := broadcastInDim S4x8192x1024 ![0, 1, 2] bcast_S4x1x1024_S4x8192x1024_0_1_2 main_v85
  let main_v87 : FVec F S4x8192x1024 .f32 := addf main_v83 main_v86
  let main_v88 : FVec F S4x8192x5632 .f32 := (fun l r => Host.dotGeneral dot_S4x8192x1024_S1024x5632_S4x8192x5632_2_0_01_1_n_n none l r) main_v87 main_arg20
  let main_v89 : FVec F S4x8192x2816 .f32 := (extractStridedSlice S4x8192x2816 ![0, 0, 0] · slices_S4x8192x5632_S4x8192x2816_0_0_0) main_v88
  let main_v90 : FVec F S4x8192x2816 .f32 := (extractStridedSlice S4x8192x2816 ![0, 0, 2816] · slices_S4x8192x5632_S4x8192x2816_0_0_2816) main_v88
  let main_v91 : FVec F S4x8192x512 .f32 := (extractStridedSlice S4x8192x512 ![0, 256, 0] · slices_S4x8448x512_S4x8192x512_0_256_0) main_arg6
  let main_cst_11 : FVec F S_ .f32 := constant S_ .f32 0xFF800000#32
  let main_v92 : FVec F S4x8192x512 .f32 := broadcastInDim S4x8192x512 ![] bcast_S_S4x8192x512 main_cst_11
  let main_v93 : IVec S4x8192x512 1 := cmpf .ogt main_v91 main_v92
  let main_cst_12 : FVec F S_ .f32 := constant S_ .f32 0xFF800000#32
  let main_v94 : FVec F S4x8192x2816 .f32 := broadcastInDim S4x8192x2816 ![] bcast_S_S4x8192x2816 main_cst_12
  let main_v95 : IVec S4x8192x2816 1 := cmpf .ogt main_v89 main_v94
  (main_v93, main_v95)

def fn_part3 {F : FTy → Type} [FloatOps F] (main_arg6 : FVec F S4x8448x512 .f32) (main_arg19 : FVec F S1024 .f32) (main_arg20 : FVec F S1024x5632 .f32) (main_v0 : FVec F S4x9x1x1024 .f32) (main_v59 : FVec F S4x8192x1024 .f32) (main_v63 : FVec F S4x8192x1024 .f32) : IVec S4x8192x512 1 × IVec S4x8192x2816 1 :=
  let main_v64 : FVec F S4x8192x1024 .f32 := addf main_v59 main_v63
  let main_v65 : FVec F S4x8192x1024 .f32 := mulf main_v64 main_v64
  let main_cst_7 : FVec F S_ .f32 := constant S_ .f32 0x00000000#32
  let main_v66 : FVec F S4x8192 .f32 := (fun x v => Host.reduceAdd x v reducesTo_S4x8192x1024_S4x8192_d2 h_S_) main_v65 main_cst_7
  let main_v67 : FVec F S4x8192x1 .f32 := broadcastInDim S4x8192x1 ![0, 1] bcast_S4x8192_S4x8192x1_0_1 main_v66
  let main_cst_8 : FVec F S_ .f32 := constant S_ .f32 0x44800000#32
  let main_v68 : FVec F S4x8192x1 .f32 := broadcastInDim S4x8192x1 ![] bcast_S_S4x8192x1 main_cst_8
  let main_v69 : FVec F S4x8192x1 .f32 := Host.divf main_v67 main_v68
  let main_cst_9 : FVec F S_ .f32 := constant S_ .f32 0x358637BD#32
  let main_v70 : FVec F S4x8192x1 .f32 := broadcastInDim S4x8192x1 ![] bcast_S_S4x8192x1 main_cst_9
  let main_v71 : FVec F S4x8192x1 .f32 := addf main_v69 main_v70
  let main_v72 : FVec F S4x8192x1 .f32 := Host.rsqrt main_v71
  let main_v73 : FVec F S4x8192x1024 .f32 := broadcastInDim S4x8192x1024 ![0, 1, 2] bcast_S4x8192x1_S4x8192x1024_0_1_2 main_v72
  let main_v74 : FVec F S4x8192x1024 .f32 := mulf main_v64 main_v73
  let main_v75 : FVec F S1x1x1024 .f32 := broadcastInDim S1x1x1024 ![2] bcast_S1024_S1x1x1024_2 main_arg19
  let main_v76 : FVec F S4x8192x1024 .f32 := broadcastInDim S4x8192x1024 ![0, 1, 2] bcast_S1x1x1024_S4x8192x1024_0_1_2 main_v75
  let main_v77 : FVec F S4x8192x1024 .f32 := mulf main_v74 main_v76
  let main_v78 : FVec F S4x1x1x1024 .f32 := (extractStridedSlice S4x1x1x1024 ![0, 7, 0, 0] · slices_S4x9x1x1024_S4x1x1x1024_0_7_0_0) main_v0
  let main_v79 : FVec F S4x1x1024 .f32 := shapeCast S4x1x1024 main_v78 shapeCasts_S4x1x1x1024_S4x1x1024
  let main_cst_10 : FVec F S_ .f32 := constant S_ .f32 0x3F800000#32
  let main_v80 : FVec F S4x1x1024 .f32 := broadcastInDim S4x1x1024 ![] bcast_S_S4x1x1024 main_cst_10
  let main_v81 : FVec F S4x1x1024 .f32 := addf main_v80 main_v79
  let main_v82 : FVec F S4x8192x1024 .f32 := broadcastInDim S4x8192x1024 ![0, 1, 2] bcast_S4x1x1024_S4x8192x1024_0_1_2 main_v81
  let main_v83 : FVec F S4x8192x1024 .f32 := mulf main_v77 main_v82
  fn_part4 (F := F) main_arg6 main_arg20 main_v0 main_v83

def fn_part2 {F : FTy → Type} [FloatOps F] (main_arg0 : FVec F S4x8448x1024 .f32) (main_arg6 : FVec F S4x8448x512 .f32) (main_arg15 : FVec F S512x1024 .f32) (main_arg16 : FVec F S512x1024 .f32) (main_arg17 : FVec F S512x1024 .f32) (main_arg18 : FVec F S1024x1024 .f32) (main_arg19 : FVec F S1024 .f32) (main_arg20 : FVec F S1024x5632 .f32) (main_v0 : FVec F S4x9x1x1024 .f32) (main_v1 : FVec F S4x8192x512 .f32) (main_v9 : FVec F S4x8192x512 .f32) (main_v10 : FVec F S4x8192x1024 .f32) (main_v11 : FVec F S4x8192x1024 .f32) (main_v12 : FVec F S4x8192x1024 .f32) (main_v28 : FVec F S4x8192x512 .f32) (main_v41 : FVec F S4x8192x4x128 .f32) : IVec S4x8192x512 1 × IVec S4x8192x2816 1 :=
  let main_v42 : FVec F S4x8192x512 .f32 := shapeCast S4x8192x512 main_v41 shapeCasts_S4x8192x4x128_S4x8192x512
  let main_v43 : FVec F S4x8192x512 .f32 := Host.negf main_v9
  let main_v44 : FVec F S4x8192x512 .f32 := Host.exp main_v43
  let main_cst_5 : FVec F S_ .f32 := constant S_ .f32 0x3F800000#32
  let main_v45 : FVec F S4x8192x512 .f32 := broadcastInDim S4x8192x512 ![] bcast_S_S4x8192x512 main_cst_5
  let main_v46 : FVec F S4x8192x512 .f32 := addf main_v45 main_v44
  let main_cst_6 : FVec F S_ .f32 := constant S_ .f32 0x3F800000#32
  let main_v47 : FVec F S4x8192x512 .f32 := broadcastInDim S4x8192x512 ![] bcast_S_S4x8192x512 main_cst_6
  let main_v48 : FVec F S4x8192x512 .f32 := Host.divf main_v47 main_v46
  let main_v49 : FVec F S4x8192x512 .f32 := mulf main_v42 main_v48
  let main_v50 : FVec F S4x8192x1024 .f32 := (fun l r => Host.dotGeneral dot_S4x8192x512_S512x1024_S4x8192x1024_2_0_01_1_n_n none l r) main_v1 main_arg15
  let main_v51 : FVec F S4x8192x1024 .f32 := mulf main_v10 main_v50
  let main_v52 : FVec F S4x8192x1024 .f32 := (fun l r => Host.dotGeneral dot_S4x8192x512_S512x1024_S4x8192x1024_2_0_01_1_n_n none l r) main_v28 main_arg16
  let main_v53 : FVec F S4x8192x1024 .f32 := mulf main_v11 main_v52
  let main_v54 : FVec F S4x8192x1024 .f32 := addf main_v51 main_v53
  let main_v55 : FVec F S4x8192x1024 .f32 := (fun l r => Host.dotGeneral dot_S4x8192x512_S512x1024_S4x8192x1024_2_0_01_1_n_n none l r) main_v49 main_arg17
  let main_v56 : FVec F S4x8192x1024 .f32 := mulf main_v12 main_v55
  let main_v57 : FVec F S4x8192x1024 .f32 := addf main_v54 main_v56
  let main_v58 : FVec F S4x8192x1024 .f32 := (fun l r => Host.dotGeneral dot_S4x8192x1024_S1024x1024_S4x8192x1024_2_0_01_1_n_n none l r) main_v57 main_arg18
  let main_v59 : FVec F S4x8192x1024 .f32 := (extractStridedSlice S4x8192x1024 ![0, 256, 0] · slices_S4x8448x1024_S4x8192x1024_0_256_0) main_arg0
  let main_v60 : FVec F S4x1x1x1024 .f32 := (extractStridedSlice S4x1x1x1024 ![0, 5, 0, 0] · slices_S4x9x1x1024_S4x1x1x1024_0_5_0_0) main_v0
  let main_v61 : FVec F S4x1x1024 .f32 := shapeCast S4x1x1024 main_v60 shapeCasts_S4x1x1x1024_S4x1x1024
  let main_v62 : FVec F S4x8192x1024 .f32 := broadcastInDim S4x8192x1024 ![0, 1, 2] bcast_S4x1x1024_S4x8192x1024_0_1_2 main_v61
  let main_v63 : FVec F S4x8192x1024 .f32 := mulf main_v62 main_v58
  fn_part3 (F := F) main_arg6 main_arg19 main_arg20 main_v0 main_v59 main_v63

def fn_part1 {F : FTy → Type} [FloatOps F] (main_arg0 : FVec F S4x8448x1024 .f32) (main_arg6 : FVec F S4x8448x512 .f32) (main_arg13 : FVec F S128 .f32) (main_arg14 : FVec F S128 .f32) (main_arg15 : FVec F S512x1024 .f32) (main_arg16 : FVec F S512x1024 .f32) (main_arg17 : FVec F S512x1024 .f32) (main_arg18 : FVec F S1024x1024 .f32) (main_arg19 : FVec F S1024 .f32) (main_arg20 : FVec F S1024x5632 .f32) (main_v0 : FVec F S4x9x1x1024 .f32) (main_v1 : FVec F S4x8192x512 .f32) (main_v4 : FVec F S4x8192x4x128 .f32) (main_v7 : FVec F S4x8192x4x128 .f32) (main_v8 : FVec F S4x8192x512 .f32) (main_v9 : FVec F S4x8192x512 .f32) (main_v10 : FVec F S4x8192x1024 .f32) (main_v11 : FVec F S4x8192x1024 .f32) (main_v12 : FVec F S4x8192x1024 .f32) (main_v20 : FVec F S4x8192x4x1 .f32) : IVec S4x8192x512 1 × IVec S4x8192x2816 1 :=
  let main_v21 : FVec F S4x8192x4x128 .f32 := broadcastInDim S4x8192x4x128 ![0, 1, 2, 3] bcast_S4x8192x4x1_S4x8192x4x128_0_1_2_3 main_v20
  let main_v22 : FVec F S4x8192x4x128 .f32 := mulf main_v4 main_v21
  let main_v23 : FVec F S1x1x1x128 .f32 := broadcastInDim S1x1x1x128 ![3] bcast_S128_S1x1x1x128_3 main_arg13
  let main_v24 : FVec F S4x8192x4x128 .f32 := broadcastInDim S4x8192x4x128 ![0, 1, 2, 3] bcast_S1x1x1x128_S4x8192x4x128_0_1_2_3 main_v23
  let main_v25 : FVec F S4x8192x4x128 .f32 := mulf main_v22 main_v24
  let main_v26 : FVec F S4x8192x512 .f32 := shapeCast S4x8192x512 main_v25 shapeCasts_S4x8192x4x128_S4x8192x512
  let main_v27 : FVec F S4x8192x512 .f32 := fn_silu (F := F) main_v8
  let main_v28 : FVec F S4x8192x512 .f32 := mulf main_v26 main_v27
  let main_v29 : FVec F S4x8192x4x128 .f32 := mulf main_v7 main_v7
  let main_cst_2 : FVec F S_ .f32 := constant S_ .f32 0x00000000#32
  let main_v30 : FVec F S4x8192x4 .f32 := (fun x v => Host.reduceAdd x v reducesTo_S4x8192x4x128_S4x8192x4_d3 h_S_) main_v29 main_cst_2
  let main_v31 : FVec F S4x8192x4x1 .f32 := broadcastInDim S4x8192x4x1 ![0, 1, 2] bcast_S4x8192x4_S4x8192x4x1_0_1_2 main_v30
  let main_cst_3 : FVec F S_ .f32 := constant S_ .f32 0x43000000#32
  let main_v32 : FVec F S4x8192x4x1 .f32 := broadcastInDim S4x8192x4x1 ![] bcast_S_S4x8192x4x1 main_cst_3
  let main_v33 : FVec F S4x8192x4x1 .f32 := Host.divf main_v31 main_v32
  let main_cst_4 : FVec F S_ .f32 := constant S_ .f32 0x358637BD#32
  let main_v34 : FVec F S4x8192x4x1 .f32 := broadcastInDim S4x8192x4x1 ![] bcast_S_S4x8192x4x1 main_cst_4
  let main_v35 : FVec F S4x8192x4x1 .f32 := addf main_v33 main_v34
  let main_v36 : FVec F S4x8192x4x1 .f32 := Host.rsqrt main_v35
  let main_v37 : FVec F S4x8192x4x128 .f32 := broadcastInDim S4x8192x4x128 ![0, 1, 2, 3] bcast_S4x8192x4x1_S4x8192x4x128_0_1_2_3 main_v36
  let main_v38 : FVec F S4x8192x4x128 .f32 := mulf main_v7 main_v37
  let main_v39 : FVec F S1x1x1x128 .f32 := broadcastInDim S1x1x1x128 ![3] bcast_S128_S1x1x1x128_3 main_arg14
  let main_v40 : FVec F S4x8192x4x128 .f32 := broadcastInDim S4x8192x4x128 ![0, 1, 2, 3] bcast_S1x1x1x128_S4x8192x4x128_0_1_2_3 main_v39
  let main_v41 : FVec F S4x8192x4x128 .f32 := mulf main_v38 main_v40
  fn_part2 (F := F) main_arg0 main_arg6 main_arg15 main_arg16 main_arg17 main_arg18 main_arg19 main_arg20 main_v0 main_v1 main_v9 main_v10 main_v11 main_v12 main_v28 main_v41

def fn {F : FTy → Type} [FloatOps F] (main_arg0 : FVec F S4x8448x1024 .f32) (main_arg1 : FVec F S4x8448x512 .f32) (main_arg2 : FVec F S4x8448x4x128 .f32) (main_arg3 : FVec F S4x8448x4x128 .f32) (main_arg4 : FVec F S4x8448x4x128 .f32) (main_arg5 : FVec F S4x8448x4x128 .f32) (main_arg6 : FVec F S4x8448x512 .f32) (main_arg7 : FVec F S4x8448x512 .f32) (main_arg8 : FVec F S4x8448x1024 .f32) (main_arg9 : FVec F S4x8448x1024 .f32) (main_arg10 : FVec F S4x8448x1024 .f32) (main_arg11 : FVec F S4x9x1024 .f32) (main_arg12 : FVec F S9x1024 .f32) (main_arg13 : FVec F S128 .f32) (main_arg14 : FVec F S128 .f32) (main_arg15 : FVec F S512x1024 .f32) (main_arg16 : FVec F S512x1024 .f32) (main_arg17 : FVec F S512x1024 .f32) (main_arg18 : FVec F S1024x1024 .f32) (main_arg19 : FVec F S1024 .f32) (main_arg20 : FVec F S1024x5632 .f32) (main_arg21 : FVec F S2816x1024 .f32) : IVec S4x8192x512 1 × IVec S4x8192x2816 1 :=
  let main_v0 : FVec F S4x9x1x1024 .f32 := shapeCast S4x9x1x1024 main_arg11 shapeCasts_S4x9x1024_S4x9x1x1024
  let main_v1 : FVec F S4x8192x512 .f32 := (extractStridedSlice S4x8192x512 ![0, 256, 0] · slices_S4x8448x512_S4x8192x512_0_256_0) main_arg1
  let main_v2 : FVec F S4x8192x4x128 .f32 := (extractStridedSlice S4x8192x4x128 ![0, 256, 0, 0] · slices_S4x8448x4x128_S4x8192x4x128_0_256_0_0) main_arg2
  let main_v3 : FVec F S4x8192x4x128 .f32 := (extractStridedSlice S4x8192x4x128 ![0, 256, 0, 0] · slices_S4x8448x4x128_S4x8192x4x128_0_256_0_0) main_arg3
  let main_v4 : FVec F S4x8192x4x128 .f32 := addf main_v2 main_v3
  let main_v5 : FVec F S4x8192x4x128 .f32 := (extractStridedSlice S4x8192x4x128 ![0, 256, 0, 0] · slices_S4x8448x4x128_S4x8192x4x128_0_256_0_0) main_arg4
  let main_v6 : FVec F S4x8192x4x128 .f32 := (extractStridedSlice S4x8192x4x128 ![0, 256, 0, 0] · slices_S4x8448x4x128_S4x8192x4x128_0_256_0_0) main_arg5
  let main_v7 : FVec F S4x8192x4x128 .f32 := addf main_v5 main_v6
  let main_v8 : FVec F S4x8192x512 .f32 := (extractStridedSlice S4x8192x512 ![0, 256, 0] · slices_S4x8448x512_S4x8192x512_0_256_0) main_arg6
  let main_v9 : FVec F S4x8192x512 .f32 := (extractStridedSlice S4x8192x512 ![0, 256, 0] · slices_S4x8448x512_S4x8192x512_0_256_0) main_arg7
  let main_v10 : FVec F S4x8192x1024 .f32 := (extractStridedSlice S4x8192x1024 ![0, 256, 0] · slices_S4x8448x1024_S4x8192x1024_0_256_0) main_arg8
  let main_v11 : FVec F S4x8192x1024 .f32 := (extractStridedSlice S4x8192x1024 ![0, 256, 0] · slices_S4x8448x1024_S4x8192x1024_0_256_0) main_arg9
  let main_v12 : FVec F S4x8192x1024 .f32 := (extractStridedSlice S4x8192x1024 ![0, 256, 0] · slices_S4x8448x1024_S4x8192x1024_0_256_0) main_arg10
  let main_v13 : FVec F S4x8192x4x128 .f32 := mulf main_v4 main_v4
  let main_cst : FVec F S_ .f32 := constant S_ .f32 0x00000000#32
  let main_v14 : FVec F S4x8192x4 .f32 := (fun x v => Host.reduceAdd x v reducesTo_S4x8192x4x128_S4x8192x4_d3 h_S_) main_v13 main_cst
  let main_v15 : FVec F S4x8192x4x1 .f32 := broadcastInDim S4x8192x4x1 ![0, 1, 2] bcast_S4x8192x4_S4x8192x4x1_0_1_2 main_v14
  let main_cst_0 : FVec F S_ .f32 := constant S_ .f32 0x43000000#32
  let main_v16 : FVec F S4x8192x4x1 .f32 := broadcastInDim S4x8192x4x1 ![] bcast_S_S4x8192x4x1 main_cst_0
  let main_v17 : FVec F S4x8192x4x1 .f32 := Host.divf main_v15 main_v16
  let main_cst_1 : FVec F S_ .f32 := constant S_ .f32 0x358637BD#32
  let main_v18 : FVec F S4x8192x4x1 .f32 := broadcastInDim S4x8192x4x1 ![] bcast_S_S4x8192x4x1 main_cst_1
  let main_v19 : FVec F S4x8192x4x1 .f32 := addf main_v17 main_v18
  let main_v20 : FVec F S4x8192x4x1 .f32 := Host.rsqrt main_v19
  fn_part1 (F := F) main_arg0 main_arg6 main_arg13 main_arg14 main_arg15 main_arg16 main_arg17 main_arg18 main_arg19 main_arg20 main_v0 main_v1 main_v4 main_v7 main_v8 main_v9 main_v10 main_v11 main_v12 main_v20
-- ==== Pre_finite_logits.lean ====
abbrev S4x8192x8x64 : Shape := ⟨4, ![4, 8192, 8, 64]⟩
abbrev S4x8192x2x64 : Shape := ⟨4, ![4, 8192, 2, 64]⟩
abbrev S4x256x8x64 : Shape := ⟨4, ![4, 256, 8, 64]⟩
abbrev S4x256x2x64 : Shape := ⟨4, ![4, 256, 2, 64]⟩
abbrev S8 : Shape := ⟨1, ![8]⟩
abbrev S_ : Shape := ⟨0, ![]⟩

class Facts : Prop where
  bcast_S_S4x8192x8x64 : S_.BroadcastsInDim S4x8192x8x64 (![] : Fin 0 → Fin S4x8192x8x64.rank)
  bcast_S_S4x8192x2x64 : S_.BroadcastsInDim S4x8192x2x64 (![] : Fin 0 → Fin S4x8192x2x64.rank)
  bcast_S_S4x256x8x64 : S_.BroadcastsInDim S4x256x8x64 (![] : Fin 0 → Fin S4x256x8x64.rank)
  bcast_S_S4x256x2x64 : S_.BroadcastsInDim S4x256x2x64 (![] : Fin 0 → Fin S4x256x2x64.rank)
  bcast_S_S8 : S_.BroadcastsInDim S8 (![] : Fin 0 → Fin S8.rank)

variable [Facts]

def fn {F : FTy → Type} [FloatOps F] (main_arg0 : FVec F S4x8192x8x64 .f32) (main_arg1 : FVec F S4x8192x2x64 .f32) (main_arg2 : FVec F S4x8192x2x64 .f32) (main_arg3 : FVec F S4x256x8x64 .f32) (main_arg4 : FVec F S4x256x2x64 .f32) (main_arg5 : FVec F S4x256x2x64 .f32) (main_arg6 : FVec F S8 .f32) : IVec S4x8192x8x64 1 × IVec S4x8192x2x64 1 × IVec S4x256x8x64 1 × IVec S4x256x2x64 1 × IVec S8 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_v3 : FVec F S4x8192x2x64 .f32 := Host.absf main_arg1
  let main_cst_0 : FVec F S_ .f32 := constant S_ .f32 0x7F800000#32
  let main_v4 : FVec F S4x8192x2x64 .f32 := broadcastInDim S4x8192x2x64 ![] bcast_S_S4x8192x2x64 main_cst_0
  let main_v5 : IVec S4x8192x2x64 1 := cmpf .olt main_v3 main_v4
  let main_v6 : FVec F S4x256x8x64 .f32 := Host.absf main_arg3
  let main_cst_1 : FVec F S_ .f32 := constant S_ .f32 0x7F800000#32
  let main_v7 : FVec F S4x256x8x64 .f32 := broadcastInDim S4x256x8x64 ![] bcast_S_S4x256x8x64 main_cst_1
  let main_v8 : IVec S4x256x8x64 1 := cmpf .olt main_v6 main_v7
  let main_v9 : FVec F S4x256x2x64 .f32 := Host.absf main_arg4
  let main_cst_2 : FVec F S_ .f32 := constant S_ .f32 0x7F800000#32
  let main_v10 : FVec F S4x256x2x64 .f32 := broadcastInDim S4x256x2x64 ![] bcast_S_S4x256x2x64 main_cst_2
  let main_v11 : IVec S4x256x2x64 1 := cmpf .olt main_v9 main_v10
  let main_v12 : FVec F S8 .f32 := Host.absf main_arg6
  let main_cst_3 : FVec F S_ .f32 := constant S_ .f32 0x7F800000#32
  let main_v13 : FVec F S8 .f32 := broadcastInDim S8 ![] bcast_S_S8 main_cst_3
  let main_v14 : IVec S8 1 := cmpf .olt main_v12 main_v13
  (main_v2, main_v5, main_v8, main_v11, main_v14)
-- ==== Pre_first_above_minus_inf.lean ====
abbrev S4x256x1024 : Shape := ⟨3, ![4, 256, 1024]⟩
abbrev S4x8192x1024 : Shape := ⟨3, ![4, 8192, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S9x1x1024 : Shape := ⟨3, ![9, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x8192x5632 : Shape := ⟨3, ![4, 8192, 5632]⟩
abbrev S4x8192x2816 : Shape := ⟨3, ![4, 8192, 2816]⟩
abbrev S4x256 : Shape := ⟨2, ![4, 256]⟩
abbrev S4x256x1 : Shape := ⟨3, ![4, 256, 1]⟩
abbrev S1x1024 : Shape := ⟨2, ![1, 1024]⟩
abbrev S4x256x5632 : Shape := ⟨3, ![4, 256, 5632]⟩
abbrev S4x256x2816 : Shape := ⟨3, ![4, 256, 2816]⟩

class Facts : Prop where
  shapeCasts_S4x9x1024_S4x9x1x1024 : S4x9x1024.ShapeCasts S4x9x1x1024
  shapeCasts_S9x1024_S9x1x1024 : S9x1024.ShapeCasts S9x1x1024
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  slices_S4x9x1x1024_S4x1x1x1024_0_1_0_0 : S4x9x1x1024.Slices ![0, 1, 0, 0] S4x1x1x1024
  shapeCasts_S4x1x1x1024_S4x1x1024 : S4x1x1x1024.ShapeCasts S4x1x1024
  bcast_S_S4x1x1024 : S_.BroadcastsInDim S4x1x1024 (![] : Fin 0 → Fin S4x1x1024.rank)
  bcast_S4x1x1024_S4x8192x1024_0_1_2 : S4x1x1024.BroadcastsInDim S4x8192x1024 (![0, 1, 2] : Fin 3 → Fin S4x8192x1024.rank)
  slices_S4x9x1x1024_S4x1x1x1024_0_0_0_0 : S4x9x1x1024.Slices ![0, 0, 0, 0] S4x1x1x1024
  slices_S4x8192x5632_S4x8192x2816_0_0_0 : S4x8192x5632.Slices ![0, 0, 0] S4x8192x2816
  slices_S4x8192x5632_S4x8192x2816_0_0_2816 : S4x8192x5632.Slices ![0, 0, 2816] S4x8192x2816
  reducesTo_S4x256x1024_S4x256_d2 : S4x256x1024.ReducesTo [2] S4x256
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x1024_0_1_2 : S4x256x1.BroadcastsInDim S4x256x1024 (![0, 1, 2] : Fin 3 → Fin S4x256x1024.rank)
  bcast_S1x1x1024_S4x256x1024_0_1_2 : S1x1x1024.BroadcastsInDim S4x256x1024 (![0, 1, 2] : Fin 3 → Fin S4x256x1024.rank)
  slices_S9x1x1024_S1x1x1024_1_0_0 : S9x1x1024.Slices ![1, 0, 0] S1x1x1024
  shapeCasts_S1x1x1024_S1x1024 : S1x1x1024.ShapeCasts S1x1024
  bcast_S_S1x1024 : S_.BroadcastsInDim S1x1024 (![] : Fin 0 → Fin S1x1024.rank)
  bcast_S1x1024_S1x1x1024_1_2 : S1x1024.BroadcastsInDim S1x1x1024 (![1, 2] : Fin 2 → Fin S1x1x1024.rank)
  slices_S9x1x1024_S1x1x1024_0_0_0 : S9x1x1024.Slices ![0, 0, 0] S1x1x1024
  slices_S4x256x5632_S4x256x2816_0_0_0 : S4x256x5632.Slices ![0, 0, 0] S4x256x2816
  slices_S4x256x5632_S4x256x2816_0_0_2816 : S4x256x5632.Slices ![0, 0, 2816] S4x256x2816
  bcast_S_S4x8192x2816 : S_.BroadcastsInDim S4x8192x2816 (![] : Fin 0 → Fin S4x8192x2816.rank)
  bcast_S_S4x256x2816 : S_.BroadcastsInDim S4x256x2816 (![] : Fin 0 → Fin S4x256x2816.rank)
  dot_S4x8192x1024_S1024x5632_S4x8192x5632_2_0_01_1_n_n_wf : DotDims.WF S4x8192x1024 S1024x5632 S4x8192x5632 [2] [0] [0, 1] [1] [] []
  dot_S4x256x1024_S1024x5632_S4x256x5632_2_0_01_1_n_n_wf : DotDims.WF S4x256x1024 S1024x5632 S4x256x5632 [2] [0] [0, 1] [1] [] []

variable [Facts]

def dot_S4x8192x1024_S1024x5632_S4x8192x5632_2_0_01_1_n_n : DotDims S4x8192x1024 S1024x5632 S4x8192x5632 where
  lhsContracting := [2]
  rhsContracting := [0]
  lhsNonContracting := [0, 1]
  rhsNonContracting := [1]
  lhsBatch := []
  rhsBatch := []
  wf := dot_S4x8192x1024_S1024x5632_S4x8192x5632_2_0_01_1_n_n_wf
def dot_S4x256x1024_S1024x5632_S4x256x5632_2_0_01_1_n_n : DotDims S4x256x1024 S1024x5632 S4x256x5632 where
  lhsContracting := [2]
  rhsContracting := [0]
  lhsNonContracting := [0, 1]
  rhsNonContracting := [1]
  lhsBatch := []
  rhsBatch := []
  wf := dot_S4x256x1024_S1024x5632_S4x256x5632_2_0_01_1_n_n_wf
def fn_part2 {F : FTy → Type} [FloatOps F] (main_arg5 : FVec F S1024x5632 .f32) (main_v1 : FVec F S9x1x1024 .f32) (main_v26 : FVec F S4x8192x2816 .f32) (main_v40 : FVec F S4x256x1024 .f32) : IVec S4x8192x2816 1 × IVec S4x256x2816 1 :=
  let main_v41 : FVec F S1x1x1024 .f32 := (extractStridedSlice S1x1x1024 ![1, 0, 0] · slices_S9x1x1024_S1x1x1024_1_0_0) main_v1
  let main_v42 : FVec F S1x1024 .f32 := shapeCast S1x1024 main_v41 shapeCasts_S1x1x1024_S1x1024
  let main_cst_6 : FVec F S_ .f32 := constant S_ .f32 0x3F800000#32
  let main_v43 : FVec F S1x1024 .f32 := broadcastInDim S1x1024 ![] bcast_S_S1x1024 main_cst_6
  let main_v44 : FVec F S1x1024 .f32 := addf main_v43 main_v42
  let main_v45 : FVec F S1x1x1024 .f32 := broadcastInDim S1x1x1024 ![1, 2] bcast_S1x1024_S1x1x1024_1_2 main_v44
  let main_v46 : FVec F S4x256x1024 .f32 := broadcastInDim S4x256x1024 ![0, 1, 2] bcast_S1x1x1024_S4x256x1024_0_1_2 main_v45
  let main_v47 : FVec F S4x256x1024 .f32 := mulf main_v40 main_v46
  let main_v48 : FVec F S1x1x1024 .f32 := (extractStridedSlice S1x1x1024 ![0, 0, 0] · slices_S9x1x1024_S1x1x1024_0_0_0) main_v1
  let main_v49 : FVec F S1x1024 .f32 := shapeCast S1x1024 main_v48 shapeCasts_S1x1x1024_S1x1024
  let main_v50 : FVec F S1x1x1024 .f32 := broadcastInDim S1x1x1024 ![1, 2] bcast_S1x1024_S1x1x1024_1_2 main_v49
  let main_v51 : FVec F S4x256x1024 .f32 := broadcastInDim S4x256x1024 ![0, 1, 2] bcast_S1x1x1024_S4x256x1024_0_1_2 main_v50
  let main_v52 : FVec F S4x256x1024 .f32 := addf main_v47 main_v51
  let main_v53 : FVec F S4x256x5632 .f32 := (fun l r => Host.dotGeneral dot_S4x256x1024_S1024x5632_S4x256x5632_2_0_01_1_n_n none l r) main_v52 main_arg5
  let main_v54 : FVec F S4x256x2816 .f32 := (extractStridedSlice S4x256x2816 ![0, 0, 0] · slices_S4x256x5632_S4x256x2816_0_0_0) main_v53
  let main_v55 : FVec F S4x256x2816 .f32 := (extractStridedSlice S4x256x2816 ![0, 0, 2816] · slices_S4x256x5632_S4x256x2816_0_0_2816) main_v53
  let main_cst_7 : FVec F S_ .f32 := constant S_ .f32 0xFF800000#32
  let main_v56 : FVec F S4x8192x2816 .f32 := broadcastInDim S4x8192x2816 ![] bcast_S_S4x8192x2816 main_cst_7
  let main_v57 : IVec S4x8192x2816 1 := cmpf .ogt main_v26 main_v56
  let main_cst_8 : FVec F S_ .f32 := constant S_ .f32 0xFF800000#32
  let main_v58 : FVec F S4x256x2816 .f32 := broadcastInDim S4x256x2816 ![] bcast_S_S4x256x2816 main_cst_8
  let main_v59 : IVec S4x256x2816 1 := cmpf .ogt main_v54 main_v58
  (main_v57, main_v59)

def fn_part1 {F : FTy → Type} [FloatOps F] (main_arg0 : FVec F S4x256x1024 .f32) (main_arg4 : FVec F S1024 .f32) (main_arg5 : FVec F S1024x5632 .f32) (main_v0 : FVec F S4x9x1x1024 .f32) (main_v1 : FVec F S9x1x1024 .f32) (main_v14 : FVec F S4x8192x1024 .f32) (main_v19 : FVec F S4x8192x1024 .f32) : IVec S4x8192x2816 1 × IVec S4x256x2816 1 :=
  let main_v20 : FVec F S4x8192x1024 .f32 := mulf main_v14 main_v19
  let main_v21 : FVec F S4x1x1x1024 .f32 := (extractStridedSlice S4x1x1x1024 ![0, 0, 0, 0] · slices_S4x9x1x1024_S4x1x1x1024_0_0_0_0) main_v0
  let main_v22 : FVec F S4x1x1024 .f32 := shapeCast S4x1x1024 main_v21 shapeCasts_S4x1x1x1024_S4x1x1024
  let main_v23 : FVec F S4x8192x1024 .f32 := broadcastInDim S4x8192x1024 ![0, 1, 2] bcast_S4x1x1024_S4x8192x1024_0_1_2 main_v22
  let main_v24 : FVec F S4x8192x1024 .f32 := addf main_v20 main_v23
  let main_v25 : FVec F S4x8192x5632 .f32 := (fun l r => Host.dotGeneral dot_S4x8192x1024_S1024x5632_S4x8192x5632_2_0_01_1_n_n none l r) main_v24 main_arg5
  let main_v26 : FVec F S4x8192x2816 .f32 := (extractStridedSlice S4x8192x2816 ![0, 0, 0] · slices_S4x8192x5632_S4x8192x2816_0_0_0) main_v25
  let main_v27 : FVec F S4x8192x2816 .f32 := (extractStridedSlice S4x8192x2816 ![0, 0, 2816] · slices_S4x8192x5632_S4x8192x2816_0_0_2816) main_v25
  let main_v28 : FVec F S4x256x1024 .f32 := mulf main_arg0 main_arg0
  let main_cst_3 : FVec F S_ .f32 := constant S_ .f32 0x00000000#32
  let main_v29 : FVec F S4x256 .f32 := (fun x v => Host.reduceAdd x v reducesTo_S4x256x1024_S4x256_d2 h_S_) main_v28 main_cst_3
  let main_v30 : FVec F S4x256x1 .f32 := broadcastInDim S4x256x1 ![0, 1] bcast_S4x256_S4x256x1_0_1 main_v29
  let main_cst_4 : FVec F S_ .f32 := constant S_ .f32 0x44800000#32
  let main_v31 : FVec F S4x256x1 .f32 := broadcastInDim S4x256x1 ![] bcast_S_S4x256x1 main_cst_4
  let main_v32 : FVec F S4x256x1 .f32 := Host.divf main_v30 main_v31
  let main_cst_5 : FVec F S_ .f32 := constant S_ .f32 0x358637BD#32
  let main_v33 : FVec F S4x256x1 .f32 := broadcastInDim S4x256x1 ![] bcast_S_S4x256x1 main_cst_5
  let main_v34 : FVec F S4x256x1 .f32 := addf main_v32 main_v33
  let main_v35 : FVec F S4x256x1 .f32 := Host.rsqrt main_v34
  let main_v36 : FVec F S4x256x1024 .f32 := broadcastInDim S4x256x1024 ![0, 1, 2] bcast_S4x256x1_S4x256x1024_0_1_2 main_v35
  let main_v37 : FVec F S4x256x1024 .f32 := mulf main_arg0 main_v36
  let main_v38 : FVec F S1x1x1024 .f32 := broadcastInDim S1x1x1024 ![2] bcast_S1024_S1x1x1024_2 main_arg4
  let main_v39 : FVec F S4x256x1024 .f32 := broadcastInDim S4x256x1024 ![0, 1, 2] bcast_S1x1x1024_S4x256x1024_0_1_2 main_v38
  let main_v40 : FVec F S4x256x1024 .f32 := mulf main_v37 main_v39
  fn_part2 (F := F) main_arg5 main_v1 main_v26 main_v40

def fn {F : FTy → Type} [FloatOps F] (main_arg0 : FVec F S4x256x1024 .f32) (main_arg1 : FVec F S4x8192x1024 .f32) (main_arg2 : FVec F S4x9x1024 .f32) (main_arg3 : FVec F S9x1024 .f32) (main_arg4 : FVec F S1024 .f32) (main_arg5 : FVec F S1024x5632 .f32) (main_arg6 : FVec F S2816x1024 .f32) : IVec S4x8192x2816 1 × IVec S4x256x2816 1 :=
  let main_v0 : FVec F S4x9x1x1024 .f32 := shapeCast S4x9x1x1024 main_arg2 shapeCasts_S4x9x1024_S4x9x1x1024
  let main_v1 : FVec F S9x1x1024 .f32 := shapeCast S9x1x1024 main_arg3 shapeCasts_S9x1024_S9x1x1024
  let main_v2 : FVec F S4x8192x1024 .f32 := mulf main_arg1 main_arg1
  let main_cst : FVec F S_ .f32 := constant S_ .f32 0x00000000#32
  let main_v3 : FVec F S4x8192 .f32 := (fun x v => Host.reduceAdd x v reducesTo_S4x8192x1024_S4x8192_d2 h_S_) main_v2 main_cst
  let main_v4 : FVec F S4x8192x1 .f32 := broadcastInDim S4x8192x1 ![0, 1] bcast_S4x8192_S4x8192x1_0_1 main_v3
  let main_cst_0 : FVec F S_ .f32 := constant S_ .f32 0x44800000#32
  let main_v5 : FVec F S4x8192x1 .f32 := broadcastInDim S4x8192x1 ![] bcast_S_S4x8192x1 main_cst_0
  let main_v6 : FVec F S4x8192x1 .f32 := Host.divf main_v4 main_v5
  let main_cst_1 : FVec F S_ .f32 := constant S_ .f32 0x358637BD#32
  let main_v7 : FVec F S4x8192x1 .f32 := broadcastInDim S4x8192x1 ![] bcast_S_S4x8192x1 main_cst_1
  let main_v8 : FVec F S4x8192x1 .f32 := addf main_v6 main_v7
  let main_v9 : FVec F S4x8192x1 .f32 := Host.rsqrt main_v8
  let main_v10 : FVec F S4x8192x1024 .f32 := broadcastInDim S4x8192x1024 ![0, 1, 2] bcast_S4x8192x1_S4x8192x1024_0_1_2 main_v9
  let main_v11 : FVec F S4x8192x1024 .f32 := mulf main_arg1 main_v10
  let main_v12 : FVec F S1x1x1024 .f32 := broadcastInDim S1x1x1024 ![2] bcast_S1024_S1x1x1024_2 main_arg4
  let main_v13 : FVec F S4x8192x1024 .f32 := broadcastInDim S4x8192x1024 ![0, 1, 2] bcast_S1x1x1024_S4x8192x1024_0_1_2 main_v12
  let main_v14 : FVec F S4x8192x1024 .f32 := mulf main_v11 main_v13
  let main_v15 : FVec F S4x1x1x1024 .f32 := (extractStridedSlice S4x1x1x1024 ![0, 1, 0, 0] · slices_S4x9x1x1024_S4x1x1x1024_0_1_0_0) main_v0
  let main_v16 : FVec F S4x1x1024 .f32 := shapeCast S4x1x1024 main_v15 shapeCasts_S4x1x1x1024_S4x1x1024
  let main_cst_2 : FVec F S_ .f32 := constant S_ .f32 0x3F800000#32
  let main_v17 : FVec F S4x1x1024 .f32 := broadcastInDim S4x1x1024 ![] bcast_S_S4x1x1024 main_cst_2
  let main_v18 : FVec F S4x1x1024 .f32 := addf main_v17 main_v16
  let main_v19 : FVec F S4x8192x1024 .f32 := broadcastInDim S4x8192x1024 ![0, 1, 2] bcast_S4x1x1024_S4x8192x1024_0_1_2 main_v18
  fn_part1 (F := F) main_arg0 main_arg4 main_arg5 main_v0 main_v1 main_v14 main_v19
-- ==== Pre_inner_above_minus_inf.lean ====
abbrev S4x8448x1024 : Shape := ⟨3, ![4, 8448, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4x256x1024 : Shape := ⟨3, ![4, 256, 1024]⟩
abbrev S4x8192x1024 : Shape := ⟨3, ![4, 8192, 1024]⟩
abbrev S4x9x1x1024 : Shape := ⟨4, ![4, 9, 1, 1024]⟩
abbrev S9x1x1024 : Shape := ⟨3, ![9, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1x1024 : Shape := ⟨4, ![4, 1, 1, 1024]⟩
abbrev S4x1x1024 : Shape := ⟨3, ![4, 1, 1024]⟩
abbrev S4x8192x5632 : Shape := ⟨3, ![4, 8192, 5632]⟩
abbrev S4x8192x2816 : Shape := ⟨3, ![4, 8192, 2816]⟩
abbrev S4x256 : Shape := ⟨2, ![4, 256]⟩
abbrev S4x256x1 : Shape := ⟨3, ![4, 256, 1]⟩
abbrev S1x1024 : Shape := ⟨2, ![1, 1024]⟩
abbrev S4x256x5632 : Shape := ⟨3, ![4, 256, 5632]⟩
abbrev S4x256x2816 : Shape := ⟨3, ![4, 256, 2816]⟩

class Facts : Prop where
  slices_S4x8448x1024_S4x256x1024_0_0_0 : S4x8448x1024.Slices ![0, 0, 0] S4x256x1024
  slices_S4x8448x1024_S4x8192x1024_0_256_0 : S4x8448x1024.Slices ![0, 256, 0] S4x8192x1024
  shapeCasts_S4x9x1024_S4x9x1x1024 : S4x9x1024.ShapeCasts S4x9x1x1024
  shapeCasts_S9x1024_S9x1x1024 : S9x1024.ShapeCasts S9x1x1024
  reducesTo_S4x8192x1024_S4x8192_d2 : S4x8192x1024.ReducesTo [2] S4x8192
  h_S_ : 0 < S_.numel
  bcast_S4x8192_S4x8192x1_0_1 : S4x8192.BroadcastsInDim S4x8192x1 (![0, 1] : Fin 2 → Fin S4x8192x1.rank)
  bcast_S_S4x8192x1 : S_.BroadcastsInDim S4x8192x1 (![] : Fin 0 → Fin S4x8192x1.rank)
  bcast_S4x8192x1_S4x8192x1024_0_1_2 : S4x8192x1.BroadcastsInDim S4x8192x1024 (![0, 1, 2] : Fin 3 → Fin S4x8192x1024.rank)
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  slices_S4x9x1x1024_S4x1x1x1024_0_1_0_0 : S4x9x1x1024.Slices ![0, 1, 0, 0] S4x1x1x1024
  shapeCasts_S4x1x1x1024_S4x1x1024 : S4x1x1x1024.ShapeCasts S4x1x1024
  bcast_S_S4x1x1024 : S_.BroadcastsInDim S4x1x1024 (![] : Fin 0 → Fin S4x1x1024.rank)
  bcast_S4x1x1024_S4x8192x1024_0_1_2 : S4x1x1024.BroadcastsInDim S4x8192x1024 (![0, 1, 2] : Fin 3 → Fin S4x8192x1024.rank)
  slices_S4x9x1x1024_S4x1x1x1024_0_0_0_0 : S4x9x1x1024.Slices ![0, 0, 0, 0] S4x1x1x1024
  slices_S4x8192x5632_S4x8192x2816_0_0_0 : S4x8192x5632.Slices ![0, 0, 0] S4x8192x2816
  slices_S4x8192x5632_S4x8192x2816_0_0_2816 : S4x8192x5632.Slices ![0, 0, 2816] S4x8192x2816
  reducesTo_S4x256x1024_S4x256_d2 : S4x256x1024.ReducesTo [2] S4x256
  bcast_S4x256_S4x256x1_0_1 : S4x256.BroadcastsInDim S4x256x1 (![0, 1] : Fin 2 → Fin S4x256x1.rank)
  bcast_S_S4x256x1 : S_.BroadcastsInDim S4x256x1 (![] : Fin 0 → Fin S4x256x1.rank)
  bcast_S4x256x1_S4x256x1024_0_1_2 : S4x256x1.BroadcastsInDim S4x256x1024 (![0, 1, 2] : Fin 3 → Fin S4x256x1024.rank)
  bcast_S1x1x1024_S4x256x1024_0_1_2 : S1x1x1024.BroadcastsInDim S4x256x1024 (![0, 1, 2] : Fin 3 → Fin S4x256x1024.rank)
  slices_S9x1x1024_S1x1x1024_1_0_0 : S9x1x1024.Slices ![1, 0, 0] S1x1x1024
  shapeCasts_S1x1x1024_S1x1024 : S1x1x1024.ShapeCasts S1x1024
  bcast_S_S1x1024 : S_.BroadcastsInDim S1x1024 (![] : Fin 0 → Fin S1x1024.rank)
  bcast_S1x1024_S1x1x1024_1_2 : S1x1024.BroadcastsInDim S1x1x1024 (![1, 2] : Fin 2 → Fin S1x1x1024.rank)
  slices_S9x1x1024_S1x1x1024_0_0_0 : S9x1x1024.Slices ![0, 0, 0] S1x1x1024
  slices_S4x256x5632_S4x256x2816_0_0_0 : S4x256x5632.Slices ![0, 0, 0] S4x256x2816
  slices_S4x256x5632_S4x256x2816_0_0_2816 : S4x256x5632.Slices ![0, 0, 2816] S4x256x2816
  bcast_S_S4x8192x2816 : S_.BroadcastsInDim S4x8192x2816 (![] : Fin 0 → Fin S4x8192x2816.rank)
  bcast_S_S4x256x2816 : S_.BroadcastsInDim S4x256x2816 (![] : Fin 0 → Fin S4x256x2816.rank)
  dot_S4x8192x1024_S1024x5632_S4x8192x5632_2_0_01_1_n_n_wf : DotDims.WF S4x8192x1024 S1024x5632 S4x8192x5632 [2] [0] [0, 1] [1] [] []
  dot_S4x256x1024_S1024x5632_S4x256x5632_2_0_01_1_n_n_wf : DotDims.WF S4x256x1024 S1024x5632 S4x256x5632 [2] [0] [0, 1] [1] [] []

variable [Facts]

def dot_S4x8192x1024_S1024x5632_S4x8192x5632_2_0_01_1_n_n : DotDims S4x8192x1024 S1024x5632 S4x8192x5632 where
  lhsContracting := [2]
  rhsContracting := [0]
  lhsNonContracting := [0, 1]
  rhsNonContracting := [1]
  lhsBatch := []
  rhsBatch := []
  wf := dot_S4x8192x1024_S1024x5632_S4x8192x5632_2_0_01_1_n_n_wf
def dot_S4x256x1024_S1024x5632_S4x256x5632_2_0_01_1_n_n : DotDims S4x256x1024 S1024x5632 S4x256x5632 where
  lhsContracting := [2]
  rhsContracting := [0]
  lhsNonContracting := [0, 1]
  rhsNonContracting := [1]
  lhsBatch := []
  rhsBatch := []
  wf := dot_S4x256x1024_S1024x5632_S4x256x5632_2_0_01_1_n_n_wf
def fn_part2 {F : FTy → Type} [FloatOps F] (main_arg4 : FVec F S1024x5632 .f32) (main_v3 : FVec F S9x1x1024 .f32) (main_v28 : FVec F S4x8192x2816 .f32) (main_v39 : FVec F S4x256x1024 .f32) (main_v40 : FVec F S1x1x1024 .f32) : IVec S4x8192x2816 1 × IVec S4x256x2816 1 :=
  let main_v41 : FVec F S4x256x1024 .f32 := broadcastInDim S4x256x1024 ![0, 1, 2] bcast_S1x1x1024_S4x256x1024_0_1_2 main_v40
  let main_v42 : FVec F S4x256x1024 .f32 := mulf main_v39 main_v41
  let main_v43 : FVec F S1x1x1024 .f32 := (extractStridedSlice S1x1x1024 ![1, 0, 0] · slices_S9x1x1024_S1x1x1024_1_0_0) main_v3
  let main_v44 : FVec F S1x1024 .f32 := shapeCast S1x1024 main_v43 shapeCasts_S1x1x1024_S1x1024
  let main_cst_6 : FVec F S_ .f32 := constant S_ .f32 0x3F800000#32
  let main_v45 : FVec F S1x1024 .f32 := broadcastInDim S1x1024 ![] bcast_S_S1x1024 main_cst_6
  let main_v46 : FVec F S1x1024 .f32 := addf main_v45 main_v44
  let main_v47 : FVec F S1x1x1024 .f32 := broadcastInDim S1x1x1024 ![1, 2] bcast_S1x1024_S1x1x1024_1_2 main_v46
  let main_v48 : FVec F S4x256x1024 .f32 := broadcastInDim S4x256x1024 ![0, 1, 2] bcast_S1x1x1024_S4x256x1024_0_1_2 main_v47
  let main_v49 : FVec F S4x256x1024 .f32 := mulf main_v42 main_v48
  let main_v50 : FVec F S1x1x1024 .f32 := (extractStridedSlice S1x1x1024 ![0, 0, 0] · slices_S9x1x1024_S1x1x1024_0_0_0) main_v3
  let main_v51 : FVec F S1x1024 .f32 := shapeCast S1x1024 main_v50 shapeCasts_S1x1x1024_S1x1024
  let main_v52 : FVec F S1x1x1024 .f32 := broadcastInDim S1x1x1024 ![1, 2] bcast_S1x1024_S1x1x1024_1_2 main_v51
  let main_v53 : FVec F S4x256x1024 .f32 := broadcastInDim S4x256x1024 ![0, 1, 2] bcast_S1x1x1024_S4x256x1024_0_1_2 main_v52
  let main_v54 : FVec F S4x256x1024 .f32 := addf main_v49 main_v53
  let main_v55 : FVec F S4x256x5632 .f32 := (fun l r => Host.dotGeneral dot_S4x256x1024_S1024x5632_S4x256x5632_2_0_01_1_n_n none l r) main_v54 main_arg4
  let main_v56 : FVec F S4x256x2816 .f32 := (extractStridedSlice S4x256x2816 ![0, 0, 0] · slices_S4x256x5632_S4x256x2816_0_0_0) main_v55
  let main_v57 : FVec F S4x256x2816 .f32 := (extractStridedSlice S4x256x2816 ![0, 0, 2816] · slices_S4x256x5632_S4x256x2816_0_0_2816) main_v55
  let main_cst_7 : FVec F S_ .f32 := constant S_ .f32 0xFF800000#32
  let main_v58 : FVec F S4x8192x2816 .f32 := broadcastInDim S4x8192x2816 ![] bcast_S_S4x8192x2816 main_cst_7
  let main_v59 : IVec S4x8192x2816 1 := cmpf .ogt main_v28 main_v58
  let main_cst_8 : FVec F S_ .f32 := constant S_ .f32 0xFF800000#32
  let main_v60 : FVec F S4x256x2816 .f32 := broadcastInDim S4x256x2816 ![] bcast_S_S4x256x2816 main_cst_8
  let main_v61 : IVec S4x256x2816 1 := cmpf .ogt main_v56 main_v60
  (main_v59, main_v61)

def fn_part1 {F : FTy → Type} [FloatOps F] (main_arg3 : FVec F S1024 .f32) (main_arg4 : FVec F S1024x5632 .f32) (main_v0 : FVec F S4x256x1024 .f32) (main_v2 : FVec F S4x9x1x1024 .f32) (main_v3 : FVec F S9x1x1024 .f32) (main_v16 : FVec F S4x8192x1024 .f32) (main_v18 : FVec F S4x1x1024 .f32) (main_v19 : FVec F S4x1x1024 .f32) : IVec S4x8192x2816 1 × IVec S4x256x2816 1 :=
  let main_v20 : FVec F S4x1x1024 .f32 := addf main_v19 main_v18
  let main_v21 : FVec F S4x8192x1024 .f32 := broadcastInDim S4x8192x1024 ![0, 1, 2] bcast_S4x1x1024_S4x8192x1024_0_1_2 main_v20
  let main_v22 : FVec F S4x8192x1024 .f32 := mulf main_v16 main_v21
  let main_v23 : FVec F S4x1x1x1024 .f32 := (extractStridedSlice S4x1x1x1024 ![0, 0, 0, 0] · slices_S4x9x1x1024_S4x1x1x1024_0_0_0_0) main_v2
  let main_v24 : FVec F S4x1x1024 .f32 := shapeCast S4x1x1024 main_v23 shapeCasts_S4x1x1x1024_S4x1x1024
  let main_v25 : FVec F S4x8192x1024 .f32 := broadcastInDim S4x8192x1024 ![0, 1, 2] bcast_S4x1x1024_S4x8192x1024_0_1_2 main_v24
  let main_v26 : FVec F S4x8192x1024 .f32 := addf main_v22 main_v25
  let main_v27 : FVec F S4x8192x5632 .f32 := (fun l r => Host.dotGeneral dot_S4x8192x1024_S1024x5632_S4x8192x5632_2_0_01_1_n_n none l r) main_v26 main_arg4
  let main_v28 : FVec F S4x8192x2816 .f32 := (extractStridedSlice S4x8192x2816 ![0, 0, 0] · slices_S4x8192x5632_S4x8192x2816_0_0_0) main_v27
  let main_v29 : FVec F S4x8192x2816 .f32 := (extractStridedSlice S4x8192x2816 ![0, 0, 2816] · slices_S4x8192x5632_S4x8192x2816_0_0_2816) main_v27
  let main_v30 : FVec F S4x256x1024 .f32 := mulf main_v0 main_v0
  let main_cst_3 : FVec F S_ .f32 := constant S_ .f32 0x00000000#32
  let main_v31 : FVec F S4x256 .f32 := (fun x v => Host.reduceAdd x v reducesTo_S4x256x1024_S4x256_d2 h_S_) main_v30 main_cst_3
  let main_v32 : FVec F S4x256x1 .f32 := broadcastInDim S4x256x1 ![0, 1] bcast_S4x256_S4x256x1_0_1 main_v31
  let main_cst_4 : FVec F S_ .f32 := constant S_ .f32 0x44800000#32
  let main_v33 : FVec F S4x256x1 .f32 := broadcastInDim S4x256x1 ![] bcast_S_S4x256x1 main_cst_4
  let main_v34 : FVec F S4x256x1 .f32 := Host.divf main_v32 main_v33
  let main_cst_5 : FVec F S_ .f32 := constant S_ .f32 0x358637BD#32
  let main_v35 : FVec F S4x256x1 .f32 := broadcastInDim S4x256x1 ![] bcast_S_S4x256x1 main_cst_5
  let main_v36 : FVec F S4x256x1 .f32 := addf main_v34 main_v35
  let main_v37 : FVec F S4x256x1 .f32 := Host.rsqrt main_v36
  let main_v38 : FVec F S4x256x1024 .f32 := broadcastInDim S4x256x1024 ![0, 1, 2] bcast_S4x256x1_S4x256x1024_0_1_2 main_v37
  let main_v39 : FVec F S4x256x1024 .f32 := mulf main_v0 main_v38
  let main_v40 : FVec F S1x1x1024 .f32 := broadcastInDim S1x1x1024 ![2] bcast_S1024_S1x1x1024_2 main_arg3
  fn_part2 (F := F) main_arg4 main_v3 main_v28 main_v39 main_v40

def fn {F : FTy → Type} [FloatOps F] (main_arg0 : FVec F S4x8448x1024 .f32) (main_arg1 : FVec F S4x9x1024 .f32) (main_arg2 : FVec F S9x1024 .f32) (main_arg3 : FVec F S1024 .f32) (main_arg4 : FVec F S1024x5632 .f32) (main_arg5 : FVec F S2816x1024 .f32) : IVec S4x8192x2816 1 × IVec S4x256x2816 1 :=
  let main_v0 : FVec F S4x256x1024 .f32 := (extractStridedSlice S4x256x1024 ![0, 0, 0] · slices_S4x8448x1024_S4x256x1024_0_0_0) main_arg0
  let main_v1 : FVec F S4x8192x1024 .f32 := (extractStridedSlice S4x8192x1024 ![0, 256, 0] · slices_S4x8448x1024_S4x8192x1024_0_256_0) main_arg0
  let main_v2 : FVec F S4x9x1x1024 .f32 := shapeCast S4x9x1x1024 main_arg1 shapeCasts_S4x9x1024_S4x9x1x1024
  let main_v3 : FVec F S9x1x1024 .f32 := shapeCast S9x1x1024 main_arg2 shapeCasts_S9x1024_S9x1x1024
  let main_v4 : FVec F S4x8192x1024 .f32 := mulf main_v1 main_v1
  let main_cst : FVec F S_ .f32 := constant S_ .f32 0x00000000#32
  let main_v5 : FVec F S4x8192 .f32 := (fun x v => Host.reduceAdd x v reducesTo_S4x8192x1024_S4x8192_d2 h_S_) main_v4 main_cst
  let main_v6 : FVec F S4x8192x1 .f32 := broadcastInDim S4x8192x1 ![0, 1] bcast_S4x8192_S4x8192x1_0_1 main_v5
  let main_cst_0 : FVec F S_ .f32 := constant S_ .f32 0x44800000#32
  let main_v7 : FVec F S4x8192x1 .f32 := broadcastInDim S4x8192x1 ![] bcast_S_S4x8192x1 main_cst_0
  let main_v8 : FVec F S4x8192x1 .f32 := Host.divf main_v6 main_v7
  let main_cst_1 : FVec F S_ .f32 := constant S_ .f32 0x358637BD#32
  let main_v9 : FVec F S4x8192x1 .f32 := broadcastInDim S4x8192x1 ![] bcast_S_S4x8192x1 main_cst_1
  let main_v10 : FVec F S4x8192x1 .f32 := addf main_v8 main_v9
  let main_v11 : FVec F S4x8192x1 .f32 := Host.rsqrt main_v10
  let main_v12 : FVec F S4x8192x1024 .f32 := broadcastInDim S4x8192x1024 ![0, 1, 2] bcast_S4x8192x1_S4x8192x1024_0_1_2 main_v11
  let main_v13 : FVec F S4x8192x1024 .f32 := mulf main_v1 main_v12
  let main_v14 : FVec F S1x1x1024 .f32 := broadcastInDim S1x1x1024 ![2] bcast_S1024_S1x1x1024_2 main_arg3
  let main_v15 : FVec F S4x8192x1024 .f32 := broadcastInDim S4x8192x1024 ![0, 1, 2] bcast_S1x1x1024_S4x8192x1024_0_1_2 main_v14
  let main_v16 : FVec F S4x8192x1024 .f32 := mulf main_v13 main_v15
  let main_v17 : FVec F S4x1x1x1024 .f32 := (extractStridedSlice S4x1x1x1024 ![0, 1, 0, 0] · slices_S4x9x1x1024_S4x1x1x1024_0_1_0_0) main_v2
  let main_v18 : FVec F S4x1x1024 .f32 := shapeCast S4x1x1024 main_v17 shapeCasts_S4x1x1x1024_S4x1x1024
  let main_cst_2 : FVec F S_ .f32 := constant S_ .f32 0x3F800000#32
  let main_v19 : FVec F S4x1x1024 .f32 := broadcastInDim S4x1x1024 ![] bcast_S_S4x1x1024 main_cst_2
  fn_part1 (F := F) main_arg3 main_arg4 main_v0 main_v2 main_v3 main_v16 main_v18 main_v19
-- ==== Kernel.lean ====
abbrev S4x8192x8x64 : Shape := ⟨4, ![4, 8192, 8, 64]⟩
abbrev S4x8192x2x64 : Shape := ⟨4, ![4, 8192, 2, 64]⟩
abbrev S4x256x8x64 : Shape := ⟨4, ![4, 256, 8, 64]⟩
abbrev S4x256x2x64 : Shape := ⟨4, ![4, 256, 2, 64]⟩
abbrev S8 : Shape := ⟨1, ![8]⟩
abbrev S4x8448x8x64 : Shape := ⟨4, ![4, 8448, 8, 64]⟩
abbrev S33792x512 : Shape := ⟨2, ![33792, 512]⟩
abbrev S_ : Shape := ⟨0, ![]⟩
abbrev S4x8448x2x64 : Shape := ⟨4, ![4, 8448, 2, 64]⟩
abbrev S33792x128 : Shape := ⟨2, ![33792, 128]⟩
abbrev S33792x64 : Shape := ⟨2, ![33792, 64]⟩
abbrev S4x8448x512 : Shape := ⟨3, ![4, 8448, 512]⟩
abbrev S4x128x512 : Shape := ⟨3, ![4, 128, 512]⟩
abbrev S4x256x512 : Shape := ⟨3, ![4, 256, 512]⟩
abbrev S128x128 : Shape := ⟨2, ![128, 128]⟩
abbrev S128x256 : Shape := ⟨2, ![128, 256]⟩
abbrev S128x640 : Shape := ⟨2, ![128, 640]⟩
abbrev S256x640 : Shape := ⟨2, ![256, 640]⟩
abbrev S1x128x512 : Shape := ⟨3, ![1, 128, 512]⟩
abbrev S128x512 : Shape := ⟨2, ![128, 512]⟩
abbrev S1x256x512 : Shape := ⟨3, ![1, 256, 512]⟩
abbrev S256x512 : Shape := ⟨2, ![256, 512]⟩
abbrev S640x512 : Shape := ⟨2, ![640, 512]⟩
abbrev S256x1 : Shape := ⟨2, ![256, 1]⟩
abbrev S256x128 : Shape := ⟨2, ![256, 128]⟩
abbrev S640x128 : Shape := ⟨2, ![640, 128]⟩
abbrev S1 : Shape := ⟨1, ![1]⟩
abbrev S256 : Shape := ⟨1, ![256]⟩
abbrev S1x128x128 : Shape := ⟨3, ![1, 128, 128]⟩

abbrev nBuf : Space → Nat
  | .hbm => 90
  | .vmem => 18
  | .smem => 1
  | _ => 0

abbrev bufTy : (tb : Table) → Fin (tcTables nBuf tb) → BufTy
  | .hbm, ⟨0, _⟩ => ⟨S4x8192x8x64, .f32⟩
  | .hbm, ⟨1, _⟩ => ⟨S4x8192x2x64, .f32⟩
  | .hbm, ⟨2, _⟩ => ⟨S4x8192x2x64, .f32⟩
  | .hbm, ⟨3, _⟩ => ⟨S4x256x8x64, .f32⟩
  | .hbm, ⟨4, _⟩ => ⟨S4x256x2x64, .f32⟩
  | .hbm, ⟨5, _⟩ => ⟨S4x256x2x64, .f32⟩
  | .hbm, ⟨6, _⟩ => ⟨S8, .f32⟩
  | .hbm, ⟨7, _⟩ => ⟨S4x8448x8x64, .f32⟩
  | .hbm, ⟨8, _⟩ => ⟨S33792x512, .f32⟩
  | .hbm, ⟨9, _⟩ => ⟨S_, .f32⟩
  | .hbm, ⟨10, _⟩ => ⟨S33792x512, .f32⟩
  | .hbm, ⟨11, _⟩ => ⟨S33792x512, .f32⟩
  | .hbm, ⟨12, _⟩ => ⟨S33792x512, .bf16⟩
  | .hbm, ⟨13, _⟩ => ⟨S4x8448x2x64, .f32⟩
  | .hbm, ⟨14, _⟩ => ⟨S33792x128, .f32⟩
  | .hbm, ⟨15, _⟩ => ⟨S4x8448x2x64, .f32⟩
  | .hbm, ⟨16, _⟩ => ⟨S33792x128, .f32⟩
  | .hbm, ⟨17, _⟩ => ⟨S33792x128, .i32⟩
  | .hbm, ⟨18, _⟩ => ⟨S_, .i32⟩
  | .hbm, ⟨19, _⟩ => ⟨S33792x128, .i32⟩
  | .hbm, ⟨20, _⟩ => ⟨S33792x128, .i1⟩
  | .hbm, ⟨21, _⟩ => ⟨S_, .f32⟩
  | .hbm, ⟨22, _⟩ => ⟨S_, .f32⟩
  | .hbm, ⟨23, _⟩ => ⟨S33792x128, .f32⟩
  | .hbm, ⟨24, _⟩ => ⟨S33792x128, .f32⟩
  | .hbm, ⟨25, _⟩ => ⟨S_, .f32⟩
  | .hbm, ⟨26, _⟩ => ⟨S_, .f32⟩
  | .hbm, ⟨27, _⟩ => ⟨S33792x128, .f32⟩
  | .hbm, ⟨28, _⟩ => ⟨S33792x128, .f32⟩
  | .hbm, ⟨29, _⟩ => ⟨S33792x64, .f32⟩
  | .hbm, ⟨30, _⟩ => ⟨S33792x64, .f32⟩
  | .hbm, ⟨31, _⟩ => ⟨S33792x128, .f32⟩
  | .hbm, ⟨32, _⟩ => ⟨S33792x64, .f32⟩
  | .hbm, ⟨33, _⟩ => ⟨S33792x64, .f32⟩
  | .hbm, ⟨34, _⟩ => ⟨S33792x128, .f32⟩
  | .hbm, ⟨35, _⟩ => ⟨S33792x512, .f32⟩
  | .hbm, ⟨36, _⟩ => ⟨S33792x512, .bf16⟩
  | .hbm, ⟨37, _⟩ => ⟨S33792x128, .i32⟩
  | .hbm, ⟨38, _⟩ => ⟨S_, .i32⟩
  | .hbm, ⟨39, _⟩ => ⟨S33792x128, .i32⟩
  | .hbm, ⟨40, _⟩ => ⟨S33792x128, .i1⟩
  | .hbm, ⟨41, _⟩ => ⟨S_, .f32⟩
  | .hbm, ⟨42, _⟩ => ⟨S_, .f32⟩
  | .hbm, ⟨43, _⟩ => ⟨S33792x128, .f32⟩
  | .hbm, ⟨44, _⟩ => ⟨S33792x128, .f32⟩
  | .hbm, ⟨45, _⟩ => ⟨S_, .f32⟩
  | .hbm, ⟨46, _⟩ => ⟨S_, .f32⟩
  | .hbm, ⟨47, _⟩ => ⟨S33792x128, .f32⟩
  | .hbm, ⟨48, _⟩ => ⟨S33792x128, .f32⟩
  | .hbm, ⟨49, _⟩ => ⟨S33792x64, .f32⟩
  | .hbm, ⟨50, _⟩ => ⟨S33792x64, .f32⟩
  | .hbm, ⟨51, _⟩ => ⟨S33792x128, .f32⟩
  | .hbm, ⟨52, _⟩ => ⟨S33792x64, .f32⟩
  | .hbm, ⟨53, _⟩ => ⟨S33792x64, .f32⟩
  | .hbm, ⟨54, _⟩ => ⟨S33792x128, .f32⟩
  | .hbm, ⟨55, _⟩ => ⟨S33792x128, .i32⟩
  | .hbm, ⟨56, _⟩ => ⟨S_, .i32⟩
  | .hbm, ⟨57, _⟩ => ⟨S33792x128, .i32⟩
  | .hbm, ⟨58, _⟩ => ⟨S33792x128, .i1⟩
  | .hbm, ⟨59, _⟩ => ⟨S_, .f32⟩
  | .hbm, ⟨60, _⟩ => ⟨S_, .f32⟩
  | .hbm, ⟨61, _⟩ => ⟨S33792x128, .f32⟩
  | .hbm, ⟨62, _⟩ => ⟨S33792x128, .f32⟩
  | .hbm, ⟨63, _⟩ => ⟨S_, .i32⟩
  | .hbm, ⟨64, _⟩ => ⟨S33792x128, .i32⟩
  | .hbm, ⟨65, _⟩ => ⟨S33792x128, .i1⟩
  | .hbm, ⟨66, _⟩ => ⟨S_, .f32⟩
  | .hbm, ⟨67, _⟩ => ⟨S_, .f32⟩
  | .hbm, ⟨68, _⟩ => ⟨S33792x128, .f32⟩
  | .hbm, ⟨69, _⟩ => ⟨S33792x128, .f32⟩
  | .hbm, ⟨70, _⟩ => ⟨S_, .i32⟩
  | .hbm, ⟨71, _⟩ => ⟨S33792x128, .i32⟩
  | .hbm, ⟨72, _⟩ => ⟨S33792x128, .i1⟩
  | .hbm, ⟨73, _⟩ => ⟨S_, .f32⟩
  | .hbm, ⟨74, _⟩ => ⟨S_, .f32⟩
  | .hbm, ⟨75, _⟩ => ⟨S33792x128, .f32⟩
  | .hbm, ⟨76, _⟩ => ⟨S33792x128, .f32⟩
  | .hbm, ⟨77, _⟩ => ⟨S_, .i32⟩
  | .hbm, ⟨78, _⟩ => ⟨S33792x128, .i32⟩
  | .hbm, ⟨79, _⟩ => ⟨S33792x128, .i1⟩
  | .hbm, ⟨80, _⟩ => ⟨S_, .f32⟩
  | .hbm, ⟨81, _⟩ => ⟨S_, .f32⟩
  | .hbm, ⟨82, _⟩ => ⟨S33792x128, .f32⟩
  | .hbm, ⟨83, _⟩ => ⟨S33792x128, .f32⟩
  | .hbm, ⟨84, _⟩ => ⟨S33792x512, .f32⟩
  | .hbm, ⟨85, _⟩ => ⟨S33792x512, .bf16⟩
  | .hbm, ⟨86, _⟩ => ⟨S4x8448x512, .bf16⟩
  | .hbm, ⟨87, _⟩ => ⟨S4x8448x512, .bf16⟩
  | .hbm, ⟨88, _⟩ => ⟨S4x8448x512, .bf16⟩
  | .hbm, ⟨89, _⟩ => ⟨S4x8448x512, .bf16⟩
  | .local _ .vmem, ⟨0, _⟩ => ⟨S4x128x512, .bf16⟩
  | .local _ .vmem, ⟨1, _⟩ => ⟨S4x128x512, .bf16⟩
  | .local _ .vmem, ⟨2, _⟩ => ⟨S4x128x512, .bf16⟩
  | .local _ .vmem, ⟨3, _⟩ => ⟨S4x128x512, .bf16⟩
  | .local _ .vmem, ⟨4, _⟩ => ⟨S4x128x512, .bf16⟩
  | .local _ .vmem, ⟨5, _⟩ => ⟨S4x128x512, .bf16⟩
  | .local _ .vmem, ⟨6, _⟩ => ⟨S4x128x512, .bf16⟩
  | .local _ .vmem, ⟨7, _⟩ => ⟨S4x128x512, .bf16⟩
  | .local _ .vmem, ⟨8, _⟩ => ⟨S4x256x512, .bf16⟩
  | .local _ .vmem, ⟨9, _⟩ => ⟨S4x128x512, .bf16⟩
  | .local _ .vmem, ⟨10, _⟩ => ⟨S4x128x512, .bf16⟩
  | .local _ .vmem, ⟨11, _⟩ => ⟨S4x128x512, .bf16⟩
  | .local _ .vmem, ⟨12, _⟩ => ⟨S4x128x512, .bf16⟩
  | .local _ .vmem, ⟨13, _⟩ => ⟨S4x128x512, .bf16⟩
  | .local _ .vmem, ⟨14, _⟩ => ⟨S4x128x512, .bf16⟩
  | .local _ .vmem, ⟨15, _⟩ => ⟨S4x256x512, .bf16⟩
  | .local _ .vmem, ⟨16, _⟩ => ⟨S4x128x512, .bf16⟩
  | .local _ .vmem, ⟨17, _⟩ => ⟨S4x128x512, .bf16⟩
  | .local _ .smem, ⟨0, _⟩ => ⟨S8, .f32⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .smem, ⟨0, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v13 : Ref sig .tc := ⟨.hbm, 28, rfl⟩
abbrev main_call2_v0 : Ref sig .tc := ⟨.hbm, 29, rfl⟩
abbrev main_call2_v1 : Ref sig .tc := ⟨.hbm, 30, rfl⟩
abbrev main_v14 : Ref sig .tc := ⟨.hbm, 31, rfl⟩
abbrev main_call3_v0 : Ref sig .tc := ⟨.hbm, 32, rfl⟩
abbrev main_call3_v1 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_2 : Ref sig .tc := ⟨.hbm, 38, rfl⟩
abbrev main_v19 : Ref sig .tc := ⟨.hbm, 39, rfl⟩
abbrev main_v20 : Ref sig .tc := ⟨.hbm, 40, rfl⟩
abbrev main_cst_3 : Ref sig .tc := ⟨.hbm, 41, rfl⟩
abbrev main_call4_v0 : Ref sig .tc := ⟨.hbm, 42, rfl⟩
abbrev main_call4_v1 : Ref sig .tc := ⟨.hbm, 43, rfl⟩
abbrev main_v21 : Ref sig .tc := ⟨.hbm, 44, rfl⟩
abbrev main_cst_4 : Ref sig .tc := ⟨.hbm, 45, rfl⟩
abbrev main_call5_v0 : Ref sig .tc := ⟨.hbm, 46, rfl⟩
abbrev main_call5_v1 : Ref sig .tc := ⟨.hbm, 47, rfl⟩
abbrev main_v22 : Ref sig .tc := ⟨.hbm, 48, rfl⟩
abbrev main_call6_v0 : Ref sig .tc := ⟨.hbm, 49, rfl⟩
abbrev main_call6_v1 : Ref sig .tc := ⟨.hbm, 50, rfl⟩
abbrev main_v23 : Ref sig .tc := ⟨.hbm, 51, rfl⟩
abbrev main_call7_v0 : Ref sig .tc := ⟨.hbm, 52, rfl⟩
abbrev main_call7_v1 : Ref sig .tc := ⟨.hbm, 53, rfl⟩
abbrev main_v24 : Ref sig .tc := ⟨.hbm, 54, rfl⟩
abbrev main_v25 : Ref sig .tc := ⟨.hbm, 55, rfl⟩
abbrev main_c_5 : Ref sig .tc := ⟨.hbm, 56, rfl⟩
abbrev main_v26 : Ref sig .tc := ⟨.hbm, 57, rfl⟩
abbrev main_v27 : Ref sig .tc := ⟨.hbm, 58, rfl⟩
abbrev main_cst_6 : Ref sig .tc := ⟨.hbm, 59, rfl⟩
abbrev main_call8_v0 : Ref sig .tc := ⟨.hbm, 60, rfl⟩
abbrev main_call8_v1 : Ref sig .tc := ⟨.hbm, 61, rfl⟩
abbrev main_v28 : Ref sig .tc := ⟨.hbm, 62, rfl⟩
abbrev main_c_7 : Ref sig .tc := ⟨.hbm, 63, rfl⟩
abbrev main_v29 : Ref sig .tc := ⟨.hbm, 64, rfl⟩
abbrev main_v30 : Ref sig .tc := ⟨.hbm, 65, rfl⟩
abbrev main_cst_8 : Ref sig .tc := ⟨.hbm, 66, rfl⟩
abbrev main_call9_v0 : Ref sig .tc := ⟨.hbm, 67, rfl⟩
abbrev main_call9_v1 : Ref sig .tc := ⟨.hbm, 68, rfl⟩
abbrev main_v31 : Ref sig .tc := ⟨.hbm, 69, rfl⟩
abbrev main_c_9 : Ref sig .tc := ⟨.hbm, 70, rfl⟩
abbrev main_v32 : Ref sig .tc := ⟨.hbm, 71, rfl⟩
abbrev main_v33 : Ref sig .tc := ⟨.hbm, 72, rfl⟩
abbrev main_cst_10 : Ref sig .tc := ⟨.hbm, 73, rfl⟩
abbrev main_call10_v0 : Ref sig .tc := ⟨.hbm, 74, rfl⟩
abbrev main_call10_v1 : Ref sig .tc := ⟨.hbm, 75, rfl⟩
abbrev main_v34 : Ref sig .tc := ⟨.hbm, 76, rfl⟩
abbrev main_c_11 : Ref sig .tc := ⟨.hbm, 77, rfl⟩
abbrev main_v35 : Ref sig .tc := ⟨.hbm, 78, rfl⟩
abbrev main_v36 : Ref sig .tc := ⟨.hbm, 79, rfl⟩
abbrev main_cst_12 : Ref sig .tc := ⟨.hbm, 80, rfl⟩
abbrev main_call11_v0 : Ref sig .tc := ⟨.hbm, 81, rfl⟩
abbrev main_call11_v1 : Ref sig .tc := ⟨.hbm, 82, rfl⟩
abbrev main_v37 : Ref sig .tc := ⟨.hbm, 83, rfl⟩
abbrev main_v38 : Ref sig .tc := ⟨.hbm, 84, rfl⟩
abbrev main_v39 : Ref sig .tc := ⟨.hbm, 85, rfl⟩
abbrev main_v40 : Ref sig .tc := ⟨.hbm, 86, rfl⟩
abbrev main_v41 : Ref sig .tc := ⟨.hbm, 87, rfl⟩
abbrev main_v42 : Ref sig .tc := ⟨.hbm, 88, rfl⟩
abbrev main_v43 : Ref sig .tc := ⟨.hbm, 89, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem10_1 : DmaSem sig := 18

abbrev nD : Nat := 1
abbrev τ : Topo := Topo.v7x

variable {F : FTy → Type} [FloatOps F]

abbrev grid0 : Pipeline.Grid := ⟨2, ![1, 66], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c0_i32 : BitVec 32 := 0#32
  let c0_i32_0 : BitVec 32 := 0#32
  ![arg0.toNat, v1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c65_i32 : BitVec 32 := 65#32
  let v1 : BitVec 32 := Scalar.minsi v0 c65_i32
  let c0_i32 : BitVec 32 := 0#32
  let c0_i32_0 : BitVec 32 := 0#32
  ![arg0.toNat, v1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S4x128x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x128x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x128x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S4x256x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S4x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S4x128x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S4x128x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S4x256x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 2 → Memref sig .tc .vmem S4x128x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== ReferenceIdeal.lean ====
abbrev S4x8192x8x64 : Shape := ⟨4, ![4, 8192, 8, 64]⟩
abbrev S4x8192x2x64 : Shape := ⟨4, ![4, 8192, 2, 64]⟩
abbrev S4x256x8x64 : Shape := ⟨4, ![4, 256, 8, 64]⟩
abbrev S4x256x2x64 : Shape := ⟨4, ![4, 256, 2, 64]⟩
abbrev S8 : Shape := ⟨1, ![8]⟩
abbrev S4x64x128x2x4x64 : Shape := ⟨6, ![4, 64, 128, 2, 4, 64]⟩
abbrev S_ : Shape := ⟨0, ![]⟩
abbrev S4x8448x2x64 : Shape := ⟨4, ![4, 8448, 2, 64]⟩
abbrev S4x66x128x2x64 : Shape := ⟨5, ![4, 66, 128, 2, 64]⟩
abbrev S4x64x128x2x64 : Shape := ⟨5, ![4, 64, 128, 2, 64]⟩
abbrev S4x64x384x2x64 : Shape := ⟨5, ![4, 64, 384, 2, 64]⟩
abbrev S4x64x2x384x128x4 : Shape := ⟨6, ![4, 64, 2, 384, 128, 4]⟩
abbrev S4x64x2x4x128x384 : Shape := ⟨6, ![4, 64, 2, 4, 128, 384]⟩
abbrev S4x2x256x64x128x4 : Shape := ⟨6, ![4, 2, 256, 64, 128, 4]⟩
abbrev S4x64x2x4x128x256 : Shape := ⟨6, ![4, 64, 2, 4, 128, 256]⟩
abbrev S8192 : Shape := ⟨1, ![8192]⟩
abbrev S64x128 : Shape := ⟨2, ![64, 128]⟩
abbrev S64 : Shape := ⟨1, ![64]⟩
abbrev S64x1 : Shape := ⟨2, ![64, 1]⟩
abbrev S384 : Shape := ⟨1, ![384]⟩
abbrev S1x384 : Shape := ⟨2, ![1, 384]⟩
abbrev S64x384 : Shape := ⟨2, ![64, 384]⟩
abbrev S64x128x1 : Shape := ⟨3, ![64, 128, 1]⟩
abbrev S64x1x384 : Shape := ⟨3, ![64, 1, 384]⟩
abbrev S64x128x384 : Shape := ⟨3, ![64, 128, 384]⟩
abbrev S1x64x1x1x128x384 : Shape := ⟨6, ![1, 64, 1, 1, 128, 384]⟩
abbrev S1x1x2x4x1x1 : Shape := ⟨6, ![1, 1, 2, 4, 1, 1]⟩
abbrev S4x64x2x4x128x640 : Shape := ⟨6, ![4, 64, 2, 4, 128, 640]⟩
abbrev S4x64x2x4x128x1 : Shape := ⟨6, ![4, 64, 2, 4, 128, 1]⟩
abbrev S4x64x2x4x128x641 : Shape := ⟨6, ![4, 64, 2, 4, 128, 641]⟩
abbrev S4x64x2x4x128 : Shape := ⟨5, ![4, 64, 2, 4, 128]⟩
abbrev S4x64x2x64x4x128 : Shape := ⟨6, ![4, 64, 2, 64, 4, 128]⟩
abbrev S4x2x64x64x4x128 : Shape := ⟨6, ![4, 2, 64, 64, 4, 128]⟩
abbrev S4x8192x512 : Shape := ⟨3, ![4, 8192, 512]⟩
abbrev S4x256x2x4x64 : Shape := ⟨5, ![4, 256, 2, 4, 64]⟩
abbrev S4x2x256x256x4 : Shape := ⟨5, ![4, 2, 256, 256, 4]⟩
abbrev S4x2x4x256x256 : Shape := ⟨5, ![4, 2, 4, 256, 256]⟩
abbrev S1x2x4x1x1 : Shape := ⟨5, ![1, 2, 4, 1, 1]⟩
abbrev S4x2x4x256x1 : Shape := ⟨5, ![4, 2, 4, 256, 1]⟩
abbrev S4x2x4x256x257 : Shape := ⟨5, ![4, 2, 4, 256, 257]⟩
abbrev S4x2x4x256 : Shape := ⟨4, ![4, 2, 4, 256]⟩
abbrev S4x2x64x4x256 : Shape := ⟨5, ![4, 2, 64, 4, 256]⟩
abbrev S4x256x512 : Shape := ⟨3, ![4, 256, 512]⟩
abbrev S4x8448x512 : Shape := ⟨3, ![4, 8448, 512]⟩

abbrev nBuf : Space → Nat
  | .hbm => 132
  | .vmem => 0
  | .smem => 0
  | _ => 0

abbrev hbmTy0_0 (i : Nat) : BufTy := match i % 128 with
  | 0 => ⟨S4x8192x8x64, .f32⟩
  | 1 => ⟨S4x8192x2x64, .f32⟩
  | 2 => ⟨S4x8192x2x64, .f32⟩
  | 3 => ⟨S4x256x8x64, .f32⟩
  | 4 => ⟨S4x256x2x64, .f32⟩
  | 5 => ⟨S4x256x2x64, .f32⟩
  | 6 => ⟨S8, .f32⟩
  | 7 => ⟨S4x64x128x2x4x64, .f32⟩
  | 8 => ⟨S_, .i32⟩
  | 9 => ⟨S_, .f32⟩
  | 10 => ⟨S4x8448x2x64, .f32⟩
  | 11 => ⟨S4x66x128x2x64, .f32⟩
  | 12 => ⟨S4x64x128x2x64, .f32⟩
  | 13 => ⟨S4x64x128x2x64, .f32⟩
  | 14 => ⟨S4x64x128x2x64, .f32⟩
  | 15 => ⟨S4x64x384x2x64, .f32⟩
  | 16 => ⟨S_, .i32⟩
  | 17 => ⟨S_, .f32⟩
  | 18 => ⟨S4x8448x2x64, .f32⟩
  | 19 => ⟨S4x66x128x2x64, .f32⟩
  | 20 => ⟨S4x64x128x2x64, .f32⟩
  | 21 => ⟨S4x64x128x2x64, .f32⟩
  | 22 => ⟨S4x64x128x2x64, .f32⟩
  | 23 => ⟨S4x64x384x2x64, .f32⟩
  | 24 => ⟨S4x64x2x384x128x4, .f32⟩
  | 25 => ⟨S4x64x2x4x128x384, .f32⟩
  | 26 => ⟨S_, .f32⟩
  | 27 => ⟨S4x64x2x4x128x384, .f32⟩
  | 28 => ⟨S4x64x2x4x128x384, .f32⟩
  | 29 => ⟨S4x2x256x64x128x4, .f32⟩
  | 30 => ⟨S4x64x2x4x128x256, .f32⟩
  | 31 => ⟨S_, .f32⟩
  | 32 => ⟨S4x64x2x4x128x256, .f32⟩
  | 33 => ⟨S4x64x2x4x128x256, .f32⟩
  | 34 => ⟨S8192, .i32⟩
  | 35 => ⟨S64x128, .i32⟩
  | 36 => ⟨S64, .i32⟩
  | 37 => ⟨S64x1, .i32⟩
  | 38 => ⟨S_, .i32⟩
  | 39 => ⟨S64x1, .i32⟩
  | 40 => ⟨S64x1, .i32⟩
  | 41 => ⟨S_, .i32⟩
  | 42 => ⟨S64x1, .i32⟩
  | 43 => ⟨S64x1, .i32⟩
  | 44 => ⟨S384, .i32⟩
  | 45 => ⟨S1x384, .i32⟩
  | 46 => ⟨S64x384, .i32⟩
  | 47 => ⟨S64x384, .i32⟩
  | 48 => ⟨S64x384, .i32⟩
  | 49 => ⟨S64x128x1, .i32⟩
  | 50 => ⟨S64x1x384, .i32⟩
  | 51 => ⟨S64x128x384, .i32⟩
  | 52 => ⟨S64x128x384, .i32⟩
  | 53 => ⟨S64x128x384, .i32⟩
  | 54 => ⟨S64x128x384, .i32⟩
  | 55 => ⟨S_, .i32⟩
  | 56 => ⟨S64x128x384, .i32⟩
  | 57 => ⟨S64x128x384, .i1⟩
  | 58 => ⟨S64x1x384, .i32⟩
  | 59 => ⟨S_, .i32⟩
  | 60 => ⟨S64x1x384, .i32⟩
  | 61 => ⟨S64x1x384, .i1⟩
  | 62 => ⟨S64x128x384, .i1⟩
  | 63 => ⟨S64x128x384, .i1⟩
  | 64 => ⟨S64x1x384, .i32⟩
  | 65 => ⟨S_, .i32⟩
  | 66 => ⟨S64x1x384, .i32⟩
  | 67 => ⟨S64x1x384, .i1⟩
  | 68 => ⟨S64x128x384, .i1⟩
  | 69 => ⟨S64x128x384, .i1⟩
  | 70 => ⟨S1x64x1x1x128x384, .i1⟩
  | 71 => ⟨S_, .f32⟩
  | 72 => ⟨S_, .f32⟩
  | 73 => ⟨S4x64x2x4x128x384, .i1⟩
  | 74 => ⟨S4x64x2x4x128x384, .f32⟩
  | 75 => ⟨S4x64x2x4x128x384, .f32⟩
  | 76 => ⟨S1x1x2x4x1x1, .f32⟩
  | 77 => ⟨S4x64x2x4x128x640, .f32⟩
  | 78 => ⟨S4x64x2x4x128x1, .f32⟩
  | 79 => ⟨S4x64x2x4x128x641, .f32⟩
  | 80 => ⟨S_, .f32⟩
  | 81 => ⟨S4x64x2x4x128, .f32⟩
  | 82 => ⟨S_, .f32⟩
  | 83 => ⟨S4x64x2x4x128, .f32⟩
  | 84 => ⟨S4x64x2x4x128, .f32⟩
  | 85 => ⟨S4x64x2x4x128x1, .f32⟩
  | 86 => ⟨S4x64x2x4x128x641, .f32⟩
  | 87 => ⟨S4x64x2x4x128x641, .f32⟩
  | 88 => ⟨S4x64x2x4x128x641, .f32⟩
  | 89 => ⟨S_, .f32⟩
  | 90 => ⟨S4x64x2x4x128, .f32⟩
  | 91 => ⟨S4x64x2x4x128x1, .f32⟩
  | 92 => ⟨S4x64x2x4x128x641, .f32⟩
  | 93 => ⟨S4x64x2x4x128x641, .f32⟩
  | 94 => ⟨S4x64x2x4x128x640, .f32⟩
  | 95 => ⟨S4x64x2x4x128x384, .f32⟩
  | 96 => ⟨S4x64x2x4x128x256, .f32⟩
  | 97 => ⟨S4x64x2x64x4x128, .f32⟩
  | 98 => ⟨S4x64x128x2x4x64, .f32⟩
  | 99 => ⟨S4x2x64x64x4x128, .f32⟩
  | 100 => ⟨S4x64x128x2x4x64, .f32⟩
  | 101 => ⟨S4x64x128x2x4x64, .f32⟩
  | 102 => ⟨S4x8192x512, .f32⟩
  | 103 => ⟨S4x256x2x4x64, .f32⟩
  | 104 => ⟨S4x2x256x256x4, .f32⟩
  | 105 => ⟨S4x2x4x256x256, .f32⟩
  | 106 => ⟨S_, .f32⟩
  | 107 => ⟨S4x2x4x256x256, .f32⟩
  | 108 => ⟨S4x2x4x256x256, .f32⟩
  | 109 => ⟨S1x2x4x1x1, .f32⟩
  | 110 => ⟨S4x2x4x256x1, .f32⟩
  | 111 => ⟨S4x2x4x256x257, .f32⟩
  | 112 => ⟨S_, .f32⟩
  | 113 => ⟨S4x2x4x256, .f32⟩
  | 114 => ⟨S_, .f32⟩
  | 115 => ⟨S4x2x4x256, .f32⟩
  | 116 => ⟨S4x2x4x256, .f32⟩
  | 117 => ⟨S4x2x4x256x1, .f32⟩
  | 118 => ⟨S4x2x4x256x257, .f32⟩
  | 119 => ⟨S4x2x4x256x257, .f32⟩
  | 120 => ⟨S4x2x4x256x257, .f32⟩
  | 121 => ⟨S_, .f32⟩
  | 122 => ⟨S4x2x4x256, .f32⟩
  | 123 => ⟨S4x2x4x256x1, .f32⟩
  | 124 => ⟨S4x2x4x256x257, .f32⟩
  | 125 => ⟨S4x2x4x256x257, .f32⟩
  | 126 => ⟨S4x2x4x256x256, .f32⟩
  | 127 => ⟨S4x2x64x4x256, .f32⟩
  | _ => ⟨S4x8192x8x64, .f32⟩

abbrev hbmTy0_1 (i : Nat) : BufTy := match i % 128 with
  | 0 => ⟨S4x256x2x4x64, .f32⟩
  | 1 => ⟨S4x256x512, .f32⟩
  | 2 => ⟨S4x8448x512, .f32⟩
  | 3 => ⟨S4x8448x512, .bf16⟩
  | _ => ⟨S4x8192x8x64, .f32⟩

abbrev hbmTy (i : Nat) : BufTy := match i / 128 with
  | 0 => hbmTy0_0 i
  | 1 => hbmTy0_1 i
  | _ => ⟨S4x8192x8x64, .f32⟩

abbrev bufTy : (tb : Table) → Fin (tcTables nBuf tb) → BufTy
  | .hbm, ⟨i, _⟩ => hbmTy i
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_0 : Ref sig .tc := ⟨.hbm, 16, rfl⟩
abbrev main_call1_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_1 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_2 : Ref sig .tc := ⟨.hbm, 38, rfl⟩
abbrev main_v25 : Ref sig .tc := ⟨.hbm, 39, rfl⟩
abbrev main_v26 : Ref sig .tc := ⟨.hbm, 40, rfl⟩
abbrev main_c_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_c_4 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_c_5 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_c_6 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_7 : Ref sig .tc := ⟨.hbm, 71, rfl⟩
abbrev main_call2_v0 : Ref sig .tc := ⟨.hbm, 72, rfl⟩
abbrev main_call2_v1 : Ref sig .tc := ⟨.hbm, 73, rfl⟩
abbrev main_call2_v2 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_cst_8 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_cst_10 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_cst_11 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_cst_12 : Ref sig .tc := ⟨.hbm, 112, rfl⟩
abbrev main_v86 : Ref sig .tc := ⟨.hbm, 113, rfl⟩
abbrev main_cst_13 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_cst_14 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_v98 : Ref sig .tc := ⟨.hbm, 127, rfl⟩
abbrev main_v99 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩

abbrev nD : Nat := 1
abbrev τ : Topo := Topo.v7x

variable {F : FTy → Type} [FloatOps F]
-- ==== Kernel2.lean ====
abbrev S4x8448x1024 : Shape := ⟨3, ![4, 8448, 1024]⟩
abbrev S4x8448x512 : Shape := ⟨3, ![4, 8448, 512]⟩
abbrev S4x8448x4x128 : Shape := ⟨4, ![4, 8448, 4, 128]⟩
abbrev S4x9x1024 : Shape := ⟨3, ![4, 9, 1024]⟩
abbrev S9x1024 : Shape := ⟨2, ![9, 1024]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S33792x1024 : Shape := ⟨2, ![33792, 1024]⟩
abbrev S33792x3072 : Shape := ⟨2, ![33792, 3072]⟩
abbrev S33792x512 : Shape := ⟨2, ![33792, 512]⟩
abbrev S_ : Shape := ⟨0, ![]⟩
abbrev S9x4x1024 : Shape := ⟨3, ![9, 4, 1024]⟩
abbrev S9x1x1024 : Shape := ⟨3, ![9, 1, 1024]⟩
abbrev S9x5x1024 : Shape := ⟨3, ![9, 5, 1024]⟩
abbrev S1x128 : Shape := ⟨2, ![1, 128]⟩
abbrev S1x1024 : Shape := ⟨2, ![1, 1024]⟩
abbrev S32768x1024 : Shape := ⟨2, ![32768, 1024]⟩
abbrev S512x512 : Shape := ⟨2, ![512, 512]⟩
abbrev S512x3072 : Shape := ⟨2, ![512, 3072]⟩
abbrev S512x1 : Shape := ⟨2, ![512, 1]⟩
abbrev S512x128 : Shape := ⟨2, ![512, 128]⟩
abbrev S512 : Shape := ⟨1, ![512]⟩
abbrev S1x1x1024 : Shape := ⟨3, ![1, 1, 1024]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 71
  | .vmem => 32
  | .smem => 0
  | _ => 0

abbrev bufTy : (tb : Table) → Fin (tcTables nBuf tb) → BufTy
  | .hbm, ⟨0, _⟩ => ⟨S4x8448x1024, .f32⟩
  | .hbm, ⟨1, _⟩ => ⟨S4x8448x512, .f32⟩
  | .hbm, ⟨2, _⟩ => ⟨S4x8448x4x128, .f32⟩
  | .hbm, ⟨3, _⟩ => ⟨S4x8448x4x128, .f32⟩
  | .hbm, ⟨4, _⟩ => ⟨S4x8448x4x128, .f32⟩
  | .hbm, ⟨5, _⟩ => ⟨S4x8448x4x128, .f32⟩
  | .hbm, ⟨6, _⟩ => ⟨S4x8448x512, .f32⟩
  | .hbm, ⟨7, _⟩ => ⟨S4x8448x512, .f32⟩
  | .hbm, ⟨8, _⟩ => ⟨S4x8448x1024, .f32⟩
  | .hbm, ⟨9, _⟩ => ⟨S4x8448x1024, .f32⟩
  | .hbm, ⟨10, _⟩ => ⟨S4x8448x1024, .f32⟩
  | .hbm, ⟨11, _⟩ => ⟨S4x9x1024, .f32⟩
  | .hbm, ⟨12, _⟩ => ⟨S9x1024, .f32⟩
  | .hbm, ⟨13, _⟩ => ⟨S128, .f32⟩
  | .hbm, ⟨14, _⟩ => ⟨S128, .f32⟩
  | .hbm, ⟨15, _⟩ => ⟨S512x1024, .f32⟩
  | .hbm, ⟨16, _⟩ => ⟨S512x1024, .f32⟩
  | .hbm, ⟨17, _⟩ => ⟨S512x1024, .f32⟩
  | .hbm, ⟨18, _⟩ => ⟨S1024x1024, .f32⟩
  | .hbm, ⟨19, _⟩ => ⟨S1024, .f32⟩
  | .hbm, ⟨20, _⟩ => ⟨S1024x5632, .f32⟩
  | .hbm, ⟨21, _⟩ => ⟨S2816x1024, .f32⟩
  | .hbm, ⟨22, _⟩ => ⟨S33792x1024, .f32⟩
  | .hbm, ⟨23, _⟩ => ⟨S33792x1024, .f32⟩
  | .hbm, ⟨24, _⟩ => ⟨S33792x1024, .f32⟩
  | .hbm, ⟨25, _⟩ => ⟨S33792x3072, .f32⟩
  | .hbm, ⟨26, _⟩ => ⟨S33792x3072, .bf16⟩
  | .hbm, ⟨27, _⟩ => ⟨S33792x1024, .f32⟩
  | .hbm, ⟨28, _⟩ => ⟨S33792x512, .f32⟩
  | .hbm, ⟨29, _⟩ => ⟨S33792x512, .bf16⟩
  | .hbm, ⟨30, _⟩ => ⟨S33792x512, .f32⟩
  | .hbm, ⟨31, _⟩ => ⟨S33792x512, .bf16⟩
  | .hbm, ⟨32, _⟩ => ⟨S33792x512, .f32⟩
  | .hbm, ⟨33, _⟩ => ⟨S33792x512, .bf16⟩
  | .hbm, ⟨34, _⟩ => ⟨S33792x512, .f32⟩
  | .hbm, ⟨35, _⟩ => ⟨S33792x512, .bf16⟩
  | .hbm, ⟨36, _⟩ => ⟨S33792x512, .f32⟩
  | .hbm, ⟨37, _⟩ => ⟨S33792x512, .bf16⟩
  | .hbm, ⟨38, _⟩ => ⟨S33792x512, .f32⟩
  | .hbm, ⟨39, _⟩ => ⟨S_, .f32⟩
  | .hbm, ⟨40, _⟩ => ⟨S33792x512, .f32⟩
  | .hbm, ⟨41, _⟩ => ⟨S33792x512, .f32⟩
  | .hbm, ⟨42, _⟩ => ⟨S33792x512, .f32⟩
  | .hbm, ⟨43, _⟩ => ⟨S33792x512, .f32⟩
  | .hbm, ⟨44, _⟩ => ⟨S33792x512, .f32⟩
  | .hbm, ⟨45, _⟩ => ⟨S33792x512, .bf16⟩
  | .hbm, ⟨46, _⟩ => ⟨S33792x512, .f32⟩
  | .hbm, ⟨47, _⟩ => ⟨S_, .f32⟩
  | .hbm, ⟨48, _⟩ => ⟨S33792x512, .f32⟩
  | .hbm, ⟨49, _⟩ => ⟨S33792x512, .f32⟩
  | .hbm, ⟨50, _⟩ => ⟨S33792x512, .f32⟩
  | .hbm, ⟨51, _⟩ => ⟨S_, .f32⟩
  | .hbm, ⟨52, _⟩ => ⟨S33792x512, .f32⟩
  | .hbm, ⟨53, _⟩ => ⟨S33792x512, .f32⟩
  | .hbm, ⟨54, _⟩ => ⟨S_, .f32⟩
  | .hbm, ⟨55, _⟩ => ⟨S33792x512, .f32⟩
  | .hbm, ⟨56, _⟩ => ⟨S33792x512, .f32⟩
  | .hbm, ⟨57, _⟩ => ⟨S33792x512, .bf16⟩
  | .hbm, ⟨58, _⟩ => ⟨S9x4x1024, .f32⟩
  | .hbm, ⟨59, _⟩ => ⟨S9x1x1024, .f32⟩
  | .hbm, ⟨60, _⟩ => ⟨S9x5x1024, .f32⟩
  | .hbm, ⟨61, _⟩ => ⟨S1x128, .f32⟩
  | .hbm, ⟨62, _⟩ => ⟨S1x128, .f32⟩
  | .hbm, ⟨63, _⟩ => ⟨S512x1024, .bf16⟩
  | .hbm, ⟨64, _⟩ => ⟨S512x1024, .bf16⟩
  | .hbm, ⟨65, _⟩ => ⟨S512x1024, .bf16⟩
  | .hbm, ⟨66, _⟩ => ⟨S1024x1024, .bf16⟩
  | .hbm, ⟨67, _⟩ => ⟨S1x1024, .f32⟩
  | .hbm, ⟨68, _⟩ => ⟨S1024x5632, .bf16⟩
  | .hbm, ⟨69, _⟩ => ⟨S2816x1024, .bf16⟩
  | .hbm, ⟨70, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x512, .bf16⟩
  | .local _ .vmem, ⟨11, _⟩ => ⟨S512x512, .bf16⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S512x512, .bf16⟩
  | .local _ .vmem, ⟨16, _⟩ => ⟨S512x3072, .bf16⟩
  | .local _ .vmem, ⟨17, _⟩ => ⟨S512x3072, .bf16⟩
  | .local _ .vmem, ⟨18, _⟩ => ⟨S9x5x1024, .f32⟩
  | .local _ .vmem, ⟨19, _⟩ => ⟨S1x128, .f32⟩
  | .local _ .vmem, ⟨20, _⟩ => ⟨S1x128, .f32⟩
  | .local _ .vmem, ⟨21, _⟩ => ⟨S512x1024, .bf16⟩
  | .local _ .vmem, ⟨22, _⟩ => ⟨S512x1024, .bf16⟩
  | .local _ .vmem, ⟨23, _⟩ => ⟨S512x1024, .bf16⟩
  | .local _ .vmem, ⟨24, _⟩ => ⟨S1024x1024, .bf16⟩
  | .local _ .vmem, ⟨25, _⟩ => ⟨S1x1024, .f32⟩
  | .local _ .vmem, ⟨26, _⟩ => ⟨S1024x5632, .bf16⟩
  | .local _ .vmem, ⟨27, _⟩ => ⟨S2816x1024, .bf16⟩
  | .local _ .vmem, ⟨28, _⟩ => ⟨S512x1024, .f32⟩
  | .local _ .vmem, ⟨29, _⟩ => ⟨S512x1024, .f32⟩
  | .local _ .vmem, ⟨30, _⟩ => ⟨S512x1024, .bf16⟩
  | .local _ .vmem, ⟨31, _⟩ => ⟨S512x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_cst_0 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_1 : Ref sig .tc := ⟨.hbm, 51, rfl⟩
abbrev main_v27 : Ref sig .tc := ⟨.hbm, 52, rfl⟩
abbrev main_v28 : Ref sig .tc := ⟨.hbm, 53, rfl⟩
abbrev main_cst_2 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg19_1 : Ref sig .tc := ⟨.vmem, 29, rfl⟩
abbrev cc0_scratch0 : Ref sig .tc := ⟨.vmem, 30, rfl⟩
abbrev cc0_scratch1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem13_0 : DmaSem sig := 22
abbrev cc0_sem14_0 : DmaSem sig := 23
abbrev cc0_sem15_0 : DmaSem sig := 24
abbrev cc0_sem16_0 : DmaSem sig := 25
abbrev cc0_sem17_0 : DmaSem sig := 26
abbrev cc0_sem18_0 : DmaSem sig := 27
abbrev cc0_sem19_0 : DmaSem sig := 28
abbrev cc0_sem19_1 : DmaSem sig := 29

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult2 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult3 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult4 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult5 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult6 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult7 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult8 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_mult9 (i : grid0.Coords) : BitVec 32 :=
  let arg0 : BitVec 32 := BitVec.ofNat 32 (i 0).val
  let c8448_i32 : BitVec 32 := 8448#32
  let v0 : BitVec 32 := Scalar.muli arg0 c8448_i32
  let c256_i32 : BitVec 32 := 256#32
  let v1 : BitVec 32 := Scalar.addi v0 c256_i32
  let arg1 : BitVec 32 := BitVec.ofNat 32 (i 1).val
  let c512_i32 : BitVec 32 := 512#32
  let v2 : BitVec 32 := Scalar.muli arg1 c512_i32
  let v3 : BitVec 32 := Scalar.addi v1 v2
  v3
def k0_off1 (i : grid0.Coords) : Fin 3 → Nat :=
  let c5 : Index := 5#32
  let arg0 : BitVec 32 := BitVec.ofNat 32 (i 0).val
  let v166 : Index := Scalar.indexCast arg0
  let c0_54 : Index := 0#32
  ![5, v166.toNat, 0]
def k0_off2 (i : grid0.Coords) : Fin 3 → Nat :=
  let c6 : Index := 6#32
  let arg0 : BitVec 32 := BitVec.ofNat 32 (i 0).val
  let v188 : Index := Scalar.indexCast arg0
  let c0_64 : Index := 0#32
  ![6, v188.toNat, 0]
def k0_off3 (i : grid0.Coords) : Fin 3 → Nat :=
  let c7 : Index := 7#32
  let arg0 : BitVec 32 := BitVec.ofNat 32 (i 0).val
  let v191 : Index := Scalar.indexCast arg0
  let c0_65 : Index := 0#32
  ![7, v191.toNat, 0]
def k0_off4 (i : grid0.Coords) : Fin 3 → Nat :=
  let c8 : Index := 8#32
  let arg0 : BitVec 32 := BitVec.ofNat 32 (i 0).val
  let v217 : Index := Scalar.indexCast arg0
  let c0_73 : Index := 0#32
  ![8, v217.toNat, 0]
def cc0_transform_0 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_1 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_2 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_3 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_4 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_5 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_6 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_7 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_8 (i : grid0.Coords) : Fin 2 → Nat :=
  let arg0 : BitVec 32 := BitVec.ofNat 32 (i 0).val
  let arg1 : BitVec 32 := BitVec.ofNat 32 (i 1).val
  let c8448_i32 : BitVec 32 := 8448#32
  let v0 : BitVec 32 := Scalar.muli arg0 c8448_i32
  let c256_i32 : BitVec 32 := 256#32
  let v1 : BitVec 32 := Scalar.addi v0 c256_i32
  let c512_i32 : BitVec 32 := 512#32
  let v2 : BitVec 32 := Scalar.muli arg1 c512_i32
  let v3 : BitVec 32 := Scalar.addi v1 v2
  let v4 : BitVec 32 := v3
  let c0_i32 : BitVec 32 := 0#32
  let c0_i32_0 : BitVec 32 := 0#32
  ![v4.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_19 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x3072 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S9x5x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S512x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S512x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S1024x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false, false]

abbrev stage0_17 : Fin 1 → Memref sig .tc .vmem S1024x5632 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false, false]

abbrev stage0_18 : Fin 1 → Memref sig .tc .vmem S2816x1024 .bf16 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]
-- ==== Reference2Ideal.lean ====
abbrev S4x8448x1024 : Shape := ⟨3, ![4, 8448, 1024]⟩
abbrev S4x8448x512 : Shape := ⟨3, ![4, 8448, 512]⟩
abbrev S4x8448x4x128 : Shape := ⟨4, ![4, 8448, 4, 128]⟩
abbrev S4x9x1024 : Shape := ⟨3, ![4, 9, 1024]⟩
abbrev S9x1024 : Shape := ⟨2, ![9, 1024]⟩
abbrev S128 : Shape := ⟨1, ![128]⟩
abbrev S512x1024 : Shape := ⟨2, ![512, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S4x8192x512 : Shape := ⟨3, ![4, 8192, 512]⟩
abbrev S4x8192x4x128 : Shape := ⟨4, ![4, 8192, 4, 128]⟩
abbrev S4x8192x1024 : Shape := ⟨3, ![4, 8192, 1024]⟩
abbrev S_ : Shape := ⟨0, ![]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩
abbrev S4x1x1x1024 : Shape := ⟨4, ![4, 1, 1, 1024]⟩
abbrev S4x1x1024 : Shape := ⟨3, ![4, 1, 1024]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S32768x1024 : Shape := ⟨2, ![32768, 1024]⟩

abbrev nBuf : Space → Nat
  | .hbm => 153
  | .vmem => 0
  | .smem => 0
  | _ => 0

abbrev hbmTy0_0 (i : Nat) : BufTy := match i % 128 with
  | 0 => ⟨S4x8448x1024, .f32⟩
  | 1 => ⟨S4x8448x512, .f32⟩
  | 2 => ⟨S4x8448x4x128, .f32⟩
  | 3 => ⟨S4x8448x4x128, .f32⟩
  | 4 => ⟨S4x8448x4x128, .f32⟩
  | 5 => ⟨S4x8448x4x128, .f32⟩
  | 6 => ⟨S4x8448x512, .f32⟩
  | 7 => ⟨S4x8448x512, .f32⟩
  | 8 => ⟨S4x8448x1024, .f32⟩
  | 9 => ⟨S4x8448x1024, .f32⟩
  | 10 => ⟨S4x8448x1024, .f32⟩
  | 11 => ⟨S4x9x1024, .f32⟩
  | 12 => ⟨S9x1024, .f32⟩
  | 13 => ⟨S128, .f32⟩
  | 14 => ⟨S128, .f32⟩
  | 15 => ⟨S512x1024, .f32⟩
  | 16 => ⟨S512x1024, .f32⟩
  | 17 => ⟨S512x1024, .f32⟩
  | 18 => ⟨S1024x1024, .f32⟩
  | 19 => ⟨S1024, .f32⟩
  | 20 => ⟨S1024x5632, .f32⟩
  | 21 => ⟨S2816x1024, .f32⟩
  | 22 => ⟨S4x9x1x1024, .f32⟩
  | 23 => ⟨S4x8192x512, .f32⟩
  | 24 => ⟨S4x8192x4x128, .f32⟩
  | 25 => ⟨S4x8192x4x128, .f32⟩
  | 26 => ⟨S4x8192x4x128, .f32⟩
  | 27 => ⟨S4x8192x4x128, .f32⟩
  | 28 => ⟨S4x8192x4x128, .f32⟩
  | 29 => ⟨S4x8192x4x128, .f32⟩
  | 30 => ⟨S4x8192x512, .f32⟩
  | 31 => ⟨S4x8192x512, .f32⟩
  | 32 => ⟨S4x8192x1024, .f32⟩
  | 33 => ⟨S4x8192x1024, .f32⟩
  | 34 => ⟨S4x8192x1024, .f32⟩
  | 35 => ⟨S4x8192x4x128, .f32⟩
  | 36 => ⟨S_, .f32⟩
  | 37 => ⟨S4x8192x4, .f32⟩
  | 38 => ⟨S4x8192x4x1, .f32⟩
  | 39 => ⟨S_, .f32⟩
  | 40 => ⟨S4x8192x4x1, .f32⟩
  | 41 => ⟨S4x8192x4x1, .f32⟩
  | 42 => ⟨S_, .f32⟩
  | 43 => ⟨S4x8192x4x1, .f32⟩
  | 44 => ⟨S4x8192x4x1, .f32⟩
  | 45 => ⟨S4x8192x4x1, .f32⟩
  | 46 => ⟨S4x8192x4x128, .f32⟩
  | 47 => ⟨S4x8192x4x128, .f32⟩
  | 48 => ⟨S1x1x1x128, .f32⟩
  | 49 => ⟨S4x8192x4x128, .f32⟩
  | 50 => ⟨S4x8192x4x128, .f32⟩
  | 51 => ⟨S4x8192x512, .f32⟩
  | 52 => ⟨S4x8192x512, .f32⟩
  | 53 => ⟨S4x8192x512, .f32⟩
  | 54 => ⟨S_, .f32⟩
  | 55 => ⟨S4x8192x512, .f32⟩
  | 56 => ⟨S4x8192x512, .f32⟩
  | 57 => ⟨S_, .f32⟩
  | 58 => ⟨S4x8192x512, .f32⟩
  | 59 => ⟨S4x8192x512, .f32⟩
  | 60 => ⟨S4x8192x512, .f32⟩
  | 61 => ⟨S4x8192x512, .f32⟩
  | 62 => ⟨S4x8192x4x128, .f32⟩
  | 63 => ⟨S_, .f32⟩
  | 64 => ⟨S4x8192x4, .f32⟩
  | 65 => ⟨S4x8192x4x1, .f32⟩
  | 66 => ⟨S_, .f32⟩
  | 67 => ⟨S4x8192x4x1, .f32⟩
  | 68 => ⟨S4x8192x4x1, .f32⟩
  | 69 => ⟨S_, .f32⟩
  | 70 => ⟨S4x8192x4x1, .f32⟩
  | 71 => ⟨S4x8192x4x1, .f32⟩
  | 72 => ⟨S4x8192x4x1, .f32⟩
  | 73 => ⟨S4x8192x4x128, .f32⟩
  | 74 => ⟨S4x8192x4x128, .f32⟩
  | 75 => ⟨S1x1x1x128, .f32⟩
  | 76 => ⟨S4x8192x4x128, .f32⟩
  | 77 => ⟨S4x8192x4x128, .f32⟩
  | 78 => ⟨S4x8192x512, .f32⟩
  | 79 => ⟨S4x8192x512, .f32⟩
  | 80 => ⟨S4x8192x512, .f32⟩
  | 81 => ⟨S_, .f32⟩
  | 82 => ⟨S4x8192x512, .f32⟩
  | 83 => ⟨S4x8192x512, .f32⟩
  | 84 => ⟨S_, .f32⟩
  | 85 => ⟨S4x8192x512, .f32⟩
  | 86 => ⟨S4x8192x512, .f32⟩
  | 87 => ⟨S4x8192x512, .f32⟩
  | 88 => ⟨S4x8192x1024, .f32⟩
  | 89 => ⟨S4x8192x1024, .f32⟩
  | 90 => ⟨S4x8192x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S4x8192x1024, .f32⟩
  | 96 => ⟨S4x8192x1024, .f32⟩
  | 97 => ⟨S4x8192x1024, .f32⟩
  | 98 => ⟨S4x1x1x1024, .f32⟩
  | 99 => ⟨S4x1x1024, .f32⟩
  | 100 => ⟨S4x8192x1024, .f32⟩
  | 101 => ⟨S4x8192x1024, .f32⟩
  | 102 => ⟨S4x8192x1024, .f32⟩
  | 103 => ⟨S4x1x1x1024, .f32⟩
  | 104 => ⟨S4x1x1024, .f32⟩
  | 105 => ⟨S_, .f32⟩
  | 106 => ⟨S4x1x1024, .f32⟩
  | 107 => ⟨S4x1x1024, .f32⟩
  | 108 => ⟨S4x8192x1024, .f32⟩
  | 109 => ⟨S_, .f32⟩
  | 110 => ⟨S4x8192, .f32⟩
  | 111 => ⟨S4x8192x1, .f32⟩
  | 112 => ⟨S_, .f32⟩
  | 113 => ⟨S4x8192x1, .f32⟩
  | 114 => ⟨S4x8192x1, .f32⟩
  | 115 => ⟨S_, .f32⟩
  | 116 => ⟨S4x8192x1, .f32⟩
  | 117 => ⟨S4x8192x1, .f32⟩
  | 118 => ⟨S4x8192x1, .f32⟩
  | 119 => ⟨S4x8192x1024, .f32⟩
  | 120 => ⟨S4x8192x1024, .f32⟩
  | 121 => ⟨S1x1x1024, .f32⟩
  | 122 => ⟨S4x8192x1024, .f32⟩
  | 123 => ⟨S4x8192x1024, .f32⟩
  | 124 => ⟨S4x1x1x1024, .f32⟩
  | 125 => ⟨S4x1x1024, .f32⟩
  | 126 => ⟨S_, .f32⟩
  | 127 => ⟨S4x1x1024, .f32⟩
  | _ => ⟨S4x8448x1024, .f32⟩

abbrev hbmTy0_1 (i : Nat) : BufTy := match i % 128 with
  | 0 => ⟨S4x1x1024, .f32⟩
  | 1 => ⟨S4x8192x1024, .f32⟩
  | 2 => ⟨S4x8192x1024, .f32⟩
  | 3 => ⟨S4x1x1x1024, .f32⟩
  | 4 => ⟨S4x1x1024, .f32⟩
  | 5 => ⟨S4x8192x1024, .f32⟩
  | 6 => ⟨S4x8192x1024, .f32⟩
  | 7 => ⟨S4x8192x5632, .f32⟩
  | 8 => ⟨S4x8192x2816, .f32⟩
  | 9 => ⟨S4x8192x2816, .f32⟩
  | 10 => ⟨S4x8192x2816, .f32⟩
  | 11 => ⟨S4x8192x2816, .f32⟩
  | 12 => ⟨S_, .f32⟩
  | 13 => ⟨S4x8192x2816, .f32⟩
  | 14 => ⟨S4x8192x2816, .f32⟩
  | 15 => ⟨S_, .f32⟩
  | 16 => ⟨S4x8192x2816, .f32⟩
  | 17 => ⟨S4x8192x2816, .f32⟩
  | 18 => ⟨S4x8192x2816, .f32⟩
  | 19 => ⟨S4x8192x2816, .f32⟩
  | 20 => ⟨S4x8192x1024, .f32⟩
  | 21 => ⟨S4x8192x1024, .f32⟩
  | 22 => ⟨S4x8192x1024, .f32⟩
  | 23 => ⟨S4x8192x1024, .f32⟩
  | 24 => ⟨S32768x1024, .f32⟩
  | _ => ⟨S4x8448x1024, .f32⟩

abbrev hbmTy (i : Nat) : BufTy := match i / 128 with
  | 0 => hbmTy0_0 i
  | 1 => hbmTy0_1 i
  | _ => ⟨S4x8448x1024, .f32⟩

abbrev bufTy : (tb : Table) → Fin (tcTables nBuf tb) → BufTy
  | .hbm, ⟨i, _⟩ => hbmTy i
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst : Ref sig .tc := ⟨.hbm, 36, rfl⟩
abbrev main_v14 : Ref sig .tc := ⟨.hbm, 37, rfl⟩
abbrev main_v15 : Ref sig .tc := ⟨.hbm, 38, rfl⟩
abbrev main_cst_0 : Ref sig .tc := ⟨.hbm, 39, rfl⟩
abbrev main_v16 : Ref sig .tc := ⟨.hbm, 40, rfl⟩
abbrev main_v17 : Ref sig .tc := ⟨.hbm, 41, rfl⟩
abbrev main_cst_1 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_call0_v0 : Ref sig .tc := ⟨.hbm, 52, rfl⟩
abbrev main_call0_v1 : Ref sig .tc := ⟨.hbm, 53, rfl⟩
abbrev main_call0_cst : Ref sig .tc := ⟨.hbm, 54, rfl⟩
abbrev main_call0_v2 : Ref sig .tc := ⟨.hbm, 55, rfl⟩
abbrev main_call0_v3 : Ref sig .tc := ⟨.hbm, 56, rfl⟩
abbrev main_call0_cst_0 : Ref sig .tc := ⟨.hbm, 57, rfl⟩
abbrev main_call0_v4 : Ref sig .tc := ⟨.hbm, 58, rfl⟩
abbrev main_call0_v5 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_cst_2 : Ref sig .tc := ⟨.hbm, 63, rfl⟩
abbrev main_v30 : Ref sig .tc := ⟨.hbm, 64, rfl⟩
abbrev main_v31 : Ref sig .tc := ⟨.hbm, 65, rfl⟩
abbrev main_cst_3 : Ref sig .tc := ⟨.hbm, 66, rfl⟩
abbrev main_v32 : Ref sig .tc := ⟨.hbm, 67, rfl⟩
abbrev main_v33 : Ref sig .tc := ⟨.hbm, 68, rfl⟩
abbrev main_cst_4 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_cst_5 : Ref sig .tc := ⟨.hbm, 81, rfl⟩
abbrev main_v45 : Ref sig .tc := ⟨.hbm, 82, rfl⟩
abbrev main_v46 : Ref sig .tc := ⟨.hbm, 83, rfl⟩
abbrev main_cst_6 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_cst_7 : Ref sig .tc := ⟨.hbm, 105, rfl⟩
abbrev main_v67 : Ref sig .tc := ⟨.hbm, 106, rfl⟩
abbrev main_v68 : Ref sig .tc := ⟨.hbm, 107, rfl⟩
abbrev main_v69 : Ref sig .tc := ⟨.hbm, 108, rfl⟩
abbrev main_cst_8 : Ref sig .tc := ⟨.hbm, 109, rfl⟩
abbrev main_v70 : Ref sig .tc := ⟨.hbm, 110, rfl⟩
abbrev main_v71 : Ref sig .tc := ⟨.hbm, 111, rfl⟩
abbrev main_cst_9 : Ref sig .tc := ⟨.hbm, 112, rfl⟩
abbrev main_v72 : Ref sig .tc := ⟨.hbm, 113, rfl⟩
abbrev main_v73 : Ref sig .tc := ⟨.hbm, 114, rfl⟩
abbrev main_cst_10 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_cst_11 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_call1_v0 : Ref sig .tc := ⟨.hbm, 138, rfl⟩
abbrev main_call1_v1 : Ref sig .tc := ⟨.hbm, 139, rfl⟩
abbrev main_call1_cst : Ref sig .tc := ⟨.hbm, 140, rfl⟩
abbrev main_call1_v2 : Ref sig .tc := ⟨.hbm, 141, rfl⟩
abbrev main_call1_v3 : Ref sig .tc := ⟨.hbm, 142, rfl⟩
abbrev main_call1_cst_0 : Ref sig .tc := ⟨.hbm, 143, rfl⟩
abbrev main_call1_v4 : Ref sig .tc := ⟨.hbm, 144, rfl⟩
abbrev main_call1_v5 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩

abbrev nD : Nat := 1
abbrev τ : Topo := Topo.v7x

variable {F : FTy → Type} [FloatOps F]
-- ==== Kernel3.lean ====
abbrev S4x8448x1024 : Shape := ⟨3, ![4, 8448, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S9x4x1024 : Shape := ⟨3, ![9, 4, 1024]⟩
abbrev S9x1x1024 : Shape := ⟨3, ![9, 1, 1024]⟩
abbrev S9x5x1024 : Shape := ⟨3, ![9, 5, 1024]⟩
abbrev S33792x1024 : Shape := ⟨2, ![33792, 1024]⟩
abbrev S1x1024 : Shape := ⟨2, ![1, 1024]⟩
abbrev S768x1024 : Shape := ⟨2, ![768, 1024]⟩
abbrev S768x1 : Shape := ⟨2, ![768, 1]⟩
abbrev S1x1x1024 : Shape := ⟨3, ![1, 1, 1024]⟩
abbrev S768 : Shape := ⟨1, ![768]⟩
abbrev S1024x256 : Shape := ⟨2, ![1024, 256]⟩
abbrev S768x256 : Shape := ⟨2, ![768, 256]⟩
abbrev S256x1024 : Shape := ⟨2, ![256, 1024]⟩

abbrev nBuf : Space → Nat
  | .hbm => 14
  | .vmem => 10
  | .smem => 0
  | _ => 0

abbrev bufTy : (tb : Table) → Fin (tcTables nBuf tb) → BufTy
  | .hbm, ⟨0, _⟩ => ⟨S4x8448x1024, .f32⟩
  | .hbm, ⟨1, _⟩ => ⟨S4x9x1024, .f32⟩
  | .hbm, ⟨2, _⟩ => ⟨S9x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S9x4x1024, .f32⟩
  | .hbm, ⟨7, _⟩ => ⟨S9x1x1024, .f32⟩
  | .hbm, ⟨8, _⟩ => ⟨S9x5x1024, .f32⟩
  | .hbm, ⟨9, _⟩ => ⟨S33792x1024, .f32⟩
  | .hbm, ⟨10, _⟩ => ⟨S1x1024, .f32⟩
  | .hbm, ⟨11, _⟩ => ⟨S1024x5632, .bf16⟩
  | .hbm, ⟨12, _⟩ => ⟨S2816x1024, .bf16⟩
  | .hbm, ⟨13, _⟩ => ⟨S33792x1024, .f32⟩
  | .local _ .vmem, ⟨0, _⟩ => ⟨S768x1024, .f32⟩
  | .local _ .vmem, ⟨1, _⟩ => ⟨S768x1024, .f32⟩
  | .local _ .vmem, ⟨2, _⟩ => ⟨S9x5x1024, .f32⟩
  | .local _ .vmem, ⟨3, _⟩ => ⟨S1x1024, .f32⟩
  | .local _ .vmem, ⟨4, _⟩ => ⟨S1024x5632, .bf16⟩
  | .local _ .vmem, ⟨5, _⟩ => ⟨S2816x1024, .bf16⟩
  | .local _ .vmem, ⟨6, _⟩ => ⟨S768x1024, .f32⟩
  | .local _ .vmem, ⟨7, _⟩ => ⟨S768x1024, .f32⟩
  | .local _ .vmem, ⟨8, _⟩ => ⟨S768x1024, .bf16⟩
  | .local _ .vmem, ⟨9, _⟩ => ⟨S768x1024, .f32⟩
  | _, _ => ⟨S4x8448x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 11], ![false, false]⟩

def k0_cond1 (i : grid0.Coords) : BitVec 1 :=
  let arg1 : BitVec 32 := BitVec.ofNat 32 (i 1).val
  let c768_i32_3 : BitVec 32 := 768#32
  let v9 : BitVec 32 := Scalar.muli arg1 c768_i32_3
  let c256_i32 : BitVec 32 := 256#32
  let v10 : BitVec 1 := Scalar.cmpi .sge v9 c256_i32
  let v11 : BitVec 32 := Scalar.extui v10
  let c0_i32_4 : BitVec 32 := 0#32
  let v12 : BitVec 1 := Scalar.cmpi .ne v11 c0_i32_4
  v12

def k0_off1 (i : grid0.Coords) : Fin 3 → Nat :=
  let c0_190 : Index := 0#32
  let arg0 : BitVec 32 := BitVec.ofNat 32 (i 0).val
  let v287 : Index := Scalar.indexCast arg0
  let c0_191 : Index := 0#32
  ![0, v287.toNat, 0]
def k0_off2 (i : grid0.Coords) : Fin 3 → Nat :=
  let c1 : Index := 1#32
  let arg0 : BitVec 32 := BitVec.ofNat 32 (i 0).val
  let v290 : Index := Scalar.indexCast arg0
  let c0_192 : Index := 0#32
  ![1, v290.toNat, 0]
def k0_cond2 (i : grid0.Coords) : BitVec 1 :=
  let arg1 : BitVec 32 := BitVec.ofNat 32 (i 1).val
  let c768_i32_3 : BitVec 32 := 768#32
  let v9 : BitVec 32 := Scalar.muli arg1 c768_i32_3
  let c256_i32_5 : BitVec 32 := 256#32
  let v13 : BitVec 1 := Scalar.cmpi .slt v9 c256_i32_5
  let v14 : BitVec 32 := Scalar.extui v13
  let c0_i32_6 : BitVec 32 := 0#32
  let v15 : BitVec 1 := Scalar.cmpi .ne v14 c0_i32_6
  v15

def k0_off3 (i : grid0.Coords) : Fin 3 → Nat :=
  let c0_191 : Index := 0#32
  let arg0 : BitVec 32 := BitVec.ofNat 32 (i 0).val
  let v289 : Index := Scalar.indexCast arg0
  let c0_192 : Index := 0#32
  ![0, v289.toNat, 0]
def k0_off4 (i : grid0.Coords) : Fin 3 → Nat :=
  let c1 : Index := 1#32
  let arg0 : BitVec 32 := BitVec.ofNat 32 (i 0).val
  let v301 : Index := Scalar.indexCast arg0
  let c0_196 : Index := 0#32
  ![1, v301.toNat, 0]
def k0_off5 (i : grid0.Coords) : Fin 3 → Nat :=
  let c2 : Index := 2#32
  let arg0 : BitVec 32 := BitVec.ofNat 32 (i 0).val
  let v18 : Index := Scalar.indexCast arg0
  let c0_8 : Index := 0#32
  ![2, v18.toNat, 0]
def cc0_transform_0 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S9x5x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference3Ideal.lean ====
abbrev S4x8448x1024 : Shape := ⟨3, ![4, 8448, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4x256x1024 : Shape := ⟨3, ![4, 256, 1024]⟩
abbrev S4x8192x1024 : Shape := ⟨3, ![4, 8192, 1024]⟩
abbrev S4x9x1x1024 : Shape := ⟨4, ![4, 9, 1, 1024]⟩
abbrev S9x1x1024 : Shape := ⟨3, ![9, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S33792x1024 : Shape := ⟨2, ![33792, 1024]⟩

abbrev nBuf : Space → Nat
  | .hbm => 113
  | .vmem => 0
  | .smem => 0
  | _ => 0

abbrev bufTy : (tb : Table) → Fin (tcTables nBuf tb) → BufTy
  | .hbm, ⟨0, _⟩ => ⟨S4x8448x1024, .f32⟩
  | .hbm, ⟨1, _⟩ => ⟨S4x9x1024, .f32⟩
  | .hbm, ⟨2, _⟩ => ⟨S9x1024, .f32⟩
  | .hbm, ⟨3, _⟩ => ⟨S1024, .f32⟩
  | .hbm, ⟨4, _⟩ => ⟨S1024x5632, .f32⟩
  | .hbm, ⟨5, _⟩ => ⟨S2816x1024, .f32⟩
  | .hbm, ⟨6, _⟩ => ⟨S4x256x1024, .f32⟩
  | .hbm, ⟨7, _⟩ => ⟨S4x8192x1024, .f32⟩
  | .hbm, ⟨8, _⟩ => ⟨S4x9x1x1024, .f32⟩
  | .hbm, ⟨9, _⟩ => ⟨S9x1x1024, .f32⟩
  | .hbm, ⟨10, _⟩ => ⟨S4x1x1x1024, .f32⟩
  | .hbm, ⟨11, _⟩ => ⟨S4x1x1024, .f32⟩
  | .hbm, ⟨12, _⟩ => ⟨S_, .f32⟩
  | .hbm, ⟨13, _⟩ => ⟨S4x1x1024, .f32⟩
  | .hbm, ⟨14, _⟩ => ⟨S4x1x1024, .f32⟩
  | .hbm, ⟨15, _⟩ => ⟨S4x8192x1024, .f32⟩
  | .hbm, ⟨16, _⟩ => ⟨S_, .f32⟩
  | .hbm, ⟨17, _⟩ => ⟨S4x8192, .f32⟩
  | .hbm, ⟨18, _⟩ => ⟨S4x8192x1, .f32⟩
  | .hbm, ⟨19, _⟩ => ⟨S_, .f32⟩
  | .hbm, ⟨20, _⟩ => ⟨S4x8192x1, .f32⟩
  | .hbm, ⟨21, _⟩ => ⟨S4x8192x1, .f32⟩
  | .hbm, ⟨22, _⟩ => ⟨S_, .f32⟩
  | .hbm, ⟨23, _⟩ => ⟨S4x8192x1, .f32⟩
  | .hbm, ⟨24, _⟩ => ⟨S4x8192x1, .f32⟩
  | .hbm, ⟨25, _⟩ => ⟨S4x8192x1, .f32⟩
  | .hbm, ⟨26, _⟩ => ⟨S4x8192x1024, .f32⟩
  | .hbm, ⟨27, _⟩ => ⟨S4x8192x1024, .f32⟩
  | .hbm, ⟨28, _⟩ => ⟨S1x1x1024, .f32⟩
  | .hbm, ⟨29, _⟩ => ⟨S4x8192x1024, .f32⟩
  | .hbm, ⟨30, _⟩ => ⟨S4x8192x1024, .f32⟩
  | .hbm, ⟨31, _⟩ => ⟨S4x1x1x1024, .f32⟩
  | .hbm, ⟨32, _⟩ => ⟨S4x1x1024, .f32⟩
  | .hbm, ⟨33, _⟩ => ⟨S_, .f32⟩
  | .hbm, ⟨34, _⟩ => ⟨S4x1x1024, .f32⟩
  | .hbm, ⟨35, _⟩ => ⟨S4x1x1024, .f32⟩
  | .hbm, ⟨36, _⟩ => ⟨S4x8192x1024, .f32⟩
  | .hbm, ⟨37, _⟩ => ⟨S4x8192x1024, .f32⟩
  | .hbm, ⟨38, _⟩ => ⟨S4x1x1x1024, .f32⟩
  | .hbm, ⟨39, _⟩ => ⟨S4x1x1024, .f32⟩
  | .hbm, ⟨40, _⟩ => ⟨S4x8192x1024, .f32⟩
  | .hbm, ⟨41, _⟩ => ⟨S4x8192x1024, .f32⟩
  | .hbm, ⟨42, _⟩ => ⟨S4x8192x5632, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S4x8192x2816, .f32⟩
  | .hbm, ⟨47, _⟩ => ⟨S_, .f32⟩
  | .hbm, ⟨48, _⟩ => ⟨S4x8192x2816, .f32⟩
  | .hbm, ⟨49, _⟩ => ⟨S4x8192x2816, .f32⟩
  | .hbm, ⟨50, _⟩ => ⟨S_, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S4x8192x2816, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S4x8192x1024, .f32⟩
  | .hbm, ⟨59, _⟩ => ⟨S1x1x1024, .f32⟩
  | .hbm, ⟨60, _⟩ => ⟨S1x1024, .f32⟩
  | .hbm, ⟨61, _⟩ => ⟨S_, .f32⟩
  | .hbm, ⟨62, _⟩ => ⟨S1x1024, .f32⟩
  | .hbm, ⟨63, _⟩ => ⟨S1x1024, .f32⟩
  | .hbm, ⟨64, _⟩ => ⟨S4x256x1024, .f32⟩
  | .hbm, ⟨65, _⟩ => ⟨S_, .f32⟩
  | .hbm, ⟨66, _⟩ => ⟨S4x256, .f32⟩
  | .hbm, ⟨67, _⟩ => ⟨S4x256x1, .f32⟩
  | .hbm, ⟨68, _⟩ => ⟨S_, .f32⟩
  | .hbm, ⟨69, _⟩ => ⟨S4x256x1, .f32⟩
  | .hbm, ⟨70, _⟩ => ⟨S4x256x1, .f32⟩
  | .hbm, ⟨71, _⟩ => ⟨S_, .f32⟩
  | .hbm, ⟨72, _⟩ => ⟨S4x256x1, .f32⟩
  | .hbm, ⟨73, _⟩ => ⟨S4x256x1, .f32⟩
  | .hbm, ⟨74, _⟩ => ⟨S4x256x1, .f32⟩
  | .hbm, ⟨75, _⟩ => ⟨S4x256x1024, .f32⟩
  | .hbm, ⟨76, _⟩ => ⟨S4x256x1024, .f32⟩
  | .hbm, ⟨77, _⟩ => ⟨S1x1x1024, .f32⟩
  | .hbm, ⟨78, _⟩ => ⟨S4x256x1024, .f32⟩
  | .hbm, ⟨79, _⟩ => ⟨S4x256x1024, .f32⟩
  | .hbm, ⟨80, _⟩ => ⟨S1x1x1024, .f32⟩
  | .hbm, ⟨81, _⟩ => ⟨S1x1024, .f32⟩
  | .hbm, ⟨82, _⟩ => ⟨S_, .f32⟩
  | .hbm, ⟨83, _⟩ => ⟨S1x1024, .f32⟩
  | .hbm, ⟨84, _⟩ => ⟨S1x1024, .f32⟩
  | .hbm, ⟨85, _⟩ => ⟨S1x1x1024, .f32⟩
  | .hbm, ⟨86, _⟩ => ⟨S4x256x1024, .f32⟩
  | .hbm, ⟨87, _⟩ => ⟨S4x256x1024, .f32⟩
  | .hbm, ⟨88, _⟩ => ⟨S1x1x1024, .f32⟩
  | .hbm, ⟨89, _⟩ => ⟨S1x1024, .f32⟩
  | .hbm, ⟨90, _⟩ => ⟨S1x1x1024, .f32⟩
  | .hbm, ⟨91, _⟩ => ⟨S4x256x1024, .f32⟩
  | .hbm, ⟨92, _⟩ => ⟨S4x256x1024, .f32⟩
  | .hbm, ⟨93, _⟩ => ⟨S4x256x5632, .f32⟩
  | .hbm, ⟨94, _⟩ => ⟨S4x256x2816, .f32⟩
  | .hbm, ⟨95, _⟩ => ⟨S4x256x2816, .f32⟩
  | .hbm, ⟨96, _⟩ => ⟨S4x256x2816, .f32⟩
  | .hbm, ⟨97, _⟩ => ⟨S4x256x2816, .f32⟩
  | .hbm, ⟨98, _⟩ => ⟨S_, .f32⟩
  | .hbm, ⟨99, _⟩ => ⟨S4x256x2816, .f32⟩
  | .hbm, ⟨100, _⟩ => ⟨S4x256x2816, .f32⟩
  | .hbm, ⟨101, _⟩ => ⟨S_, .f32⟩
  | .hbm, ⟨102, _⟩ => ⟨S4x256x2816, .f32⟩
  | .hbm, ⟨103, _⟩ => ⟨S4x256x2816, .f32⟩
  | .hbm, ⟨104, _⟩ => ⟨S4x256x2816, .f32⟩
  | .hbm, ⟨105, _⟩ => ⟨S4x256x2816, .f32⟩
  | .hbm, ⟨106, _⟩ => ⟨S4x256x1024, .f32⟩
  | .hbm, ⟨107, _⟩ => ⟨S1x1x1024, .f32⟩
  | .hbm, ⟨108, _⟩ => ⟨S4x256x1024, .f32⟩
  | .hbm, ⟨109, _⟩ => ⟨S4x256x1024, .f32⟩
  | .hbm, ⟨110, _⟩ => ⟨S4x256x1024, .f32⟩
  | .hbm, ⟨111, _⟩ => ⟨S4x8448x1024, .f32⟩
  | .hbm, ⟨112, _⟩ => ⟨S33792x1024, .f32⟩
  | _, _ => ⟨S4x8448x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_call0_v0 : Ref sig .tc := ⟨.hbm, 45, rfl⟩
abbrev main_call0_v1 : Ref sig .tc := ⟨.hbm, 46, rfl⟩
abbrev main_call0_cst : Ref sig .tc := ⟨.hbm, 47, rfl⟩
abbrev main_call0_v2 : Ref sig .tc := ⟨.hbm, 48, rfl⟩
abbrev main_call0_v3 : Ref sig .tc := ⟨.hbm, 49, rfl⟩
abbrev main_call0_cst_0 : Ref sig .tc := ⟨.hbm, 50, rfl⟩
abbrev main_call0_v4 : Ref sig .tc := ⟨.hbm, 51, rfl⟩
abbrev main_call0_v5 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_4 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_5 : Ref sig .tc := ⟨.hbm, 65, rfl⟩
abbrev main_v45 : Ref sig .tc := ⟨.hbm, 66, rfl⟩
abbrev main_v46 : Ref sig .tc := ⟨.hbm, 67, rfl⟩
abbrev main_cst_6 : Ref sig .tc := ⟨.hbm, 68, rfl⟩
abbrev main_v47 : Ref sig .tc := ⟨.hbm, 69, rfl⟩
abbrev main_v48 : Ref sig .tc := ⟨.hbm, 70, rfl⟩
abbrev main_cst_7 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_v0 : Ref sig .tc := ⟨.hbm, 96, rfl⟩
abbrev main_call1_v1 : Ref sig .tc := ⟨.hbm, 97, rfl⟩
abbrev main_call1_cst : Ref sig .tc := ⟨.hbm, 98, rfl⟩
abbrev main_call1_v2 : Ref sig .tc := ⟨.hbm, 99, rfl⟩
abbrev main_call1_v3 : Ref sig .tc := ⟨.hbm, 100, rfl⟩
abbrev main_call1_cst_0 : Ref sig .tc := ⟨.hbm, 101, rfl⟩
abbrev main_call1_v4 : Ref sig .tc := ⟨.hbm, 102, rfl⟩
abbrev main_call1_v5 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩

abbrev nD : Nat := 1
abbrev τ : Topo := Topo.v7x

variable {F : FTy → Type} [FloatOps F]
-- ==== Kernel4.lean ====
abbrev S4x256x1024 : Shape := ⟨3, ![4, 256, 1024]⟩
abbrev S4x8192x1024 : Shape := ⟨3, ![4, 8192, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S9x4x1024 : Shape := ⟨3, ![9, 4, 1024]⟩
abbrev S9x1x1024 : Shape := ⟨3, ![9, 1, 1024]⟩
abbrev S9x5x1024 : Shape := ⟨3, ![9, 5, 1024]⟩
abbrev S1024x1024 : Shape := ⟨2, ![1024, 1024]⟩
abbrev S32768x1024 : Shape := ⟨2, ![32768, 1024]⟩
abbrev S1x1024 : Shape := ⟨2, ![1, 1024]⟩
abbrev S33792x1024 : Shape := ⟨2, ![33792, 1024]⟩
abbrev S256x1024 : Shape := ⟨2, ![256, 1024]⟩
abbrev S512x1024 : Shape := ⟨2, ![512, 1024]⟩
abbrev S768x1024 : Shape := ⟨2, ![768, 1024]⟩
abbrev S768x1 : Shape := ⟨2, ![768, 1]⟩
abbrev S1x1x1024 : Shape := ⟨3, ![1, 1, 1024]⟩
abbrev S768 : Shape := ⟨1, ![768]⟩
abbrev S1024x256 : Shape := ⟨2, ![1024, 256]⟩
abbrev S768x256 : Shape := ⟨2, ![768, 256]⟩

abbrev nBuf : Space → Nat
  | .hbm => 16
  | .vmem => 14
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S4x9x1024, .f32⟩
  | .hbm, ⟨3, _⟩ => ⟨S9x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S9x4x1024, .f32⟩
  | .hbm, ⟨8, _⟩ => ⟨S9x1x1024, .f32⟩
  | .hbm, ⟨9, _⟩ => ⟨S9x5x1024, .f32⟩
  | .hbm, ⟨10, _⟩ => ⟨S1024x1024, .f32⟩
  | .hbm, ⟨11, _⟩ => ⟨S32768x1024, .f32⟩
  | .hbm, ⟨12, _⟩ => ⟨S1x1024, .f32⟩
  | .hbm, ⟨13, _⟩ => ⟨S1024x5632, .bf16⟩
  | .hbm, ⟨14, _⟩ => ⟨S2816x1024, .bf16⟩
  | .hbm, ⟨15, _⟩ => ⟨S33792x1024, .f32⟩
  | .local _ .vmem, ⟨0, _⟩ => ⟨S256x1024, .f32⟩
  | .local _ .vmem, ⟨1, _⟩ => ⟨S256x1024, .f32⟩
  | .local _ .vmem, ⟨2, _⟩ => ⟨S512x1024, .f32⟩
  | .local _ .vmem, ⟨3, _⟩ => ⟨S512x1024, .f32⟩
  | .local _ .vmem, ⟨4, _⟩ => ⟨S768x1024, .f32⟩
  | .local _ .vmem, ⟨5, _⟩ => ⟨S768x1024, .f32⟩
  | .local _ .vmem, ⟨6, _⟩ => ⟨S9x5x1024, .f32⟩
  | .local _ .vmem, ⟨7, _⟩ => ⟨S1x1024, .f32⟩
  | .local _ .vmem, ⟨8, _⟩ => ⟨S1024x5632, .bf16⟩
  | .local _ .vmem, ⟨9, _⟩ => ⟨S2816x1024, .bf16⟩
  | .local _ .vmem, ⟨10, _⟩ => ⟨S768x1024, .f32⟩
  | .local _ .vmem, ⟨11, _⟩ => ⟨S768x1024, .f32⟩
  | .local _ .vmem, ⟨12, _⟩ => ⟨S768x1024, .bf16⟩
  | .local _ .vmem, ⟨13, _⟩ => ⟨S768x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![4, 11], ![false, false]⟩

def k0_mult1 (i : grid0.Coords) : BitVec 32 :=
  let arg0 : BitVec 32 := BitVec.ofNat 32 (i 0).val
  let c8192_i32 : BitVec 32 := 8192#32
  let v0 : BitVec 32 := Scalar.muli arg0 c8192_i32
  v0
def k0_mult2 (i : grid0.Coords) : BitVec 32 :=
  let arg0 : BitVec 32 := BitVec.ofNat 32 (i 0).val
  let c8192_i32 : BitVec 32 := 8192#32
  let v0 : BitVec 32 := Scalar.muli arg0 c8192_i32
  let arg1 : BitVec 32 := BitVec.ofNat 32 (i 1).val
  let c768_i32 : BitVec 32 := 768#32
  let v1 : BitVec 32 := Scalar.muli arg1 c768_i32
  let c256_i32 : BitVec 32 := 256#32
  let v2 : BitVec 32 := Scalar.subi v1 c256_i32
  let c0_i32 : BitVec 32 := 0#32
  let v3 : BitVec 32 := Scalar.maxsi v2 c0_i32
  let v4 : BitVec 32 := Scalar.addi v0 v3
  v4
def k0_cond1 (i : grid0.Coords) : BitVec 1 :=
  let arg1 : BitVec 32 := BitVec.ofNat 32 (i 1).val
  let c768_i32_9 : BitVec 32 := 768#32
  let v22 : BitVec 32 := Scalar.muli arg1 c768_i32_9
  let c256_i32 : BitVec 32 := 256#32
  let v23 : BitVec 1 := Scalar.cmpi .sge v22 c256_i32
  let v24 : BitVec 32 := Scalar.extui v23
  let c0_i32_10 : BitVec 32 := 0#32
  let v25 : BitVec 1 := Scalar.cmpi .ne v24 c0_i32_10
  v25

def k0_off1 (i : grid0.Coords) : Fin 3 → Nat :=
  let c0_196 : Index := 0#32
  let arg0 : BitVec 32 := BitVec.ofNat 32 (i 0).val
  let v300 : Index := Scalar.indexCast arg0
  let c0_197 : Index := 0#32
  ![0, v300.toNat, 0]
def k0_off2 (i : grid0.Coords) : Fin 3 → Nat :=
  let c1 : Index := 1#32
  let arg0 : BitVec 32 := BitVec.ofNat 32 (i 0).val
  let v303 : Index := Scalar.indexCast arg0
  let c0_198 : Index := 0#32
  ![1, v303.toNat, 0]
def k0_cond2 (i : grid0.Coords) : BitVec 1 :=
  let arg1 : BitVec 32 := BitVec.ofNat 32 (i 1).val
  let c768_i32_9 : BitVec 32 := 768#32
  let v22 : BitVec 32 := Scalar.muli arg1 c768_i32_9
  let c256_i32_11 : BitVec 32 := 256#32
  let v26 : BitVec 1 := Scalar.cmpi .slt v22 c256_i32_11
  let v27 : BitVec 32 := Scalar.extui v26
  let c0_i32_12 : BitVec 32 := 0#32
  let v28 : BitVec 1 := Scalar.cmpi .ne v27 c0_i32_12
  v28

def k0_off3 (i : grid0.Coords) : Fin 3 → Nat :=
  let c0_197 : Index := 0#32
  let arg0 : BitVec 32 := BitVec.ofNat 32 (i 0).val
  let v302 : Index := Scalar.indexCast arg0
  let c0_198 : Index := 0#32
  ![0, v302.toNat, 0]
def k0_off4 (i : grid0.Coords) : Fin 3 → Nat :=
  let c1 : Index := 1#32
  let arg0 : BitVec 32 := BitVec.ofNat 32 (i 0).val
  let v314 : Index := Scalar.indexCast arg0
  let c0_202 : Index := 0#32
  ![1, v314.toNat, 0]
def k0_off5 (i : grid0.Coords) : Fin 3 → Nat :=
  let c2 : Index := 2#32
  let arg0 : BitVec 32 := BitVec.ofNat 32 (i 0).val
  let v31 : Index := Scalar.indexCast arg0
  let c0_14 : Index := 0#32
  ![2, v31.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let v1 : BitVec 32 := v0
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8192_i32 : BitVec 32 := 8192#32
  let v0 : BitVec 32 := Scalar.muli arg0 c8192_i32
  let c768_i32 : BitVec 32 := 768#32
  let v1 : BitVec 32 := Scalar.muli arg1 c768_i32
  let c256_i32 : BitVec 32 := 256#32
  let v2 : BitVec 32 := Scalar.subi v1 c256_i32
  let c0_i32 : BitVec 32 := 0#32
  let v3 : BitVec 32 := Scalar.maxsi v2 c0_i32
  let v4 : BitVec 32 := Scalar.addi v0 v3
  let v5 : BitVec 32 := v4
  let c0_i32_0 : BitVec 32 := 0#32
  let c0_i32_1 : BitVec 32 := 0#32
  ![v5.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c11_i32 : BitVec 32 := 11#32
  let v0 : BitVec 32 := Scalar.muli arg0 c11_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S768x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S9x5x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S768x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference4Ideal.lean ====
abbrev S4x256x1024 : Shape := ⟨3, ![4, 256, 1024]⟩
abbrev S4x8192x1024 : Shape := ⟨3, ![4, 8192, 1024]⟩
abbrev S4x9x1024 : Shape := ⟨3, ![4, 9, 1024]⟩
abbrev S9x1024 : Shape := ⟨2, ![9, 1024]⟩
abbrev S1024 : Shape := ⟨1, ![1024]⟩
abbrev S1024x5632 : Shape := ⟨2, ![1024, 5632]⟩
abbrev S2816x1024 : Shape := ⟨2, ![2816, 1024]⟩
abbrev S4x9x1x1024 : Shape := ⟨4, ![4, 9, 1, 1024]⟩
abbrev S9x1x1024 : Shape := ⟨3, ![9, 1, 1024]⟩
abbrev S4x1x1x1024 : Shape := ⟨4, ![4, 1, 1, 1024]⟩
abbrev S4x1x1024 : Shape := ⟨3, ![4, 1, 1024]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x5632 : Shape := ⟨3, ![4, 8192, 5632]⟩
abbrev S4x8192x2816 : Shape := ⟨3, ![4, 8192, 2816]⟩
abbrev S1x1024 : Shape := ⟨2, ![1, 1024]⟩
abbrev S4x256 : Shape := ⟨2, ![4, 256]⟩
abbrev S4x256x1 : Shape := ⟨3, ![4, 256, 1]⟩
abbrev S4x256x5632 : Shape := ⟨3, ![4, 256, 5632]⟩
abbrev S4x256x2816 : Shape := ⟨3, ![4, 256, 2816]⟩
abbrev S4x8448x1024 : Shape := ⟨3, ![4, 8448, 1024]⟩
abbrev S33792x1024 : Shape := ⟨2, ![33792, 1024]⟩

abbrev nBuf : Space → Nat
  | .hbm => 112
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x8192x1024, .f32⟩
  | .hbm, ⟨2, _⟩ => ⟨S4x9x1024, .f32⟩
  | .hbm, ⟨3, _⟩ => ⟨S9x1024, .f32⟩
  | .hbm, ⟨4, _⟩ => ⟨S1024, .f32⟩
  | .hbm, ⟨5, _⟩ => ⟨S1024x5632, .f32⟩
  | .hbm, ⟨6, _⟩ => ⟨S2816x1024, .f32⟩
  | .hbm, ⟨7, _⟩ => ⟨S4x9x1x1024, .f32⟩
  | .hbm, ⟨8, _⟩ => ⟨S9x1x1024, .f32⟩
  | .hbm, ⟨9, _⟩ => ⟨S4x1x1x1024, .f32⟩
  | .hbm, ⟨10, _⟩ => ⟨S4x1x1024, .f32⟩
  | .hbm, ⟨11, _⟩ => ⟨S_, .f32⟩
  | .hbm, ⟨12, _⟩ => ⟨S4x1x1024, .f32⟩
  | .hbm, ⟨13, _⟩ => ⟨S4x1x1024, .f32⟩
  | .hbm, ⟨14, _⟩ => ⟨S4x8192x1024, .f32⟩
  | .hbm, ⟨15, _⟩ => ⟨S_, .f32⟩
  | .hbm, ⟨16, _⟩ => ⟨S4x8192, .f32⟩
  | .hbm, ⟨17, _⟩ => ⟨S4x8192x1, .f32⟩
  | .hbm, ⟨18, _⟩ => ⟨S_, .f32⟩
  | .hbm, ⟨19, _⟩ => ⟨S4x8192x1, .f32⟩
  | .hbm, ⟨20, _⟩ => ⟨S4x8192x1, .f32⟩
  | .hbm, ⟨21, _⟩ => ⟨S_, .f32⟩
  | .hbm, ⟨22, _⟩ => ⟨S4x8192x1, .f32⟩
  | .hbm, ⟨23, _⟩ => ⟨S4x8192x1, .f32⟩
  | .hbm, ⟨24, _⟩ => ⟨S4x8192x1, .f32⟩
  | .hbm, ⟨25, _⟩ => ⟨S4x8192x1024, .f32⟩
  | .hbm, ⟨26, _⟩ => ⟨S4x8192x1024, .f32⟩
  | .hbm, ⟨27, _⟩ => ⟨S1x1x1024, .f32⟩
  | .hbm, ⟨28, _⟩ => ⟨S4x8192x1024, .f32⟩
  | .hbm, ⟨29, _⟩ => ⟨S4x8192x1024, .f32⟩
  | .hbm, ⟨30, _⟩ => ⟨S4x1x1x1024, .f32⟩
  | .hbm, ⟨31, _⟩ => ⟨S4x1x1024, .f32⟩
  | .hbm, ⟨32, _⟩ => ⟨S_, .f32⟩
  | .hbm, ⟨33, _⟩ => ⟨S4x1x1024, .f32⟩
  | .hbm, ⟨34, _⟩ => ⟨S4x1x1024, .f32⟩
  | .hbm, ⟨35, _⟩ => ⟨S4x8192x1024, .f32⟩
  | .hbm, ⟨36, _⟩ => ⟨S4x8192x1024, .f32⟩
  | .hbm, ⟨37, _⟩ => ⟨S4x1x1x1024, .f32⟩
  | .hbm, ⟨38, _⟩ => ⟨S4x1x1024, .f32⟩
  | .hbm, ⟨39, _⟩ => ⟨S4x8192x1024, .f32⟩
  | .hbm, ⟨40, _⟩ => ⟨S4x8192x1024, .f32⟩
  | .hbm, ⟨41, _⟩ => ⟨S4x8192x5632, .f32⟩
  | .hbm, ⟨42, _⟩ => ⟨S4x8192x2816, .f32⟩
  | .hbm, ⟨43, _⟩ => ⟨S4x8192x2816, .f32⟩
  | .hbm, ⟨44, _⟩ => ⟨S4x8192x2816, .f32⟩
  | .hbm, ⟨45, _⟩ => ⟨S4x8192x2816, .f32⟩
  | .hbm, ⟨46, _⟩ => ⟨S_, .f32⟩
  | .hbm, ⟨47, _⟩ => ⟨S4x8192x2816, .f32⟩
  | .hbm, ⟨48, _⟩ => ⟨S4x8192x2816, .f32⟩
  | .hbm, ⟨49, _⟩ => ⟨S_, .f32⟩
  | .hbm, ⟨50, _⟩ => ⟨S4x8192x2816, .f32⟩
  | .hbm, ⟨51, _⟩ => ⟨S4x8192x2816, .f32⟩
  | .hbm, ⟨52, _⟩ => ⟨S4x8192x2816, .f32⟩
  | .hbm, ⟨53, _⟩ => ⟨S4x8192x2816, .f32⟩
  | .hbm, ⟨54, _⟩ => ⟨S4x8192x1024, .f32⟩
  | .hbm, ⟨55, _⟩ => ⟨S4x8192x1024, .f32⟩
  | .hbm, ⟨56, _⟩ => ⟨S4x8192x1024, .f32⟩
  | .hbm, ⟨57, _⟩ => ⟨S4x8192x1024, .f32⟩
  | .hbm, ⟨58, _⟩ => ⟨S1x1x1024, .f32⟩
  | .hbm, ⟨59, _⟩ => ⟨S1x1024, .f32⟩
  | .hbm, ⟨60, _⟩ => ⟨S_, .f32⟩
  | .hbm, ⟨61, _⟩ => ⟨S1x1024, .f32⟩
  | .hbm, ⟨62, _⟩ => ⟨S1x1024, .f32⟩
  | .hbm, ⟨63, _⟩ => ⟨S4x256x1024, .f32⟩
  | .hbm, ⟨64, _⟩ => ⟨S_, .f32⟩
  | .hbm, ⟨65, _⟩ => ⟨S4x256, .f32⟩
  | .hbm, ⟨66, _⟩ => ⟨S4x256x1, .f32⟩
  | .hbm, ⟨67, _⟩ => ⟨S_, .f32⟩
  | .hbm, ⟨68, _⟩ => ⟨S4x256x1, .f32⟩
  | .hbm, ⟨69, _⟩ => ⟨S4x256x1, .f32⟩
  | .hbm, ⟨70, _⟩ => ⟨S_, .f32⟩
  | .hbm, ⟨71, _⟩ => ⟨S4x256x1, .f32⟩
  | .hbm, ⟨72, _⟩ => ⟨S4x256x1, .f32⟩
  | .hbm, ⟨73, _⟩ => ⟨S4x256x1, .f32⟩
  | .hbm, ⟨74, _⟩ => ⟨S4x256x1024, .f32⟩
  | .hbm, ⟨75, _⟩ => ⟨S4x256x1024, .f32⟩
  | .hbm, ⟨76, _⟩ => ⟨S1x1x1024, .f32⟩
  | .hbm, ⟨77, _⟩ => ⟨S4x256x1024, .f32⟩
  | .hbm, ⟨78, _⟩ => ⟨S4x256x1024, .f32⟩
  | .hbm, ⟨79, _⟩ => ⟨S1x1x1024, .f32⟩
  | .hbm, ⟨80, _⟩ => ⟨S1x1024, .f32⟩
  | .hbm, ⟨81, _⟩ => ⟨S_, .f32⟩
  | .hbm, ⟨82, _⟩ => ⟨S1x1024, .f32⟩
  | .hbm, ⟨83, _⟩ => ⟨S1x1024, .f32⟩
  | .hbm, ⟨84, _⟩ => ⟨S1x1x1024, .f32⟩
  | .hbm, ⟨85, _⟩ => ⟨S4x256x1024, .f32⟩
  | .hbm, ⟨86, _⟩ => ⟨S4x256x1024, .f32⟩
  | .hbm, ⟨87, _⟩ => ⟨S1x1x1024, .f32⟩
  | .hbm, ⟨88, _⟩ => ⟨S1x1024, .f32⟩
  | .hbm, ⟨89, _⟩ => ⟨S1x1x1024, .f32⟩
  | .hbm, ⟨90, _⟩ => ⟨S4x256x1024, .f32⟩
  | .hbm, ⟨91, _⟩ => ⟨S4x256x1024, .f32⟩
  | .hbm, ⟨92, _⟩ => ⟨S4x256x5632, .f32⟩
  | .hbm, ⟨93, _⟩ => ⟨S4x256x2816, .f32⟩
  | .hbm, ⟨94, _⟩ => ⟨S4x256x2816, .f32⟩
  | .hbm, ⟨95, _⟩ => ⟨S4x256x2816, .f32⟩
  | .hbm, ⟨96, _⟩ => ⟨S4x256x2816, .f32⟩
  | .hbm, ⟨97, _⟩ => ⟨S_, .f32⟩
  | .hbm, ⟨98, _⟩ => ⟨S4x256x2816, .f32⟩
  | .hbm, ⟨99, _⟩ => ⟨S4x256x2816, .f32⟩
  | .hbm, ⟨100, _⟩ => ⟨S_, .f32⟩
  | .hbm, ⟨101, _⟩ => ⟨S4x256x2816, .f32⟩
  | .hbm, ⟨102, _⟩ => ⟨S4x256x2816, .f32⟩
  | .hbm, ⟨103, _⟩ => ⟨S4x256x2816, .f32⟩
  | .hbm, ⟨104, _⟩ => ⟨S4x256x2816, .f32⟩
  | .hbm, ⟨105, _⟩ => ⟨S4x256x1024, .f32⟩
  | .hbm, ⟨106, _⟩ => ⟨S1x1x1024, .f32⟩
  | .hbm, ⟨107, _⟩ => ⟨S4x256x1024, .f32⟩
  | .hbm, ⟨108, _⟩ => ⟨S4x256x1024, .f32⟩
  | .hbm, ⟨109, _⟩ => ⟨S4x256x1024, .f32⟩
  | .hbm, ⟨110, _⟩ => ⟨S4x8448x1024, .f32⟩
  | .hbm, ⟨111, _⟩ => ⟨S33792x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_call0_v0 : Ref sig .tc := ⟨.hbm, 44, rfl⟩
abbrev main_call0_v1 : Ref sig .tc := ⟨.hbm, 45, rfl⟩
abbrev main_call0_cst : Ref sig .tc := ⟨.hbm, 46, rfl⟩
abbrev main_call0_v2 : Ref sig .tc := ⟨.hbm, 47, rfl⟩
abbrev main_call0_v3 : Ref sig .tc := ⟨.hbm, 48, rfl⟩
abbrev main_call0_cst_0 : Ref sig .tc := ⟨.hbm, 49, rfl⟩
abbrev main_call0_v4 : Ref sig .tc := ⟨.hbm, 50, rfl⟩
abbrev main_call0_v5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_cst_4 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_cst_6 : Ref sig .tc := ⟨.hbm, 67, rfl⟩
abbrev main_v45 : Ref sig .tc := ⟨.hbm, 68, rfl⟩
abbrev main_v46 : Ref sig .tc := ⟨.hbm, 69, rfl⟩
abbrev main_cst_7 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_cst_8 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_call1_v0 : Ref sig .tc := ⟨.hbm, 95, rfl⟩
abbrev main_call1_v1 : Ref sig .tc := ⟨.hbm, 96, rfl⟩
abbrev main_call1_cst : Ref sig .tc := ⟨.hbm, 97, rfl⟩
abbrev main_call1_v2 : Ref sig .tc := ⟨.hbm, 98, rfl⟩
abbrev main_call1_v3 : Ref sig .tc := ⟨.hbm, 99, rfl⟩
abbrev main_call1_cst_0 : Ref sig .tc := ⟨.hbm, 100, rfl⟩
abbrev main_call1_v4 : Ref sig .tc := ⟨.hbm, 101, rfl⟩
abbrev main_call1_v5 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩

abbrev nD : Nat := 1
abbrev τ : Topo := Topo.v7x

variable {F : FTy → Type} [FloatOps F]
-- ==== Proof.FfnBits.lean ====
module

public import proofs.«01_k».proof.Defs
public import proofs.«01_k».proof.Proof.Gen.Kernel3
public import proofs.«01_k».proof.Proof.Gen.Kernel3Ideal.Frame

/-! The first feed-forward call as the machine runs it: it is the same program as the ideal one, read at bit patterns, so its frame is
an instance of the run proved once for any floats. -/

@[expose] public section

set_option maxRecDepth 65536
set_option maxHeartbeats 4000000

noncomputable section

open Idealize.ShloMosaic Idealize.SL.Sem

namespace Cert.Ffn

attribute [local instance] Cert.Kernel3.Gen.facts Cert.Kernel3Ideal.Gen.facts

/-- The two programs' tables of bodies are one table. -/
theorem bodies_eq : Cert.Kernel3.defs₀ (F := Bits) = Cert.Kernel3Ideal.defs₀ (F := Bits) := by
  unfold Cert.Kernel3.defs₀ Cert.Kernel3Ideal.defs₀
  refine congrArg Defs.onTc ?_
  funext l
  match l with
  | 0 =>
    funext ts
    obtain ⟨t, s⟩ := ts
    rfl

/-- So are their tables with the pipelines added. -/
theorem defs_eq : Cert.Kernel3.defs (F := Bits) = Cert.Kernel3Ideal.defs (F := Bits) :=
  congrArg (Pipeline.defs (Cert.Kernel3.pcfgs (F := Bits))) bodies_eq

/-- The first feed-forward call at bit patterns ends, leaves its arguments as they were and its semaphores at zero. -/
theorem frame3 : Cert.quiescent_Kernel3 (hKernel3 := Cert.Kernel3.Gen.facts) := fun m ρ _ => by
  rw [defs_eq]
  exact (θ_run Cert.Kernel3Ideal.defs _ _).mono (fun _ h => h) (Cert.Kernel3Ideal.Gen.frame (F := Bits) m ρ)

end Cert.Ffn

end
-- ==== Proof.MergeCore.lean ====
module
public import Idealize.ShloMosaic.Lib.Pipeline.ValueKit
public import Idealize.ShloMosaic.Lib.Pointwise
public import Idealize.ShloMosaic.PureOps.Ideal.Laws
@[expose] public section
set_option maxRecDepth 16384
noncomputable section
open Idealize.ShloMosaic

namespace Cert.Merge

/-- The words of the programs' constants, read as numbers. -/
abbrev half : EReal := Ideal.ofBits .f32 0x3F000000#32
abbrev one : EReal := Ideal.ofBits .f32 0x3F800000#32
abbrev eps : EReal := Ideal.ofBits .f32 0x358637BD#32
abbrev n128 : EReal := Ideal.ofBits .f32 0x43000000#32
abbrev n1024 : EReal := Ideal.ofBits .f32 0x44800000#32

theorem half_eq : half = ((1 / 2 : ℝ) : EReal) := by
  simp [half, Ideal.ofBits, Ideal.ieee]
  rw [← EReal.coe_mul]
  norm_num

theorem one_eq : one = ((1 : ℝ) : EReal) := by
  simp [one, Ideal.ofBits, Ideal.ieee]
  rw [← EReal.coe_mul]
  norm_num

/-- The kernel's silu: half the argument, times its hyperbolic tangent plus one. -/
def siluK (x : EReal) : EReal := half * x * Ideal.tanh (half * x) + half * x

/-- The kernel's sigmoid. -/
def sigK (x : EReal) : EReal := half * Ideal.tanh (half * x) + half

/-- The reference's sigmoid. -/
def sigR (x : EReal) : EReal := Ideal.div one (one + Ideal.exp (-x))

/-- The reference's silu. -/
def siluR (x : EReal) : EReal := x * sigR x

theorem tanh_half (x : ℝ) : Real.tanh (1 / 2 * x) = 2 * (1 + Real.exp (-x))⁻¹ - 1 := by
  have e : Real.exp (-x) = Real.exp (-(1 / 2 * x)) * Real.exp (-(1 / 2 * x)) := by rw [← Real.exp_add]; ring_nf
  have p : 0 < Real.exp (-(1 / 2 * x)) := Real.exp_pos _
  have q : Real.exp (1 / 2 * x) = (Real.exp (-(1 / 2 * x)))⁻¹ := by rw [← Real.exp_neg, neg_neg]
  rw [Real.tanh_eq_sinh_div_cosh, Real.sinh_eq, Real.cosh_eq, e, q]
  set u := Real.exp (-(1 / 2 * x))
  have : u⁻¹ + u ≠ 0 := by positivity
  have : 1 + u * u ≠ 0 := by positivity
  field_simp
  ring

theorem sigR_coe (x : ℝ) : sigR x = (((1 + Real.exp (-x))⁻¹ : ℝ) : EReal) := by
  have p : (1 + Real.exp (-x)) ≠ 0 := by positivity
  have e : one + Ideal.exp (-(x : EReal)) = ((1 + Real.exp (-x) : ℝ) : EReal) := by
    rw [one_eq, ← EReal.coe_neg, Ideal.exp_coe, ← EReal.coe_add]
  unfold sigR
  rw [e, one_eq, Ideal.div, if_neg (by exact_mod_cast p), ← EReal.coe_inv, ← EReal.coe_mul, one_mul]

/-- The two sigmoids agree on every value, the infinities included. -/
theorem sig_eq (x : EReal) : sigK x = sigR x := by
  induction x with
  | bot =>
    have h : half * (⊥ : EReal) = ⊥ := by rw [half_eq]; exact EReal.coe_mul_bot_of_pos (by norm_num)
    unfold sigK sigR
    rw [h, one_eq, half_eq, EReal.neg_bot, Ideal.exp_top]
    show ((1 / 2 : ℝ) : EReal) * (-1 : EReal) + ((1 / 2 : ℝ) : EReal) = Ideal.div ((1 : ℝ) : EReal) (((1 : ℝ) : EReal) + ⊤)
    rw [EReal.coe_add_top, Ideal.div, if_neg EReal.top_ne_zero, EReal.inv_top, mul_zero]
    rw [show (-1 : EReal) = ((-1 : ℝ) : EReal) from by norm_num, ← EReal.coe_mul, ← EReal.coe_add]
    norm_num
  | top =>
    have h : half * (⊤ : EReal) = ⊤ := by rw [half_eq]; exact EReal.coe_mul_top_of_pos (by norm_num)
    unfold sigK sigR
    rw [h, one_eq, half_eq, EReal.neg_top, Ideal.exp_bot, add_zero]
    show ((1 / 2 : ℝ) : EReal) * (1 : EReal) + ((1 / 2 : ℝ) : EReal) = _
    rw [Ideal.div, if_neg (by norm_num), mul_one, ← EReal.coe_inv, ← EReal.coe_mul, ← EReal.coe_add]
    norm_num
  | coe x =>
    rw [sigR_coe]
    unfold sigK
    rw [half_eq, ← EReal.coe_mul]
    show ((1 / 2 : ℝ) : EReal) * ((Real.tanh (1 / 2 * x) : ℝ) : EReal) + _ = _
    rw [tanh_half, ← EReal.coe_mul, ← EReal.coe_add]
    congr 1
    ring

/-- The two silus agree wherever the argument is above minus infinity. -/
theorem silu_eq (x : EReal) (hx : x ≠ ⊥) : siluK x = siluR x := by
  induction x with
  | bot => exact absurd rfl hx
  | top =>
    have h : half * (⊤ : EReal) = ⊤ := by rw [half_eq]; exact EReal.coe_mul_top_of_pos (by norm_num)
    unfold siluK siluR
    rw [← sig_eq]
    unfold sigK
    rw [h]
    show ⊤ * (1 : EReal) + ⊤ = ⊤ * (half * (1 : EReal) + half)
    rw [half_eq, mul_one, mul_one, ← EReal.coe_add, EReal.top_add_top, EReal.top_mul_coe_of_pos (by norm_num)]
  | coe x =>
    unfold siluK siluR
    rw [sigR_coe, half_eq, ← EReal.coe_mul]
    show ((1 / 2 * x : ℝ) : EReal) * ((Real.tanh (1 / 2 * x) : ℝ) : EReal) + _ = _
    rw [tanh_half, ← EReal.coe_mul, ← EReal.coe_add, ← EReal.coe_mul]
    congr 1
    ring

/-- The reciprocal root of a row's mean square. -/
def meanInv {n : ℕ} (w : EReal) (f : Fin n → EReal) : EReal := Ideal.rsqrt (Ideal.div (∑ l, f l * f l) w + eps)

/-- One row of 512 lanes, each head of 128 lanes divided by its root mean square, times the norm's weights. -/
def headn (f : Fin 512 → EReal) (g : Fin 128 → EReal) (j : Fin 512) : EReal :=
  f j * meanInv n128 (fun l : Fin 128 => f ⟨j.val / 128 * 128 + l.val, by omega⟩) * g ⟨j.val % 128, by omega⟩

/-- The gated sum of the three branches' products, one row. -/
def mixed (a b c : Fin 512 → EReal) (wa wg wm : Fin 512 → Fin 1024 → EReal) (sa sg sm : Fin 1024 → EReal) (j : Fin 1024) : EReal :=
  sa j * (∑ k, a k * wa k j) + sg j * (∑ k, b k * wg k j) + sm j * (∑ k, c k * wm k j)

/-- The residual row after the merge. -/
def resid (x gate y : Fin 1024 → EReal) (wo : Fin 1024 → Fin 1024 → EReal) (j : Fin 1024) : EReal :=
  x j + gate j * ∑ k, y k * wo k j

/-- The modulated norm of a row. -/
def hrow (x gain scale shift : Fin 1024 → EReal) (j : Fin 1024) : EReal :=
  x j * meanInv n1024 x * (gain j * (one + scale j)) + shift j

/-- The argument of the feed-forward's silu. -/
def argA (h : Fin 1024 → EReal) (w : Fin 1024 → Fin 5632 → EReal) (f : Fin 2816) : EReal := ∑ k, h k * w k ⟨f.val, by omega⟩
/-- The feed-forward's other factor. -/
def argB (h : Fin 1024 → EReal) (w : Fin 1024 → Fin 5632 → EReal) (f : Fin 2816) : EReal := ∑ k, h k * w k ⟨2816 + f.val, by omega⟩

/-- The row after the feed-forward, with `s` its silu. -/
def outRow (s : EReal → EReal) (x gate h : Fin 1024 → EReal) (w : Fin 1024 → Fin 5632 → EReal) (v : Fin 2816 → Fin 1024 → EReal) (j : Fin 1024) : EReal :=
  x j + half * gate j * ∑ f : Fin 2816, s (argA h w f) * argB h w f * v f j

/-- With every silu argument above minus infinity the two spellings of the silu leave the same row. -/
theorem outRow_eq (x gate h : Fin 1024 → EReal) (w : Fin 1024 → Fin 5632 → EReal) (v : Fin 2816 → Fin 1024 → EReal) (j : Fin 1024)
    (H : ∀ f, argA h w f ≠ ⊥) : outRow siluK x gate h w v j = outRow siluR x gate h w v j := by
  unfold outRow
  refine congrArg (fun q => x j + half * gate j * q) (Finset.sum_congr rfl fun f _ => ?_)
  rw [silu_eq _ (H f)]

/-- One chunk of 256 hidden lanes of the feed-forward. -/
def chunk (s : EReal → EReal) (h : Fin 1024 → EReal) (w : Fin 1024 → Fin 5632 → EReal) (v : Fin 2816 → Fin 1024 → EReal) (n : Fin 11) (j : Fin 1024) : EReal :=
  ∑ f : Fin 256, s (argA h w ⟨n.val * 256 + f.val, by omega⟩) * argB h w ⟨n.val * 256 + f.val, by omega⟩ * v ⟨n.val * 256 + f.val, by omega⟩ j

/-- A sum over 2816 is the sum of its eleven chunks of 256. -/
theorem sum_chunks (g : Fin 2816 → EReal) : ∑ f : Fin 2816, g f = ∑ n : Fin 11, ∑ f : Fin 256, g ⟨n.val * 256 + f.val, by omega⟩ := by
  rw [← Finset.sum_product', ← Equiv.sum_comp (finProdFinEquiv (m := 11) (n := 256))]
  refine Finset.sum_congr rfl fun p _ => congrArg g (Fin.ext ?_)
  show p.2.val + 256 * p.1.val = p.1.val * 256 + p.2.val
  omega

end Cert.Merge
end
-- ==== Proof.FfnBlock.lean ====
module
public import proofs.«01_k».proof.Proof.Gen.Kernel3Ideal.Skeleton
public import proofs.«01_k».proof.Proof.MergeCore
public import Idealize.ShloMosaic.Lib.WordCmp
@[expose] public section
set_option maxRecDepth 16384
noncomputable section
open Idealize.ShloMosaic Idealize.ShloMosaic.TcCoe Idealize.SL.Sem

namespace Cert.Ffn
open Cert.Merge Cert.Kernel3Ideal Cert.Kernel3Ideal.Gen

/-- The kernel's row test picks the first value on the context rows of a sample, the second on its latent rows. -/
theorem row_pick (n r : ℕ) (hn : n < 11) (hr : r < 768) (x y : EReal) :
    Scalar.select (IntOp.cmpi .slt (IntOp.addi (Scalar.addi (0#32) (Scalar.muli (BitVec.ofNat 32 n) 768#32)) (BitVec.ofNat 32 r)) 256#32) x y
      = if n * 768 + r < 256 then x else y := by
  have e : IntOp.addi (Scalar.addi (0#32) (Scalar.muli (BitVec.ofNat 32 n) 768#32)) (BitVec.ofNat 32 r)
      = BitVec.ofNat 32 (n * 768 + r) := by
    apply BitVec.eq_of_toNat_eq
    simp [IntOp.addi, Scalar.addi, Scalar.muli, IntOp.muli]
  rw [e]
  word_cmp

/-- The modulated norm of a tile that holds both kinds of rows. -/
theorem norm_both (i : grid0.Coords) (x : Vec Ideal S768x1024 .f32) (g : Vec Ideal S1x1024 .f32) (sl sc cl cc : Vec Ideal S1x1x1024 .f32) (r : Fin 768) (j : Fin 1024) :
    k0_pay8 (F := Ideal) (k0_pay3 (k0_pay4 x) (k0_pay5 i) (k0_pay6 g) sl sc cl cc) (ix2 r j)
      = hrow (fun j => x (ix2 r j)) (fun j => g (ix2 0 j)) (fun j => if (i 1).val * 768 + r.val < 256 then cc (ix3 0 0 j) else cl (ix3 0 0 j))
        (fun j => if (i 1).val * 768 + r.val < 256 then sc (ix3 0 0 j) else sl (ix3 0 0 j)) j := by
  unfold hrow meanInv
  pointwise [k0_pay8, k0_pay3, k0_pay4, k0_pay5, k0_pay6]
  rw [mul_assoc]
  exact congrArg₂ (· + ·) (congrArg (_ * ·) (congrArg (_ * ·) (congrArg (_ + ·) (row_pick (i 1).val r.val (i 1).isLt r.isLt _ _))))
    (row_pick (i 1).val r.val (i 1).isLt r.isLt _ _)

/-- The modulated norm of a tile of latent rows. -/
theorem norm_lat (x : Vec Ideal S768x1024 .f32) (g : Vec Ideal S1x1024 .f32) (s c : Vec Ideal S1x1x1024 .f32) (r : Fin 768) (j : Fin 1024) :
    k0_pay7 (F := Ideal) x g s c (ix2 r j)
      = hrow (fun j => x (ix2 r j)) (fun j => g (ix2 0 j)) (fun j => c (ix3 0 0 j)) (fun j => s (ix3 0 0 j)) j := by
  unfold hrow meanInv
  pointwise [k0_pay7, k0_pay4, k0_pay6]

/-- The gate row of a tile's row. -/
theorem gate_pick (i : grid0.Coords) (l c : Vec Ideal S1x1x1024 .f32) (r : Fin 768) (j : Fin 1024) :
    k0_pay9 (F := Ideal) i l c (ix2 r j) = if (i 1).val * 768 + r.val < 256 then c (ix3 0 0 j) else l (ix3 0 0 j) := by
  pointwise [k0_pay9, k0_pay5]
  exact row_pick (i 1).val r.val (i 1).isLt r.isLt _ _

/-- One chunk of the feed-forward: its hidden lanes' products with the down weights. -/
def chunkT (h : FVec Ideal S768x1024 .bf16) (a b : Vec Ideal S1024x256 .bf16) (v : Vec Ideal S256x1024 .bf16) : FVec Ideal S768x1024 .f32 :=
  k0_pay11 (F := Ideal) (k0_pay10 h a) h b v

theorem chunkT_at (h : FVec Ideal S768x1024 .bf16) (a b : Vec Ideal S1024x256 .bf16) (v : Vec Ideal S256x1024 .bf16) (r : Fin 768) (j : Fin 1024) :
    chunkT h a b v (ix2 r j) = ∑ f : Fin 256, siluK (∑ k, h (ix2 r k) * a (ix2 k f)) * (∑ k, h (ix2 r k) * b (ix2 k f)) * v (ix2 f j) := by
  unfold siluK
  pointwise [chunkT, k0_pay11, k0_pay10]

theorem out_at (x : Vec Ideal S768x1024 .f32) (g : FVec Ideal S768x1024 .f32) (acc : Vec Ideal S768x1024 .f32) (r : Fin 768) (j : Fin 1024) :
    k0_pay2 (F := Ideal) (k0_pay4 x) g acc (ix2 r j) = x (ix2 r j) + half * g (ix2 r j) * acc (ix2 r j) := by
  pointwise [k0_pay2, k0_pay4]

/-- The next accumulator: the last one plus one chunk of the feed-forward. -/
def stepT (h : FVec Ideal S768x1024 .bf16) (a b : Vec Ideal S1024x256 .bf16) (v : Vec Ideal S256x1024 .bf16) (acc : FVec Ideal S768x1024 .f32) : FVec Ideal S768x1024 .f32 :=
  addf acc (chunkT h a b v)

section Steps
variable (h : Vec Ideal S768x1024 .bf16) (a b : Vec Ideal S1024x256 .bf16) (v : Vec Ideal S256x1024 .bf16) (acc : Vec Ideal S768x1024 .f32)
/-- Payload 14 is one such step. -/
theorem step14 : k0_pay14 (F := Ideal) (k0_pay12 h a h b) (k0_pay13 v) (constant S768x1024 .f32 0x00000000#32) acc = stepT h a b v acc := by
  simp only [stepT, chunkT, k0_pay10, k0_pay11, k0_pay12, k0_pay13, k0_pay14, shapeCast_self]
/-- Payload 15 is one such step. -/
theorem step15 : k0_pay15 (F := Ideal) h a h b v acc = stepT h a b v acc := by
  simp only [stepT, chunkT, k0_pay10, k0_pay11, k0_pay15, shapeCast_self]
/-- Payload 17 is one such step. -/
theorem step17 : k0_pay17 (F := Ideal) h (k0_pay16 a) h b v acc = stepT h a b v acc := by
  simp only [stepT, chunkT, k0_pay10, k0_pay11, k0_pay16, k0_pay17, shapeCast_self]
/-- Payload 19 is one such step. -/
theorem step19 : k0_pay19 (F := Ideal) (k0_pay18 h a h b) v acc = stepT h a b v acc := by
  simp only [stepT, chunkT, k0_pay10, k0_pay11, k0_pay18, k0_pay19, shapeCast_self]
/-- Payload 20 is one such step. -/
theorem step20 : k0_pay20 (F := Ideal) h a h b v acc = stepT h a b v acc := by
  simp only [stepT, chunkT, k0_pay10, k0_pay11, k0_pay20, shapeCast_self]
/-- Payload 21 is one such step. -/
theorem step21 : k0_pay21 (F := Ideal) h a h b v acc = stepT h a b v acc := by
  simp only [stepT, chunkT, k0_pay10, k0_pay11, k0_pay21, shapeCast_self]
/-- Payload 24 is one such step. -/
theorem step24 : k0_pay24 (F := Ideal) (k0_pay22 h a) (k0_pay23 h b) (Scalar.ofBits .f32 0x3F000000#32) v acc = stepT h a b v acc := by
  simp only [stepT, chunkT, k0_pay10, k0_pay11, k0_pay22, k0_pay23, k0_pay24, shapeCast_self]
/-- Payload 26 is one such step. -/
theorem step26 : k0_pay26 (F := Ideal) (k0_pay25 h a h b v acc) = stepT h a b v acc := by
  simp only [stepT, chunkT, k0_pay10, k0_pay11, k0_pay25, k0_pay26, shapeCast_self]
/-- Payload 27 is one such step. -/
theorem step27 : k0_pay27 (F := Ideal) h a h b v acc = stepT h a b v acc := by
  simp only [stepT, chunkT, k0_pay10, k0_pay11, k0_pay27, shapeCast_self]
/-- Payload 1 is one such step. -/
theorem step1 : k0_pay1 (F := Ideal) (k0_pay28 h a) h b v acc = stepT h a b v acc := by
  simp only [stepT, chunkT, k0_pay10, k0_pay11, k0_pay28, k0_pay1, shapeCast_self]
end Steps

end Cert.Ffn
end
-- ==== Proof.FfnOut.lean ====
module
public import proofs.«01_k».proof.Proof.Gen.Kernel3Ideal.Value
public import proofs.«01_k».proof.Proof.FfnBlock
@[expose] public section
set_option maxRecDepth 16384
noncomputable section
open Idealize.ShloMosaic Idealize.ShloMosaic.TcCoe Idealize.SL.Sem
open Idealize.ShloMosaic.Pipeline (Dat)

namespace Cert.Ffn
open Cert.Merge Cert.Kernel3Ideal Cert.Kernel3Ideal.Gen Cert.Kernel3Ideal.Value

section Point
variable (i : grid0.Coords) (x0 : Vec Ideal S768x1024 .f32) (x1 : Vec Ideal S9x5x1024 .f32) (x2 : Vec Ideal S1x1024 .f32) (x3 : Vec Ideal S1024x5632 .bf16) (x4 : Vec Ideal S2816x1024 .bf16)

/-- Window 1's row at an offset. -/
abbrev rowAt (off : Fin 3 → ℕ) (inb : ∀ a, off a + S1x1x1024.size a ≤ S9x5x1024.size a) : Vec Ideal S1x1x1024 .f32 :=
  View.ld (Val := Elt Ideal) (S := S9x5x1024) (e' := .f32) x1 (Rect.unit (s := S9x5x1024) off S1x1x1024.size inb)

/-- A chunk's columns of the up weights. -/
abbrev upAt (off : Fin 2 → ℕ) (inb : ∀ a, off a + S1024x256.size a ≤ S1024x5632.size a) : Vec Ideal S1024x256 .bf16 :=
  View.ld (Val := Elt Ideal) (S := S1024x5632) (e' := .bf16) x3 (Rect.unit (s := S1024x5632) off S1024x256.size inb)

/-- A chunk's rows of the down weights. -/
abbrev downAt (off : Fin 2 → ℕ) (inb : ∀ a, off a + S256x1024.size a ≤ S2816x1024.size a) : Vec Ideal S256x1024 .bf16 :=
  View.ld (Val := Elt Ideal) (S := S2816x1024) (e' := .bf16) x4 (Rect.unit (s := S2816x1024) off S256x1024.size inb)

/-- The modulated norm of a tile that holds both kinds of rows. -/
def bothT (H : k0_cond2 i = 1#1) : FVec Ideal S768x1024 .bf16 :=
  k0_pay8 (F := Ideal) (k0_pay3 (k0_pay4 x0) (k0_pay5 i) (k0_pay6 x2) (rowAt x1 (k0_off3 i) (k0_off3_inb i H)) (rowAt x1 ![0, 4, 0] inb_S9x5x1024_S1x1x1024_0_4_0)
    (rowAt x1 (k0_off4 i) (k0_off4_inb i H)) (rowAt x1 ![1, 4, 0] inb_S9x5x1024_S1x1x1024_1_4_0))

/-- The modulated norm of a tile of latent rows. -/
def latT (H : k0_cond1 i = 1#1) : FVec Ideal S768x1024 .bf16 :=
  k0_pay7 (F := Ideal) x0 x2 (rowAt x1 (k0_off1 i) (k0_off1_inb i H)) (rowAt x1 (k0_off2 i) (k0_off2_inb i H))

/-- The accumulator after the eleven chunks. -/
def accT (h : FVec Ideal S768x1024 .bf16) : FVec Ideal S768x1024 .f32 :=
  stepT h (upAt x3 ![0, 2560] inb_S1024x5632_S1024x256_0_2560) (upAt x3 ![0, 5376] inb_S1024x5632_S1024x256_0_5376) (downAt x4 ![2560, 0] inb_S2816x1024_S256x1024_2560_0)
    (stepT h (upAt x3 ![0, 2304] inb_S1024x5632_S1024x256_0_2304) (upAt x3 ![0, 5120] inb_S1024x5632_S1024x256_0_5120) (downAt x4 ![2304, 0] inb_S2816x1024_S256x1024_2304_0)
    (stepT h (upAt x3 ![0, 2048] inb_S1024x5632_S1024x256_0_2048) (upAt x3 ![0, 4864] inb_S1024x5632_S1024x256_0_4864) (downAt x4 ![2048, 0] inb_S2816x1024_S256x1024_2048_0)
    (stepT h (upAt x3 ![0, 1792] inb_S1024x5632_S1024x256_0_1792) (upAt x3 ![0, 4608] inb_S1024x5632_S1024x256_0_4608) (downAt x4 ![1792, 0] inb_S2816x1024_S256x1024_1792_0)
    (stepT h (upAt x3 ![0, 1536] inb_S1024x5632_S1024x256_0_1536) (upAt x3 ![0, 4352] inb_S1024x5632_S1024x256_0_4352) (downAt x4 ![1536, 0] inb_S2816x1024_S256x1024_1536_0)
    (stepT h (upAt x3 ![0, 1280] inb_S1024x5632_S1024x256_0_1280) (upAt x3 ![0, 4096] inb_S1024x5632_S1024x256_0_4096) (downAt x4 ![1280, 0] inb_S2816x1024_S256x1024_1280_0)
    (stepT h (upAt x3 ![0, 1024] inb_S1024x5632_S1024x256_0_1024) (upAt x3 ![0, 3840] inb_S1024x5632_S1024x256_0_3840) (downAt x4 ![1024, 0] inb_S2816x1024_S256x1024_1024_0)
    (stepT h (upAt x3 ![0, 768] inb_S1024x5632_S1024x256_0_768) (upAt x3 ![0, 3584] inb_S1024x5632_S1024x256_0_3584) (downAt x4 ![768, 0] inb_S2816x1024_S256x1024_768_0)
    (stepT h (upAt x3 ![0, 512] inb_S1024x5632_S1024x256_0_512) (upAt x3 ![0, 3328] inb_S1024x5632_S1024x256_0_3328) (downAt x4 ![512, 0] inb_S2816x1024_S256x1024_512_0)
    (stepT h (upAt x3 ![0, 256] inb_S1024x5632_S1024x256_0_256) (upAt x3 ![0, 3072] inb_S1024x5632_S1024x256_0_3072) (downAt x4 ![256, 0] inb_S2816x1024_S256x1024_256_0)
    (k0_pay11 (F := Ideal) (k0_pay10 h (upAt x3 ![0, 0] inb_S1024x5632_S1024x256_0_0)) h (upAt x3 ![0, 2816] inb_S1024x5632_S1024x256_0_2816) (downAt x4 ![0, 0] inb_S2816x1024_S256x1024_0_0)))))))))))

end Point

theorem hz2 : (![0, 0] : Fin 2 → ℕ) = fun _ => 0 := by decide

set_option maxHeartbeats 4000000 in
/-- What a grid point whose tile is one that holds both kinds of rows stores into its output block. -/
theorem out_A (c : Dev nD) (i : grid0.Coords) (arg2 : Memref sig .tc .vmem S768x1024 .f32) (harg2 : arg2.IsWhole) (arg3 : Memref sig .tc .vmem S9x5x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S768x1024 .f32) (harg7 : arg7.IsWhole) (arg8 : Memref sig .tc .vmem S768x1024 .bf16) (harg8 : arg8.IsWhole) (arg9 : Memref sig .tc .vmem S768x1024 .f32) (harg9 : arg9.IsWhole) (hc0 : ¬cond0_0 i) (hc1 : cond0_1 i)
    (x0 : Vec Ideal S768x1024 .f32) (x1 : Vec Ideal S9x5x1024 .f32) (x2 : Vec Ideal S1x1024 .f32) (x3 : Vec Ideal S1024x5632 .bf16) (x4 : Vec Ideal S2816x1024 .bf16) :
    out0_A_5 c i arg2 harg2 arg3 harg3 arg4 harg4 arg5 harg5 arg6 harg6 arg7 harg7 arg8 harg8 arg9 harg9 hc0 hc1 x0 x1 x2 x3 x4 = k0_pay2 (F := Ideal) (k0_pay4 x0) (k0_pay9 (F := Ideal) i (rowAt x1 (k0_off5 i) (k0_off5_inb i)) (rowAt x1 ![2, 4, 0] inb_S9x5x1024_S1x1x1024_2_4_0)) (accT x3 x4 (bothT i x0 x1 x2 hc1)) := by
  unfold out0_A_5
  rw [View.read_writes_eq_canon _ _ _ (cover0_A_5 c i arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero (S := S768x1024) hz2]
  simp only [View.readCov_cons_unit_lit', View.readCov_cons_toLoadRect, View.readAt_eq_ld, harg2.read_unread, harg3.read_unread, harg4.read_unread, harg5.read_unread, harg6.read_unread, harg7.read_unread, harg8.read_unread, harg9.read_unread, View.ld_unit_zero (S := S768x1024) hz2, View.ld_unit_zero (S := S1x1024) hz2]
  simp only [step14, step15, step17, step19, step20, step21, step24, step26, step27, step1]
  rfl

set_option maxHeartbeats 4000000 in
/-- What a grid point whose tile is one of latent rows stores into its output block. -/
theorem out_B (c : Dev nD) (i : grid0.Coords) (arg2 : Memref sig .tc .vmem S768x1024 .f32) (harg2 : arg2.IsWhole) (arg3 : Memref sig .tc .vmem S9x5x1024 .f32) (harg3 : arg3.IsWhole) (arg4 : Memref sig .tc .vmem S1x1024 .f32) (harg4 : arg4.IsWhole) (arg5 : Memref sig .tc .vmem S1024x5632 .bf16) (harg5 : arg5.IsWhole) (arg6 : Memref sig .tc .vmem S2816x1024 .bf16) (harg6 : arg6.IsWhole) (arg7 : Memref sig .tc .vmem S768x1024 .f32) (harg7 : arg7.IsWhole) (arg8 : Memref sig .tc .vmem S768x1024 .bf16) (harg8 : arg8.IsWhole) (arg9 : Memref sig .tc .vmem S768x1024 .f32) (harg9 : arg9.IsWhole) (hc0 : cond0_0 i) (hc1 : ¬cond0_1 i)
    (x0 : Vec Ideal S768x1024 .f32) (x1 : Vec Ideal S9x5x1024 .f32) (x2 : Vec Ideal S1x1024 .f32) (x3 : Vec Ideal S1024x5632 .bf16) (x4 : Vec Ideal S2816x1024 .bf16) :
    out0_B_5 c i arg2 harg2 arg3 harg3 arg4 harg4 arg5 harg5 arg6 harg6 arg7 harg7 arg8 harg8 arg9 harg9 hc0 hc1 x0 x1 x2 x3 x4 = k0_pay2 (F := Ideal) (k0_pay4 x0) (k0_pay9 (F := Ideal) i (rowAt x1 (k0_off5 i) (k0_off5_inb i)) (rowAt x1 ![2, 4, 0] inb_S9x5x1024_S1x1x1024_2_4_0)) (accT x3 x4 (latT i x0 x1 x2 hc0)) := by
  unfold out0_B_5
  rw [View.read_writes_eq_canon _ _ _ (cover0_B_5 c i arg2 harg2 arg3 harg3 arg4 harg4 arg5 harg5 arg6 harg6 arg7 harg7 arg8 harg8 arg9 harg9 hc0 hc1 x0 x1 x2 x3 x4)]
  unfold kernelRun0_B
  dsimp only
  sl_unfold_words
  rw [View.canon_unit_zero (S := S768x1024) hz2]
  simp only [View.readCov_cons_unit_lit', View.readCov_cons_toLoadRect, View.readAt_eq_ld, harg2.read_unread, harg3.read_unread, harg4.read_unread, harg5.read_unread, harg6.read_unread, harg7.read_unread, harg8.read_unread, harg9.read_unread, View.ld_unit_zero (S := S768x1024) hz2, View.ld_unit_zero (S := S1x1024) hz2]
  simp only [step14, step15, step17, step19, step20, step21, step24, step26, step27, step1]
  rfl

end Cert.Ffn
end
-- ==== Proof.FfnPoint.lean ====
module
public import proofs.«01_k».proof.Proof.FfnOut
@[expose] public section
set_option maxRecDepth 16384
noncomputable section
open Idealize.ShloMosaic Idealize.ShloMosaic.TcCoe Idealize.SL.Sem
open Idealize.ShloMosaic.Pipeline (Dat)

namespace Cert.Ffn
open Cert.Merge Cert.Kernel3Ideal Cert.Kernel3Ideal.Gen Cert.Kernel3Ideal.Value

/-- Each window's block at a grid point, and the point's coordinates. -/
theorem idx_val : ∀ t : Fin cfg0.N, win0_0.index t = ![t.val, 0] ∧ win0_1.index t = ![0, 0, 0] ∧ win0_2.index t = ![0, 0] ∧ win0_3.index t = ![0, 0] ∧ win0_4.index t = ![0, 0] ∧ win0_5.index t = ![t.val, 0]
    ∧ (grid0.coords t 0).val = t.val / 11 ∧ (grid0.coords t 1).val = t.val % 11 :=
  (by decide +kernel : ∀ t : Fin grid0.N, _)

theorem lt44 (t : Fin cfg0.N) : t.val < 44 := lt_of_lt_of_eq t.isLt N_0

/-- A block's rows lie within the joined streams. -/
theorem row_lt (t : Fin cfg0.N) (r : Fin 768) : t.val * 768 + r.val < 33792 := by
  have := lt44 t
  omega

/-- Window 0's block at one index, for any contents of the buffers. -/
theorem rd0 (c : Dev nD) (A : (b : Ref sig .tc) → Buf (Elt Ideal) ((c : Thread nD τ).loc b)) (t : Fin cfg0.N) (r : Fin 768) (j : Fin 1024) (h : t.val * 768 + r.val < 33792) :
    ((cfg0.win 0).blk t).view.read (Elt Ideal) (A (Pipeline.arrRef spec0 0)) (ix2 r j) = A main_v3 (ix2 ⟨t.val * 768 + r.val, h⟩ j) := by
  blk_ext [idx_val t]
/-- Window 0's block at one index. -/
theorem blk0 (m : (ℓ : Loc nD τ sig) → Buf (Elt Ideal) ℓ) (c : Dev nD) (t : Fin cfg0.N) (r : Fin 768) (j : Fin 1024) :
    iblk m c 0 t (ix2 r j) = V m c main_v3 (ix2 ⟨t.val * 768 + r.val, row_lt t r⟩ j) := by
  unfold iblk
  exact rd0 c (V m c) t r j _

/-- Window 1's block at one index, for any contents of the buffers. -/
theorem rd1 (c : Dev nD) (A : (b : Ref sig .tc) → Buf (Elt Ideal) ((c : Thread nD τ).loc b)) (t : Fin cfg0.N) (g : Fin 9) (r : Fin 5) (l : Fin 1024) :
    ((cfg0.win 1).blk t).view.read (Elt Ideal) (A (Pipeline.arrRef spec0 1)) (ix3 g r l) = A main_v2 (ix3 g r l) := by
  blk_ext [idx_val t]
/-- Window 1's block at one index. -/
theorem blk1 (m : (ℓ : Loc nD τ sig) → Buf (Elt Ideal) ℓ) (c : Dev nD) (t : Fin cfg0.N) (g : Fin 9) (r : Fin 5) (l : Fin 1024) :
    iblk m c 1 t (ix3 g r l) = V m c main_v2 (ix3 g r l) := by
  unfold iblk
  exact rd1 c (V m c) t g r l

/-- Window 2's block at one index, for any contents of the buffers. -/
theorem rd2 (c : Dev nD) (A : (b : Ref sig .tc) → Buf (Elt Ideal) ((c : Thread nD τ).loc b)) (t : Fin cfg0.N) (r : Fin 1) (j : Fin 1024) :
    ((cfg0.win 2).blk t).view.read (Elt Ideal) (A (Pipeline.arrRef spec0 2)) (ix2 r j) = A main_v4 (ix2 r j) := by
  blk_ext [idx_val t]
/-- Window 2's block at one index. -/
theorem blk2 (m : (ℓ : Loc nD τ sig) → Buf (Elt Ideal) ℓ) (c : Dev nD) (t : Fin cfg0.N) (r : Fin 1) (j : Fin 1024) :
    iblk m c 2 t (ix2 r j) = V m c main_v4 (ix2 r j) := by
  unfold iblk
  exact rd2 c (V m c) t r j

/-- Window 3's block at one index, for any contents of the buffers. -/
theorem rd3 (c : Dev nD) (A : (b : Ref sig .tc) → Buf (Elt Ideal) ((c : Thread nD τ).loc b)) (t : Fin cfg0.N) (r : Fin 1024) (j : Fin 5632) :
    ((cfg0.win 3).blk t).view.read (Elt Ideal) (A (Pipeline.arrRef spec0 3)) (ix2 r j) = A main_v5 (ix2 r j) := by
  blk_ext [idx_val t]
/-- Window 3's block at one index. -/
theorem blk3 (m : (ℓ : Loc nD τ sig) → Buf (Elt Ideal) ℓ) (c : Dev nD) (t : Fin cfg0.N) (r : Fin 1024) (j : Fin 5632) :
    iblk m c 3 t (ix2 r j) = V m c main_v5 (ix2 r j) := by
  unfold iblk
  exact rd3 c (V m c) t r j

/-- Window 4's block at one index, for any contents of the buffers. -/
theorem rd4 (c : Dev nD) (A : (b : Ref sig .tc) → Buf (Elt Ideal) ((c : Thread nD τ).loc b)) (t : Fin cfg0.N) (r : Fin 2816) (j : Fin 1024) :
    ((cfg0.win 4).blk t).view.read (Elt Ideal) (A (Pipeline.arrRef spec0 4)) (ix2 r j) = A main_v6 (ix2 r j) := by
  blk_ext [idx_val t]
/-- Window 4's block at one index. -/
theorem blk4 (m : (ℓ : Loc nD τ sig) → Buf (Elt Ideal) ℓ) (c : Dev nD) (t : Fin cfg0.N) (r : Fin 2816) (j : Fin 1024) :
    iblk m c 4 t (ix2 r j) = V m c main_v6 (ix2 r j) := by
  unfold iblk
  exact rd4 c (V m c) t r j

/-- A sum of eleven terms, from the left. -/
theorem sum11 (g : Fin 11 → EReal) : ∑ n : Fin 11, g n = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

theorem stepT_at (h : FVec Ideal S768x1024 .bf16) (a b : Vec Ideal S1024x256 .bf16) (v : Vec Ideal S256x1024 .bf16) (acc : FVec Ideal S768x1024 .f32) (y : S768x1024.Idx) :
    stepT h a b v acc y = acc y + chunkT h a b v y := rfl

/-- Columns of the up weights. -/
theorem up_rd (x3 : Vec Ideal S1024x5632 .bf16) (k : ℕ) (inb) (hk : k + 256 ≤ 5632) (q : Fin 1024) (f : Fin 256) :
    upAt x3 ![0, k] inb (ix2 q f) = x3 (ix2 q ⟨k + f.val, by omega⟩) := by
  refine congrArg x3 (funext fun a => ?_)
  fin_cases a
  · exact Fin.ext (by show 0 + 1 * q.val = q.val; omega)
  · exact Fin.ext (by show k + 1 * f.val = k + f.val; omega)

/-- Rows of the down weights. -/
theorem down_rd (x4 : Vec Ideal S2816x1024 .bf16) (k : ℕ) (inb) (hk : k + 256 ≤ 2816) (f : Fin 256) (j : Fin 1024) :
    downAt x4 ![k, 0] inb (ix2 f j) = x4 (ix2 ⟨k + f.val, by omega⟩ j) := by
  refine congrArg x4 (funext fun a => ?_)
  fin_cases a
  · exact Fin.ext (by show k + 1 * f.val = k + f.val; omega)
  · exact Fin.ext (by show 0 + 1 * j.val = j.val; omega)

/-- A modulation row. -/
theorem row_rd (x1 : Vec Ideal S9x5x1024 .f32) (off : Fin 3 → ℕ) (inb) (g : Fin 9) (b : Fin 5) (h0 : off 0 = g.val) (h1 : off 1 = b.val) (h2 : off 2 = 0) (j : Fin 1024) :
    rowAt x1 off inb (ix3 0 0 j) = x1 (ix3 g b j) := by
  refine congrArg x1 (funext fun a => ?_)
  fin_cases a
  · exact Fin.ext (by show off 0 + 1 * 0 = g.val; omega)
  · exact Fin.ext (by show off 1 + 1 * 0 = b.val; omega)
  · exact Fin.ext (by show off 2 + 1 * j.val = j.val; omega)

/-- One chunk, as the chunk of the whole sum. -/
theorem chunk_at (x3 : Vec Ideal S1024x5632 .bf16) (x4 : Vec Ideal S2816x1024 .bf16) (h : FVec Ideal S768x1024 .bf16) (n : Fin 11) (k k' : ℕ)
    (hk : k = n.val * 256) (hk' : k' = 2816 + n.val * 256) (i1) (i2) (i3) (r : Fin 768) (j : Fin 1024) :
    chunkT h (upAt x3 ![0, k] i1) (upAt x3 ![0, k'] i2) (downAt x4 ![k, 0] i3) (ix2 r j)
      = chunk siluK (fun q => h (ix2 r q)) (fun q f => x3 (ix2 q f)) (fun f j => x4 (ix2 f j)) n j := by
  subst hk hk'
  rw [chunkT_at]
  unfold chunk argA argB
  refine Finset.sum_congr rfl fun f _ => ?_
  have e1 : ∀ q, upAt x3 ![0, n.val * 256] i1 (ix2 q f) = x3 (ix2 q ⟨n.val * 256 + f.val, by omega⟩) := fun q => up_rd x3 _ i1 (by omega) q f
  have e2 : ∀ q, upAt x3 ![0, 2816 + n.val * 256] i2 (ix2 q f) = x3 (ix2 q ⟨2816 + (n.val * 256 + f.val), by omega⟩) := fun q =>
    (up_rd x3 _ i2 (by omega) q f).trans (congrArg (fun z => x3 (ix2 q z)) (Fin.ext (by show 2816 + n.val * 256 + f.val = 2816 + (n.val * 256 + f.val); omega)))
  have e3 : downAt x4 ![n.val * 256, 0] i3 (ix2 f j) = x4 (ix2 ⟨n.val * 256 + f.val, by omega⟩ j) := down_rd x4 _ i3 (by omega) f j
  simp only [e1, e2, e3]

/-- The accumulator is the whole sum. -/
theorem accT_at (x3 : Vec Ideal S1024x5632 .bf16) (x4 : Vec Ideal S2816x1024 .bf16) (h : FVec Ideal S768x1024 .bf16) (r : Fin 768) (j : Fin 1024) :
    accT x3 x4 h (ix2 r j) = ∑ f : Fin 2816, siluK (argA (fun q => h (ix2 r q)) (fun q f => x3 (ix2 q f)) f)
      * argB (fun q => h (ix2 r q)) (fun q f => x3 (ix2 q f)) f * x4 (ix2 f j) := by
  rw [sum_chunks]
  refine Eq.trans ?_ (sum11 (fun n => chunk siluK (fun q => h (ix2 r q)) (fun q f => x3 (ix2 q f)) (fun f j => x4 (ix2 f j)) n j)).symm
  unfold accT
  simp only [stepT_at]
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_) ?_) ?_
  · exact chunk_at x3 x4 h 0 _ _ rfl rfl _ _ _ r j
  · exact chunk_at x3 x4 h 1 _ _ rfl rfl _ _ _ r j
  · exact chunk_at x3 x4 h 2 _ _ rfl rfl _ _ _ r j
  · exact chunk_at x3 x4 h 3 _ _ rfl rfl _ _ _ r j
  · exact chunk_at x3 x4 h 4 _ _ rfl rfl _ _ _ r j
  · exact chunk_at x3 x4 h 5 _ _ rfl rfl _ _ _ r j
  · exact chunk_at x3 x4 h 6 _ _ rfl rfl _ _ _ r j
  · exact chunk_at x3 x4 h 7 _ _ rfl rfl _ _ _ r j
  · exact chunk_at x3 x4 h 8 _ _ rfl rfl _ _ _ r j
  · exact chunk_at x3 x4 h 9 _ _ rfl rfl _ _ _ r j
  · exact chunk_at x3 x4 h 10 _ _ rfl rfl _ _ _ r j

/-- A row after the feed-forward: its modulated norm, the feed-forward's sum, the gate, the residual. -/
def ffnRow (s : EReal → EReal) (x gain m0 m1 m2 : Fin 1024 → EReal) (w : Fin 1024 → Fin 5632 → EReal) (v : Fin 2816 → Fin 1024 → EReal) : Fin 1024 → EReal :=
  outRow s x m2 (hrow x gain m1 m0) w v

section Point
variable (i : grid0.Coords) (x0 : Vec Ideal S768x1024 .f32) (x1 : Vec Ideal S9x5x1024 .f32) (x2 : Vec Ideal S1x1024 .f32) (x3 : Vec Ideal S1024x5632 .bf16) (x4 : Vec Ideal S2816x1024 .bf16)

/-- The coordinate's word reads back as the coordinate. -/
theorem samp_word (b : Fin 5) (hb : (i 0).val = b.val) : (Scalar.indexCast (BitVec.ofNat 32 (i 0).val) : Index).toNat = b.val := by
  rw [hb]
  show (BitVec.ofNat 32 b.val).toNat = b.val
  rw [BitVec.toNat_ofNat]
  have := b.isLt
  omega

/-- What a grid point whose tile holds both kinds of rows stores, at one row and lane. -/
theorem stored_both (H : k0_cond2 i = 1#1) (b e : Fin 5) (hb : (i 0).val = b.val) (r : Fin 768) (j : Fin 1024) (he : e = if (i 1).val * 768 + r.val < 256 then 4 else b) :
    k0_pay2 (F := Ideal) (k0_pay4 x0) (k0_pay9 (F := Ideal) i (rowAt x1 (k0_off5 i) (k0_off5_inb i)) (rowAt x1 ![2, 4, 0] inb_S9x5x1024_S1x1x1024_2_4_0)) (accT x3 x4 (bothT i x0 x1 x2 H)) (ix2 r j)
      = ffnRow siluK (fun j => x0 (ix2 r j)) (fun j => x2 (ix2 0 j)) (fun j => x1 (ix3 0 e j)) (fun j => x1 (ix3 1 e j)) (fun j => x1 (ix3 2 e j))
        (fun k f => x3 (ix2 k f)) (fun f j => x4 (ix2 f j)) j := by
  have hw := samp_word i b hb
  have l0 : ∀ j, rowAt x1 (k0_off3 i) (k0_off3_inb i H) (ix3 0 0 j) = x1 (ix3 0 b j) := row_rd x1 _ _ 0 b rfl hw rfl
  have l1 : ∀ j, rowAt x1 (k0_off4 i) (k0_off4_inb i H) (ix3 0 0 j) = x1 (ix3 1 b j) := row_rd x1 _ _ 1 b rfl hw rfl
  have l2 : ∀ j, rowAt x1 (k0_off5 i) (k0_off5_inb i) (ix3 0 0 j) = x1 (ix3 2 b j) := row_rd x1 _ _ 2 b rfl hw rfl
  have c0 : ∀ j, rowAt x1 ![0, 4, 0] inb_S9x5x1024_S1x1x1024_0_4_0 (ix3 0 0 j) = x1 (ix3 0 4 j) := row_rd x1 _ _ 0 4 rfl rfl rfl
  have c1 : ∀ j, rowAt x1 ![1, 4, 0] inb_S9x5x1024_S1x1x1024_1_4_0 (ix3 0 0 j) = x1 (ix3 1 4 j) := row_rd x1 _ _ 1 4 rfl rfl rfl
  have c2 : ∀ j, rowAt x1 ![2, 4, 0] inb_S9x5x1024_S1x1x1024_2_4_0 (ix3 0 0 j) = x1 (ix3 2 4 j) := row_rd x1 _ _ 2 4 rfl rfl rfl
  have pk : ∀ (g : Fin 9) (j : Fin 1024), (if (i 1).val * 768 + r.val < 256 then x1 (ix3 g 4 j) else x1 (ix3 g b j)) = x1 (ix3 g e j) := by
    intro g j
    rw [he]
    split <;> rfl
  have hnorm : ∀ j, bothT i x0 x1 x2 H (ix2 r j)
      = hrow (fun j => x0 (ix2 r j)) (fun j => x2 (ix2 0 j)) (fun j => x1 (ix3 1 e j)) (fun j => x1 (ix3 0 e j)) j := by
    intro j
    unfold bothT
    rw [norm_both]
    simp only [l0, l1, c0, c1, pk]
  refine (out_at x0 _ _ r j).trans ?_
  rw [accT_at, gate_pick, l2, c2, pk]
  simp only [hnorm]
  rfl

/-- What a grid point whose tile holds latent rows stores, at one row and lane. -/
theorem stored_lat (H : k0_cond1 i = 1#1) (b : Fin 5) (hb : (i 0).val = b.val) (h1 : 1 ≤ (i 1).val) (r : Fin 768) (j : Fin 1024) :
    k0_pay2 (F := Ideal) (k0_pay4 x0) (k0_pay9 (F := Ideal) i (rowAt x1 (k0_off5 i) (k0_off5_inb i)) (rowAt x1 ![2, 4, 0] inb_S9x5x1024_S1x1x1024_2_4_0)) (accT x3 x4 (latT i x0 x1 x2 H)) (ix2 r j)
      = ffnRow siluK (fun j => x0 (ix2 r j)) (fun j => x2 (ix2 0 j)) (fun j => x1 (ix3 0 b j)) (fun j => x1 (ix3 1 b j)) (fun j => x1 (ix3 2 b j))
        (fun k f => x3 (ix2 k f)) (fun f j => x4 (ix2 f j)) j := by
  have hw := samp_word i b hb
  have l0 : ∀ j, rowAt x1 (k0_off1 i) (k0_off1_inb i H) (ix3 0 0 j) = x1 (ix3 0 b j) := row_rd x1 _ _ 0 b rfl hw rfl
  have l1 : ∀ j, rowAt x1 (k0_off2 i) (k0_off2_inb i H) (ix3 0 0 j) = x1 (ix3 1 b j) := row_rd x1 _ _ 1 b rfl hw rfl
  have l2 : ∀ j, rowAt x1 (k0_off5 i) (k0_off5_inb i) (ix3 0 0 j) = x1 (ix3 2 b j) := row_rd x1 _ _ 2 b rfl hw rfl
  have hnorm : ∀ j, latT i x0 x1 x2 H (ix2 r j)
      = hrow (fun j => x0 (ix2 r j)) (fun j => x2 (ix2 0 j)) (fun j => x1 (ix3 1 b j)) (fun j => x1 (ix3 0 b j)) j := by
    intro j
    unfold latT
    rw [norm_lat]
    simp only [l0, l1]
  refine (out_at x0 _ _ r j).trans ?_
  rw [accT_at, gate_pick, if_neg (by omega), l2]
  simp only [hnorm]
  rfl

end Point

/-- The output's row and lane, from the whole arrays the pipeline reads; `e` is the row's line of the modulation. -/
def outFn (X0 : S33792x1024.Idx → EReal) (X1 : S9x5x1024.Idx → EReal) (X2 : S1x1024.Idx → EReal) (X3 : S1024x5632.Idx → EReal) (X4 : S2816x1024.Idx → EReal)
    (R : Fin 33792) (e : Fin 5) (j : Fin 1024) : EReal :=
  ffnRow siluK (fun j => X0 (ix2 R j)) (fun j => X2 (ix2 0 j)) (fun j => X1 (ix3 0 e j)) (fun j => X1 (ix3 1 e j)) (fun j => X1 (ix3 2 e j))
    (fun k f => X3 (ix2 k f)) (fun f j => X4 (ix2 f j)) j

/-- A row's line of the modulation: the last on a context row, the sample's on a latent row. -/
def modOf (R : Fin 33792) : Fin 5 := if R.val % 8448 < 256 then 4 else ⟨R.val / 8448, by omega⟩

/-- What the pipeline leaves in its block at a grid point. -/
theorem point (m : (ℓ : Loc nD τ sig) → Buf (Elt Ideal) ℓ) (c : Dev nD) (t : Fin cfg0.N) (r : Fin 768) (j : Fin 1024) :
    (dats m 0 c).after 5 t (ix2 r j) = outFn (V m c main_v3) (V m c main_v2) (V m c main_v4) (V m c main_v5) (V m c main_v6)
      ⟨t.val * 768 + r.val, row_lt t r⟩ (modOf ⟨t.val * 768 + r.val, row_lt t r⟩) j := by
  have ht := lt44 t
  have k0 : (grid0.coords t 0).val = t.val / 11 := (idx_val t).2.2.2.2.2.2.1
  have k1 : (grid0.coords t 1).val = t.val % 11 := (idx_val t).2.2.2.2.2.2.2
  rw [after0_5]
  by_cases h : t.val % 11 = 0
  · rw [outsAt0_A m c t (by omega) h, out_A]
    refine (stored_both (grid0.coords t) _ _ _ _ _ _ ⟨t.val / 11, by omega⟩ (modOf ⟨t.val * 768 + r.val, row_lt t r⟩) k0 r j ?_).trans ?_
    · unfold modOf
      have hi : (t.val * 768 + r.val) % 8448 = t.val % 11 * 768 + r.val := by omega
      have hd : (t.val * 768 + r.val) / 8448 = t.val / 11 := by omega
      simp only [k1, hi, hd]
    · unfold outFn
      simp only [blk0, blk1, blk2, blk3, blk4]
  · rw [outsAt0_B m c t (by omega) h, out_B]
    have em : modOf ⟨t.val * 768 + r.val, row_lt t r⟩ = ⟨t.val / 11, by omega⟩ := by
      unfold modOf
      have hi : (t.val * 768 + r.val) % 8448 = t.val % 11 * 768 + r.val := by omega
      have hd : (t.val * 768 + r.val) / 8448 = t.val / 11 := by omega
      simp only [hi, hd]
      rw [if_neg (by omega)]
    rw [em]
    refine (stored_lat (grid0.coords t) _ _ _ _ _ _ ⟨t.val / 11, by omega⟩ k0 (by omega) r j).trans ?_
    unfold outFn
    simp only [blk0, blk1, blk2, blk3, blk4]

/-- The output array after the run. -/
theorem final (m : (ℓ : Loc nD τ sig) → Buf (Elt Ideal) ℓ) (c : Dev nD) :
    (dats m 0 c).arrAt 5 cfg0.N = fun i => outFn (V m c main_v3) (V m c main_v2) (V m c main_v4) (V m c main_v5) (V m c main_v6) (i 0) (modOf (i 0)) (i 1) := by
  have hG : ∀ (t : Fin cfg0.N) (y : S768x1024.Idx) (i : S33792x1024.Idx), (i 0).val = t.val * 768 + (y 0).val → (i 1).val = (y 1).val →
      (dats m 0 c).after 5 t y = outFn (V m c main_v3) (V m c main_v2) (V m c main_v4) (V m c main_v5) (V m c main_v6) (i 0) (modOf (i 0)) (i 1) := by
    intro t y i e0 e1
    have hy : (y 0).val < 768 := (y 0).isLt
    have ey : y = ix2 (⟨(y 0).val, hy⟩ : Fin 768) (i 1) := funext fun a => Fin.ext (by
      match a with
      | ⟨0, _⟩ => rfl
      | ⟨1, _⟩ => exact e1.symm)
    have eR : i 0 = ⟨t.val * 768 + (y 0).val, row_lt t ⟨(y 0).val, hy⟩⟩ := Fin.ext e0
    rw [eR]
    exact (congrArg _ ey).trans (point m c t ⟨(y 0).val, hy⟩ (i 1))
  refine (dats m 0 c).arrAt_eq_of_covers 5 _ (by decide +kernel) fun t hf y => ?_
  blk_simp
  refine hG t _ _ ?_ ?_ <;> blk_simp [idx_val t]

end Cert.Ffn
end
-- ==== Proof.FfnHost.lean ====
module
public import proofs.«01_k».proof.Proof.FfnPoint
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.Ffn
open Cert.Merge Cert.Kernel3Ideal Cert.Kernel3Ideal.Gen

/-- Row `s` of sample `b` in the joined streams. -/
abbrev joined (b : Fin 4) (s : Fin 8448) : Fin 33792 := ⟨b.val * 8448 + s.val, by omega⟩

variable (σ : Valuation τ sig (Elt Ideal))

/-- The residual stream. -/
theorem host_x (b : Fin 4) (s : Fin 8448) (j : Fin 1024) :
    (StableHlo.after (hostOps0) σ (Proc.devRef .tc main_v3) : S33792x1024.Idx → EReal) (ix2 (joined b s) j) = (σ (Proc.devRef .tc main_arg0) : S4x8448x1024.Idx → EReal) (ix3 b s j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A sample's modulation rows. -/
theorem host_ml (g : Fin 9) (b : Fin 4) (j : Fin 1024) :
    (StableHlo.after (hostOps0) σ (Proc.devRef .tc main_v2) : S9x5x1024.Idx → EReal) (ix3 g ⟨b.val, by omega⟩ j) = (σ (Proc.devRef .tc main_arg1) : S4x9x1024.Idx → EReal) (ix3 b g j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The context's modulation rows. -/
theorem host_mc (g : Fin 9) (j : Fin 1024) :
    (StableHlo.after (hostOps0) σ (Proc.devRef .tc main_v2) : S9x5x1024.Idx → EReal) (ix3 g 4 j) = (σ (Proc.devRef .tc main_arg2) : S9x1024.Idx → EReal) (ix2 g j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The norm's gain. -/
theorem host_gain (l : Fin 1024) :
    (StableHlo.after (hostOps0) σ (Proc.devRef .tc main_v4) : S1x1024.Idx → EReal) (ix2 0 l) = (σ (Proc.devRef .tc main_arg3) : S1024.Idx → EReal) (ix1 l) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The up weights. -/
theorem host_up (k : Fin 1024) (j : Fin 5632) :
    (StableHlo.after (hostOps0) σ (Proc.devRef .tc main_v5) : S1024x5632.Idx → EReal) (ix2 k j) = (σ (Proc.devRef .tc main_arg4) : S1024x5632.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The down weights. -/
theorem host_down (k : Fin 2816) (j : Fin 1024) :
    (StableHlo.after (hostOps0) σ (Proc.devRef .tc main_v6) : S2816x1024.Idx → EReal) (ix2 k j) = (σ (Proc.devRef .tc main_arg5) : S2816x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

end Cert.Ffn
end
-- ==== Proof.MergeRef.lean ====
module
public import proofs.«01_k».proof.Proof.MergeCore
public import proofs.«01_k».proof.Proof.Gen.Reference2Ideal.Read
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.Reference2Ideal.Merge
open Cert.Reference2Ideal Cert.Reference2Ideal.Gen Cert.Reference2Ideal.Read Cert.Merge

/-- A latent row's place in the joined streams. -/
abbrev lat (n : Fin 8192) : Fin 8448 := ⟨256 + n.val, by omega⟩

/-- The constant one. -/
theorem one1 : one = 1 := one_eq.trans EReal.coe_one

/-- The heads' norm. -/
theorem head1 (x2 : S4x8448x4x128.Idx → EReal) (x3 : S4x8448x4x128.Idx → EReal) (b : Fin 4) (n : Fin 8192) (h : Fin 4) (d : Fin 128) :
    (val_main_v22 (F := Ideal) x2 x3 : S4x8192x4x128.Idx → EReal) (ix4 b n h d)
      = (val_main_v4 (F := Ideal) x2 x3 : S4x8192x4x128.Idx → EReal) (ix4 b n h d) * meanInv n128 (fun l : Fin 128 => (val_main_v4 (F := Ideal) x2 x3 : S4x8192x4x128.Idx → EReal) (ix4 b n h l)) := by
  unfold val_main_v22 val_main_v21 val_main_v20 val_main_v19 val_main_v18 val_main_v17 val_main_v16 val_main_v15 val_main_v14 val_main_v13 val_main_cst val_main_cst_0 val_main_cst_1
  generalize val_main_v4 (F := Ideal) x2 x3 = y
  pointwise
  rfl

/-- The heads' norm. -/
theorem head2 (x4 : S4x8448x4x128.Idx → EReal) (x5 : S4x8448x4x128.Idx → EReal) (b : Fin 4) (n : Fin 8192) (h : Fin 4) (d : Fin 128) :
    (val_main_v38 (F := Ideal) x4 x5 : S4x8192x4x128.Idx → EReal) (ix4 b n h d)
      = (val_main_v7 (F := Ideal) x4 x5 : S4x8192x4x128.Idx → EReal) (ix4 b n h d) * meanInv n128 (fun l : Fin 128 => (val_main_v7 (F := Ideal) x4 x5 : S4x8192x4x128.Idx → EReal) (ix4 b n h l)) := by
  unfold val_main_v38 val_main_v37 val_main_v36 val_main_v35 val_main_v34 val_main_v33 val_main_v32 val_main_v31 val_main_v30 val_main_v29 val_main_cst_2 val_main_cst_3 val_main_cst_4
  generalize val_main_v7 (F := Ideal) x4 x5 = y
  pointwise
  rfl

/-- A branch's gated, normed row. -/
theorem branch1 (x2 : S4x8448x4x128.Idx → EReal) (x3 : S4x8448x4x128.Idx → EReal) (x6 : S4x8448x512.Idx → EReal) (x13 : S128.Idx → EReal) (b : Fin 4) (n : Fin 8192) (k : Fin 512) :
    (val_main_v28 (F := Ideal) x2 x3 x6 x13 : S4x8192x512.Idx → EReal) (ix3 b n k)
      = headn (fun l => x2 (ix4 b (lat n) ⟨l.val / 128, by omega⟩ ⟨l.val % 128, by omega⟩) + x3 (ix4 b (lat n) ⟨l.val / 128, by omega⟩ ⟨l.val % 128, by omega⟩)) (fun l => x13 (ix1 l)) k
        * siluR (x6 (ix3 b (lat n) k)) := by
  have e : ∀ (h : Fin 4) (d : Fin 128), (val_main_v4 (F := Ideal) x2 x3 : S4x8192x4x128.Idx → EReal) (ix4 b n h d) = x2 (ix4 b (lat n) h d) + x3 (ix4 b (lat n) h d) := by
    intro h d
    unfold val_main_v4 val_main_v3 val_main_v2
    pointwise
  have H := head1 x2 x3 b n ⟨k.val / 128, by omega⟩ ⟨k.val % 128, by omega⟩
  unfold val_main_v28 val_main_v27 val_main_v26 val_main_v25 val_main_v24 val_main_v23 val_main_call0_v5 val_main_call0_v4 val_main_call0_cst_0 val_main_call0_v3 val_main_call0_v2 val_main_call0_cst val_main_call0_v1 val_main_call0_v0 val_main_v8
  revert H
  generalize val_main_v22 (F := Ideal) x2 x3 = u
  intro H
  pointwise
  rw [H, e]
  simp only [e]
  unfold headn meanInv siluR sigR
  rw [one1]
  have e1 : ∀ l : Fin 128, (k.val / 128 * 128 + l.val) / 128 = k.val / 128 := fun l => by omega
  have e2 : ∀ l : Fin 128, (k.val / 128 * 128 + l.val) % 128 = l.val := fun l => by omega
  simp only [e1, e2]

/-- A branch's gated, normed row. -/
theorem branch2 (x4 : S4x8448x4x128.Idx → EReal) (x5 : S4x8448x4x128.Idx → EReal) (x7 : S4x8448x512.Idx → EReal) (x14 : S128.Idx → EReal) (b : Fin 4) (n : Fin 8192) (k : Fin 512) :
    (val_main_v49 (F := Ideal) x4 x5 x7 x14 : S4x8192x512.Idx → EReal) (ix3 b n k)
      = headn (fun l => x4 (ix4 b (lat n) ⟨l.val / 128, by omega⟩ ⟨l.val % 128, by omega⟩) + x5 (ix4 b (lat n) ⟨l.val / 128, by omega⟩ ⟨l.val % 128, by omega⟩)) (fun l => x14 (ix1 l)) k
        * sigR (x7 (ix3 b (lat n) k)) := by
  have e : ∀ (h : Fin 4) (d : Fin 128), (val_main_v7 (F := Ideal) x4 x5 : S4x8192x4x128.Idx → EReal) (ix4 b n h d) = x4 (ix4 b (lat n) h d) + x5 (ix4 b (lat n) h d) := by
    intro h d
    unfold val_main_v7 val_main_v6 val_main_v5
    pointwise
  have H := head2 x4 x5 b n ⟨k.val / 128, by omega⟩ ⟨k.val % 128, by omega⟩
  unfold val_main_v49 val_main_v48 val_main_v47 val_main_v46 val_main_v45 val_main_v44 val_main_v43 val_main_v42 val_main_v41 val_main_v40 val_main_v39 val_main_cst_5 val_main_cst_6 val_main_v9
  revert H
  generalize val_main_v38 (F := Ideal) x4 x5 = u
  intro H
  pointwise
  rw [H, e]
  simp only [e]
  unfold headn meanInv sigR
  rw [one1]
  have e1 : ∀ l : Fin 128, (k.val / 128 * 128 + l.val) / 128 = k.val / 128 := fun l => by omega
  have e2 : ∀ l : Fin 128, (k.val / 128 * 128 + l.val) % 128 = l.val := fun l => by omega
  simp only [e1, e2]

/-- The mixed row. -/
theorem mix_ref (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x13 : S128.Idx → EReal) (x14 : S128.Idx → EReal) (x15 : S512x1024.Idx → EReal) (x16 : S512x1024.Idx → EReal) (x17 : S512x1024.Idx → EReal) (b : Fin 4) (n : Fin 8192) (j : Fin 1024) :
    (val_main_v57 (F := Ideal) x1 x2 x3 x4 x5 x6 x7 x8 x9 x10 x13 x14 x15 x16 x17 : S4x8192x1024.Idx → EReal) (ix3 b n j)
      = mixed (fun k => x1 (ix3 b (lat n) k)) (fun k => (val_main_v28 (F := Ideal) x2 x3 x6 x13 : S4x8192x512.Idx → EReal) (ix3 b n k)) (fun k => (val_main_v49 (F := Ideal) x4 x5 x7 x14 : S4x8192x512.Idx → EReal) (ix3 b n k))
        (fun k j => x15 (ix2 k j)) (fun k j => x16 (ix2 k j)) (fun k j => x17 (ix2 k j)) (fun j => x8 (ix3 b (lat n) j)) (fun j => x9 (ix3 b (lat n) j)) (fun j => x10 (ix3 b (lat n) j)) j := by
  unfold val_main_v57 val_main_v56 val_main_v55 val_main_v54 val_main_v53 val_main_v52 val_main_v51 val_main_v50 val_main_v12 val_main_v11 val_main_v10 val_main_v1
  generalize val_main_v28 (F := Ideal) x2 x3 x6 x13 = y
  generalize val_main_v49 (F := Ideal) x4 x5 x7 x14 = z
  pointwise [mixed]

/-- The residual row. -/
theorem res_ref (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (b : Fin 4) (n : Fin 8192) (j : Fin 1024) :
    (val_main_v64 (F := Ideal) x0 x1 x2 x3 x4 x5 x6 x7 x8 x9 x10 x11 x13 x14 x15 x16 x17 x18 : S4x8192x1024.Idx → EReal) (ix3 b n j)
      = resid (fun j => x0 (ix3 b (lat n) j)) (fun j => x11 (ix3 b 5 j)) (fun j => (val_main_v57 (F := Ideal) x1 x2 x3 x4 x5 x6 x7 x8 x9 x10 x13 x14 x15 x16 x17 : S4x8192x1024.Idx → EReal) (ix3 b n j)) (fun k j => x18 (ix2 k j)) j := by
  unfold val_main_v64 val_main_v63 val_main_v62 val_main_v61 val_main_v60 val_main_v59 val_main_v58 val_main_v0
  generalize val_main_v57 (F := Ideal) x1 x2 x3 x4 x5 x6 x7 x8 x9 x10 x13 x14 x15 x16 x17 = y
  pointwise [resid]

/-- The modulated norm's row. -/
theorem norm_ref (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (b : Fin 4) (n : Fin 8192) (j : Fin 1024) :
    (val_main_v91 (F := Ideal) x0 x1 x2 x3 x4 x5 x6 x7 x8 x9 x10 x11 x13 x14 x15 x16 x17 x18 x19 : S4x8192x1024.Idx → EReal) (ix3 b n j)
      = hrow (fun j => (val_main_v64 (F := Ideal) x0 x1 x2 x3 x4 x5 x6 x7 x8 x9 x10 x11 x13 x14 x15 x16 x17 x18 : S4x8192x1024.Idx → EReal) (ix3 b n j)) (fun j => x19 (ix1 j)) (fun j => x11 (ix3 b 7 j)) (fun j => x11 (ix3 b 6 j)) j := by
  unfold val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_cst_8 val_main_cst_9 val_main_cst_10 val_main_cst_11 val_main_v0
  generalize val_main_v64 (F := Ideal) x0 x1 x2 x3 x4 x5 x6 x7 x8 x9 x10 x11 x13 x14 x15 x16 x17 x18 = y
  pointwise
  unfold hrow
  rw [one1]
  exact congrArg (· + _) (mul_assoc _ _ _)

/-- The feed-forward's row. -/
theorem ffn_ref (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (x21 : S2816x1024.Idx → EReal) (b : Fin 4) (n : Fin 8192) (j : Fin 1024) :
    (val_main_v100 (F := Ideal) x0 x1 x2 x3 x4 x5 x6 x7 x8 x9 x10 x11 x13 x14 x15 x16 x17 x18 x19 x20 x21 : S4x8192x1024.Idx → EReal) (ix3 b n j)
      = outRow siluR (fun j => (val_main_v64 (F := Ideal) x0 x1 x2 x3 x4 x5 x6 x7 x8 x9 x10 x11 x13 x14 x15 x16 x17 x18 : S4x8192x1024.Idx → EReal) (ix3 b n j)) (fun j => x11 (ix3 b 8 j))
        (fun j => (val_main_v91 (F := Ideal) x0 x1 x2 x3 x4 x5 x6 x7 x8 x9 x10 x11 x13 x14 x15 x16 x17 x18 x19 : S4x8192x1024.Idx → EReal) (ix3 b n j)) (fun k f => x20 (ix2 k f)) (fun f j => x21 (ix2 f j)) j := by
  unfold val_main_v100 val_main_v99 val_main_v98 val_main_v97 val_main_v96 val_main_v95 val_main_call1_v5 val_main_call1_v4 val_main_call1_cst_0 val_main_call1_v3 val_main_call1_v2 val_main_call1_cst val_main_call1_v1 val_main_call1_v0 val_main_v94 val_main_v93 val_main_v92 val_main_v68 val_main_v67 val_main_cst_7 val_main_v66 val_main_v65 val_main_v0
  generalize val_main_v64 (F := Ideal) x0 x1 x2 x3 x4 x5 x6 x7 x8 x9 x10 x11 x13 x14 x15 x16 x17 x18 = y
  generalize val_main_v91 (F := Ideal) x0 x1 x2 x3 x4 x5 x6 x7 x8 x9 x10 x11 x13 x14 x15 x16 x17 x18 x19 = h
  pointwise
  unfold outRow siluR sigR argA argB
  rw [one1]

/-- The result's rows. -/
theorem out_ref (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (x21 : S2816x1024.Idx → EReal) (i : S32768x1024.Idx) (b : Fin 4) (n : Fin 8192) (hb : b.val = (i 0).val / 8192) (hn : n.val = (i 0).val % 8192) :
    (val_main_v101 (F := Ideal) x0 x1 x2 x3 x4 x5 x6 x7 x8 x9 x10 x11 x13 x14 x15 x16 x17 x18 x19 x20 x21 : S32768x1024.Idx → EReal) i = (val_main_v100 (F := Ideal) x0 x1 x2 x3 x4 x5 x6 x7 x8 x9 x10 x11 x13 x14 x15 x16 x17 x18 x19 x20 x21 : S4x8192x1024.Idx → EReal) (ix3 b n (i 1)) := by
  obtain ⟨r, j, rfl⟩ : ∃ (r : Fin 32768) (j : Fin 1024), i = ix2 r j := ⟨i 0, i 1, by blk_ext⟩
  unfold val_main_v101
  generalize val_main_v100 (F := Ideal) x0 x1 x2 x3 x4 x5 x6 x7 x8 x9 x10 x11 x13 x14 x15 x16 x17 x18 x19 x20 x21 = y
  pointwise
  have eb : (⟨r.val / 8192, by omega⟩ : Fin 4) = b := Fin.ext hb.symm
  have en : (⟨r.val % 8192, by omega⟩ : Fin 8192) = n := Fin.ext hn.symm
  rw [eb, en]

end Cert.Reference2Ideal.Merge
end
-- ==== Proof.MergePre.lean ====
module
public import proofs.«01_k».proof.Defs
public import proofs.«01_k».proof.Proof.MergeRef
@[expose] public section
set_option maxRecDepth 16384
noncomputable section
open Idealize.ShloMosaic Idealize.ShloMosaic.TcCoe Idealize.SL.Sem

namespace Cert.Merge
open Cert.Reference2Ideal Cert.Reference2Ideal.Gen Cert.Reference2Ideal.Read Cert.Reference2Ideal.Merge

theorem minus_inf_word : Ideal.ofBits .f32 0xFF800000#32 = ⊥ := by simp [Ideal.ofBits, Ideal.ieee]

/-- A number above minus infinity is not minus infinity. -/
theorem above_of_word (a : EReal) (h : Ideal.cmp .ogt a (Ideal.ofBits .f32 0xFF800000#32) = 1#1) : a ≠ ⊥ := by
  rw [minus_inf_word] at h
  rintro rfl
  simp [Ideal.cmp] at h

/-- The precondition's test of one array, all ones, puts every entry above minus infinity. -/
theorem above_of {s : Shape} (x : FVec Ideal s .f32) {u : Shape} (dims : Fin u.rank → Fin s.rank) (hb : u.BroadcastsInDim s dims)
    (h : cmpf .ogt x (broadcastInDim s dims hb (constant (F := Ideal) u .f32 0xFF800000#32)) = fun _ => 1#1) (i : s.Idx) : x i ≠ ⊥ :=
  above_of_word (x i) (congrFun h i)

/-- The precondition's program states its shape relations; they hold. -/
theorem pre_facts : Cert.Pre_above_minus_inf.Facts where
  shapeCasts_S4x9x1024_S4x9x1x1024 := by decide
  slices_S4x8448x512_S4x8192x512_0_256_0 := by decide
  slices_S4x8448x4x128_S4x8192x4x128_0_256_0_0 := by decide
  slices_S4x8448x1024_S4x8192x1024_0_256_0 := by decide
  reducesTo_S4x8192x4x128_S4x8192x4_d3 := by decide
  h_S_ := by decide
  bcast_S4x8192x4_S4x8192x4x1_0_1_2 := by decide
  bcast_S_S4x8192x4x1 := by decide
  bcast_S4x8192x4x1_S4x8192x4x128_0_1_2_3 := by decide
  bcast_S128_S1x1x1x128_3 := by decide
  bcast_S1x1x1x128_S4x8192x4x128_0_1_2_3 := by decide
  shapeCasts_S4x8192x4x128_S4x8192x512 := by decide
  bcast_S_S4x8192x512 := by decide
  slices_S4x9x1x1024_S4x1x1x1024_0_5_0_0 := by decide
  shapeCasts_S4x1x1x1024_S4x1x1024 := by decide
  bcast_S4x1x1024_S4x8192x1024_0_1_2 := by decide
  reducesTo_S4x8192x1024_S4x8192_d2 := by decide
  bcast_S4x8192_S4x8192x1_0_1 := by decide
  bcast_S_S4x8192x1 := by decide
  bcast_S4x8192x1_S4x8192x1024_0_1_2 := by decide
  bcast_S1024_S1x1x1024_2 := by decide
  bcast_S1x1x1024_S4x8192x1024_0_1_2 := by decide
  slices_S4x9x1x1024_S4x1x1x1024_0_7_0_0 := by decide
  bcast_S_S4x1x1024 := by decide
  slices_S4x9x1x1024_S4x1x1x1024_0_6_0_0 := by decide
  slices_S4x8192x5632_S4x8192x2816_0_0_0 := by decide
  slices_S4x8192x5632_S4x8192x2816_0_0_2816 := by decide
  bcast_S_S4x8192x2816 := by decide
  dot_S4x8192x512_S512x1024_S4x8192x1024_2_0_01_1_n_n_wf := by decide
  dot_S4x8192x1024_S1024x1024_S4x8192x1024_2_0_01_1_n_n_wf := by decide
  dot_S4x8192x1024_S1024x5632_S4x8192x5632_2_0_01_1_n_n_wf := by decide

variable [hP : Cert.Pre_above_minus_inf.Facts]

set_option maxHeartbeats 4000000 in
/-- The precondition's first test is of the first branch's gate on the latent rows. -/
theorem pre_fst (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x12 : FVec Ideal Cert.Pre_above_minus_inf.S9x1024 .f32) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (x21 : S2816x1024.Idx → EReal) :
    (Cert.Pre_above_minus_inf.fn (F := Ideal) x0 x1 x2 x3 x4 x5 x6 x7 x8 x9 x10 x11 x12 x13 x14 x15 x16 x17 x18 x19 x20 x21).1 = cmpf .ogt (val_main_v8 (F := Ideal) x6 : FVec Ideal S4x8192x512 .f32) (broadcastInDim S4x8192x512 ![] hP.bcast_S_S4x8192x512 (constant (F := Ideal) S_ .f32 0xFF800000#32)) := rfl

set_option maxHeartbeats 4000000 in
/-- The precondition's second test is of the feed-forward's silu arguments. -/
theorem pre_snd (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x12 : FVec Ideal Cert.Pre_above_minus_inf.S9x1024 .f32) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (x21 : S2816x1024.Idx → EReal) :
    (Cert.Pre_above_minus_inf.fn (F := Ideal) x0 x1 x2 x3 x4 x5 x6 x7 x8 x9 x10 x11 x12 x13 x14 x15 x16 x17 x18 x19 x20 x21).2 = cmpf .ogt (val_main_v93 (F := Ideal) x0 x1 x2 x3 x4 x5 x6 x7 x8 x9 x10 x11 x13 x14 x15 x16 x17 x18 x19 x20 : FVec Ideal S4x8192x2816 .f32) (broadcastInDim S4x8192x2816 ![] hP.bcast_S_S4x8192x2816 (constant (F := Ideal) S_ .f32 0xFF800000#32)) := rfl

omit hP in
/-- A silu argument of the feed-forward. -/
theorem arg_ref (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (b : Fin 4) (n : Fin 8192) (f : Fin 2816) :
    (val_main_v93 (F := Ideal) x0 x1 x2 x3 x4 x5 x6 x7 x8 x9 x10 x11 x13 x14 x15 x16 x17 x18 x19 x20 : S4x8192x2816.Idx → EReal) (ix3 b n f)
      = argA (fun k => (val_main_v91 (F := Ideal) x0 x1 x2 x3 x4 x5 x6 x7 x8 x9 x10 x11 x13 x14 x15 x16 x17 x18 x19 : S4x8192x1024.Idx → EReal) (ix3 b n k)) (fun k f => x20 (ix2 k f)) f := by
  unfold val_main_v93 val_main_v92
  generalize val_main_v91 (F := Ideal) x0 x1 x2 x3 x4 x5 x6 x7 x8 x9 x10 x11 x13 x14 x15 x16 x17 x18 x19 = h
  pointwise [argA]

omit hP in
/-- A gate of the first branch. -/
theorem gate_ref (x6 : S4x8448x512.Idx → EReal) (b : Fin 4) (n : Fin 8192) (k : Fin 512) :
    (val_main_v8 (F := Ideal) x6 : S4x8192x512.Idx → EReal) (ix3 b n k) = x6 (ix3 b (lat n) k) := by
  unfold val_main_v8
  pointwise

end Cert.Merge
end
-- ==== Proof.FfnRef.lean ====
module
public import proofs.«01_k».proof.Proof.MergeCore
public import proofs.«01_k».proof.Proof.Gen.Reference3Ideal.Read
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.Reference3Ideal.Ffn
open Cert.Reference3Ideal Cert.Reference3Ideal.Gen Cert.Reference3Ideal.Read Cert.Merge

/-- A latent row's place in the joined streams. -/
abbrev lat (n : Fin 8192) : Fin 8448 := ⟨256 + n.val, by omega⟩

/-- A context row's place in the joined streams. -/
abbrev ctx (n : Fin 256) : Fin 8448 := ⟨n.val, by omega⟩

/-- The constant one. -/
theorem one1 : one = 1 := one_eq.trans EReal.coe_one

section
variable (x0 : S4x8448x1024.Idx → EReal) (x1 : S4x9x1024.Idx → EReal) (x2 : S9x1024.Idx → EReal) (x3 : S1024.Idx → EReal) (x4 : S1024x5632.Idx → EReal) (x5 : S2816x1024.Idx → EReal)

/-- The modulated norm's latent row. -/
theorem norm_lat (b : Fin 4) (n : Fin 8192) (j : Fin 1024) :
    (val_main_v30 (F := Ideal) x0 x1 x3 : S4x8192x1024.Idx → EReal) (ix3 b n j)
      = hrow (fun j => x0 (ix3 b (lat n) j)) (fun j => x3 (ix1 j)) (fun j => x1 (ix3 b 1 j)) (fun j => x1 (ix3 b 0 j)) j := by
  unfold val_main_v30 val_main_v29 val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst_0 val_main_cst_1 val_main_cst_2 val_main_cst_3 val_main_v2 val_main_v1
  pointwise
  unfold hrow meanInv
  rw [one1]
  exact congrArg (· + _) (mul_assoc _ _ _)

/-- The modulated norm's context row. -/
theorem norm_ctx (b : Fin 4) (n : Fin 256) (j : Fin 1024) :
    (val_main_v68 (F := Ideal) x0 x2 x3 : S4x256x1024.Idx → EReal) (ix3 b n j)
      = hrow (fun j => x0 (ix3 b (ctx n) j)) (fun j => x3 (ix1 j)) (fun j => x2 (ix2 1 j)) (fun j => x2 (ix2 0 j)) j := by
  unfold val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_cst_5 val_main_cst_6 val_main_cst_7 val_main_cst_8 val_main_v3 val_main_v0
  pointwise
  unfold hrow meanInv
  rw [one1]
  exact congrArg (· + _) (mul_assoc _ _ _)

/-- The feed-forward's latent row. -/
theorem ffn_lat (b : Fin 4) (n : Fin 8192) (j : Fin 1024) :
    (val_main_v39 (F := Ideal) x0 x1 x3 x4 x5 : S4x8192x1024.Idx → EReal) (ix3 b n j)
      = outRow siluR (fun j => x0 (ix3 b (lat n) j)) (fun j => x1 (ix3 b 2 j))
        (fun j => (val_main_v30 (F := Ideal) x0 x1 x3 : S4x8192x1024.Idx → EReal) (ix3 b n j)) (fun k f => x4 (ix2 k f)) (fun f j => x5 (ix2 f j)) j := by
  unfold val_main_v39 val_main_v38 val_main_v37 val_main_v36 val_main_v35 val_main_v34 val_main_call0_v5 val_main_call0_v4 val_main_call0_cst_0 val_main_call0_v3 val_main_call0_v2 val_main_call0_cst val_main_call0_v1 val_main_call0_v0 val_main_v33 val_main_v32 val_main_v31 val_main_v7 val_main_v6 val_main_cst val_main_v5 val_main_v4 val_main_v2 val_main_v1
  generalize val_main_v30 (F := Ideal) x0 x1 x3 = h
  pointwise
  unfold outRow siluR sigR argA argB
  rw [one1]

/-- The feed-forward's context row. -/
theorem ffn_ctx (b : Fin 4) (n : Fin 256) (j : Fin 1024) :
    (val_main_v78 (F := Ideal) x0 x2 x3 x4 x5 : S4x256x1024.Idx → EReal) (ix3 b n j)
      = outRow siluR (fun j => x0 (ix3 b (ctx n) j)) (fun j => x2 (ix2 2 j))
        (fun j => (val_main_v68 (F := Ideal) x0 x2 x3 : S4x256x1024.Idx → EReal) (ix3 b n j)) (fun k f => x4 (ix2 k f)) (fun f j => x5 (ix2 f j)) j := by
  unfold val_main_v78 val_main_v77 val_main_v76 val_main_v75 val_main_v74 val_main_v73 val_main_v72 val_main_call1_v5 val_main_call1_v4 val_main_call1_cst_0 val_main_call1_v3 val_main_call1_v2 val_main_call1_cst val_main_call1_v1 val_main_call1_v0 val_main_v71 val_main_v70 val_main_v69 val_main_v43 val_main_v42 val_main_cst_4 val_main_v41 val_main_v40 val_main_v3 val_main_v0
  generalize val_main_v68 (F := Ideal) x0 x2 x3 = h
  pointwise
  unfold outRow siluR sigR argA argB
  rw [one1]

/-- A silu argument of a latent row. -/
theorem arg_lat (b : Fin 4) (n : Fin 8192) (f : Fin 2816) :
    (val_main_v32 (F := Ideal) x0 x1 x3 x4 : S4x8192x2816.Idx → EReal) (ix3 b n f)
      = argA (fun k => (val_main_v30 (F := Ideal) x0 x1 x3 : S4x8192x1024.Idx → EReal) (ix3 b n k)) (fun k f => x4 (ix2 k f)) f := by
  unfold val_main_v32 val_main_v31
  generalize val_main_v30 (F := Ideal) x0 x1 x3 = h
  pointwise [argA]

/-- A silu argument of a context row. -/
theorem arg_ctx (b : Fin 4) (n : Fin 256) (f : Fin 2816) :
    (val_main_v70 (F := Ideal) x0 x2 x3 x4 : S4x256x2816.Idx → EReal) (ix3 b n f)
      = argA (fun k => (val_main_v68 (F := Ideal) x0 x2 x3 : S4x256x1024.Idx → EReal) (ix3 b n k)) (fun k f => x4 (ix2 k f)) f := by
  unfold val_main_v70 val_main_v69
  generalize val_main_v68 (F := Ideal) x0 x2 x3 = h
  pointwise [argA]

/-- The joined result's context rows. -/
theorem out_ctx (r : Fin 33792) (j : Fin 1024) (b : Fin 4) (n : Fin 256) (hr : r.val = b.val * 8448 + n.val) :
    (val_main_v80 (F := Ideal) x0 x1 x2 x3 x4 x5 : S33792x1024.Idx → EReal) (ix2 r j) = (val_main_v78 (F := Ideal) x0 x2 x3 x4 x5 : S4x256x1024.Idx → EReal) (ix3 b n j) := by
  unfold val_main_v80 val_main_v79
  generalize val_main_v78 (F := Ideal) x0 x2 x3 x4 x5 = y
  generalize val_main_v39 (F := Ideal) x0 x1 x3 x4 x5 = z
  pointwise
  rw [dif_pos (by omega)]
  refine congrArg y ?_
  have eb : (⟨r.val / 8448, by omega⟩ : Fin 4) = b := Fin.ext (by show r.val / 8448 = b.val; omega)
  have en : (⟨r.val % 8448, by omega⟩ : Fin 256) = n := Fin.ext (by show r.val % 8448 = n.val; omega)
  rw [eb, en]

/-- The joined result's latent rows. -/
theorem out_lat (r : Fin 33792) (j : Fin 1024) (b : Fin 4) (n : Fin 8192) (hr : r.val = b.val * 8448 + (256 + n.val)) :
    (val_main_v80 (F := Ideal) x0 x1 x2 x3 x4 x5 : S33792x1024.Idx → EReal) (ix2 r j) = (val_main_v39 (F := Ideal) x0 x1 x3 x4 x5 : S4x8192x1024.Idx → EReal) (ix3 b n j) := by
  unfold val_main_v80 val_main_v79
  generalize val_main_v78 (F := Ideal) x0 x2 x3 x4 x5 = y
  generalize val_main_v39 (F := Ideal) x0 x1 x3 x4 x5 = z
  pointwise
  rw [dif_neg (by omega)]
  refine congrArg z ?_
  have eb : (⟨r.val / 8448, by omega⟩ : Fin 4) = b := Fin.ext (by show r.val / 8448 = b.val; omega)
  have en : (⟨r.val % 8448 - 256, by omega⟩ : Fin 8192) = n := Fin.ext (by show r.val % 8448 - 256 = n.val; omega)
  rw [eb, en]

end

end Cert.Reference3Ideal.Ffn
end
-- ==== Proof.FfnPre.lean ====
module
public import proofs.«01_k».proof.Defs
public import proofs.«01_k».proof.Proof.MergePre
public import proofs.«01_k».proof.Proof.FfnRef
@[expose] public section
set_option maxRecDepth 16384
noncomputable section
open Idealize.ShloMosaic Idealize.ShloMosaic.TcCoe Idealize.SL.Sem

namespace Cert.Ffn
open Cert.Reference3Ideal Cert.Reference3Ideal.Gen Cert.Reference3Ideal.Read

/-- The precondition's program states its shape relations; they hold. -/
theorem pre_facts : Cert.Pre_inner_above_minus_inf.Facts where
  slices_S4x8448x1024_S4x256x1024_0_0_0 := by decide
  slices_S4x8448x1024_S4x8192x1024_0_256_0 := by decide
  shapeCasts_S4x9x1024_S4x9x1x1024 := by decide
  shapeCasts_S9x1024_S9x1x1024 := by decide
  reducesTo_S4x8192x1024_S4x8192_d2 := by decide
  h_S_ := by decide
  bcast_S4x8192_S4x8192x1_0_1 := by decide
  bcast_S_S4x8192x1 := by decide
  bcast_S4x8192x1_S4x8192x1024_0_1_2 := by decide
  bcast_S1024_S1x1x1024_2 := by decide
  bcast_S1x1x1024_S4x8192x1024_0_1_2 := by decide
  slices_S4x9x1x1024_S4x1x1x1024_0_1_0_0 := by decide
  shapeCasts_S4x1x1x1024_S4x1x1024 := by decide
  bcast_S_S4x1x1024 := by decide
  bcast_S4x1x1024_S4x8192x1024_0_1_2 := by decide
  slices_S4x9x1x1024_S4x1x1x1024_0_0_0_0 := by decide
  slices_S4x8192x5632_S4x8192x2816_0_0_0 := by decide
  slices_S4x8192x5632_S4x8192x2816_0_0_2816 := by decide
  reducesTo_S4x256x1024_S4x256_d2 := by decide
  bcast_S4x256_S4x256x1_0_1 := by decide
  bcast_S_S4x256x1 := by decide
  bcast_S4x256x1_S4x256x1024_0_1_2 := by decide
  bcast_S1x1x1024_S4x256x1024_0_1_2 := by decide
  slices_S9x1x1024_S1x1x1024_1_0_0 := by decide
  shapeCasts_S1x1x1024_S1x1024 := by decide
  bcast_S_S1x1024 := by decide
  bcast_S1x1024_S1x1x1024_1_2 := by decide
  slices_S9x1x1024_S1x1x1024_0_0_0 := by decide
  slices_S4x256x5632_S4x256x2816_0_0_0 := by decide
  slices_S4x256x5632_S4x256x2816_0_0_2816 := by decide
  bcast_S_S4x8192x2816 := by decide
  bcast_S_S4x256x2816 := by decide
  dot_S4x8192x1024_S1024x5632_S4x8192x5632_2_0_01_1_n_n_wf := by decide
  dot_S4x256x1024_S1024x5632_S4x256x5632_2_0_01_1_n_n_wf := by decide

variable [hP : Cert.Pre_inner_above_minus_inf.Facts]

set_option maxHeartbeats 4000000 in
/-- The precondition's first test is of the latent rows' silu arguments. -/
theorem pre_fst (x0 : S4x8448x1024.Idx → EReal) (x1 : S4x9x1024.Idx → EReal) (x2 : S9x1024.Idx → EReal) (x3 : S1024.Idx → EReal) (x4 : S1024x5632.Idx → EReal) (x5 : S2816x1024.Idx → EReal) :
    (Cert.Pre_inner_above_minus_inf.fn (F := Ideal) x0 x1 x2 x3 x4 x5).1 = cmpf .ogt (val_main_v32 (F := Ideal) x0 x1 x3 x4 : FVec Ideal S4x8192x2816 .f32) (broadcastInDim S4x8192x2816 ![] hP.bcast_S_S4x8192x2816 (constant (F := Ideal) S_ .f32 0xFF800000#32)) := rfl

set_option maxHeartbeats 4000000 in
/-- The precondition's second test is of the context rows' silu arguments. -/
theorem pre_snd (x0 : S4x8448x1024.Idx → EReal) (x1 : S4x9x1024.Idx → EReal) (x2 : S9x1024.Idx → EReal) (x3 : S1024.Idx → EReal) (x4 : S1024x5632.Idx → EReal) (x5 : S2816x1024.Idx → EReal) :
    (Cert.Pre_inner_above_minus_inf.fn (F := Ideal) x0 x1 x2 x3 x4 x5).2 = cmpf .ogt (val_main_v70 (F := Ideal) x0 x2 x3 x4 : FVec Ideal S4x256x2816 .f32) (broadcastInDim S4x256x2816 ![] hP.bcast_S_S4x256x2816 (constant (F := Ideal) S_ .f32 0xFF800000#32)) := rfl

end Cert.Ffn
end
-- ==== Proof.FfnFinal.lean ====
module
public import proofs.«01_k».proof.Proof.FfnHost
public import proofs.«01_k».proof.Proof.FfnPre
@[expose] public section
set_option maxRecDepth 16384
noncomputable section
open Idealize.ShloMosaic Idealize.ShloMosaic.TcCoe Idealize.SL.Sem

namespace Cert.Ffn
open Cert.Reference3Ideal.Read Cert.Kernel3Ideal Cert.Kernel3Ideal.Gen
open Cert.Merge (siluK siluR outRow hrow outRow_eq above_of)
open Cert.Reference3Ideal.Ffn (lat ctx ffn_lat ffn_ctx arg_lat arg_ctx)

/-- The output's value from the values of the arrays it reads. -/
theorem outFn_of (X0 : S33792x1024.Idx → EReal) (X1 : S9x5x1024.Idx → EReal) (X2 : S1x1024.Idx → EReal) (X3 : S1024x5632.Idx → EReal) (X4 : S2816x1024.Idx → EReal)
    (R : Fin 33792) (e : Fin 5) (j : Fin 1024) (x gain m0 m1 m2 : Fin 1024 → EReal) (w : Fin 1024 → Fin 5632 → EReal) (v : Fin 2816 → Fin 1024 → EReal)
    (H0 : ∀ j, X0 (ix2 R j) = x j) (M0 : ∀ j, X1 (ix3 0 e j) = m0 j) (M1 : ∀ j, X1 (ix3 1 e j) = m1 j) (M2 : ∀ j, X1 (ix3 2 e j) = m2 j)
    (GA : ∀ j, X2 (ix2 0 j) = gain j) (WW : ∀ k f, X3 (ix2 k f) = w k f) (VV : ∀ f j, X4 (ix2 f j) = v f j) :
    outFn X0 X1 X2 X3 X4 R e j = ffnRow siluK x gain m0 m1 m2 w v j := by
  unfold outFn
  simp only [H0, M0, M1, M2, GA, WW, VV]

section
variable (x0 : S4x8448x1024.Idx → EReal) (x1 : S4x9x1024.Idx → EReal) (x2 : S9x1024.Idx → EReal) (x3 : S1024.Idx → EReal) (x4 : S1024x5632.Idx → EReal) (x5 : S2816x1024.Idx → EReal)

/-- A latent row: the kernel's value is the reference's. -/
theorem value_lat (b : Fin 4) (n : Fin 8192) (j : Fin 1024) (ha : ∀ f, (val_main_v32 (F := Ideal) x0 x1 x3 x4 : Cert.Reference3Ideal.S4x8192x2816.Idx → EReal) (ix3 b n f) ≠ ⊥) :
    ffnRow siluK (fun j => x0 (ix3 b (lat n) j)) (fun j => x3 (ix1 j)) (fun j => x1 (ix3 b 0 j)) (fun j => x1 (ix3 b 1 j)) (fun j => x1 (ix3 b 2 j))
      (fun k f => x4 (ix2 k f)) (fun f j => x5 (ix2 f j)) j
      = (val_main_v39 (F := Ideal) x0 x1 x3 x4 x5 : Cert.Reference3Ideal.S4x8192x1024.Idx → EReal) (ix3 b n j) := by
  rw [ffn_lat]
  unfold ffnRow
  have eh : hrow (fun j => x0 (ix3 b (lat n) j)) (fun j => x3 (ix1 j)) (fun j => x1 (ix3 b 1 j)) (fun j => x1 (ix3 b 0 j))
      = fun j => (val_main_v30 (F := Ideal) x0 x1 x3 : Cert.Reference3Ideal.S4x8192x1024.Idx → EReal) (ix3 b n j) := by
    funext j
    rw [Cert.Reference3Ideal.Ffn.norm_lat]
  rw [eh]
  refine outRow_eq _ _ _ _ _ _ fun f => ?_
  rw [← arg_lat]
  exact ha f

/-- A context row: the kernel's value is the reference's. -/
theorem value_ctx (b : Fin 4) (n : Fin 256) (j : Fin 1024) (ha : ∀ f, (val_main_v70 (F := Ideal) x0 x2 x3 x4 : Cert.Reference3Ideal.S4x256x2816.Idx → EReal) (ix3 b n f) ≠ ⊥) :
    ffnRow siluK (fun j => x0 (ix3 b (ctx n) j)) (fun j => x3 (ix1 j)) (fun j => x2 (ix2 0 j)) (fun j => x2 (ix2 1 j)) (fun j => x2 (ix2 2 j))
      (fun k f => x4 (ix2 k f)) (fun f j => x5 (ix2 f j)) j
      = (val_main_v78 (F := Ideal) x0 x2 x3 x4 x5 : Cert.Reference3Ideal.S4x256x1024.Idx → EReal) (ix3 b n j) := by
  rw [ffn_ctx]
  unfold ffnRow
  have eh : hrow (fun j => x0 (ix3 b (ctx n) j)) (fun j => x3 (ix1 j)) (fun j => x2 (ix2 1 j)) (fun j => x2 (ix2 0 j))
      = fun j => (val_main_v68 (F := Ideal) x0 x2 x3 : Cert.Reference3Ideal.S4x256x1024.Idx → EReal) (ix3 b n j) := by
    funext j
    rw [Cert.Reference3Ideal.Ffn.norm_ctx]
  rw [eh]
  refine outRow_eq _ _ _ _ _ _ fun f => ?_
  rw [← arg_ctx]
  exact ha f

end

variable (m : (ℓ : Loc nD τ sig) → Buf (Elt Ideal) ℓ) (c : Dev nD)

/-- The kernel's output array is the reference's result on the same arguments. -/
theorem result_eq [hP : Cert.Pre_inner_above_minus_inf.Facts] (h : Cert.Pre_Kernel3Ideal_inner_above_minus_inf m) :
    (dats m 0 c).arrAt 5 cfg0.N = (val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) : Cert.Reference3Ideal.S33792x1024.Idx → EReal) := by
  obtain ⟨p0, p1⟩ := h c
  have q0 := above_of _ _ _ ((pre_fst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm.trans p0)
  have q1 := above_of _ _ _ ((pre_snd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))).symm.trans p1)
  rw [final]
  funext i
  obtain ⟨r, j, rfl⟩ : ∃ (r : Fin 33792) (j : Fin 1024), i = ix2 r j := ⟨i 0, i 1, funext fun a => by match a with | ⟨0, _⟩ => rfl | ⟨1, _⟩ => rfl⟩
  obtain ⟨b, hb⟩ : ∃ b : Fin 4, b.val = r.val / 8448 := ⟨⟨r.val / 8448, by omega⟩, rfl⟩
  show outFn (V m c main_v3) _ _ _ _ r (modOf r) j = _
  by_cases hs : r.val % 8448 < 256
  · obtain ⟨n, hn⟩ : ∃ n : Fin 256, n.val = r.val % 8448 := ⟨⟨r.val % 8448, hs⟩, rfl⟩
    have eR : r = joined b (ctx n) := Fin.ext (by show r.val = b.val * 8448 + n.val; omega)
    have eM : modOf r = 4 := by
      unfold modOf
      rw [if_pos hs]
    refine Eq.trans ?_ (Cert.Reference3Ideal.Ffn.out_ctx _ _ _ _ _ _ r j b n (by omega)).symm
    refine Eq.trans ?_ (value_ctx _ _ _ _ _ b n j (fun f => q1 (ix3 b n f)))
    rw [eM]
    subst eR
    exact outFn_of _ _ _ _ _ _ _ _ _ _ _ _ _ _ _ (host_x _ b (ctx n)) (host_mc _ 0) (host_mc _ 1) (host_mc _ 2) (host_gain _) (host_up _) (host_down _)
  · obtain ⟨n, hn⟩ : ∃ n : Fin 8192, 256 + n.val = r.val % 8448 := ⟨⟨r.val % 8448 - 256, by omega⟩, by show 256 + (r.val % 8448 - 256) = _; omega⟩
    have eR : r = joined b (lat n) := Fin.ext (by show r.val = b.val * 8448 + (256 + n.val); omega)
    have eM : modOf r = ⟨b.val, by omega⟩ := by
      unfold modOf
      rw [if_neg hs]
      exact Fin.ext hb.symm
    refine Eq.trans ?_ (Cert.Reference3Ideal.Ffn.out_lat _ _ _ _ _ _ r j b n (by omega)).symm
    refine Eq.trans ?_ (value_lat _ _ _ _ _ b n j (fun f => q0 (ix3 b n f)))
    rw [eM]
    subst eR
    exact outFn_of _ _ _ _ _ _ _ _ _ _ _ _ _ _ _ (host_x _ b (lat n)) (host_ml _ 0 b) (host_ml _ 1 b) (host_ml _ 2 b) (host_gain _) (host_up _) (host_down _)

end Cert.Ffn
end
-- ==== Proof.FfnSepBits.lean ====
module

public import proofs.«01_k».proof.Defs
public import proofs.«01_k».proof.Proof.Gen.Kernel4
public import proofs.«01_k».proof.Proof.Gen.Kernel4Ideal.Frame

/-! The first feed-forward call on separate streams as the machine runs it: it is the same program as the ideal one, read at bit patterns, so its frame is
an instance of the run proved once for any floats. -/

@[expose] public section

set_option maxRecDepth 65536
set_option maxHeartbeats 4000000

noncomputable section

open Idealize.ShloMosaic Idealize.SL.Sem

namespace Cert.FfnSep

attribute [local instance] Cert.Kernel4.Gen.facts Cert.Kernel4Ideal.Gen.facts

/-- The two programs' tables of bodies are one table. -/
theorem bodies_eq : Cert.Kernel4.defs₀ (F := Bits) = Cert.Kernel4Ideal.defs₀ (F := Bits) := by
  unfold Cert.Kernel4.defs₀ Cert.Kernel4Ideal.defs₀
  refine congrArg Defs.onTc ?_
  funext l
  match l with
  | 0 =>
    funext ts
    obtain ⟨t, s⟩ := ts
    rfl

/-- So are their tables with the pipelines added. -/
theorem defs_eq : Cert.Kernel4.defs (F := Bits) = Cert.Kernel4Ideal.defs (F := Bits) :=
  congrArg (Pipeline.defs (Cert.Kernel4.pcfgs (F := Bits))) bodies_eq

/-- The first feed-forward call on separate streams at bit patterns ends, leaves its arguments as they were and its semaphores at zero. -/
theorem frame4 : Cert.quiescent_Kernel4 (hKernel4 := Cert.Kernel4.Gen.facts) := fun m ρ _ => by
  rw [defs_eq]
  exact (θ_run Cert.Kernel4Ideal.defs _ _).mono (fun _ h => h) (Cert.Kernel4Ideal.Gen.frame (F := Bits) m ρ)

end Cert.FfnSep

end
-- ==== Proof.FfnSepBlock.lean ====
module
public import proofs.«01_k».proof.Proof.Gen.Kernel4Ideal.Skeleton
public import proofs.«01_k».proof.Proof.FfnPoint
@[expose] public section
set_option maxRecDepth 16384
noncomputable section
open Idealize.ShloMosaic Idealize.ShloMosaic.TcCoe Idealize.SL.Sem
open Idealize.ShloMosaic.Pipeline (Dat)

namespace Cert.FfnSep
open Cert.Merge Cert.Kernel4Ideal Cert.Kernel4Ideal.Gen
open Cert.Ffn (row_pick ffnRow sum11)

/-- The kernel's test of the first tile. -/
theorem first_pick (n : ℕ) (hn : n < 11) (x y : EReal) :
    Scalar.select (IntOp.cmpi .eq (IntOp.addi (0#32) (BitVec.ofNat 32 n)) 0#32) x y = if n = 0 then x else y := by
  have e : IntOp.addi (0#32) (BitVec.ofNat 32 n) = BitVec.ofNat 32 n := by
    simp [IntOp.addi]
  rw [e]
  interval_cases n <;> rfl

/-- A tile's rows: in a sample's first tile the context and the first latent rows, in the others latent rows. -/
theorem pick_at (i : grid0.Coords) (c : Vec Ideal S256x1024 .f32) (h : Vec Ideal S512x1024 .f32) (b : Vec Ideal S768x1024 .f32) (r : Fin 768) (j : Fin 1024) :
    k0_pay2 (F := Ideal) i c h b (ix2 r j)
      = if (i 1).val = 0 then (if hr : r.val < 256 then c (ix2 ⟨r.val, hr⟩ j) else h (ix2 ⟨r.val - 256, by omega⟩ j)) else b (ix2 r j) := by
  pointwise [k0_pay2]
  exact first_pick (i 1).val (i 1).isLt _ _

/-- The modulated norm of a tile that holds both kinds of rows. -/
theorem norm_both (i : grid0.Coords) (x : FVec Ideal S768x1024 .f32) (g : Vec Ideal S1x1024 .f32) (sl sc cl cc : Vec Ideal S1x1x1024 .f32) (r : Fin 768) (j : Fin 1024) :
    k0_pay6 (F := Ideal) (k0_pay1 x (k0_pay3 i) (k0_pay4 g) sl sc cl cc) (ix2 r j)
      = hrow (fun j => x (ix2 r j)) (fun j => g (ix2 0 j)) (fun j => if (i 1).val * 768 + r.val < 256 then cc (ix3 0 0 j) else cl (ix3 0 0 j))
        (fun j => if (i 1).val * 768 + r.val < 256 then sc (ix3 0 0 j) else sl (ix3 0 0 j)) j := by
  unfold hrow meanInv
  pointwise [k0_pay6, k0_pay1, k0_pay3, k0_pay4]
  rw [mul_assoc]
  exact congrArg₂ (· + ·) (congrArg (_ * ·) (congrArg (_ * ·) (congrArg (_ + ·) (row_pick (i 1).val r.val (i 1).isLt r.isLt _ _))))
    (row_pick (i 1).val r.val (i 1).isLt r.isLt _ _)

/-- The modulated norm of a tile of latent rows. -/
theorem norm_lat (i : grid0.Coords) (c : Vec Ideal S256x1024 .f32) (h : Vec Ideal S512x1024 .f32) (b : Vec Ideal S768x1024 .f32) (g : Vec Ideal S1x1024 .f32) (s sc : Vec Ideal S1x1x1024 .f32) (r : Fin 768) (j : Fin 1024) :
    k0_pay5 (F := Ideal) i c h b g s sc (ix2 r j)
      = hrow (fun j => k0_pay2 (F := Ideal) i c h b (ix2 r j)) (fun j => g (ix2 0 j)) (fun j => sc (ix3 0 0 j)) (fun j => s (ix3 0 0 j)) j := by
  unfold hrow meanInv k0_pay5
  generalize k0_pay2 (F := Ideal) i c h b = x
  pointwise [k0_pay4]

/-- The gate row of a tile's row. -/
theorem gate_pick (i : grid0.Coords) (l c : Vec Ideal S1x1x1024 .f32) (r : Fin 768) (j : Fin 1024) :
    k0_pay9 (F := Ideal) (k0_pay7 i) (k0_pay8 l) c (ix2 r j) = if (i 1).val * 768 + r.val < 256 then c (ix3 0 0 j) else l (ix3 0 0 j) := by
  pointwise [k0_pay9, k0_pay7, k0_pay8, k0_pay3]
  exact row_pick (i 1).val r.val (i 1).isLt r.isLt _ _

/-- One chunk of the feed-forward: its hidden lanes' products with the down weights. -/
def chunkT (h : FVec Ideal S768x1024 .bf16) (a b : Vec Ideal S1024x256 .bf16) (v : Vec Ideal S256x1024 .bf16) : FVec Ideal S768x1024 .f32 :=
  k0_pay10 (F := Ideal) h a h b v

theorem chunkT_at (h : FVec Ideal S768x1024 .bf16) (a b : Vec Ideal S1024x256 .bf16) (v : Vec Ideal S256x1024 .bf16) (r : Fin 768) (j : Fin 1024) :
    chunkT h a b v (ix2 r j) = ∑ f : Fin 256, siluK (∑ k, h (ix2 r k) * a (ix2 k f)) * (∑ k, h (ix2 r k) * b (ix2 k f)) * v (ix2 f j) := by
  unfold siluK
  pointwise [chunkT, k0_pay10]

theorem out_at (x : FVec Ideal S768x1024 .f32) (g : FVec Ideal S768x1024 .f32) (acc : Vec Ideal S768x1024 .f32) (r : Fin 768) (j : Fin 1024) :
    k0_pay29 (F := Ideal) x g acc (ix2 r j) = x (ix2 r j) + half * g (ix2 r j) * acc (ix2 r j) := by
  pointwise [k0_pay29]

/-- The next accumulator: the last one plus one chunk of the feed-forward. -/
def stepT (h : FVec Ideal S768x1024 .bf16) (a b : Vec Ideal S1024x256 .bf16) (v : Vec Ideal S256x1024 .bf16) (acc : FVec Ideal S768x1024 .f32) : FVec Ideal S768x1024 .f32 :=
  addf acc (chunkT h a b v)

section Steps
variable (h : Vec Ideal S768x1024 .bf16) (a b : Vec Ideal S1024x256 .bf16) (v : Vec Ideal S256x1024 .bf16) (acc : Vec Ideal S768x1024 .f32)
/-- Payload 12 is one such step. -/
theorem step12 : k0_pay12 (F := Ideal) (k0_pay11 h a) h b v acc = stepT h a b v acc := by
  simp only [stepT, chunkT, k0_pay10, k0_pay11, k0_pay12, shapeCast_self]
/-- Payload 15 is one such step. -/
theorem step15 : k0_pay15 (F := Ideal) (k0_pay13 h a h b) (k0_pay14 v) acc = stepT h a b v acc := by
  simp only [stepT, chunkT, k0_pay10, k0_pay13, k0_pay14, k0_pay15, shapeCast_self]
/-- Payload 16 is one such step. -/
theorem step16 : k0_pay16 (F := Ideal) h a h b v acc = stepT h a b v acc := by
  simp only [stepT, chunkT, k0_pay10, k0_pay16, shapeCast_self]
/-- Payload 17 is one such step. -/
theorem step17 : k0_pay17 (F := Ideal) h a h b v acc = stepT h a b v acc := by
  simp only [stepT, chunkT, k0_pay10, k0_pay17, shapeCast_self]
/-- Payload 20 is one such step. -/
theorem step20 : k0_pay20 (F := Ideal) (k0_pay18 h b) (k0_pay19 h a) v acc = stepT h a b v acc := by
  simp only [stepT, chunkT, k0_pay10, k0_pay18, k0_pay19, k0_pay20, shapeCast_self]
/-- Payload 21 is one such step. -/
theorem step21 : k0_pay21 (F := Ideal) h a h b v acc = stepT h a b v acc := by
  simp only [stepT, chunkT, k0_pay10, k0_pay21, shapeCast_self]
/-- Payload 22 is one such step. -/
theorem step22 : k0_pay22 (F := Ideal) h a h b v acc = stepT h a b v acc := by
  simp only [stepT, chunkT, k0_pay10, k0_pay22, shapeCast_self]
/-- Payload 25 is one such step. -/
theorem step25 : k0_pay25 (F := Ideal) (k0_pay23 h a) (k0_pay24 h b) v acc = stepT h a b v acc := by
  simp only [stepT, chunkT, k0_pay10, k0_pay23, k0_pay24, k0_pay25, shapeCast_self]
/-- Payload 27 is one such step. -/
theorem step27 : k0_pay27 (F := Ideal) (k0_pay26 h a h b v acc) = stepT h a b v acc := by
  simp only [stepT, chunkT, k0_pay10, k0_pay26, k0_pay27, shapeCast_self]
/-- Payload 28 is one such step. -/
theorem step28 : k0_pay28 (F := Ideal) h a h b v acc = stepT h a b v acc := by
  simp only [stepT, chunkT, k0_pay10, k0_pay28, shapeCast_self]
end Steps

end Cert.FfnSep
end
-- ==== Proof.FfnSepOut.lean ====
module
public import proofs.«01_k».proof.Proof.Gen.Kernel4Ideal.Value
public import proofs.«01_k».proof.Proof.FfnSepBlock
@[expose] public section
set_option maxRecDepth 16384
noncomputable section
open Idealize.ShloMosaic Idealize.ShloMosaic.TcCoe Idealize.SL.Sem
open Idealize.ShloMosaic.Pipeline (Dat)

namespace Cert.FfnSep
open Cert.Merge Cert.Kernel4Ideal Cert.Kernel4Ideal.Gen
open Cert.Ffn (row_pick ffnRow sum11)

section Point
variable (i : grid0.Coords) (x0 : Vec Ideal S256x1024 .f32) (x1 : Vec Ideal S512x1024 .f32) (x2 : Vec Ideal S768x1024 .f32) (x3 : Vec Ideal S9x5x1024 .f32) (x4 : Vec Ideal S1x1024 .f32) (x5 : Vec Ideal S1024x5632 .bf16) (x6 : Vec Ideal S2816x1024 .bf16)

/-- Window 3's row at an offset. -/
abbrev rowAt (off : Fin 3 → ℕ) (inb : ∀ a, off a + S1x1x1024.size a ≤ S9x5x1024.size a) : Vec Ideal S1x1x1024 .f32 :=
  View.ld (Val := Elt Ideal) (S := S9x5x1024) (e' := .f32) x3 (Rect.unit (s := S9x5x1024) off S1x1x1024.size inb)

/-- A chunk's columns of the up weights. -/
abbrev upAt (off : Fin 2 → ℕ) (inb : ∀ a, off a + S1024x256.size a ≤ S1024x5632.size a) : Vec Ideal S1024x256 .bf16 :=
  View.ld (Val := Elt Ideal) (S := S1024x5632) (e' := .bf16) x5 (Rect.unit (s := S1024x5632) off S1024x256.size inb)

/-- A chunk's rows of the down weights. -/
abbrev downAt (off : Fin 2 → ℕ) (inb : ∀ a, off a + S256x1024.size a ≤ S2816x1024.size a) : Vec Ideal S256x1024 .bf16 :=
  View.ld (Val := Elt Ideal) (S := S2816x1024) (e' := .bf16) x6 (Rect.unit (s := S2816x1024) off S256x1024.size inb)

/-- The modulated norm of a tile that holds both kinds of rows. -/
def bothT (H : k0_cond2 i = 1#1) : FVec Ideal S768x1024 .bf16 :=
  k0_pay6 (F := Ideal) (k0_pay1 (k0_pay2 i x0 x1 x2) (k0_pay3 i) (k0_pay4 x4) (rowAt x3 (k0_off3 i) (k0_off3_inb i H)) (rowAt x3 ![0, 4, 0] inb_S9x5x1024_S1x1x1024_0_4_0)
    (rowAt x3 (k0_off4 i) (k0_off4_inb i H)) (rowAt x3 ![1, 4, 0] inb_S9x5x1024_S1x1x1024_1_4_0))

/-- The modulated norm of a tile of latent rows. -/
def latT (H : k0_cond1 i = 1#1) : FVec Ideal S768x1024 .bf16 :=
  k0_pay5 (F := Ideal) i x0 x1 x2 x4 (rowAt x3 (k0_off1 i) (k0_off1_inb i H)) (rowAt x3 (k0_off2 i) (k0_off2_inb i H))

/-- The accumulator after the eleven chunks. -/
def accT (h : FVec Ideal S768x1024 .bf16) : FVec Ideal S768x1024 .f32 :=
  stepT h (upAt x5 ![0, 2560] inb_S1024x5632_S1024x256_0_2560) (upAt x5 ![0, 5376] inb_S1024x5632_S1024x256_0_5376) (downAt x6 ![2560, 0] inb_S2816x1024_S256x1024_2560_0)
    (stepT h (upAt x5 ![0, 2304] inb_S1024x5632_S1024x256_0_2304) (upAt x5 ![0, 5120] inb_S1024x5632_S1024x256_0_5120) (downAt x6 ![2304, 0] inb_S2816x1024_S256x1024_2304_0)
    (stepT h (upAt x5 ![0, 2048] inb_S1024x5632_S1024x256_0_2048) (upAt x5 ![0, 4864] inb_S1024x5632_S1024x256_0_4864) (downAt x6 ![2048, 0] inb_S2816x1024_S256x1024_2048_0)
    (stepT h (upAt x5 ![0, 1792] inb_S1024x5632_S1024x256_0_1792) (upAt x5 ![0, 4608] inb_S1024x5632_S1024x256_0_4608) (downAt x6 ![1792, 0] inb_S2816x1024_S256x1024_1792_0)
    (stepT h (upAt x5 ![0, 1536] inb_S1024x5632_S1024x256_0_1536) (upAt x5 ![0, 4352] inb_S1024x5632_S1024x256_0_4352) (downAt x6 ![1536, 0] inb_S2816x1024_S256x1024_1536_0)
    (stepT h (upAt x5 ![0, 1280] inb_S1024x5632_S1024x256_0_1280) (upAt x5 ![0, 4096] inb_S1024x5632_S1024x256_0_4096) (downAt x6 ![1280, 0] inb_S2816x1024_S256x1024_1280_0)
    (stepT h (upAt x5 ![0, 1024] inb_S1024x5632_S1024x256_0_1024) (upAt x5 ![0, 3840] inb_S1024x5632_S1024x256_0_3840) (downAt x6 ![1024, 0] inb_S2816x1024_S256x1024_1024_0)
    (stepT h (upAt x5 ![0, 768] inb_S1024x5632_S1024x256_0_768) (upAt x5 ![0, 3584] inb_S1024x5632_S1024x256_0_3584) (downAt x6 ![768, 0] inb_S2816x1024_S256x1024_768_0)
    (stepT h (upAt x5 ![0, 512] inb_S1024x5632_S1024x256_0_512) (upAt x5 ![0, 3328] inb_S1024x5632_S1024x256_0_3328) (downAt x6 ![512, 0] inb_S2816x1024_S256x1024_512_0)
    (stepT h (upAt x5 ![0, 256] inb_S1024x5632_S1024x256_0_256) (upAt x5 ![0, 3072] inb_S1024x5632_S1024x256_0_3072) (downAt x6 ![256, 0] inb_S2816x1024_S256x1024_256_0)
    (k0_pay10 (F := Ideal) h (upAt x5 ![0, 0] inb_S1024x5632_S1024x256_0_0) h (upAt x5 ![0, 2816] inb_S1024x5632_S1024x256_0_2816) (downAt x6 ![0, 0] inb_S2816x1024_S256x1024_0_0)))))))))))

end Point

theorem hz2 : (![0, 0] : Fin 2 → ℕ) = fun _ => 0 := by decide

set_option maxHeartbeats 4000000 in
/-- What a grid point whose tile holds both kinds of rows stores into its output block. -/
theorem out_A (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S768x1024 .f32) (harg4 : arg4.IsWhole) (arg5 : Memref sig .tc .vmem S9x5x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S768x1024 .f32) (harg9 : arg9.IsWhole) (arg10 : Memref sig .tc .vmem S768x1024 .bf16) (harg10 : arg10.IsWhole) (arg11 : Memref sig .tc .vmem S768x1024 .f32) (harg11 : arg11.IsWhole) (hc0 : ¬cond0_0 i) (hc1 : cond0_1 i)
    (x0 : Vec Ideal S256x1024 .f32) (x1 : Vec Ideal S512x1024 .f32) (x2 : Vec Ideal S768x1024 .f32) (x3 : Vec Ideal S9x5x1024 .f32) (x4 : Vec Ideal S1x1024 .f32) (x5 : Vec Ideal S1024x5632 .bf16) (x6 : Vec Ideal S2816x1024 .bf16) :
    out0_A_7 c i arg2 harg2 arg3 harg3 arg4 harg4 arg5 harg5 arg6 harg6 arg7 harg7 arg8 harg8 arg9 harg9 arg10 harg10 arg11 harg11 hc0 hc1 x0 x1 x2 x3 x4 x5 x6 = k0_pay29 (F := Ideal) (k0_pay2 i x0 x1 x2) (k0_pay9 (F := Ideal) (k0_pay7 i) (k0_pay8 (rowAt x3 (k0_off5 i) (k0_off5_inb i))) (rowAt x3 ![2, 4, 0] inb_S9x5x1024_S1x1x1024_2_4_0)) (accT x5 x6 (bothT i x0 x1 x2 x3 x4 hc1)) := by
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_A
  dsimp only
  sl_unfold_words
  rw [View.canon_unit_zero (S := S768x1024) hz2]
  simp only [View.readCov_cons_unit_lit', View.readCov_cons_toLoadRect, View.readAt_eq_ld, harg2.read_unread, harg3.read_unread, harg4.read_unread, harg5.read_unread, harg6.read_unread, harg7.read_unread, harg8.read_unread, harg9.read_unread, harg10.read_unread, harg11.read_unread, View.ld_unit_zero (S := S768x1024) hz2, View.ld_unit_zero (S := S256x1024) hz2, View.ld_unit_zero (S := S512x1024) hz2, View.ld_unit_zero (S := S1x1024) hz2]
  simp only [step12, step15, step16, step17, step20, step21, step22, step25, step27, step28]
  rfl

set_option maxHeartbeats 4000000 in
/-- What a grid point whose tile is of latent rows stores into its output block. -/
theorem out_B (c : Dev nD) (i : grid0.Coords) (arg2 : Memref sig .tc .vmem S256x1024 .f32) (harg2 : arg2.IsWhole) (arg3 : Memref sig .tc .vmem S512x1024 .f32) (harg3 : arg3.IsWhole) (arg4 : Memref sig .tc .vmem S768x1024 .f32) (harg4 : arg4.IsWhole) (arg5 : Memref sig .tc .vmem S9x5x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S768x1024 .f32) (harg9 : arg9.IsWhole) (arg10 : Memref sig .tc .vmem S768x1024 .bf16) (harg10 : arg10.IsWhole) (arg11 : Memref sig .tc .vmem S768x1024 .f32) (harg11 : arg11.IsWhole) (hc0 : cond0_0 i) (hc1 : ¬cond0_1 i)
    (x0 : Vec Ideal S256x1024 .f32) (x1 : Vec Ideal S512x1024 .f32) (x2 : Vec Ideal S768x1024 .f32) (x3 : Vec Ideal S9x5x1024 .f32) (x4 : Vec Ideal S1x1024 .f32) (x5 : Vec Ideal S1024x5632 .bf16) (x6 : Vec Ideal S2816x1024 .bf16) :
    out0_B_7 c i arg2 harg2 arg3 harg3 arg4 harg4 arg5 harg5 arg6 harg6 arg7 harg7 arg8 harg8 arg9 harg9 arg10 harg10 arg11 harg11 hc0 hc1 x0 x1 x2 x3 x4 x5 x6 = k0_pay29 (F := Ideal) (k0_pay2 i x0 x1 x2) (k0_pay9 (F := Ideal) (k0_pay7 i) (k0_pay8 (rowAt x3 (k0_off5 i) (k0_off5_inb i))) (rowAt x3 ![2, 4, 0] inb_S9x5x1024_S1x1x1024_2_4_0)) (accT x5 x6 (latT i x0 x1 x2 x3 x4 hc0)) := by
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 hc0 hc1 x0 x1 x2 x3 x4 x5 x6)]
  unfold kernelRun0_B
  dsimp only
  sl_unfold_words
  rw [View.canon_unit_zero (S := S768x1024) hz2]
  simp only [View.readCov_cons_unit_lit', View.readCov_cons_toLoadRect, View.readAt_eq_ld, harg2.read_unread, harg3.read_unread, harg4.read_unread, harg5.read_unread, harg6.read_unread, harg7.read_unread, harg8.read_unread, harg9.read_unread, harg10.read_unread, harg11.read_unread, View.ld_unit_zero (S := S768x1024) hz2, View.ld_unit_zero (S := S256x1024) hz2, View.ld_unit_zero (S := S512x1024) hz2, View.ld_unit_zero (S := S1x1024) hz2]
  simp only [step12, step15, step16, step17, step20, step21, step22, step25, step27, step28]
  rfl

end Cert.FfnSep
end
-- ==== Proof.FfnSepPoint.lean ====
module
public import proofs.«01_k».proof.Proof.FfnSepOut
@[expose] public section
set_option maxRecDepth 16384
noncomputable section
open Idealize.ShloMosaic Idealize.ShloMosaic.TcCoe Idealize.SL.Sem
open Idealize.ShloMosaic.Pipeline (Dat)

namespace Cert.FfnSep
open Cert.Merge Cert.Kernel4Ideal Cert.Kernel4Ideal.Gen Cert.Kernel4Ideal.Value
open Cert.Ffn (row_pick ffnRow sum11)

/-- Each window's block at a grid point, and the point's coordinates. -/
theorem idx_val : ∀ t : Fin cfg0.N, win0_0.index t = ![t.val / 11, 0] ∧ cc0_transform_1 (grid0.coords t) = ![t.val / 11 * 8192, 0]
    ∧ cc0_transform_2 (grid0.coords t) = ![t.val / 11 * 8192 + (t.val % 11 * 768 - 256), 0]
    ∧ win0_3.index t = ![0, 0, 0] ∧ win0_4.index t = ![0, 0] ∧ win0_5.index t = ![0, 0] ∧ win0_6.index t = ![0, 0] ∧ win0_7.index t = ![t.val, 0]
    ∧ (grid0.coords t 0).val = t.val / 11 ∧ (grid0.coords t 1).val = t.val % 11 :=
  (by decide +kernel : ∀ t : Fin grid0.N, _)

theorem lt44 (t : Fin cfg0.N) : t.val < 44 := lt_of_lt_of_eq t.isLt N_0

/-- A block's rows lie within the joined streams. -/
theorem row_lt (t : Fin cfg0.N) (r : Fin 768) : t.val * 768 + r.val < 33792 := by
  have := lt44 t
  omega

/-- Window 0's rows lie within the context. -/
theorem row_lt0 (t : Fin cfg0.N) (r : Fin 256) : t.val / 11 * 256 + r.val < 1024 := by
  have := lt44 t
  omega

/-- Window 1's rows lie within the latent stream. -/
theorem row_lt1 (t : Fin cfg0.N) (r : Fin 512) : t.val / 11 * 8192 + r.val < 32768 := by
  have := lt44 t
  omega

/-- Window 2's rows lie within the latent stream. -/
theorem row_lt2 (t : Fin cfg0.N) (r : Fin 768) : t.val / 11 * 8192 + (t.val % 11 * 768 - 256) + r.val < 32768 := by
  have := lt44 t
  omega

/-- Window 0's block at one index, for any contents of the buffers. -/
theorem rd0 (c : Dev nD) (A : (b : Ref sig .tc) → Buf (Elt Ideal) ((c : Thread nD τ).loc b)) (t : Fin cfg0.N) (r : Fin 256) (j : Fin 1024) (h : t.val / 11 * 256 + r.val < 1024) :
    ((cfg0.win 0).blk t).view.read (Elt Ideal) (A (Pipeline.arrRef spec0 0)) (ix2 r j) = A main_v3 (ix2 ⟨t.val / 11 * 256 + r.val, h⟩ j) := by
  blk_ext [idx_val t]
/-- Window 0's block at one index. -/
theorem blk0 (m : (ℓ : Loc nD τ sig) → Buf (Elt Ideal) ℓ) (c : Dev nD) (t : Fin cfg0.N) (r : Fin 256) (j : Fin 1024) :
    iblk m c 0 t (ix2 r j) = V m c main_v3 (ix2 ⟨t.val / 11 * 256 + r.val, row_lt0 t r⟩ j) := by
  unfold iblk
  exact rd0 c (V m c) t r j _

/-- Window 1's block at one index, for any contents of the buffers. -/
theorem rd1 (c : Dev nD) (A : (b : Ref sig .tc) → Buf (Elt Ideal) ((c : Thread nD τ).loc b)) (t : Fin cfg0.N) (r : Fin 512) (j : Fin 1024) (h : t.val / 11 * 8192 + r.val < 32768) :
    ((cfg0.win 1).blk t).view.read (Elt Ideal) (A (Pipeline.arrRef spec0 1)) (ix2 r j) = A main_v4 (ix2 ⟨t.val / 11 * 8192 + r.val, h⟩ j) := by
  blk_ext
  · show cc0_transform_1 (grid0.coords t) 0 + 1 * r.val = _
    rw [(idx_val t).2.1]
    show t.val / 11 * 8192 + 1 * r.val = _
    omega
  · show cc0_transform_1 (grid0.coords t) 1 + 1 * j.val = _
    rw [(idx_val t).2.1]
    show 0 + 1 * j.val = _
    omega
/-- Window 1's block at one index. -/
theorem blk1 (m : (ℓ : Loc nD τ sig) → Buf (Elt Ideal) ℓ) (c : Dev nD) (t : Fin cfg0.N) (r : Fin 512) (j : Fin 1024) :
    iblk m c 1 t (ix2 r j) = V m c main_v4 (ix2 ⟨t.val / 11 * 8192 + r.val, row_lt1 t r⟩ j) := by
  unfold iblk
  exact rd1 c (V m c) t r j _

/-- Window 2's block at one index, for any contents of the buffers. -/
theorem rd2 (c : Dev nD) (A : (b : Ref sig .tc) → Buf (Elt Ideal) ((c : Thread nD τ).loc b)) (t : Fin cfg0.N) (r : Fin 768) (j : Fin 1024) (h : t.val / 11 * 8192 + (t.val % 11 * 768 - 256) + r.val < 32768) :
    ((cfg0.win 2).blk t).view.read (Elt Ideal) (A (Pipeline.arrRef spec0 2)) (ix2 r j) = A main_v4 (ix2 ⟨t.val / 11 * 8192 + (t.val % 11 * 768 - 256) + r.val, h⟩ j) := by
  blk_ext
  · show cc0_transform_2 (grid0.coords t) 0 + 1 * r.val = _
    rw [(idx_val t).2.2.1]
    show t.val / 11 * 8192 + (t.val % 11 * 768 - 256) + 1 * r.val = _
    omega
  · show cc0_transform_2 (grid0.coords t) 1 + 1 * j.val = _
    rw [(idx_val t).2.2.1]
    show 0 + 1 * j.val = _
    omega
/-- Window 2's block at one index. -/
theorem blk2 (m : (ℓ : Loc nD τ sig) → Buf (Elt Ideal) ℓ) (c : Dev nD) (t : Fin cfg0.N) (r : Fin 768) (j : Fin 1024) :
    iblk m c 2 t (ix2 r j) = V m c main_v4 (ix2 ⟨t.val / 11 * 8192 + (t.val % 11 * 768 - 256) + r.val, row_lt2 t r⟩ j) := by
  unfold iblk
  exact rd2 c (V m c) t r j _

/-- Window 3's block at one index, for any contents of the buffers. -/
theorem rd3 (c : Dev nD) (A : (b : Ref sig .tc) → Buf (Elt Ideal) ((c : Thread nD τ).loc b)) (t : Fin cfg0.N) (g : Fin 9) (r : Fin 5) (l : Fin 1024) :
    ((cfg0.win 3).blk t).view.read (Elt Ideal) (A (Pipeline.arrRef spec0 3)) (ix3 g r l) = A main_v2 (ix3 g r l) := by
  blk_ext [idx_val t]
/-- Window 3's block at one index. -/
theorem blk3 (m : (ℓ : Loc nD τ sig) → Buf (Elt Ideal) ℓ) (c : Dev nD) (t : Fin cfg0.N) (g : Fin 9) (r : Fin 5) (l : Fin 1024) :
    iblk m c 3 t (ix3 g r l) = V m c main_v2 (ix3 g r l) := by
  unfold iblk
  exact rd3 c (V m c) t g r l

/-- Window 4's block at one index, for any contents of the buffers. -/
theorem rd4 (c : Dev nD) (A : (b : Ref sig .tc) → Buf (Elt Ideal) ((c : Thread nD τ).loc b)) (t : Fin cfg0.N) (r : Fin 1) (j : Fin 1024) :
    ((cfg0.win 4).blk t).view.read (Elt Ideal) (A (Pipeline.arrRef spec0 4)) (ix2 r j) = A main_v5 (ix2 r j) := by
  blk_ext [idx_val t]
/-- Window 4's block at one index. -/
theorem blk4 (m : (ℓ : Loc nD τ sig) → Buf (Elt Ideal) ℓ) (c : Dev nD) (t : Fin cfg0.N) (r : Fin 1) (j : Fin 1024) :
    iblk m c 4 t (ix2 r j) = V m c main_v5 (ix2 r j) := by
  unfold iblk
  exact rd4 c (V m c) t r j

/-- Window 5's block at one index, for any contents of the buffers. -/
theorem rd5 (c : Dev nD) (A : (b : Ref sig .tc) → Buf (Elt Ideal) ((c : Thread nD τ).loc b)) (t : Fin cfg0.N) (r : Fin 1024) (j : Fin 5632) :
    ((cfg0.win 5).blk t).view.read (Elt Ideal) (A (Pipeline.arrRef spec0 5)) (ix2 r j) = A main_v6 (ix2 r j) := by
  blk_ext [idx_val t]
/-- Window 5's block at one index. -/
theorem blk5 (m : (ℓ : Loc nD τ sig) → Buf (Elt Ideal) ℓ) (c : Dev nD) (t : Fin cfg0.N) (r : Fin 1024) (j : Fin 5632) :
    iblk m c 5 t (ix2 r j) = V m c main_v6 (ix2 r j) := by
  unfold iblk
  exact rd5 c (V m c) t r j

/-- Window 6's block at one index, for any contents of the buffers. -/
theorem rd6 (c : Dev nD) (A : (b : Ref sig .tc) → Buf (Elt Ideal) ((c : Thread nD τ).loc b)) (t : Fin cfg0.N) (r : Fin 2816) (j : Fin 1024) :
    ((cfg0.win 6).blk t).view.read (Elt Ideal) (A (Pipeline.arrRef spec0 6)) (ix2 r j) = A main_v7 (ix2 r j) := by
  blk_ext [idx_val t]
/-- Window 6's block at one index. -/
theorem blk6 (m : (ℓ : Loc nD τ sig) → Buf (Elt Ideal) ℓ) (c : Dev nD) (t : Fin cfg0.N) (r : Fin 2816) (j : Fin 1024) :
    iblk m c 6 t (ix2 r j) = V m c main_v7 (ix2 r j) := by
  unfold iblk
  exact rd6 c (V m c) t r j

theorem stepT_at (h : FVec Ideal S768x1024 .bf16) (a b : Vec Ideal S1024x256 .bf16) (v : Vec Ideal S256x1024 .bf16) (acc : FVec Ideal S768x1024 .f32) (y : S768x1024.Idx) :
    stepT h a b v acc y = acc y + chunkT h a b v y := rfl

/-- Columns of the up weights. -/
theorem up_rd (x5 : Vec Ideal S1024x5632 .bf16) (k : ℕ) (inb) (hk : k + 256 ≤ 5632) (q : Fin 1024) (f : Fin 256) :
    upAt x5 ![0, k] inb (ix2 q f) = x5 (ix2 q ⟨k + f.val, by omega⟩) := by
  refine congrArg x5 (funext fun a => ?_)
  fin_cases a
  · exact Fin.ext (by show 0 + 1 * q.val = q.val; omega)
  · exact Fin.ext (by show k + 1 * f.val = k + f.val; omega)

/-- Rows of the down weights. -/
theorem down_rd (x6 : Vec Ideal S2816x1024 .bf16) (k : ℕ) (inb) (hk : k + 256 ≤ 2816) (f : Fin 256) (j : Fin 1024) :
    downAt x6 ![k, 0] inb (ix2 f j) = x6 (ix2 ⟨k + f.val, by omega⟩ j) := by
  refine congrArg x6 (funext fun a => ?_)
  fin_cases a
  · exact Fin.ext (by show k + 1 * f.val = k + f.val; omega)
  · exact Fin.ext (by show 0 + 1 * j.val = j.val; omega)

/-- A modulation row. -/
theorem row_rd (x3 : Vec Ideal S9x5x1024 .f32) (off : Fin 3 → ℕ) (inb) (g : Fin 9) (b : Fin 5) (h0 : off 0 = g.val) (h1 : off 1 = b.val) (h2 : off 2 = 0) (j : Fin 1024) :
    rowAt x3 off inb (ix3 0 0 j) = x3 (ix3 g b j) := by
  refine congrArg x3 (funext fun a => ?_)
  fin_cases a
  · exact Fin.ext (by show off 0 + 1 * 0 = g.val; omega)
  · exact Fin.ext (by show off 1 + 1 * 0 = b.val; omega)
  · exact Fin.ext (by show off 2 + 1 * j.val = j.val; omega)

/-- One chunk, as the chunk of the whole sum. -/
theorem chunk_at (x5 : Vec Ideal S1024x5632 .bf16) (x6 : Vec Ideal S2816x1024 .bf16) (h : FVec Ideal S768x1024 .bf16) (n : Fin 11) (k k' : ℕ)
    (hk : k = n.val * 256) (hk' : k' = 2816 + n.val * 256) (i1) (i2) (i3) (r : Fin 768) (j : Fin 1024) :
    chunkT h (upAt x5 ![0, k] i1) (upAt x5 ![0, k'] i2) (downAt x6 ![k, 0] i3) (ix2 r j)
      = chunk siluK (fun q => h (ix2 r q)) (fun q f => x5 (ix2 q f)) (fun f j => x6 (ix2 f j)) n j := by
  subst hk hk'
  rw [chunkT_at]
  unfold chunk argA argB
  refine Finset.sum_congr rfl fun f _ => ?_
  have e1 : ∀ q, upAt x5 ![0, n.val * 256] i1 (ix2 q f) = x5 (ix2 q ⟨n.val * 256 + f.val, by omega⟩) := fun q => up_rd x5 _ i1 (by omega) q f
  have e2 : ∀ q, upAt x5 ![0, 2816 + n.val * 256] i2 (ix2 q f) = x5 (ix2 q ⟨2816 + (n.val * 256 + f.val), by omega⟩) := fun q =>
    (up_rd x5 _ i2 (by omega) q f).trans (congrArg (fun z => x5 (ix2 q z)) (Fin.ext (by show 2816 + n.val * 256 + f.val = 2816 + (n.val * 256 + f.val); omega)))
  have e3 : downAt x6 ![n.val * 256, 0] i3 (ix2 f j) = x6 (ix2 ⟨n.val * 256 + f.val, by omega⟩ j) := down_rd x6 _ i3 (by omega) f j
  simp only [e1, e2, e3]

/-- The accumulator is the whole sum. -/
theorem accT_at (x5 : Vec Ideal S1024x5632 .bf16) (x6 : Vec Ideal S2816x1024 .bf16) (h : FVec Ideal S768x1024 .bf16) (r : Fin 768) (j : Fin 1024) :
    accT x5 x6 h (ix2 r j) = ∑ f : Fin 2816, siluK (argA (fun q => h (ix2 r q)) (fun q f => x5 (ix2 q f)) f)
      * argB (fun q => h (ix2 r q)) (fun q f => x5 (ix2 q f)) f * x6 (ix2 f j) := by
  rw [sum_chunks]
  refine Eq.trans ?_ (sum11 (fun n => chunk siluK (fun q => h (ix2 r q)) (fun q f => x5 (ix2 q f)) (fun f j => x6 (ix2 f j)) n j)).symm
  unfold accT
  simp only [stepT_at]
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_) ?_) ?_
  · exact chunk_at x5 x6 h 0 _ _ rfl rfl _ _ _ r j
  · exact chunk_at x5 x6 h 1 _ _ rfl rfl _ _ _ r j
  · exact chunk_at x5 x6 h 2 _ _ rfl rfl _ _ _ r j
  · exact chunk_at x5 x6 h 3 _ _ rfl rfl _ _ _ r j
  · exact chunk_at x5 x6 h 4 _ _ rfl rfl _ _ _ r j
  · exact chunk_at x5 x6 h 5 _ _ rfl rfl _ _ _ r j
  · exact chunk_at x5 x6 h 6 _ _ rfl rfl _ _ _ r j
  · exact chunk_at x5 x6 h 7 _ _ rfl rfl _ _ _ r j
  · exact chunk_at x5 x6 h 8 _ _ rfl rfl _ _ _ r j
  · exact chunk_at x5 x6 h 9 _ _ rfl rfl _ _ _ r j
  · exact chunk_at x5 x6 h 10 _ _ rfl rfl _ _ _ r j

section Point
variable (i : grid0.Coords) (x0 : Vec Ideal S256x1024 .f32) (x1 : Vec Ideal S512x1024 .f32) (x2 : Vec Ideal S768x1024 .f32) (x3 : Vec Ideal S9x5x1024 .f32) (x4 : Vec Ideal S1x1024 .f32) (x5 : Vec Ideal S1024x5632 .bf16) (x6 : Vec Ideal S2816x1024 .bf16)

/-- The coordinate's word reads back as the coordinate. -/
theorem samp_word (b : Fin 5) (hb : (i 0).val = b.val) : (Scalar.indexCast (BitVec.ofNat 32 (i 0).val) : Index).toNat = b.val := by
  rw [hb]
  show (BitVec.ofNat 32 b.val).toNat = b.val
  rw [BitVec.toNat_ofNat]
  have := b.isLt
  omega

/-- What a grid point whose tile holds both kinds of rows stores, at one row and lane. -/
theorem stored_both (H : k0_cond2 i = 1#1) (b e : Fin 5) (hb : (i 0).val = b.val) (r : Fin 768) (j : Fin 1024) (he : e = if (i 1).val * 768 + r.val < 256 then 4 else b)
    (x : Fin 1024 → EReal) (hx : ∀ j, k0_pay2 (F := Ideal) i x0 x1 x2 (ix2 r j) = x j) :
    k0_pay29 (F := Ideal) (k0_pay2 i x0 x1 x2) (k0_pay9 (F := Ideal) (k0_pay7 i) (k0_pay8 (rowAt x3 (k0_off5 i) (k0_off5_inb i))) (rowAt x3 ![2, 4, 0] inb_S9x5x1024_S1x1x1024_2_4_0)) (accT x5 x6 (bothT i x0 x1 x2 x3 x4 H)) (ix2 r j)
      = ffnRow siluK x (fun j => x4 (ix2 0 j)) (fun j => x3 (ix3 0 e j)) (fun j => x3 (ix3 1 e j)) (fun j => x3 (ix3 2 e j))
        (fun k f => x5 (ix2 k f)) (fun f j => x6 (ix2 f j)) j := by
  have hw := samp_word i b hb
  have l0 : ∀ j, rowAt x3 (k0_off3 i) (k0_off3_inb i H) (ix3 0 0 j) = x3 (ix3 0 b j) := row_rd x3 _ _ 0 b rfl hw rfl
  have l1 : ∀ j, rowAt x3 (k0_off4 i) (k0_off4_inb i H) (ix3 0 0 j) = x3 (ix3 1 b j) := row_rd x3 _ _ 1 b rfl hw rfl
  have l2 : ∀ j, rowAt x3 (k0_off5 i) (k0_off5_inb i) (ix3 0 0 j) = x3 (ix3 2 b j) := row_rd x3 _ _ 2 b rfl hw rfl
  have c0 : ∀ j, rowAt x3 ![0, 4, 0] inb_S9x5x1024_S1x1x1024_0_4_0 (ix3 0 0 j) = x3 (ix3 0 4 j) := row_rd x3 _ _ 0 4 rfl rfl rfl
  have c1 : ∀ j, rowAt x3 ![1, 4, 0] inb_S9x5x1024_S1x1x1024_1_4_0 (ix3 0 0 j) = x3 (ix3 1 4 j) := row_rd x3 _ _ 1 4 rfl rfl rfl
  have c2 : ∀ j, rowAt x3 ![2, 4, 0] inb_S9x5x1024_S1x1x1024_2_4_0 (ix3 0 0 j) = x3 (ix3 2 4 j) := row_rd x3 _ _ 2 4 rfl rfl rfl
  have pk : ∀ (g : Fin 9) (j : Fin 1024), (if (i 1).val * 768 + r.val < 256 then x3 (ix3 g 4 j) else x3 (ix3 g b j)) = x3 (ix3 g e j) := by
    intro g j
    rw [he]
    split <;> rfl
  have hnorm : ∀ j, bothT i x0 x1 x2 x3 x4 H (ix2 r j)
      = hrow x (fun j => x4 (ix2 0 j)) (fun j => x3 (ix3 1 e j)) (fun j => x3 (ix3 0 e j)) j := by
    intro j
    unfold bothT
    rw [norm_both]
    simp only [l0, l1, c0, c1, pk, hx]
  refine (out_at _ _ _ r j).trans ?_
  rw [accT_at, gate_pick, l2, c2, pk, hx]
  simp only [hnorm]
  rfl

/-- What a grid point whose tile holds latent rows stores, at one row and lane. -/
theorem stored_lat (H : k0_cond1 i = 1#1) (b : Fin 5) (hb : (i 0).val = b.val) (h1 : 1 ≤ (i 1).val) (r : Fin 768) (j : Fin 1024)
    (x : Fin 1024 → EReal) (hx : ∀ j, k0_pay2 (F := Ideal) i x0 x1 x2 (ix2 r j) = x j) :
    k0_pay29 (F := Ideal) (k0_pay2 i x0 x1 x2) (k0_pay9 (F := Ideal) (k0_pay7 i) (k0_pay8 (rowAt x3 (k0_off5 i) (k0_off5_inb i))) (rowAt x3 ![2, 4, 0] inb_S9x5x1024_S1x1x1024_2_4_0)) (accT x5 x6 (latT i x0 x1 x2 x3 x4 H)) (ix2 r j)
      = ffnRow siluK x (fun j => x4 (ix2 0 j)) (fun j => x3 (ix3 0 b j)) (fun j => x3 (ix3 1 b j)) (fun j => x3 (ix3 2 b j))
        (fun k f => x5 (ix2 k f)) (fun f j => x6 (ix2 f j)) j := by
  have hw := samp_word i b hb
  have l0 : ∀ j, rowAt x3 (k0_off1 i) (k0_off1_inb i H) (ix3 0 0 j) = x3 (ix3 0 b j) := row_rd x3 _ _ 0 b rfl hw rfl
  have l1 : ∀ j, rowAt x3 (k0_off2 i) (k0_off2_inb i H) (ix3 0 0 j) = x3 (ix3 1 b j) := row_rd x3 _ _ 1 b rfl hw rfl
  have l2 : ∀ j, rowAt x3 (k0_off5 i) (k0_off5_inb i) (ix3 0 0 j) = x3 (ix3 2 b j) := row_rd x3 _ _ 2 b rfl hw rfl
  have hnorm : ∀ j, latT i x0 x1 x2 x3 x4 H (ix2 r j)
      = hrow x (fun j => x4 (ix2 0 j)) (fun j => x3 (ix3 1 b j)) (fun j => x3 (ix3 0 b j)) j := by
    intro j
    unfold latT
    rw [norm_lat]
    simp only [l0, l1, hx]
  refine (out_at _ _ _ r j).trans ?_
  rw [accT_at, gate_pick, if_neg (by omega), l2, hx]
  simp only [hnorm]
  rfl

end Point

/-- A joined row's source: the context's row, or the latent stream's. -/
def rowSrc (X0 : S1024x1024.Idx → EReal) (X1 : S32768x1024.Idx → EReal) (R : Fin 33792) (j : Fin 1024) : EReal :=
  if h : R.val % 8448 < 256 then X0 (ix2 ⟨R.val / 8448 * 256 + R.val % 8448, by omega⟩ j)
  else X1 (ix2 ⟨R.val / 8448 * 8192 + (R.val % 8448 - 256), by omega⟩ j)

/-- The output's row and lane, from the whole arrays the pipeline reads; `e` is the row's line of the modulation. -/
def outFn (X0 : S1024x1024.Idx → EReal) (X1 : S32768x1024.Idx → EReal) (X3 : S9x5x1024.Idx → EReal) (X4 : S1x1024.Idx → EReal) (X5 : S1024x5632.Idx → EReal) (X6 : S2816x1024.Idx → EReal)
    (R : Fin 33792) (e : Fin 5) (j : Fin 1024) : EReal :=
  ffnRow siluK (rowSrc X0 X1 R) (fun j => X4 (ix2 0 j)) (fun j => X3 (ix3 0 e j)) (fun j => X3 (ix3 1 e j)) (fun j => X3 (ix3 2 e j))
        (fun k f => X5 (ix2 k f)) (fun f j => X6 (ix2 f j)) j

/-- A row's line of the modulation: the last on a context row, the sample's on a latent row. -/
def modOf (R : Fin 33792) : Fin 5 := if R.val % 8448 < 256 then 4 else ⟨R.val / 8448, by omega⟩

/-- The tile's row at a grid point is the joined row's source. -/
theorem pick_src (m : (ℓ : Loc nD τ sig) → Buf (Elt Ideal) ℓ) (c : Dev nD) (t : Fin cfg0.N) (r : Fin 768) (j : Fin 1024) :
    k0_pay2 (F := Ideal) (grid0.coords t) (iblk m c 0 t) (iblk m c 1 t) (iblk m c 2 t) (ix2 r j)
      = rowSrc (V m c main_v3) (V m c main_v4) ⟨t.val * 768 + r.val, row_lt t r⟩ j := by
  have ht := lt44 t
  have k1 : (grid0.coords t 1).val = t.val % 11 := (idx_val t).2.2.2.2.2.2.2.2.2
  have hi : (t.val * 768 + r.val) % 8448 = t.val % 11 * 768 + r.val := by omega
  have hd : (t.val * 768 + r.val) / 8448 = t.val / 11 := by omega
  rw [pick_at]
  unfold rowSrc
  by_cases h : t.val % 11 = 0
  · rw [if_pos (k1.trans h)]
    by_cases hr : r.val < 256
    · rw [dif_pos hr, dif_pos (by show (t.val * 768 + r.val) % 8448 < 256; omega), blk0]
      exact congrArg (fun z => V m c main_v3 (ix2 z j)) (Fin.ext (by show t.val / 11 * 256 + r.val = (t.val * 768 + r.val) / 8448 * 256 + (t.val * 768 + r.val) % 8448; omega))
    · rw [dif_neg hr, dif_neg (by show ¬(t.val * 768 + r.val) % 8448 < 256; omega), blk1]
      exact congrArg (fun z => V m c main_v4 (ix2 z j)) (Fin.ext (by show t.val / 11 * 8192 + (r.val - 256) = (t.val * 768 + r.val) / 8448 * 8192 + ((t.val * 768 + r.val) % 8448 - 256); omega))
  · rw [if_neg (by omega), dif_neg (by show ¬(t.val * 768 + r.val) % 8448 < 256; omega), blk2]
    exact congrArg (fun z => V m c main_v4 (ix2 z j)) (Fin.ext (by show t.val / 11 * 8192 + (t.val % 11 * 768 - 256) + r.val = (t.val * 768 + r.val) / 8448 * 8192 + ((t.val * 768 + r.val) % 8448 - 256); omega))

/-- What the pipeline leaves in its block at a grid point. -/
theorem point (m : (ℓ : Loc nD τ sig) → Buf (Elt Ideal) ℓ) (c : Dev nD) (t : Fin cfg0.N) (r : Fin 768) (j : Fin 1024) :
    (dats m 0 c).after 7 t (ix2 r j) = outFn (V m c main_v3) (V m c main_v4) (V m c main_v2) (V m c main_v5) (V m c main_v6) (V m c main_v7)
      ⟨t.val * 768 + r.val, row_lt t r⟩ (modOf ⟨t.val * 768 + r.val, row_lt t r⟩) j := by
  have ht := lt44 t
  have k0 : (grid0.coords t 0).val = t.val / 11 := (idx_val t).2.2.2.2.2.2.2.2.1
  have k1 : (grid0.coords t 1).val = t.val % 11 := (idx_val t).2.2.2.2.2.2.2.2.2
  have hi : (t.val * 768 + r.val) % 8448 = t.val % 11 * 768 + r.val := by omega
  have hd : (t.val * 768 + r.val) / 8448 = t.val / 11 := by omega
  rw [after0_7]
  by_cases h : t.val % 11 = 0
  · rw [outsAt0_A m c t (by omega) h, out_A]
    refine (stored_both (grid0.coords t) _ _ _ _ _ _ _ _ ⟨t.val / 11, by omega⟩ (modOf ⟨t.val * 768 + r.val, row_lt t r⟩) k0 r j ?_ _ (pick_src m c t r)).trans ?_
    · unfold modOf
      simp only [k1, hi, hd]
    · unfold outFn
      simp only [blk3, blk4, blk5, blk6]
  · rw [outsAt0_B m c t (by omega) h, out_B]
    have em : modOf ⟨t.val * 768 + r.val, row_lt t r⟩ = ⟨t.val / 11, by omega⟩ := by
      unfold modOf
      simp only [hi, hd]
      rw [if_neg (by omega)]
    rw [em]
    refine (stored_lat (grid0.coords t) _ _ _ _ _ _ _ _ ⟨t.val / 11, by omega⟩ k0 (by omega) r j _ (pick_src m c t r)).trans ?_
    unfold outFn
    simp only [blk3, blk4, blk5, blk6]

/-- The output array after the run. -/
theorem final (m : (ℓ : Loc nD τ sig) → Buf (Elt Ideal) ℓ) (c : Dev nD) :
    (dats m 0 c).arrAt 7 cfg0.N = fun i => outFn (V m c main_v3) (V m c main_v4) (V m c main_v2) (V m c main_v5) (V m c main_v6) (V m c main_v7) (i 0) (modOf (i 0)) (i 1) := by
  have hG : ∀ (t : Fin cfg0.N) (y : S768x1024.Idx) (i : S33792x1024.Idx), (i 0).val = t.val * 768 + (y 0).val → (i 1).val = (y 1).val →
      (dats m 0 c).after 7 t y = outFn (V m c main_v3) (V m c main_v4) (V m c main_v2) (V m c main_v5) (V m c main_v6) (V m c main_v7) (i 0) (modOf (i 0)) (i 1) := by
    intro t y i e0 e1
    have hy : (y 0).val < 768 := (y 0).isLt
    have ey : y = ix2 (⟨(y 0).val, hy⟩ : Fin 768) (i 1) := funext fun a => Fin.ext (by
      match a with
      | ⟨0, _⟩ => rfl
      | ⟨1, _⟩ => exact e1.symm)
    have eR : i 0 = ⟨t.val * 768 + (y 0).val, row_lt t ⟨(y 0).val, hy⟩⟩ := Fin.ext e0
    rw [eR]
    exact (congrArg _ ey).trans (point m c t ⟨(y 0).val, hy⟩ (i 1))
  refine (dats m 0 c).arrAt_eq_of_covers 7 _ (by decide +kernel) fun t hf y => ?_
  blk_simp
  refine hG t _ _ ?_ ?_ <;> blk_simp [idx_val t]

end Cert.FfnSep
end
-- ==== Proof.FfnSepHost.lean ====
module
public import proofs.«01_k».proof.Proof.FfnSepPoint
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.FfnSep
open Cert.Merge Cert.Kernel4Ideal Cert.Kernel4Ideal.Gen
open Cert.Ffn (row_pick ffnRow sum11)

variable (σ : Valuation τ sig (Elt Ideal))

/-- The context. -/
theorem host_c (b : Fin 4) (n : Fin 256) (j : Fin 1024) :
    (StableHlo.after (hostOps0) σ (Proc.devRef .tc main_v3) : S1024x1024.Idx → EReal) (ix2 ⟨b.val * 256 + n.val, by omega⟩ j) = (σ (Proc.devRef .tc main_arg0) : S4x256x1024.Idx → EReal) (ix3 b n j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The latent stream. -/
theorem host_x (b : Fin 4) (n : Fin 8192) (j : Fin 1024) :
    (StableHlo.after (hostOps0) σ (Proc.devRef .tc main_v4) : S32768x1024.Idx → EReal) (ix2 ⟨b.val * 8192 + n.val, by omega⟩ j) = (σ (Proc.devRef .tc main_arg1) : S4x8192x1024.Idx → EReal) (ix3 b n j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A sample's modulation rows. -/
theorem host_ml (g : Fin 9) (b : Fin 4) (j : Fin 1024) :
    (StableHlo.after (hostOps0) σ (Proc.devRef .tc main_v2) : S9x5x1024.Idx → EReal) (ix3 g ⟨b.val, by omega⟩ j) = (σ (Proc.devRef .tc main_arg2) : S4x9x1024.Idx → EReal) (ix3 b g j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The context's modulation rows. -/
theorem host_mc (g : Fin 9) (j : Fin 1024) :
    (StableHlo.after (hostOps0) σ (Proc.devRef .tc main_v2) : S9x5x1024.Idx → EReal) (ix3 g 4 j) = (σ (Proc.devRef .tc main_arg3) : S9x1024.Idx → EReal) (ix2 g j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The norm's gain. -/
theorem host_gain (l : Fin 1024) :
    (StableHlo.after (hostOps0) σ (Proc.devRef .tc main_v5) : S1x1024.Idx → EReal) (ix2 0 l) = (σ (Proc.devRef .tc main_arg4) : S1024.Idx → EReal) (ix1 l) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The up weights. -/
theorem host_up (k : Fin 1024) (j : Fin 5632) :
    (StableHlo.after (hostOps0) σ (Proc.devRef .tc main_v6) : S1024x5632.Idx → EReal) (ix2 k j) = (σ (Proc.devRef .tc main_arg5) : S1024x5632.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The down weights. -/
theorem host_down (k : Fin 2816) (j : Fin 1024) :
    (StableHlo.after (hostOps0) σ (Proc.devRef .tc main_v7) : S2816x1024.Idx → EReal) (ix2 k j) = (σ (Proc.devRef .tc main_arg6) : S2816x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

end Cert.FfnSep
end
-- ==== Proof.FfnSepRef.lean ====
module
public import proofs.«01_k».proof.Proof.MergeCore
public import proofs.«01_k».proof.Proof.Gen.Reference4Ideal.Read
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.Reference4Ideal.Ffn
open Cert.Reference4Ideal Cert.Reference4Ideal.Gen Cert.Reference4Ideal.Read Cert.Merge

/-- The constant one. -/
theorem one1 : one = 1 := one_eq.trans EReal.coe_one

section
variable (x0 : S4x256x1024.Idx → EReal) (x1 : S4x8192x1024.Idx → EReal) (x2 : S4x9x1024.Idx → EReal) (x3 : S9x1024.Idx → EReal) (x4 : S1024.Idx → EReal) (x5 : S1024x5632.Idx → EReal) (x6 : S2816x1024.Idx → EReal)

/-- The modulated norm's latent row. -/
theorem norm_lat (b : Fin 4) (n : Fin 8192) (j : Fin 1024) :
    (val_main_v28 (F := Ideal) x1 x2 x4 : S4x8192x1024.Idx → EReal) (ix3 b n j)
      = hrow (fun j => x1 (ix3 b n j)) (fun j => x4 (ix1 j)) (fun j => x2 (ix3 b 1 j)) (fun j => x2 (ix3 b 0 j)) j := by
  unfold val_main_v28 val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_v7 val_main_v6 val_main_cst_0 val_main_cst_1 val_main_cst_2 val_main_cst_3 val_main_v0
  pointwise
  unfold hrow meanInv
  rw [one1]
  exact congrArg (· + _) (mul_assoc _ _ _)

/-- The modulated norm's context row. -/
theorem norm_ctx (b : Fin 4) (n : Fin 256) (j : Fin 1024) :
    (val_main_v66 (F := Ideal) x0 x3 x4 : S4x256x1024.Idx → EReal) (ix3 b n j)
      = hrow (fun j => x0 (ix3 b n j)) (fun j => x4 (ix1 j)) (fun j => x3 (ix2 1 j)) (fun j => x3 (ix2 0 j)) j := by
  unfold val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49 val_main_v48 val_main_v47 val_main_v46 val_main_v45 val_main_v44 val_main_v43 val_main_v42 val_main_cst_5 val_main_cst_6 val_main_cst_7 val_main_cst_8 val_main_v1
  pointwise
  unfold hrow meanInv
  rw [one1]
  exact congrArg (· + _) (mul_assoc _ _ _)

/-- The feed-forward's latent row. -/
theorem ffn_lat (b : Fin 4) (n : Fin 8192) (j : Fin 1024) :
    (val_main_v37 (F := Ideal) x1 x2 x4 x5 x6 : S4x8192x1024.Idx → EReal) (ix3 b n j)
      = outRow siluR (fun j => x1 (ix3 b n j)) (fun j => x2 (ix3 b 2 j))
        (fun j => (val_main_v28 (F := Ideal) x1 x2 x4 : S4x8192x1024.Idx → EReal) (ix3 b n j)) (fun k f => x5 (ix2 k f)) (fun f j => x6 (ix2 f j)) j := by
  unfold val_main_v37 val_main_v36 val_main_v35 val_main_v34 val_main_v33 val_main_v32 val_main_call0_v5 val_main_call0_v4 val_main_call0_cst_0 val_main_call0_v3 val_main_call0_v2 val_main_call0_cst val_main_call0_v1 val_main_call0_v0 val_main_v31 val_main_v30 val_main_v29 val_main_v5 val_main_v4 val_main_cst val_main_v3 val_main_v2 val_main_v0
  generalize val_main_v28 (F := Ideal) x1 x2 x4 = h
  pointwise
  unfold outRow siluR sigR argA argB
  rw [one1]

/-- The feed-forward's context row. -/
theorem ffn_ctx (b : Fin 4) (n : Fin 256) (j : Fin 1024) :
    (val_main_v76 (F := Ideal) x0 x3 x4 x5 x6 : S4x256x1024.Idx → EReal) (ix3 b n j)
      = outRow siluR (fun j => x0 (ix3 b n j)) (fun j => x3 (ix2 2 j))
        (fun j => (val_main_v66 (F := Ideal) x0 x3 x4 : S4x256x1024.Idx → EReal) (ix3 b n j)) (fun k f => x5 (ix2 k f)) (fun f j => x6 (ix2 f j)) j := by
  unfold val_main_v76 val_main_v75 val_main_v74 val_main_v73 val_main_v72 val_main_v71 val_main_v70 val_main_call1_v5 val_main_call1_v4 val_main_call1_cst_0 val_main_call1_v3 val_main_call1_v2 val_main_call1_cst val_main_call1_v1 val_main_call1_v0 val_main_v69 val_main_v68 val_main_v67 val_main_v41 val_main_v40 val_main_cst_4 val_main_v39 val_main_v38 val_main_v1
  generalize val_main_v66 (F := Ideal) x0 x3 x4 = h
  pointwise
  unfold outRow siluR sigR argA argB
  rw [one1]

/-- A silu argument of a latent row. -/
theorem arg_lat (b : Fin 4) (n : Fin 8192) (f : Fin 2816) :
    (val_main_v30 (F := Ideal) x1 x2 x4 x5 : S4x8192x2816.Idx → EReal) (ix3 b n f)
      = argA (fun k => (val_main_v28 (F := Ideal) x1 x2 x4 : S4x8192x1024.Idx → EReal) (ix3 b n k)) (fun k f => x5 (ix2 k f)) f := by
  unfold val_main_v30 val_main_v29
  generalize val_main_v28 (F := Ideal) x1 x2 x4 = h
  pointwise [argA]

/-- A silu argument of a context row. -/
theorem arg_ctx (b : Fin 4) (n : Fin 256) (f : Fin 2816) :
    (val_main_v68 (F := Ideal) x0 x3 x4 x5 : S4x256x2816.Idx → EReal) (ix3 b n f)
      = argA (fun k => (val_main_v66 (F := Ideal) x0 x3 x4 : S4x256x1024.Idx → EReal) (ix3 b n k)) (fun k f => x5 (ix2 k f)) f := by
  unfold val_main_v68 val_main_v67
  generalize val_main_v66 (F := Ideal) x0 x3 x4 = h
  pointwise [argA]

/-- The joined result's context rows. -/
theorem out_ctx (r : Fin 33792) (j : Fin 1024) (b : Fin 4) (n : Fin 256) (hr : r.val = b.val * 8448 + n.val) :
    (val_main_v78 (F := Ideal) x0 x1 x2 x3 x4 x5 x6 : S33792x1024.Idx → EReal) (ix2 r j) = (val_main_v76 (F := Ideal) x0 x3 x4 x5 x6 : S4x256x1024.Idx → EReal) (ix3 b n j) := by
  unfold val_main_v78 val_main_v77
  generalize val_main_v76 (F := Ideal) x0 x3 x4 x5 x6 = y
  generalize val_main_v37 (F := Ideal) x1 x2 x4 x5 x6 = z
  pointwise
  rw [dif_pos (by omega)]
  refine congrArg y ?_
  have eb : (⟨r.val / 8448, by omega⟩ : Fin 4) = b := Fin.ext (by show r.val / 8448 = b.val; omega)
  have en : (⟨r.val % 8448, by omega⟩ : Fin 256) = n := Fin.ext (by show r.val % 8448 = n.val; omega)
  rw [eb, en]

/-- The joined result's latent rows. -/
theorem out_lat (r : Fin 33792) (j : Fin 1024) (b : Fin 4) (n : Fin 8192) (hr : r.val = b.val * 8448 + (256 + n.val)) :
    (val_main_v78 (F := Ideal) x0 x1 x2 x3 x4 x5 x6 : S33792x1024.Idx → EReal) (ix2 r j) = (val_main_v37 (F := Ideal) x1 x2 x4 x5 x6 : S4x8192x1024.Idx → EReal) (ix3 b n j) := by
  unfold val_main_v78 val_main_v77
  generalize val_main_v76 (F := Ideal) x0 x3 x4 x5 x6 = y
  generalize val_main_v37 (F := Ideal) x1 x2 x4 x5 x6 = z
  pointwise
  rw [dif_neg (by omega)]
  refine congrArg z ?_
  have eb : (⟨r.val / 8448, by omega⟩ : Fin 4) = b := Fin.ext (by show r.val / 8448 = b.val; omega)
  have en : (⟨r.val % 8448 - 256, by omega⟩ : Fin 8192) = n := Fin.ext (by show r.val % 8448 - 256 = n.val; omega)
  rw [eb, en]

end

end Cert.Reference4Ideal.Ffn
end
-- ==== Proof.FfnSepPre.lean ====
module
public import proofs.«01_k».proof.Defs
public import proofs.«01_k».proof.Proof.MergePre
public import proofs.«01_k».proof.Proof.FfnSepRef
@[expose] public section
set_option maxRecDepth 16384
noncomputable section
open Idealize.ShloMosaic Idealize.ShloMosaic.TcCoe Idealize.SL.Sem

namespace Cert.FfnSep
open Cert.Reference4Ideal Cert.Reference4Ideal.Gen Cert.Reference4Ideal.Read

/-- The precondition's program states its shape relations; they hold. -/
theorem pre_facts : Cert.Pre_first_above_minus_inf.Facts where
  shapeCasts_S4x9x1024_S4x9x1x1024 := by decide
  shapeCasts_S9x1024_S9x1x1024 := by decide
  reducesTo_S4x8192x1024_S4x8192_d2 := by decide
  h_S_ := by decide
  bcast_S4x8192_S4x8192x1_0_1 := by decide
  bcast_S_S4x8192x1 := by decide
  bcast_S4x8192x1_S4x8192x1024_0_1_2 := by decide
  bcast_S1024_S1x1x1024_2 := by decide
  bcast_S1x1x1024_S4x8192x1024_0_1_2 := by decide
  slices_S4x9x1x1024_S4x1x1x1024_0_1_0_0 := by decide
  shapeCasts_S4x1x1x1024_S4x1x1024 := by decide
  bcast_S_S4x1x1024 := by decide
  bcast_S4x1x1024_S4x8192x1024_0_1_2 := by decide
  slices_S4x9x1x1024_S4x1x1x1024_0_0_0_0 := by decide
  slices_S4x8192x5632_S4x8192x2816_0_0_0 := by decide
  slices_S4x8192x5632_S4x8192x2816_0_0_2816 := by decide
  reducesTo_S4x256x1024_S4x256_d2 := by decide
  bcast_S4x256_S4x256x1_0_1 := by decide
  bcast_S_S4x256x1 := by decide
  bcast_S4x256x1_S4x256x1024_0_1_2 := by decide
  bcast_S1x1x1024_S4x256x1024_0_1_2 := by decide
  slices_S9x1x1024_S1x1x1024_1_0_0 := by decide
  shapeCasts_S1x1x1024_S1x1024 := by decide
  bcast_S_S1x1024 := by decide
  bcast_S1x1024_S1x1x1024_1_2 := by decide
  slices_S9x1x1024_S1x1x1024_0_0_0 := by decide
  slices_S4x256x5632_S4x256x2816_0_0_0 := by decide
  slices_S4x256x5632_S4x256x2816_0_0_2816 := by decide
  bcast_S_S4x8192x2816 := by decide
  bcast_S_S4x256x2816 := by decide
  dot_S4x8192x1024_S1024x5632_S4x8192x5632_2_0_01_1_n_n_wf := by decide
  dot_S4x256x1024_S1024x5632_S4x256x5632_2_0_01_1_n_n_wf := by decide

variable [hP : Cert.Pre_first_above_minus_inf.Facts]

set_option maxHeartbeats 4000000 in
/-- The precondition's first test is of the latent rows' silu arguments. -/
theorem pre_fst (x0 : S4x256x1024.Idx → EReal) (x1 : S4x8192x1024.Idx → EReal) (x2 : S4x9x1024.Idx → EReal) (x3 : S9x1024.Idx → EReal) (x4 : S1024.Idx → EReal) (x5 : S1024x5632.Idx → EReal) (x6 : S2816x1024.Idx → EReal) :
    (Cert.Pre_first_above_minus_inf.fn (F := Ideal) x0 x1 x2 x3 x4 x5 x6).1 = cmpf .ogt (val_main_v30 (F := Ideal) x1 x2 x4 x5 : FVec Ideal S4x8192x2816 .f32) (broadcastInDim S4x8192x2816 ![] hP.bcast_S_S4x8192x2816 (constant (F := Ideal) S_ .f32 0xFF800000#32)) := rfl

set_option maxHeartbeats 4000000 in
/-- The precondition's second test is of the context rows' silu arguments. -/
theorem pre_snd (x0 : S4x256x1024.Idx → EReal) (x1 : S4x8192x1024.Idx → EReal) (x2 : S4x9x1024.Idx → EReal) (x3 : S9x1024.Idx → EReal) (x4 : S1024.Idx → EReal) (x5 : S1024x5632.Idx → EReal) (x6 : S2816x1024.Idx → EReal) :
    (Cert.Pre_first_above_minus_inf.fn (F := Ideal) x0 x1 x2 x3 x4 x5 x6).2 = cmpf .ogt (val_main_v68 (F := Ideal) x0 x3 x4 x5 : FVec Ideal S4x256x2816 .f32) (broadcastInDim S4x256x2816 ![] hP.bcast_S_S4x256x2816 (constant (F := Ideal) S_ .f32 0xFF800000#32)) := rfl

end Cert.FfnSep
end
-- ==== Proof.FfnSepFinal.lean ====
module
public import proofs.«01_k».proof.Proof.FfnSepHost
public import proofs.«01_k».proof.Proof.FfnSepPre
@[expose] public section
set_option maxRecDepth 16384
noncomputable section
open Idealize.ShloMosaic Idealize.ShloMosaic.TcCoe Idealize.SL.Sem

namespace Cert.FfnSep
open Cert.Reference4Ideal.Read Cert.Kernel4Ideal Cert.Kernel4Ideal.Gen
open Cert.Merge (siluK siluR outRow hrow outRow_eq above_of)
open Cert.Ffn (ffnRow)
open Cert.Reference4Ideal.Ffn (ffn_lat ffn_ctx arg_lat arg_ctx)

/-- The output's value from the values of the arrays it reads. -/
theorem outFn_of (X0 : S1024x1024.Idx → EReal) (X1 : S32768x1024.Idx → EReal) (X3 : S9x5x1024.Idx → EReal) (X4 : S1x1024.Idx → EReal) (X5 : S1024x5632.Idx → EReal) (X6 : S2816x1024.Idx → EReal)
    (R : Fin 33792) (e : Fin 5) (j : Fin 1024) (x gain m0 m1 m2 : Fin 1024 → EReal) (w : Fin 1024 → Fin 5632 → EReal) (v : Fin 2816 → Fin 1024 → EReal)
    (H0 : ∀ j, rowSrc X0 X1 R j = x j) (M0 : ∀ j, X3 (ix3 0 e j) = m0 j) (M1 : ∀ j, X3 (ix3 1 e j) = m1 j) (M2 : ∀ j, X3 (ix3 2 e j) = m2 j)
    (GA : ∀ j, X4 (ix2 0 j) = gain j) (WW : ∀ k f, X5 (ix2 k f) = w k f) (VV : ∀ f j, X6 (ix2 f j) = v f j) :
    outFn X0 X1 X3 X4 X5 X6 R e j = ffnRow siluK x gain m0 m1 m2 w v j := by
  unfold outFn
  rw [show rowSrc X0 X1 R = x from funext H0]
  simp only [M0, M1, M2, GA, WW, VV]

/-- A context row's source. -/
theorem src_ctx (X0 : S1024x1024.Idx → EReal) (X1 : S32768x1024.Idx → EReal) (R : Fin 33792) (b : Fin 4) (n : Fin 256) (hR : R.val = b.val * 8448 + n.val) (j : Fin 1024) :
    rowSrc X0 X1 R j = X0 (ix2 ⟨b.val * 256 + n.val, by omega⟩ j) := by
  unfold rowSrc
  rw [dif_pos (by omega)]
  exact congrArg (fun z => X0 (ix2 z j)) (Fin.ext (by show R.val / 8448 * 256 + R.val % 8448 = b.val * 256 + n.val; omega))

/-- A latent row's source. -/
theorem src_lat (X0 : S1024x1024.Idx → EReal) (X1 : S32768x1024.Idx → EReal) (R : Fin 33792) (b : Fin 4) (n : Fin 8192) (hR : R.val = b.val * 8448 + (256 + n.val)) (j : Fin 1024) :
    rowSrc X0 X1 R j = X1 (ix2 ⟨b.val * 8192 + n.val, by omega⟩ j) := by
  unfold rowSrc
  rw [dif_neg (by omega)]
  exact congrArg (fun z => X1 (ix2 z j)) (Fin.ext (by show R.val / 8448 * 8192 + (R.val % 8448 - 256) = b.val * 8192 + n.val; omega))

section
variable (x0 : S4x256x1024.Idx → EReal) (x1 : S4x8192x1024.Idx → EReal) (x2 : S4x9x1024.Idx → EReal) (x3 : S9x1024.Idx → EReal) (x4 : S1024.Idx → EReal) (x5 : S1024x5632.Idx → EReal) (x6 : S2816x1024.Idx → EReal)

/-- A latent row: the kernel's value is the reference's. -/
theorem value_lat (b : Fin 4) (n : Fin 8192) (j : Fin 1024) (ha : ∀ f, (val_main_v30 (F := Ideal) x1 x2 x4 x5 : Cert.Reference4Ideal.S4x8192x2816.Idx → EReal) (ix3 b n f) ≠ ⊥) :
    ffnRow siluK (fun j => x1 (ix3 b n j)) (fun j => x4 (ix1 j)) (fun j => x2 (ix3 b 0 j)) (fun j => x2 (ix3 b 1 j)) (fun j => x2 (ix3 b 2 j))
      (fun k f => x5 (ix2 k f)) (fun f j => x6 (ix2 f j)) j
      = (val_main_v37 (F := Ideal) x1 x2 x4 x5 x6 : Cert.Reference4Ideal.S4x8192x1024.Idx → EReal) (ix3 b n j) := by
  rw [ffn_lat]
  unfold ffnRow
  have eh : hrow (fun j => x1 (ix3 b n j)) (fun j => x4 (ix1 j)) (fun j => x2 (ix3 b 1 j)) (fun j => x2 (ix3 b 0 j))
      = fun j => (val_main_v28 (F := Ideal) x1 x2 x4 : Cert.Reference4Ideal.S4x8192x1024.Idx → EReal) (ix3 b n j) := by
    funext j
    rw [Cert.Reference4Ideal.Ffn.norm_lat]
  rw [eh]
  refine outRow_eq _ _ _ _ _ _ fun f => ?_
  rw [← arg_lat]
  exact ha f

/-- A context row: the kernel's value is the reference's. -/
theorem value_ctx (b : Fin 4) (n : Fin 256) (j : Fin 1024) (ha : ∀ f, (val_main_v68 (F := Ideal) x0 x3 x4 x5 : Cert.Reference4Ideal.S4x256x2816.Idx → EReal) (ix3 b n f) ≠ ⊥) :
    ffnRow siluK (fun j => x0 (ix3 b n j)) (fun j => x4 (ix1 j)) (fun j => x3 (ix2 0 j)) (fun j => x3 (ix2 1 j)) (fun j => x3 (ix2 2 j))
      (fun k f => x5 (ix2 k f)) (fun f j => x6 (ix2 f j)) j
      = (val_main_v76 (F := Ideal) x0 x3 x4 x5 x6 : Cert.Reference4Ideal.S4x256x1024.Idx → EReal) (ix3 b n j) := by
  rw [ffn_ctx]
  unfold ffnRow
  have eh : hrow (fun j => x0 (ix3 b n j)) (fun j => x4 (ix1 j)) (fun j => x3 (ix2 1 j)) (fun j => x3 (ix2 0 j))
      = fun j => (val_main_v66 (F := Ideal) x0 x3 x4 : Cert.Reference4Ideal.S4x256x1024.Idx → EReal) (ix3 b n j) := by
    funext j
    rw [Cert.Reference4Ideal.Ffn.norm_ctx]
  rw [eh]
  refine outRow_eq _ _ _ _ _ _ fun f => ?_
  rw [← arg_ctx]
  exact ha f

end

variable (m : (ℓ : Loc nD τ sig) → Buf (Elt Ideal) ℓ) (c : Dev nD)

/-- The kernel's output array is the reference's result on the same arguments. -/
theorem result_eq [hP : Cert.Pre_first_above_minus_inf.Facts] (h : Cert.Pre_Kernel4Ideal_first_above_minus_inf m) :
    (dats m 0 c).arrAt 7 cfg0.N = (val_main_v78 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) : Cert.Reference4Ideal.S33792x1024.Idx → EReal) := by
  obtain ⟨p0, p1⟩ := h c
  have q0 := above_of _ _ _ ((pre_fst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm.trans p0)
  have q1 := above_of _ _ _ ((pre_snd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))).symm.trans p1)
  rw [final]
  funext i
  obtain ⟨r, j, rfl⟩ : ∃ (r : Fin 33792) (j : Fin 1024), i = ix2 r j := ⟨i 0, i 1, funext fun a => by match a with | ⟨0, _⟩ => rfl | ⟨1, _⟩ => rfl⟩
  obtain ⟨b, hb⟩ : ∃ b : Fin 4, b.val = r.val / 8448 := ⟨⟨r.val / 8448, by omega⟩, rfl⟩
  show outFn (V m c main_v3) _ _ _ _ _ r (modOf r) j = _
  by_cases hs : r.val % 8448 < 256
  · obtain ⟨n, hn⟩ : ∃ n : Fin 256, n.val = r.val % 8448 := ⟨⟨r.val % 8448, hs⟩, rfl⟩
    have eR : r.val = b.val * 8448 + n.val := by omega
    have eM : modOf r = 4 := by
      unfold modOf
      rw [if_pos hs]
    refine Eq.trans ?_ (Cert.Reference4Ideal.Ffn.out_ctx _ _ _ _ _ _ _ r j b n eR).symm
    refine Eq.trans ?_ (value_ctx _ _ _ _ _ b n j (fun f => q1 (ix3 b n f)))
    rw [eM]
    exact outFn_of _ _ _ _ _ _ _ _ _ _ _ _ _ _ _ _ (fun j => (src_ctx _ _ r b n eR j).trans (host_c _ b n j)) (host_mc _ 0) (host_mc _ 1) (host_mc _ 2) (host_gain _) (host_up _) (host_down _)
  · obtain ⟨n, hn⟩ : ∃ n : Fin 8192, 256 + n.val = r.val % 8448 := ⟨⟨r.val % 8448 - 256, by omega⟩, by show 256 + (r.val % 8448 - 256) = _; omega⟩
    have eR : r.val = b.val * 8448 + (256 + n.val) := by omega
    have eM : modOf r = ⟨b.val, by omega⟩ := by
      unfold modOf
      rw [if_neg hs]
      exact Fin.ext hb.symm
    refine Eq.trans ?_ (Cert.Reference4Ideal.Ffn.out_lat _ _ _ _ _ _ _ r j b n eR).symm
    refine Eq.trans ?_ (value_lat _ _ _ _ _ b n j (fun f => q0 (ix3 b n f)))
    rw [eM]
    exact outFn_of _ _ _ _ _ _ _ _ _ _ _ _ _ _ _ _ (fun j => (src_lat _ _ r b n eR j).trans (host_x _ b n j)) (host_ml _ 0 b) (host_ml _ 1 b) (host_ml _ 2 b) (host_gain _) (host_up _) (host_down _)

end Cert.FfnSep
end
-- ==== Proof.AttnCore.lean ====
module
public import proofs.«01_k».proof.Proof.Gen.KernelIdeal.Value
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem
namespace Cert.KernelIdeal.Attn
open Cert.KernelIdeal Cert.KernelIdeal.Gen
variable {F : FTy → Type} [FloatOps F]

/-- The four key (or value) blocks of one sample, stacked: previous, current, next, context. -/
def stack (a b c : Vec F S1x128x512 .bf16) (d : Vec F S1x256x512 .bf16) : FVec F S640x512 .bf16 :=
  concatenate S640x512 0 [⟨S128x512, shapeCast S128x512 a shapeCasts_S1x128x512_S128x512⟩,
    ⟨S128x512, shapeCast S128x512 b shapeCasts_S1x128x512_S128x512⟩,
    ⟨S128x512, shapeCast S128x512 c shapeCasts_S1x128x512_S128x512⟩,
    ⟨S256x512, shapeCast S256x512 d shapeCasts_S1x256x512_S256x512⟩]
    concatenates_S128x512_S128x512_S128x512_S256x512_S640x512_d0

/-- The masked scores of one half: two query tiles stacked, against the 640 keys, plus the mask. -/
def scoreT (bias : FVec F S256x640 .f32) (kk : FVec F S640x128 .bf16) (qa qb : Vec F S128x128 .bf16) : FVec F S256x640 .f32 :=
  addf (matmul dot_S256x128_S640x128_S256x640_1_1_0_0_n_n none
    (concatenate S256x128 0 [⟨S128x128, shapeCast S128x128 qa shapeCasts_S128x128_S128x128⟩,
      ⟨S128x128, shapeCast S128x128 qb shapeCasts_S128x128_S128x128⟩] concatenates_S128x128_S128x128_S256x128_d0)
    kk (constant S256x640 .f32 0x00000000#32)) bias

/-- The sink logit of each of the 256 rows: one head for the first tile, another for the second. -/
def sinkT (s0 s1 : F .f32) : FVec F S256x1 .f32 :=
  select (cmpi .slt (iota .tc S256x1 32 [0] iota_S256x1_d0_w32) (broadcast S256x1 128#32) : IVec S256x1 1)
    (broadcast S256x1 s0) (broadcast S256x1 s1)

/-- The row maximum of the scores and the sink. -/
def maxT (sc : FVec F S256x640 .f32) (sk : FVec F S256x1 .f32) : FVec F S256x1 .f32 :=
  maximumf (shapeCast S256x1 (multiReduction .maximumf [1] S256 sc 0xFF800000#32 reduces_S256x640_S256 (.inl rfl) rfl)
    shapeCasts_S256_S256x1) sk

/-- The exponentials of the shifted scores. -/
def expT (sc : FVec F S256x640 .f32) (sk : FVec F S256x1 .f32) : FVec F S256x640 .bf16 :=
  truncf .bf16 (exp (subf sc (broadcastTo S256x640 (maxT sc sk) broadcasts_S256x1_S256x640))) bitsLt_bf16_f32

/-- The exponential of the shifted sink. -/
def sinkExpT (sc : FVec F S256x640 .f32) (sk : FVec F S256x1 .f32) : FVec F S256x1 .f32 := exp (subf sk (maxT sc sk))

/-- The unnormalised sum over the keys. -/
def sumT (p : FVec F S256x640 .bf16) (vv : FVec F S640x128 .bf16) : FVec F S256x128 .f32 :=
  matmul dot_S256x640_S640x128_S256x128_1_0_0_1_n_n none p vv (constant S256x128 .f32 0x00000000#32)

/-- The normalised sum of one half, from the sum, its denominator column and the sink term. -/
def normT (o : FVec F S256x128 .f32) (den : FVec F S256x1 .f32) (se : FVec F S256x1 .f32) : FVec F S256x128 .f32 :=
  mulf o (broadcastTo S256x128 (divf (broadcast S256x1 (Scalar.ofBits .f32 0x3F800000#32)) (addf den se)) broadcasts_S256x1_S256x128)

/-- Both halves of one pair of query tiles, joined by lane. -/
def accT (bias : FVec F S256x640 .f32) (k0 k1 v0 v1 : FVec F S640x128 .bf16) (qa qb : Vec F S128x128 .bf16)
    (s0 s1 s2 s3 : F .f32) : FVec F S256x128 .f32 :=
  select (cmpi .slt (iota .tc S256x128 32 [1] iota_S256x128_d1_w32) (broadcast S256x128 64#32) : IVec S256x128 1)
    (normT (sumT (expT (scoreT bias k0 qa qb) (sinkT s0 s1)) v0)
      (extractStridedSlice S256x1 ![0, 64] (sumT (expT (scoreT bias k0 qa qb) (sinkT s0 s1)) v0) slices_S256x128_o0_64_S256x1)
      (sinkExpT (scoreT bias k0 qa qb) (sinkT s0 s1)))
    (normT (sumT (expT (scoreT bias k1 qa qb) (sinkT s2 s3)) v1)
      (extractStridedSlice S256x1 ![0, 0] (sumT (expT (scoreT bias k1 qa qb) (sinkT s2 s3)) v1) slices_S256x128_o0_0_S256x1)
      (sinkExpT (scoreT bias k1 qa qb) (sinkT s2 s3)))

/-- What the first query tile of a pair stores. -/
def topT (acc : FVec F S256x128 .f32) : Vec F S1x128x128 .bf16 :=
  shapeCast S1x128x128 (truncf .bf16 (extractStridedSlice S128x128 ![0, 0] acc slices_S256x128_o0_0_S128x128) bitsLt_bf16_f32 : FVec F S128x128 .bf16)
    shapeCasts_S128x128_S1x128x128

/-- What the second query tile of a pair stores. -/
def botT (acc : FVec F S256x128 .f32) : Vec F S1x128x128 .bf16 :=
  shapeCast S1x128x128 (truncf .bf16 (extractStridedSlice S128x128 ![128, 0] acc slices_S256x128_o128_0_S128x128) bitsLt_bf16_f32 : FVec F S128x128 .bf16)
    shapeCasts_S128x128_S1x128x128

/-- The first key-value head's pair. -/
def pair0 (bias : FVec F S256x640 .f32) (K V : FVec F S640x512 .bf16) (qa qb : Vec F S128x128 .bf16) (s0 s1 s2 s3 : F .f32) : FVec F S256x128 .f32 :=
  accT bias (extractStridedSlice S640x128 ![0, 0] K slices_S640x512_o0_0_S640x128)
    (extractStridedSlice S640x128 ![0, 128] K slices_S640x512_o0_128_S640x128)
    (extractStridedSlice S640x128 ![0, 0] V slices_S640x512_o0_0_S640x128)
    (extractStridedSlice S640x128 ![0, 128] V slices_S640x512_o0_128_S640x128) qa qb s0 s1 s2 s3

/-- The second key-value head's pair. -/
def pair1 (bias : FVec F S256x640 .f32) (K V : FVec F S640x512 .bf16) (qa qb : Vec F S128x128 .bf16) (s0 s1 s2 s3 : F .f32) : FVec F S256x128 .f32 :=
  accT bias (extractStridedSlice S640x128 ![0, 256] K slices_S640x512_o0_256_S640x128)
    (extractStridedSlice S640x128 ![0, 384] K slices_S640x512_o0_384_S640x128)
    (extractStridedSlice S640x128 ![0, 256] V slices_S640x512_o0_256_S640x128)
    (extractStridedSlice S640x128 ![0, 384] V slices_S640x512_o0_384_S640x128) qa qb s0 s1 s2 s3

end Cert.KernelIdeal.Attn
end
-- ==== Proof.AttnRead.lean ====
module
public import proofs.«01_k».proof.Proof.AttnCore
@[expose] public section
set_option maxRecDepth 16384
noncomputable section
open Idealize.ShloMosaic Idealize.ShloMosaic.TcCoe Idealize.SL.Sem
namespace Cert.KernelIdeal.Attn
open Cert.KernelIdeal Cert.KernelIdeal.Gen

/-- Softmax attention of one query over 640 keys with a sink: `s` the masked logits, `v` the values, `w` the
    column of ones that sums the weights, `z` the sink. -/
def att (s v w : Fin 640 → EReal) (z : EReal) : EReal :=
  (∑ k : Fin 640, Ideal.exp (s k - max (Finset.univ.fold max ⊥ s) z) * v k)
    * Ideal.div 1 ((∑ k : Fin 640, Ideal.exp (s k - max (Finset.univ.fold max ⊥ s) z) * w k)
        + Ideal.exp (z - max (Finset.univ.fold max ⊥ s) z))

theorem neg_inf_bits : Ideal.ofBits .f32 0xFF800000#32 = ⊥ := by simp [Ideal.ofBits, Ideal.ieee]

/-- A score of the first query tile. -/
theorem score_top (bias : FVec Ideal S256x640 .f32) (kk : FVec Ideal S640x128 .bf16) (qa qb : FVec Ideal S128x128 .bf16)
    (r : Fin 128) (k : Fin 640) :
    scoreT (F := Ideal) bias kk qa qb (ix2 ⟨r.val, by omega⟩ k)
      = (∑ d : Fin 128, qa (ix2 r d) * kk (ix2 k d)) + bias (ix2 ⟨r.val, by omega⟩ k) := by
  pointwise [scoreT]
/-- A score of the second query tile. -/
theorem score_bot (bias : FVec Ideal S256x640 .f32) (kk : FVec Ideal S640x128 .bf16) (qa qb : FVec Ideal S128x128 .bf16)
    (r : Fin 128) (k : Fin 640) :
    scoreT (F := Ideal) bias kk qa qb (ix2 ⟨128 + r.val, by omega⟩ k)
      = (∑ d : Fin 128, qb (ix2 r d) * kk (ix2 k d)) + bias (ix2 ⟨128 + r.val, by omega⟩ k) := by
  pointwise [scoreT]
/-- The sink of the first tile's rows. -/
theorem sink_top (s0 s1 : EReal) (r : Fin 128) : sinkT (F := Ideal) s0 s1 (ix2 ⟨r.val, by omega⟩ 0) = s0 := by
  pointwise [sinkT]
  word_cmp
  rw [if_pos (by omega)]
/-- The sink of the second tile's rows. -/
theorem sink_bot (s0 s1 : EReal) (r : Fin 128) : sinkT (F := Ideal) s0 s1 (ix2 ⟨128 + r.val, by omega⟩ 0) = s1 := by
  pointwise [sinkT]
  word_cmp
  rw [if_neg (by omega)]
/-- One half, normalised, with the ones lane at 64. -/
theorem norm_at (sc : FVec Ideal S256x640 .f32) (sk : FVec Ideal S256x1 .f32) (vv : FVec Ideal S640x128 .bf16)
    (den : FVec Ideal S256x1 .f32) (r : Fin 256) (l : Fin 128) (w : Fin 640 → EReal)
    (hden : den (ix2 r 0) = ∑ k : Fin 640, expT (F := Ideal) sc sk (ix2 r k) * w k) :
    normT (F := Ideal) (sumT (expT sc sk) vv) den (sinkExpT sc sk) (ix2 r l)
      = att (fun k => sc (ix2 r k)) (fun k => vv (ix2 k l)) w (sk (ix2 r 0)) := by
  unfold att
  pointwise [normT, sumT, expT, sinkExpT, maxT, neg_inf_bits] at hden ⊢
  rw [hden]
theorem den64 (p : FVec Ideal S256x640 .bf16) (vv : FVec Ideal S640x128 .bf16) (r : Fin 256) :
    extractStridedSlice S256x1 ![0, 64] (sumT (F := Ideal) p vv) slices_S256x128_o0_64_S256x1 (ix2 r 0)
      = ∑ k : Fin 640, p (ix2 r k) * vv (ix2 k 64) := by
  pointwise [sumT]
theorem den0 (p : FVec Ideal S256x640 .bf16) (vv : FVec Ideal S640x128 .bf16) (r : Fin 256) :
    extractStridedSlice S256x1 ![0, 0] (sumT (F := Ideal) p vv) slices_S256x128_o0_0_S256x1 (ix2 r 0)
      = ∑ k : Fin 640, p (ix2 r k) * vv (ix2 k 0) := by
  pointwise [sumT]

/-- What the first tile stores at row `r` and lane `l`. -/
theorem top_at (bias : FVec Ideal S256x640 .f32) (k0 k1 v0 v1 : FVec Ideal S640x128 .bf16) (qa qb : FVec Ideal S128x128 .bf16)
    (s0 s1 s2 s3 : EReal) (a : Fin 1) (r l : Fin 128) :
    topT (F := Ideal) (accT bias k0 k1 v0 v1 qa qb s0 s1 s2 s3) (ix3 a r l)
      = if l.val < 64 then
          att (fun k => (∑ d : Fin 128, qa (ix2 r d) * k0 (ix2 k d)) + bias (ix2 ⟨r.val, by omega⟩ k))
            (fun k => v0 (ix2 k l)) (fun k => v0 (ix2 k 64)) s0
        else
          att (fun k => (∑ d : Fin 128, qa (ix2 r d) * k1 (ix2 k d)) + bias (ix2 ⟨r.val, by omega⟩ k))
            (fun k => v1 (ix2 k l)) (fun k => v1 (ix2 k 0)) s2 := by
  pointwise [topT, accT]
  word_cmp
  by_cases h : l.val < 64
  · simp only [if_pos h]
    refine (norm_at _ _ _ _ _ _ _ (den64 _ _ _)).trans ?_
    simp only [score_top, sink_top]
  · simp only [if_neg h]
    refine (norm_at _ _ _ _ _ _ _ (den0 _ _ _)).trans ?_
    simp only [score_top, sink_top]

/-- What the second tile stores at row `r` and lane `l`. -/
theorem bot_at (bias : FVec Ideal S256x640 .f32) (k0 k1 v0 v1 : FVec Ideal S640x128 .bf16) (qa qb : FVec Ideal S128x128 .bf16)
    (s0 s1 s2 s3 : EReal) (a : Fin 1) (r l : Fin 128) :
    botT (F := Ideal) (accT bias k0 k1 v0 v1 qa qb s0 s1 s2 s3) (ix3 a r l)
      = if l.val < 64 then
          att (fun k => (∑ d : Fin 128, qb (ix2 r d) * k0 (ix2 k d)) + bias (ix2 ⟨128 + r.val, by omega⟩ k))
            (fun k => v0 (ix2 k l)) (fun k => v0 (ix2 k 64)) s1
        else
          att (fun k => (∑ d : Fin 128, qb (ix2 r d) * k1 (ix2 k d)) + bias (ix2 ⟨128 + r.val, by omega⟩ k))
            (fun k => v1 (ix2 k l)) (fun k => v1 (ix2 k 0)) s3 := by
  pointwise [botT, accT]
  word_cmp
  by_cases h : l.val < 64
  · simp only [if_pos h]
    refine (norm_at _ _ _ _ _ _ _ (den64 _ _ _)).trans ?_
    simp only [score_bot, sink_bot]
  · simp only [if_neg h]
    refine (norm_at _ _ _ _ _ _ _ (den0 _ _ _)).trans ?_
    simp only [score_bot, sink_bot]

/-- The rows of block column `t` that key `k` of row `r` is not masked for: keys 0..127 are the previous block,
    128..255 the current, 256..383 the next, the rest the context. -/
def Seen (t r : ℕ) (k : ℕ) : Prop :=
  if k < 128 then 3 ≤ t ∧ r ≤ k else if k < 256 then 2 ≤ t else if k < 384 then (2 ≤ t ∧ t ≤ 64) ∧ k - 256 ≤ r else True

instance (t r k : ℕ) : Decidable (Seen t r k) := by unfold Seen; infer_instance

/-- The mask word of the previous block. -/
theorem prev_word (t r k : ℕ) (ht : t < 66) (hr : r < 128) (hk : k < 128) :
    Scalar.select (IntOp.cmpi .sge (BitVec.ofNat 32 k) (IntOp.addi (BitVec.ofNat 32 r)
      (Scalar.select (Scalar.cmpi .sge (BitVec.ofNat 32 t) 3#32) 0#32 512#32))) (0 : EReal) ⊥
      = if 3 ≤ t ∧ r ≤ k then 0 else ⊥ := by
  unfold Scalar.cmpi
  by_cases h : 3 ≤ t
  · have : Scalar.select (IntOp.cmpi .sge (BitVec.ofNat 32 t) 3#32) 0#32 512#32 = 0#32 := by
      word_cmp
      rw [if_pos h]
    rw [this]
    rw [show IntOp.addi (BitVec.ofNat 32 r) 0#32 = BitVec.ofNat 32 r from BitVec.add_zero _]
    word_cmp
    simp [h]
  · have : Scalar.select (IntOp.cmpi .sge (BitVec.ofNat 32 t) 3#32) 0#32 512#32 = 512#32 := by
      word_cmp
      rw [if_neg h]
    rw [this, show IntOp.addi (BitVec.ofNat 32 r) 512#32 = BitVec.ofNat 32 (r + 512) from (BitVec.ofNat_add r 512).symm]
    word_cmp
    rw [if_neg (by omega), if_neg (by omega)]
/-- The mask word of the current block. -/
theorem cur_word (t k : ℕ) (ht : t < 66) (hk : k < 128) :
    Scalar.select (IntOp.cmpi .sge (BitVec.ofNat 32 k)
      (Scalar.select (Scalar.cmpi .sge (BitVec.ofNat 32 t) 2#32) 0#32 512#32)) (0 : EReal) ⊥
      = if 2 ≤ t then 0 else ⊥ := by
  unfold Scalar.cmpi
  by_cases h : 2 ≤ t
  · have : Scalar.select (IntOp.cmpi .sge (BitVec.ofNat 32 t) 2#32) 0#32 512#32 = 0#32 := by
      word_cmp
      rw [if_pos h]
    rw [this]
    word_cmp
    simp [h]
  · have : Scalar.select (IntOp.cmpi .sge (BitVec.ofNat 32 t) 2#32) 0#32 512#32 = 512#32 := by
      word_cmp
      rw [if_neg h]
    rw [this]
    word_cmp
    rw [if_neg (by omega), if_neg h]
/-- The mask word of the next block. -/
theorem next_word (t r k : ℕ) (ht : t < 66) (hr : r < 128) (hk : k < 128) :
    Scalar.select (IntOp.cmpi .sle (BitVec.ofNat 32 k) (IntOp.subi (BitVec.ofNat 32 r)
      (Scalar.select (Scalar.andi (Scalar.cmpi .sge (BitVec.ofNat 32 t) 2#32) (Scalar.cmpi .sle (BitVec.ofNat 32 t) 64#32)) 0#32 512#32))) (0 : EReal) ⊥
      = if (2 ≤ t ∧ t ≤ 64) ∧ k ≤ r then 0 else ⊥ := by
  unfold Scalar.cmpi Scalar.andi
  by_cases h : 2 ≤ t ∧ t ≤ 64
  · have : Scalar.select (IntOp.andi (IntOp.cmpi .sge (BitVec.ofNat 32 t) 2#32) (IntOp.cmpi .sle (BitVec.ofNat 32 t) 64#32)) 0#32 512#32 = 0#32 := by
      word_cmp
      rw [if_pos h]
    rw [this, show IntOp.subi (BitVec.ofNat 32 r) 0#32 = BitVec.ofNat 32 r from BitVec.sub_zero _]
    word_cmp
    simp [h]
  · have : Scalar.select (IntOp.andi (IntOp.cmpi .sge (BitVec.ofNat 32 t) 2#32) (IntOp.cmpi .sle (BitVec.ofNat 32 t) 64#32)) 0#32 512#32 = 512#32 := by
      word_cmp
      rw [if_neg h]
    rw [this]
    have : IntOp.cmpi .sle (BitVec.ofNat 32 k) (IntOp.subi (BitVec.ofNat 32 r) 512#32) = 0#1 := by
      have e : (IntOp.subi (BitVec.ofNat 32 r) 512#32).toInt = (r : ℤ) - 512 := by
        unfold IntOp.subi
        rw [BitVec.toInt_sub, BitVec.toInt_ofNat', BitVec.toInt_ofNat']
        simp [Int.bmod]
        omega
      have e2 : (BitVec.ofNat 32 k).toInt = (k : ℤ) := by
        rw [BitVec.toInt_ofNat']
        simp [Int.bmod]
        omega
      unfold IntOp.cmpi
      simp only [BitVec.sle, e, e2]
      rw [decide_eq_false (by omega)]
      rfl
    rw [this]
    simp [h]
    rfl

/-- The mask at row `r` of the stacked pair and key `k`. -/
theorem bias_row (i : grid0.Coords) (t : Fin 66) (ht : (i 1).val = t.val) (r : Fin 256) (k : Fin 640) :
    k0_pay2 (F := Ideal) i (ix2 r k) = if Seen t.val (r.val % 128) k.val then 0 else ⊥ := by
  pointwise [k0_pay2, neg_inf_bits]
  simp only [ht]
  have key : ∀ q : ℕ, q < 128 → ((if h : k.val < 128 then
        Scalar.select
          (IntOp.cmpi CmpIPredicate.sge (BitVec.ofNat 32 k.val)
            (IntOp.addi (BitVec.ofNat 32 q)
              (Scalar.select (Scalar.cmpi CmpIPredicate.sge (BitVec.ofNat 32 t.val) 3#32) 0#32 512#32)))
          0 ⊥
      else
        if h : k.val - 128 < 128 then
          Scalar.select
            (IntOp.cmpi CmpIPredicate.sge (BitVec.ofNat 32 (k.val - 128))
              (Scalar.select (Scalar.cmpi CmpIPredicate.sge (BitVec.ofNat 32 t.val) 2#32) 0#32 512#32))
            0 ⊥
        else
          if h : k.val - 128 - 128 < 128 then
            Scalar.select
              (IntOp.cmpi CmpIPredicate.sle (BitVec.ofNat 32 (k.val - 128 - 128))
                (IntOp.subi (BitVec.ofNat 32 q)
                  (Scalar.select
                    (Scalar.andi (Scalar.cmpi CmpIPredicate.sge (BitVec.ofNat 32 t.val) 2#32)
                      (Scalar.cmpi CmpIPredicate.sle (BitVec.ofNat 32 t.val) 64#32))
                    0#32 512#32)))
              0 ⊥
          else (0 : EReal)) : EReal) = if Seen t.val q k.val then 0 else ⊥ := by
    intro q hq
    unfold Seen
    by_cases h1 : k.val < 128
    · simp only [dif_pos h1, if_pos h1]
      exact prev_word _ _ _ t.isLt hq h1
    by_cases h2 : k.val < 256
    · simp only [dif_neg h1, if_neg h1, dif_pos (show k.val - 128 < 128 by omega), if_pos h2]
      exact cur_word _ _ t.isLt (by omega)
    by_cases h3 : k.val < 384
    · simp only [dif_neg h1, if_neg h1, dif_neg (show ¬ k.val - 128 < 128 by omega), if_neg h2,
        dif_pos (show k.val - 128 - 128 < 128 by omega), if_pos h3]
      rw [show k.val - 128 - 128 = k.val - 256 by omega]
      exact next_word _ _ _ t.isLt hq (by omega)
    · simp only [dif_neg h1, if_neg h1, dif_neg (show ¬ k.val - 128 < 128 by omega), if_neg h2,
        dif_neg (show ¬ k.val - 128 - 128 < 128 by omega), if_neg h3, if_true]
  by_cases hr : r.val < 128
  · rw [dif_pos hr, Nat.mod_eq_of_lt hr]
    exact key _ hr
  · rw [dif_neg hr, show r.val % 128 = r.val - 128 by omega]
    exact key _ (by omega)

/-- The stacked blocks read at key `k`. -/
theorem stack_at (a b c : FVec Ideal S1x128x512 .bf16) (d : FVec Ideal S1x256x512 .bf16) (k : Fin 640) (l : Fin 512) :
    stack (F := Ideal) a b c d (ix2 k l) = if h : k.val < 128 then a (ix3 0 ⟨k.val, h⟩ l)
      else if h : k.val < 256 then b (ix3 0 ⟨k.val - 128, by omega⟩ l)
      else if h : k.val < 384 then c (ix3 0 ⟨k.val - 256, by omega⟩ l)
      else d (ix3 0 ⟨k.val - 384, by omega⟩ l) := by
  pointwise [stack]
  simp only [Nat.sub_sub, Nat.reduceAdd]
  by_cases h1 : k.val < 128
  · simp only [dif_pos h1]
  by_cases h2 : k.val < 256
  · simp only [dif_neg h1, dif_pos (show k.val - 128 < 128 by omega), dif_pos h2]
  by_cases h3 : k.val < 384
  · simp only [dif_neg h1, dif_neg (show ¬ k.val - 128 < 128 by omega), dif_neg h2,
      dif_pos (show k.val - 256 < 128 by omega), dif_pos h3]
  · simp only [dif_neg h1, dif_neg (show ¬ k.val - 128 < 128 by omega), dif_neg h2,
      dif_neg (show ¬ k.val - 256 < 128 by omega), dif_neg h3]

/-- A query tile, loaded through a slice of one sample of the block, read at an index. -/
theorem qread (M : Memref sig .tc .vmem S4x128x512 .bf16) (hM : M.IsWhole) (X : FVec Ideal S4x128x512 .bf16) (g o : ℕ) (hg : g < 4) (ho : o + 128 ≤ 512)
    (i1 : ∀ a, (![g, 0, 0] : Fin 3 → ℕ) a + (![1, 128, 512] : Fin 3 → ℕ) a ≤ S4x128x512.size a)
    (i2 : ∀ a, (![0, o] : Fin 2 → ℕ) a + (![128, 128] : Fin 2 → ℕ) a ≤ S128x512.size a)
    (h0 : (![1, 128, 512] : Fin 3 → ℕ) 0 = 1) (hs : ∀ i : Fin 2, (![1, 128, 512] : Fin 3 → ℕ) i.succ = S128x512.size i)
    (h₀ : ∀ a, (Rect.unit (s := S4x128x512) ![g, 0, 0] ![1, 128, 512] i1).stride a = 1) (hR) (r d : Fin 128) :
    LoadRect.valAlong (lr := (Rect.unit (s := S128x512) ![0, o] ![128, 128] i2).toLoadRect) hR
      (View.readAt (Elt Ideal) M.view ((Rect.unit (s := S4x128x512) ![g, 0, 0] ![1, 128, 512] i1).withinL
        ((Rect.unit (s := S128x512) ![0, o] ![128, 128] i2).toLoadRect.consLift ![1, 128, 512] h0 hs) h₀) (hM.unread X)) (ix2 r d)
      = X (ix3 ⟨g, hg⟩ r ⟨o + d.val, by omega⟩) := by
  unfold LoadRect.valAlong
  rw [View.readAt_apply, Memref.IsWhole.read_unread]
  have hx : Shape.reshapeEquiv hR (ix2 r d) = Fin.cons ⟨0, Nat.one_pos⟩ (ix2 r d : S128x128.Idx) :=
    Shape.reshapeEquiv_cons_one (d := ![128, 128]) _ _
  rw [hx]
  refine congrArg X ?_
  funext a
  apply Fin.ext
  rw [LoadRect.idx_apply]
  match a with
  | ⟨0, _⟩ => rfl
  | ⟨1, _⟩ => show 0 + 0 + 1 * r.val = r.val; omega
  | ⟨2, _⟩ => show 0 + o + 1 * d.val = o + d.val; omega

end Cert.KernelIdeal.Attn
end
-- ==== Proof.Softmax.lean ====
module
public import Idealize.ShloMosaic.Lib.Pipeline.ValueKit
public import Idealize.ShloMosaic.Lib.Pointwise
@[expose] public section
set_option maxRecDepth 16384
noncomputable section
open Idealize.ShloMosaic

namespace Cert.Softmax

/-- Neither infinity. -/
abbrev Fin' (x : EReal) : Prop := x ≠ ⊥ ∧ x ≠ ⊤

/-- The weight of a logit `s` over a shift `M`, as a real: nothing at −∞. -/
def wt (s : EReal) (M : ℝ) : ℝ := if s = ⊥ then 0 else Real.exp (s.toReal - M)

theorem wt_nonneg (s : EReal) (M : ℝ) : 0 ≤ wt s M := by
  unfold wt; split <;> positivity

/-- The exponential of a shifted logit is that weight. -/
theorem exp_sub (s : EReal) (hs : s ≠ ⊤) (M : ℝ) : Ideal.exp (s - (M : EReal)) = ((wt s M : ℝ) : EReal) := by
  unfold wt
  induction s with
  | bot => rw [if_pos rfl, EReal.bot_sub]; rfl
  | top => exact absurd rfl hs
  | coe x =>
    rw [if_neg (EReal.coe_ne_bot x), ← EReal.coe_sub, EReal.toReal_coe]
    rfl

/-- A change of shift scales every weight alike. -/
theorem wt_shift (s : EReal) (M M' : ℝ) : wt s M' = wt s M * Real.exp (M - M') := by
  unfold wt
  split
  · simp
  · rw [← Real.exp_add]; congr 1; ring

theorem coe_sum {ι : Type} (t : Finset ι) (f : ι → ℝ) : ((∑ k ∈ t, f k : ℝ) : EReal) = ∑ k ∈ t, (f k : EReal) := by
  classical
  induction t using Finset.induction_on with
  | empty => simp
  | insert a t ha ih => rw [Finset.sum_insert ha, Finset.sum_insert ha, EReal.coe_add, ih]

/-- A nonnegative real factor distributes over any finite sum. -/
theorem sum_mul_coe {ι : Type} (t : Finset ι) (f : ι → EReal) (c : ℝ) (hc : 0 ≤ c) :
    (∑ k ∈ t, f k) * (c : EReal) = ∑ k ∈ t, f k * (c : EReal) := by
  classical
  induction t using Finset.induction_on with
  | empty => simp
  | insert a t ha ih =>
    rw [Finset.sum_insert ha, Finset.sum_insert ha, ← ih]
    exact EReal.right_distrib_of_nonneg_of_ne_top (by exact_mod_cast hc) (EReal.coe_ne_top c) _ _

/-- Softmax with a sink does not depend on the shift, nor on the order of normalising and summing: the unnormalised sum
    over the keys times the reciprocal of its denominator is the sum of the values weighted by normalised weights. The
    values need only agree at the keys that are not masked. -/
theorem shift_invariant {ι : Type} [Fintype ι] (s v w : ι → EReal) (z : EReal) (M M' : ℝ)
    (hs : ∀ k, s k ≠ ⊤) (hz : Fin' z) (hvw : ∀ k, s k ≠ ⊥ → v k = w k) :
    (∑ k, Ideal.exp (s k - (M : EReal)) * v k) * Ideal.div 1 ((∑ k, Ideal.exp (s k - (M : EReal))) + Ideal.exp (z - (M : EReal)))
      = ∑ k, w k * Ideal.div (Ideal.exp (s k - (M' : EReal))) ((∑ k, Ideal.exp (s k - (M' : EReal))) + Ideal.exp (z - (M' : EReal))) := by
  simp only [exp_sub _ (hs _), exp_sub _ hz.2]
  simp only [← coe_sum, ← EReal.coe_add]
  have hzp : 0 < wt z M := by unfold wt; rw [if_neg hz.1]; positivity
  have hD : 0 < (∑ k, wt (s k) M) + wt z M := add_pos_of_nonneg_of_pos (Finset.sum_nonneg fun k _ => wt_nonneg _ _) hzp
  have hD' : (∑ k, wt (s k) M') + wt z M' = ((∑ k, wt (s k) M) + wt z M) * Real.exp (M - M') := by
    rw [add_mul, Finset.sum_mul, wt_shift z M M']
    congr 1
    exact Finset.sum_congr rfl fun k _ => wt_shift _ _ _
  rw [hD']
  generalize (∑ k, wt (s k) M) + wt z M = D at hD ⊢
  have he := Real.exp_pos (M - M')
  have h1 : Ideal.div 1 (D : EReal) = ((1 / D : ℝ) : EReal) := by
    rw [Ideal.div_coe hD.ne', one_mul]
  rw [h1, sum_mul_coe _ _ _ (by positivity)]
  refine Finset.sum_congr rfl fun k _ => ?_
  have hDE : D * Real.exp (M - M') ≠ 0 := (mul_pos hD he).ne'
  rw [Ideal.div_coe hDE, wt_shift (s k) M M', ← EReal.coe_mul]
  have h2 : wt (s k) M * Real.exp (M - M') * (1 / (D * Real.exp (M - M'))) = wt (s k) M * (1 / D) := by
    field_simp
  by_cases h : s k = ⊥
  · have : wt (s k) M = 0 := by unfold wt; rw [if_pos h]
    rw [h2, this]; simp
  · rw [hvw k h, h2, EReal.coe_mul]
    rw [mul_comm ((wt (s k) M : ℝ) : EReal) (w k), mul_assoc]

/-- The larger of a finite number and a fold of numbers below +∞ is finite. -/
theorem max_real {ι : Type} [Fintype ι] (s : ι → EReal) (z : EReal) (hs : ∀ k, s k ≠ ⊤) (hz : Fin' z) :
    ∃ M : ℝ, max (Finset.univ.fold max ⊥ s) z = (M : EReal) := by
  have ht : Finset.univ.fold max ⊥ s ≠ ⊤ := by
    apply ne_of_lt
    rw [Finset.fold_max_lt]
    exact ⟨bot_lt_top, fun k _ => lt_top_iff_ne_top.2 (hs k)⟩
  have h1 : max (Finset.univ.fold max ⊥ s) z ≠ ⊤ := by
    rcases max_choice (Finset.univ.fold max ⊥ s) z with h | h <;> rw [h]
    · exact ht
    · exact hz.2
  have h2 : max (Finset.univ.fold max ⊥ s) z ≠ ⊥ := fun h => hz.1 (le_bot_iff.1 (h ▸ le_max_right _ _))
  exact ⟨_, (EReal.coe_toReal h1 h2).symm⟩

/-- A fold of numbers below +∞, one of them finite, is finite. -/
theorem fold_real {ι : Type} [Fintype ι] (s : ι → EReal) (k0 : ι) (hs : ∀ k, s k ≠ ⊤) (hz : s k0 ≠ ⊥) :
    ∃ M : ℝ, Finset.univ.fold max ⊥ s = (M : EReal) := by
  have ht : Finset.univ.fold max ⊥ s ≠ ⊤ := by
    apply ne_of_lt
    rw [Finset.fold_max_lt]
    exact ⟨bot_lt_top, fun k _ => lt_top_iff_ne_top.2 (hs k)⟩
  have h2 : Finset.univ.fold max ⊥ s ≠ ⊥ := fun h =>
    hz (le_bot_iff.1 (h ▸ ((Finset.le_fold_max (s k0)).2 (Or.inr ⟨k0, Finset.mem_univ _, le_rfl⟩))))
  exact ⟨_, (EReal.coe_toReal ht h2).symm⟩

/-- A finite sum of products of finite numbers is finite. -/
theorem dot_real {ι : Type} [Fintype ι] (f g : ι → EReal) (hf : ∀ k, Fin' (f k)) (hg : ∀ k, Fin' (g k)) :
    ∃ r : ℝ, ∑ k, f k * g k = (r : EReal) := by
  refine ⟨∑ k, (f k).toReal * (g k).toReal, ?_⟩
  rw [coe_sum]
  refine Finset.sum_congr rfl fun k _ => ?_
  rw [EReal.coe_mul, EReal.coe_toReal (hf k).2 (hf k).1, EReal.coe_toReal (hg k).2 (hg k).1]

/-- A factor inside every product of a dot product of finite numbers comes out, the operands in the other order. -/
theorem dot_scale {ι : Type} [Fintype ι] (f g : ι → EReal) (c : ℝ) (hc : 0 ≤ c) :
    ∑ k, (f k * (c : EReal)) * g k = (∑ k, g k * f k) * (c : EReal) := by
  rw [sum_mul_coe _ _ _ hc]
  exact Finset.sum_congr rfl fun k _ => by rw [mul_right_comm, mul_comm (f k)]

end Cert.Softmax
end
-- ==== Proof.AttnSum.lean ====
module
public import proofs.«01_k».proof.Proof.AttnRead
public import proofs.«01_k».proof.Proof.Softmax
@[expose] public section
set_option maxRecDepth 16384
noncomputable section
open Idealize.ShloMosaic Idealize.ShloMosaic.TcCoe Idealize.SL.Sem

namespace Cert.KernelIdeal.Attn
open Cert.Softmax

/-- The attention of one row, with its own maximum, is the weighted sum with any real shift, each weight normalised first;
    values need only agree at keys that are not masked. -/
theorem att_eq (s v w : Fin 640 → EReal) (z : EReal) (M' : ℝ) (hs : ∀ k, s k ≠ ⊤) (hz : Fin' z) (hvw : ∀ k, s k ≠ ⊥ → v k = w k) :
    att s v (fun _ => 1) z =
      ∑ k, w k * Ideal.div (Ideal.exp (s k - (M' : EReal))) ((∑ k, Ideal.exp (s k - (M' : EReal))) + Ideal.exp (z - (M' : EReal))) := by
  obtain ⟨M, hM⟩ := max_real s z hs hz
  unfold att
  rw [hM]
  simp only [mul_one]
  exact shift_invariant s v w z M M' hs hz hvw

/-- A sum over all keys is the sum over the band's plus the sum over the context's. -/
theorem sum_keys (f : Fin 640 → EReal) :
    ∑ k : Fin 640, f k = (∑ κ : Fin 384, f ⟨κ.val, by omega⟩) + ∑ κ : Fin 256, f ⟨384 + κ.val, by omega⟩ :=
  Fin.sum_univ_add (a := 384) (b := 256) f

/-- The weighted sum over the band and the context, normalised over all keys and the sink. -/
theorem latent_sum (s w : Fin 640 → EReal) (z : EReal) (y : Fin 641 → EReal) (hy : ∀ k : Fin 640, y ⟨k.val, by omega⟩ = s k)
    (hz : y ⟨640, by omega⟩ = z) (M : EReal) (A : Fin 384 → EReal) (B : Fin 256 → EReal) (hA : ∀ κ : Fin 384, w ⟨κ.val, by omega⟩ = A κ)
    (hB : ∀ κ : Fin 256, w ⟨384 + κ.val, by omega⟩ = B κ) :
    ∑ k, w k * Ideal.div (Ideal.exp (s k - M)) ((∑ k, Ideal.exp (s k - M)) + Ideal.exp (z - M)) =
      (∑ κ : Fin 384, A κ * Ideal.div (Ideal.exp (y ⟨κ.val, by omega⟩ - M)) (∑ k' : Fin 641, Ideal.exp (y k' - M)))
      + ∑ κ : Fin 256, B κ * Ideal.div (Ideal.exp (y ⟨384 + κ.val, by omega⟩ - M)) (∑ k' : Fin 641, Ideal.exp (y k' - M)) := by
  have hD : ∑ k' : Fin 641, Ideal.exp (y k' - M) = (∑ k, Ideal.exp (s k - M)) + Ideal.exp (z - M) := by
    rw [Fin.sum_univ_castSucc]
    exact congrArg₂ (· + ·) (Finset.sum_congr rfl fun k _ => congrArg (fun a => Ideal.exp (a - M)) (hy k)) (congrArg (fun a => Ideal.exp (a - M)) hz)
  rw [hD]
  generalize (∑ k, Ideal.exp (s k - M)) + Ideal.exp (z - M) = D
  rw [sum_keys]
  refine congrArg₂ (· + ·) (Finset.sum_congr rfl fun κ _ => ?_) (Finset.sum_congr rfl fun κ _ => ?_)
  · rw [hA, ← hy ⟨κ.val, by omega⟩]
  · rw [hB, ← hy ⟨384 + κ.val, by omega⟩]

/-- The weighted sum over the context alone, when the band is masked. -/
theorem context_sum (s w : Fin 640 → EReal) (z : EReal) (y : Fin 257 → EReal) (hy : ∀ κ : Fin 256, y ⟨κ.val, by omega⟩ = s ⟨384 + κ.val, by omega⟩)
    (h0 : ∀ κ : Fin 384, s ⟨κ.val, by omega⟩ = ⊥)
    (hz : y ⟨256, by omega⟩ = z) (M : EReal) (B : Fin 256 → EReal) (hA : ∀ κ : Fin 384, w ⟨κ.val, by omega⟩ = 0)
    (hB : ∀ κ : Fin 256, w ⟨384 + κ.val, by omega⟩ = B κ) :
    ∑ k, w k * Ideal.div (Ideal.exp (s k - M)) ((∑ k, Ideal.exp (s k - M)) + Ideal.exp (z - M)) =
      ∑ κ : Fin 256, B κ * Ideal.div (Ideal.exp (y ⟨κ.val, by omega⟩ - M)) (∑ k' : Fin 257, Ideal.exp (y k' - M)) := by
  have hbot : Ideal.exp ((⊥ : EReal) - M) = 0 := by rw [EReal.bot_sub]; rfl
  have hD : ∑ k' : Fin 257, Ideal.exp (y k' - M) = (∑ k, Ideal.exp (s k - M)) + Ideal.exp (z - M) := by
    rw [Fin.sum_univ_castSucc, sum_keys (fun k => Ideal.exp (s k - M)), Finset.sum_eq_zero (s := (Finset.univ : Finset (Fin 384))) fun κ _ => by rw [h0 κ, hbot], zero_add]
    exact congrArg₂ (· + ·) (Finset.sum_congr rfl fun k _ => congrArg (fun a => Ideal.exp (a - M)) (hy k)) (congrArg (fun a => Ideal.exp (a - M)) hz)
  rw [hD]
  generalize (∑ k, Ideal.exp (s k - M)) + Ideal.exp (z - M) = D
  rw [sum_keys, Finset.sum_eq_zero (s := (Finset.univ : Finset (Fin 384))) fun κ _ => by rw [hA, zero_mul], zero_add]
  refine Finset.sum_congr rfl fun κ _ => ?_
  rw [hB, ← hy κ]

end Cert.KernelIdeal.Attn
end
-- ==== Proof.AttnBlock.lean ====
module
public import proofs.«01_k».proof.Proof.AttnRead
@[expose] public section
set_option maxRecDepth 16384
noncomputable section
open Idealize.ShloMosaic Idealize.ShloMosaic.TcCoe Idealize.SL.Sem
open Idealize.ShloMosaic.Pipeline (Dat)
namespace Cert.KernelIdeal.Attn
open Cert.KernelIdeal Cert.KernelIdeal.Gen

/-- The array row of key `k` at block column `t`: previous, current and next block (at the array's ends the nearest
    one), then the context rows. -/
def krow (t : Fin 66) (k : Fin 640) : Fin 8448 :=
  if h : k.val < 128 then ⟨(t.val - 1) * 128 + k.val, by omega⟩
  else if h : k.val < 256 then ⟨t.val * 128 + (k.val - 128), by omega⟩
  else if h : k.val < 384 then ⟨min (t.val + 1) 65 * 128 + (k.val - 256), by omega⟩
  else ⟨k.val - 384, by omega⟩

/-- The attention of one array row, one query lane tile, one lane. -/
def outAt (Q K V : S4x8448x512.Idx → EReal) (Z : S8.Idx → EReal) (b : Fin 4) (t : Fin 66) (r : Fin 128) (p : Fin 2) (j : Fin 2) (l : Fin 128) : EReal :=
  if l.val < 64 then
    att (fun k => (∑ d : Fin 128, Q (ix3 b ⟨t.val * 128 + r.val, by omega⟩ ⟨p.val * 256 + j.val * 128 + d.val, by omega⟩) * K (ix3 b (krow t k) ⟨p.val * 256 + d.val, by omega⟩))
        + if Seen t.val r.val k.val then 0 else ⊥)
      (fun k => V (ix3 b (krow t k) ⟨p.val * 256 + l.val, by omega⟩)) (fun k => V (ix3 b (krow t k) ⟨p.val * 256 + 64, by omega⟩))
      (Z (ix1 ⟨p.val * 4 + j.val * 2, by omega⟩))
  else
    att (fun k => (∑ d : Fin 128, Q (ix3 b ⟨t.val * 128 + r.val, by omega⟩ ⟨p.val * 256 + j.val * 128 + d.val, by omega⟩) * K (ix3 b (krow t k) ⟨p.val * 256 + (128 + d.val), by omega⟩))
        + if Seen t.val r.val k.val then 0 else ⊥)
      (fun k => V (ix3 b (krow t k) ⟨p.val * 256 + (128 + l.val), by omega⟩)) (fun k => V (ix3 b (krow t k) ⟨p.val * 256 + 128, by omega⟩))
      (Z (ix1 ⟨p.val * 4 + j.val * 2 + 1, by omega⟩))

/-- The array the call leaves, as a function of its operands. -/
def outArr (Q K V : S4x8448x512.Idx → EReal) (Z : S8.Idx → EReal) (i : S4x8448x512.Idx) : EReal :=
  outAt Q K V Z (i 0) ⟨(i 1).val / 128, by have : (i 1).val < 8448 := (i 1).isLt; omega⟩ ⟨(i 1).val % 128, by omega⟩
    ⟨(i 2).val / 256, by have : (i 2).val < 512 := (i 2).isLt; omega⟩ ⟨(i 2).val / 128 % 2, by omega⟩ ⟨(i 2).val % 128, by omega⟩

theorem outArr_eq (Q K V : S4x8448x512.Idx → EReal) (Z : S8.Idx → EReal) (i : S4x8448x512.Idx) (b : Fin 4) (t : Fin 66) (r : Fin 128) (p j : Fin 2) (l : Fin 128)
    (h0 : (i 0).val = b.val) (h1 : (i 1).val = t.val * 128 + r.val) (h2 : (i 2).val = p.val * 256 + j.val * 128 + l.val) :
    outArr Q K V Z i = outAt Q K V Z b t r p j l := by
  unfold outArr
  congr 1
  · exact Fin.ext h0
  · apply Fin.ext; show (i 1).val / 128 = t.val; omega
  · apply Fin.ext; show (i 1).val % 128 = r.val; omega
  · apply Fin.ext; show (i 2).val / 256 = p.val; omega
  · apply Fin.ext; show (i 2).val / 128 % 2 = j.val; omega
  · apply Fin.ext; show (i 2).val % 128 = l.val; omega

/-- The first tile of a pair stores the array's values. -/
theorem top_piece (Q K V : S4x8448x512.Idx → EReal) (Z : S8.Idx → EReal) (t : Fin 66) (b : Fin 4) (p : Fin 2)
    (bias : FVec Ideal S256x640 .f32) (k0 k1 v0 v1 : FVec Ideal S640x128 .bf16) (qa qb : FVec Ideal S128x128 .bf16) (s0 s1 s2 s3 : EReal)
    (hb : ∀ (r : Fin 256) (k : Fin 640), bias (ix2 r k) = if Seen t.val (r.val % 128) k.val then 0 else ⊥)
    (hk0 : ∀ (k : Fin 640) (l : Fin 128), k0 (ix2 k l) = K (ix3 b (krow t k) ⟨p.val * 256 + l.val, by omega⟩))
    (hk1 : ∀ (k : Fin 640) (l : Fin 128), k1 (ix2 k l) = K (ix3 b (krow t k) ⟨p.val * 256 + (128 + l.val), by omega⟩))
    (hv0 : ∀ (k : Fin 640) (l : Fin 128), v0 (ix2 k l) = V (ix3 b (krow t k) ⟨p.val * 256 + l.val, by omega⟩))
    (hv1 : ∀ (k : Fin 640) (l : Fin 128), v1 (ix2 k l) = V (ix3 b (krow t k) ⟨p.val * 256 + (128 + l.val), by omega⟩))
    (hq : ∀ r d : Fin 128, qa (ix2 r d) = Q (ix3 b ⟨t.val * 128 + r.val, by omega⟩ ⟨p.val * 256 + 0 * 128 + d.val, by omega⟩))
    (hs0 : s0 = Z (ix1 ⟨p.val * 4 + 0 * 2, by omega⟩)) (hs2 : s2 = Z (ix1 ⟨p.val * 4 + 0 * 2 + 1, by omega⟩))
    (x : S1x128x128.Idx) (i : S4x8448x512.Idx) (h0 : (i 0).val = b.val) (h1 : (i 1).val = t.val * 128 + (x 1).val)
    (h2 : (i 2).val = p.val * 256 + 0 * 128 + (x 2).val) :
    topT (F := Ideal) (accT bias k0 k1 v0 v1 qa qb s0 s1 s2 s3) x = outArr Q K V Z i := by
  idx_vars x
  rw [outArr_eq Q K V Z i b t x1 p 0 x2 h0 h1 h2]
  refine (top_at _ _ _ _ _ _ _ _ _ _ _ _ _ _).trans ?_
  subst hs0 hs2
  have hm : ∀ r : Fin 128, r.val % 128 = r.val := fun r => Nat.mod_eq_of_lt r.isLt
  simp only [hb, hk0, hk1, hv0, hv1, hq, hm]
  rfl

/-- The second tile of a pair stores the array's values. -/
theorem bot_piece (Q K V : S4x8448x512.Idx → EReal) (Z : S8.Idx → EReal) (t : Fin 66) (b : Fin 4) (p : Fin 2)
    (bias : FVec Ideal S256x640 .f32) (k0 k1 v0 v1 : FVec Ideal S640x128 .bf16) (qa qb : FVec Ideal S128x128 .bf16) (s0 s1 s2 s3 : EReal)
    (hb : ∀ (r : Fin 256) (k : Fin 640), bias (ix2 r k) = if Seen t.val (r.val % 128) k.val then 0 else ⊥)
    (hk0 : ∀ (k : Fin 640) (l : Fin 128), k0 (ix2 k l) = K (ix3 b (krow t k) ⟨p.val * 256 + l.val, by omega⟩))
    (hk1 : ∀ (k : Fin 640) (l : Fin 128), k1 (ix2 k l) = K (ix3 b (krow t k) ⟨p.val * 256 + (128 + l.val), by omega⟩))
    (hv0 : ∀ (k : Fin 640) (l : Fin 128), v0 (ix2 k l) = V (ix3 b (krow t k) ⟨p.val * 256 + l.val, by omega⟩))
    (hv1 : ∀ (k : Fin 640) (l : Fin 128), v1 (ix2 k l) = V (ix3 b (krow t k) ⟨p.val * 256 + (128 + l.val), by omega⟩))
    (hq : ∀ r d : Fin 128, qb (ix2 r d) = Q (ix3 b ⟨t.val * 128 + r.val, by omega⟩ ⟨p.val * 256 + 1 * 128 + d.val, by omega⟩))
    (hs1 : s1 = Z (ix1 ⟨p.val * 4 + 1 * 2, by omega⟩)) (hs3 : s3 = Z (ix1 ⟨p.val * 4 + 1 * 2 + 1, by omega⟩))
    (x : S1x128x128.Idx) (i : S4x8448x512.Idx) (h0 : (i 0).val = b.val) (h1 : (i 1).val = t.val * 128 + (x 1).val)
    (h2 : (i 2).val = p.val * 256 + 1 * 128 + (x 2).val) :
    botT (F := Ideal) (accT bias k0 k1 v0 v1 qa qb s0 s1 s2 s3) x = outArr Q K V Z i := by
  idx_vars x
  rw [outArr_eq Q K V Z i b t x1 p 1 x2 h0 h1 h2]
  refine (bot_at _ _ _ _ _ _ _ _ _ _ _ _ _ _).trans ?_
  subst hs1 hs3
  have hm : ∀ r : Fin 128, (128 + r.val) % 128 = r.val := fun r => by omega
  simp only [hb, hk0, hk1, hv0, hv1, hq, hm]
  rfl

theorem idx_val : ∀ t : Fin cfg0.N, win0_0.index t = ![0] ∧ win0_1.index t = ![0, t.val, 0]
    ∧ win0_2.index t = ![0, t.val - 1, 0] ∧ win0_3.index t = ![0, t.val, 0] ∧ win0_4.index t = ![0, min (t.val + 1) 65, 0] ∧ win0_5.index t = ![0, 0, 0]
    ∧ win0_6.index t = ![0, t.val - 1, 0] ∧ win0_7.index t = ![0, t.val, 0] ∧ win0_8.index t = ![0, min (t.val + 1) 65, 0] ∧ win0_9.index t = ![0, 0, 0]
    ∧ win0_10.index t = ![0, t.val, 0] ∧ (grid0.coords t 1).val = t.val :=
  (by decide +kernel : ∀ t : Fin grid0.N, _)

theorem lt66 (t : Fin cfg0.N) : t.val < 66 := lt_of_lt_of_eq t.isLt N_0

/-- Window 2's block at one index, for any contents of the buffers. -/
theorem rd2 (c : Dev nD) (A : (b : Ref sig .tc) → Buf (Elt Ideal) ((c : Thread nD τ).loc b)) (t : Fin cfg0.N) (g : Fin 4) (r : Fin 128) (l : Fin 512) (h : (t.val - 1) * 128 + r.val < 8448) :
    ((cfg0.win 2).blk t).view.read (Elt Ideal) (A (Pipeline.arrRef spec0 2)) (ix3 g r l) = A main_v41 (ix3 g ⟨(t.val - 1) * 128 + r.val, h⟩ l) := by
  blk_ext [idx_val t]
/-- Window 2's block at one index. -/
theorem blk2 (m : (ℓ : Loc nD τ sig) → Buf (Elt Ideal) ℓ) (c : Dev nD) (t : Fin cfg0.N) (g : Fin 4) (r : Fin 128) (l : Fin 512) (h : (t.val - 1) * 128 + r.val < 8448) :
    iblk m c 2 t (ix3 g r l) = V m c main_v41 (ix3 g ⟨(t.val - 1) * 128 + r.val, h⟩ l) := by
  unfold iblk
  exact rd2 c (V m c) t g r l h

/-- Window 3's block at one index, for any contents of the buffers. -/
theorem rd3 (c : Dev nD) (A : (b : Ref sig .tc) → Buf (Elt Ideal) ((c : Thread nD τ).loc b)) (t : Fin cfg0.N) (g : Fin 4) (r : Fin 128) (l : Fin 512) (h : t.val * 128 + r.val < 8448) :
    ((cfg0.win 3).blk t).view.read (Elt Ideal) (A (Pipeline.arrRef spec0 3)) (ix3 g r l) = A main_v41 (ix3 g ⟨t.val * 128 + r.val, h⟩ l) := by
  blk_ext [idx_val t]
/-- Window 3's block at one index. -/
theorem blk3 (m : (ℓ : Loc nD τ sig) → Buf (Elt Ideal) ℓ) (c : Dev nD) (t : Fin cfg0.N) (g : Fin 4) (r : Fin 128) (l : Fin 512) (h : t.val * 128 + r.val < 8448) :
    iblk m c 3 t (ix3 g r l) = V m c main_v41 (ix3 g ⟨t.val * 128 + r.val, h⟩ l) := by
  unfold iblk
  exact rd3 c (V m c) t g r l h

/-- Window 4's block at one index, for any contents of the buffers. -/
theorem rd4 (c : Dev nD) (A : (b : Ref sig .tc) → Buf (Elt Ideal) ((c : Thread nD τ).loc b)) (t : Fin cfg0.N) (g : Fin 4) (r : Fin 128) (l : Fin 512) (h : min (t.val + 1) 65 * 128 + r.val < 8448) :
    ((cfg0.win 4).blk t).view.read (Elt Ideal) (A (Pipeline.arrRef spec0 4)) (ix3 g r l) = A main_v41 (ix3 g ⟨min (t.val + 1) 65 * 128 + r.val, h⟩ l) := by
  blk_ext [idx_val t]
/-- Window 4's block at one index. -/
theorem blk4 (m : (ℓ : Loc nD τ sig) → Buf (Elt Ideal) ℓ) (c : Dev nD) (t : Fin cfg0.N) (g : Fin 4) (r : Fin 128) (l : Fin 512) (h : min (t.val + 1) 65 * 128 + r.val < 8448) :
    iblk m c 4 t (ix3 g r l) = V m c main_v41 (ix3 g ⟨min (t.val + 1) 65 * 128 + r.val, h⟩ l) := by
  unfold iblk
  exact rd4 c (V m c) t g r l h

/-- Window 5's block at one index, for any contents of the buffers. -/
theorem rd5 (c : Dev nD) (A : (b : Ref sig .tc) → Buf (Elt Ideal) ((c : Thread nD τ).loc b)) (t : Fin cfg0.N) (g : Fin 4) (r : Fin 256) (l : Fin 512) (h : r.val < 8448) :
    ((cfg0.win 5).blk t).view.read (Elt Ideal) (A (Pipeline.arrRef spec0 5)) (ix3 g r l) = A main_v41 (ix3 g ⟨r.val, h⟩ l) := by
  blk_ext [idx_val t]
/-- Window 5's block at one index. -/
theorem blk5 (m : (ℓ : Loc nD τ sig) → Buf (Elt Ideal) ℓ) (c : Dev nD) (t : Fin cfg0.N) (g : Fin 4) (r : Fin 256) (l : Fin 512) (h : r.val < 8448) :
    iblk m c 5 t (ix3 g r l) = V m c main_v41 (ix3 g ⟨r.val, h⟩ l) := by
  unfold iblk
  exact rd5 c (V m c) t g r l h

/-- Window 6's block at one index, for any contents of the buffers. -/
theorem rd6 (c : Dev nD) (A : (b : Ref sig .tc) → Buf (Elt Ideal) ((c : Thread nD τ).loc b)) (t : Fin cfg0.N) (g : Fin 4) (r : Fin 128) (l : Fin 512) (h : (t.val - 1) * 128 + r.val < 8448) :
    ((cfg0.win 6).blk t).view.read (Elt Ideal) (A (Pipeline.arrRef spec0 6)) (ix3 g r l) = A main_v42 (ix3 g ⟨(t.val - 1) * 128 + r.val, h⟩ l) := by
  blk_ext [idx_val t]
/-- Window 6's block at one index. -/
theorem blk6 (m : (ℓ : Loc nD τ sig) → Buf (Elt Ideal) ℓ) (c : Dev nD) (t : Fin cfg0.N) (g : Fin 4) (r : Fin 128) (l : Fin 512) (h : (t.val - 1) * 128 + r.val < 8448) :
    iblk m c 6 t (ix3 g r l) = V m c main_v42 (ix3 g ⟨(t.val - 1) * 128 + r.val, h⟩ l) := by
  unfold iblk
  exact rd6 c (V m c) t g r l h

/-- Window 7's block at one index, for any contents of the buffers. -/
theorem rd7 (c : Dev nD) (A : (b : Ref sig .tc) → Buf (Elt Ideal) ((c : Thread nD τ).loc b)) (t : Fin cfg0.N) (g : Fin 4) (r : Fin 128) (l : Fin 512) (h : t.val * 128 + r.val < 8448) :
    ((cfg0.win 7).blk t).view.read (Elt Ideal) (A (Pipeline.arrRef spec0 7)) (ix3 g r l) = A main_v42 (ix3 g ⟨t.val * 128 + r.val, h⟩ l) := by
  blk_ext [idx_val t]
/-- Window 7's block at one index. -/
theorem blk7 (m : (ℓ : Loc nD τ sig) → Buf (Elt Ideal) ℓ) (c : Dev nD) (t : Fin cfg0.N) (g : Fin 4) (r : Fin 128) (l : Fin 512) (h : t.val * 128 + r.val < 8448) :
    iblk m c 7 t (ix3 g r l) = V m c main_v42 (ix3 g ⟨t.val * 128 + r.val, h⟩ l) := by
  unfold iblk
  exact rd7 c (V m c) t g r l h

/-- Window 8's block at one index, for any contents of the buffers. -/
theorem rd8 (c : Dev nD) (A : (b : Ref sig .tc) → Buf (Elt Ideal) ((c : Thread nD τ).loc b)) (t : Fin cfg0.N) (g : Fin 4) (r : Fin 128) (l : Fin 512) (h : min (t.val + 1) 65 * 128 + r.val < 8448) :
    ((cfg0.win 8).blk t).view.read (Elt Ideal) (A (Pipeline.arrRef spec0 8)) (ix3 g r l) = A main_v42 (ix3 g ⟨min (t.val + 1) 65 * 128 + r.val, h⟩ l) := by
  blk_ext [idx_val t]
/-- Window 8's block at one index. -/
theorem blk8 (m : (ℓ : Loc nD τ sig) → Buf (Elt Ideal) ℓ) (c : Dev nD) (t : Fin cfg0.N) (g : Fin 4) (r : Fin 128) (l : Fin 512) (h : min (t.val + 1) 65 * 128 + r.val < 8448) :
    iblk m c 8 t (ix3 g r l) = V m c main_v42 (ix3 g ⟨min (t.val + 1) 65 * 128 + r.val, h⟩ l) := by
  unfold iblk
  exact rd8 c (V m c) t g r l h

/-- Window 9's block at one index, for any contents of the buffers. -/
theorem rd9 (c : Dev nD) (A : (b : Ref sig .tc) → Buf (Elt Ideal) ((c : Thread nD τ).loc b)) (t : Fin cfg0.N) (g : Fin 4) (r : Fin 256) (l : Fin 512) (h : r.val < 8448) :
    ((cfg0.win 9).blk t).view.read (Elt Ideal) (A (Pipeline.arrRef spec0 9)) (ix3 g r l) = A main_v42 (ix3 g ⟨r.val, h⟩ l) := by
  blk_ext [idx_val t]
/-- Window 9's block at one index. -/
theorem blk9 (m : (ℓ : Loc nD τ sig) → Buf (Elt Ideal) ℓ) (c : Dev nD) (t : Fin cfg0.N) (g : Fin 4) (r : Fin 256) (l : Fin 512) (h : r.val < 8448) :
    iblk m c 9 t (ix3 g r l) = V m c main_v42 (ix3 g ⟨r.val, h⟩ l) := by
  unfold iblk
  exact rd9 c (V m c) t g r l h

/-- The query window's block at one index, for any contents of the buffers. -/
theorem rd1 (c : Dev nD) (A : (b : Ref sig .tc) → Buf (Elt Ideal) ((c : Thread nD τ).loc b)) (t : Fin cfg0.N) (g : Fin 4) (r : Fin 128) (l : Fin 512) (h : t.val * 128 + r.val < 8448) :
    ((cfg0.win 1).blk t).view.read (Elt Ideal) (A (Pipeline.arrRef spec0 1)) (ix3 g r l) = A main_v40 (ix3 g ⟨t.val * 128 + r.val, h⟩ l) := by
  blk_ext [idx_val t]
/-- The query window's block at one index. -/
theorem blk1 (m : (ℓ : Loc nD τ sig) → Buf (Elt Ideal) ℓ) (c : Dev nD) (t : Fin cfg0.N) (g : Fin 4) (r : Fin 128) (l : Fin 512) (h : t.val * 128 + r.val < 8448) :
    iblk m c 1 t (ix3 g r l) = V m c main_v40 (ix3 g ⟨t.val * 128 + r.val, h⟩ l) := by
  unfold iblk
  exact rd1 c (V m c) t g r l h
/-- The sink window's block, for any contents of the buffers. -/
theorem rd0 (c : Dev nD) (A : (b : Ref sig .tc) → Buf (Elt Ideal) ((c : Thread nD τ).loc b)) (t : Fin cfg0.N) (n : Fin 8) :
    ((cfg0.win 0).blk t).view.read (Elt Ideal) (A (Pipeline.arrRef spec0 0)) (ix1 n) = A main_arg6 (ix1 n) := by
  blk_ext [idx_val t]
/-- The sink window's block is the launched sink array. -/
theorem blk0 (m : (ℓ : Loc nD τ sig) → Buf (Elt Ideal) ℓ) (c : Dev nD) (t : Fin cfg0.N) (n : Fin 8) :
    iblk m c 0 t (ix1 n) = m ((c : Thread nD τ).loc main_arg6) (ix1 n) := by
  refine Eq.trans ?_ (congrFun (V_main_arg6 m c) (ix1 n))
  unfold iblk
  exact rd0 c (V m c) t n

/-- Four stacked blocks of sample `g`, read at key `k`: the array's row of that key, the blocks being the array's rows. -/
theorem stacked (X : S4x8448x512.Idx → EReal) (t : Fin 66) (B0 B1 B2 : S4x128x512.Idx → EReal) (B3 : S4x256x512.Idx → EReal)
    (h0 : ∀ (g : Fin 4) (r : Fin 128) (l : Fin 512), B0 (ix3 g r l) = X (ix3 g ⟨(t.val - 1) * 128 + r.val, by omega⟩ l))
    (h1 : ∀ (g : Fin 4) (r : Fin 128) (l : Fin 512), B1 (ix3 g r l) = X (ix3 g ⟨t.val * 128 + r.val, by omega⟩ l))
    (h2 : ∀ (g : Fin 4) (r : Fin 128) (l : Fin 512), B2 (ix3 g r l) = X (ix3 g ⟨min (t.val + 1) 65 * 128 + r.val, by omega⟩ l))
    (h3 : ∀ (g : Fin 4) (r : Fin 256) (l : Fin 512), B3 (ix3 g r l) = X (ix3 g ⟨r.val, by omega⟩ l))
    (g : ℕ) (hg : g < 4)
    (i1 i2 i3 : ∀ a, (![g, 0, 0] : Fin 3 → ℕ) a + (![1, 128, 512] : Fin 3 → ℕ) a ≤ S4x128x512.size a)
    (i4 : ∀ a, (![g, 0, 0] : Fin 3 → ℕ) a + (![1, 256, 512] : Fin 3 → ℕ) a ≤ S4x256x512.size a) (k : Fin 640) (l : Fin 512) :
    stack (F := Ideal) (View.ld (Val := Elt Ideal) (S := S4x128x512) (e' := .bf16) B0 (Rect.unit (s := S4x128x512) ![g, 0, 0] ![1, 128, 512] i1))
      (View.ld (Val := Elt Ideal) (S := S4x128x512) (e' := .bf16) B1 (Rect.unit (s := S4x128x512) ![g, 0, 0] ![1, 128, 512] i2))
      (View.ld (Val := Elt Ideal) (S := S4x128x512) (e' := .bf16) B2 (Rect.unit (s := S4x128x512) ![g, 0, 0] ![1, 128, 512] i3))
      (View.ld (Val := Elt Ideal) (S := S4x256x512) (e' := .bf16) B3 (Rect.unit (s := S4x256x512) ![g, 0, 0] ![1, 256, 512] i4)) (ix2 k l)
      = X (ix3 ⟨g, hg⟩ (krow t k) l) := by
  refine (stack_at _ _ _ _ k l).trans ?_
  unfold krow
  by_cases c1 : k.val < 128
  · simp only [dif_pos c1]
    refine Eq.trans ?_ (h0 ⟨g, hg⟩ ⟨k.val, c1⟩ l)
    pointwise
    try blk_ext
  by_cases c2 : k.val < 256
  · simp only [dif_neg c1, dif_pos c2]
    refine Eq.trans ?_ (h1 ⟨g, hg⟩ ⟨k.val - 128, by omega⟩ l)
    pointwise
    try blk_ext
  by_cases c3 : k.val < 384
  · simp only [dif_neg c1, dif_neg c2, dif_pos c3]
    refine Eq.trans ?_ (h2 ⟨g, hg⟩ ⟨k.val - 256, by omega⟩ l)
    pointwise
    try blk_ext
  · simp only [dif_neg c1, dif_neg c2, dif_neg c3]
    refine Eq.trans ?_ (h3 ⟨g, hg⟩ ⟨k.val - 384, by omega⟩ l)
    pointwise
    try blk_ext

end Cert.KernelIdeal.Attn
end
-- ==== Proof.AttnLink.lean ====
module
public import proofs.«01_k».proof.Proof.AttnBlock
public import proofs.«01_k».proof.Proof.Softmax
@[expose] public section
set_option maxRecDepth 16384
noncomputable section
open Idealize.ShloMosaic Idealize.ShloMosaic.TcCoe Idealize.SL.Sem

namespace Cert.KernelIdeal.Attn
open Cert.KernelIdeal Cert.KernelIdeal.Gen

/-- A sum over 128 lanes is the sum over the first 64 plus the sum over the last 64. -/
theorem sum_lanes (f : Fin 128 → EReal) :
    ∑ d : Fin 128, f d = (∑ e : Fin 64, f ⟨e.val, by omega⟩) + ∑ e : Fin 64, f ⟨64 + e.val, by omega⟩ :=
  Fin.sum_univ_add (a := 64) (b := 64) f

/-- The masked logit of array row `t * 128 + r`, query head `h`, against key `k` of key-value head `p`. -/
def score (qq : Fin 4 → Fin 8448 → Fin 8 → Fin 64 → EReal) (kk : Fin 4 → Fin 8448 → Fin 2 → Fin 64 → EReal) (c : EReal)
    (b : Fin 4) (t : Fin 66) (r : Fin 128) (p : Fin 2) (h : Fin 8) (k : Fin 640) : EReal :=
  (∑ e : Fin 64, kk b (krow t k) p e * qq b ⟨t.val * 128 + r.val, by omega⟩ h e) * c + if Seen t.val r.val k.val then 0 else ⊥

/-- One lane of the attention's output, from the head arrays: the lanes of a tile's first half are one head, those of its
    second half the next, and the column of ones sums the weights. -/
theorem outAt_heads (Q K V : S4x8448x512.Idx → EReal) (Z : S8.Idx → EReal)
    (qq : Fin 4 → Fin 8448 → Fin 8 → Fin 64 → EReal) (kk vv : Fin 4 → Fin 8448 → Fin 2 → Fin 64 → EReal) (c : ℝ) (hc : 0 ≤ c)
    (hQ : ∀ (b : Fin 4) (row : Fin 8448) (h : Fin 8) (e : Fin 64), Q (ix3 b row ⟨h.val * 64 + e.val, by omega⟩) = qq b row h e * (c : EReal))
    (hK0 : ∀ (b : Fin 4) (row : Fin 8448) (p : Fin 2) (d : Fin 128), K (ix3 b row ⟨p.val * 256 + d.val, by omega⟩) = if h : d.val < 64 then kk b row p ⟨d.val, h⟩ else 0)
    (hK1 : ∀ (b : Fin 4) (row : Fin 8448) (p : Fin 2) (d : Fin 128), K (ix3 b row ⟨p.val * 256 + (128 + d.val), by omega⟩) = if h : d.val < 64 then 0 else kk b row p ⟨d.val - 64, by omega⟩)
    (hV0 : ∀ (b : Fin 4) (row : Fin 8448) (p : Fin 2) (d : Fin 128), V (ix3 b row ⟨p.val * 256 + d.val, by omega⟩) = if d.val = 64 then 1 else if h : d.val < 64 then vv b row p ⟨d.val, h⟩ else 0)
    (hV1 : ∀ (b : Fin 4) (row : Fin 8448) (p : Fin 2) (d : Fin 128), V (ix3 b row ⟨p.val * 256 + (128 + d.val), by omega⟩) = if d.val = 0 then 1 else if h : d.val < 64 then 0 else vv b row p ⟨d.val - 64, by omega⟩)
    (b : Fin 4) (t : Fin 66) (r : Fin 128) (p j : Fin 2) (half : Fin 2) (e : Fin 64) :
    outAt Q K V Z b t r p j ⟨half.val * 64 + e.val, by omega⟩ =
      att (score qq kk c b t r p ⟨p.val * 4 + (j.val * 2 + half.val), by omega⟩) (fun k => vv b (krow t k) p e) (fun _ => 1)
        (Z (ix1 ⟨p.val * 4 + (j.val * 2 + half.val), by omega⟩)) := by
  have hq : ∀ (h : Fin 8) (e : Fin 64) (n : ℕ) (hn : n < 512), n = h.val * 64 + e.val →
      Q (ix3 b ⟨t.val * 128 + r.val, by omega⟩ ⟨n, hn⟩) = qq b ⟨t.val * 128 + r.val, by omega⟩ h e * (c : EReal) := by
    intro h e n hn hh; subst hh; exact hQ b _ h e
  obtain ⟨hv, hlt⟩ := half
  obtain rfl | rfl : hv = 0 ∨ hv = 1 := by omega
  · unfold outAt
    rw [if_pos (show 0 * 64 + e.val < 64 by omega)]
    congr 1
    · funext k
      unfold score
      congr 1
      rw [sum_lanes, ← Cert.Softmax.dot_scale _ _ c hc]
      refine (congrArg₂ (· + ·) (Finset.sum_congr rfl fun e' _ => ?_) (Finset.sum_eq_zero fun e' _ => ?_)).trans (add_zero _)
      · rw [hK0 b _ p ⟨e'.val, by omega⟩, dif_pos (show e'.val < 64 by omega)]
        exact congrArg (· * _) (hq _ _ _ _ (by show p.val * 256 + j.val * 128 + e'.val = (p.val * 4 + (j.val * 2 + 0)) * 64 + e'.val; omega))
      · rw [hK0 b _ p ⟨64 + e'.val, by omega⟩, dif_neg (show ¬ 64 + e'.val < 64 by omega)]
        exact mul_zero _
    · funext k
      refine (hV0 b _ p ⟨0 * 64 + e.val, by omega⟩).trans ?_
      rw [if_neg (show ¬ 0 * 64 + e.val = 64 by omega), dif_pos (show 0 * 64 + e.val < 64 by omega)]
      congr 1
      apply Fin.ext; show 0 * 64 + e.val = e.val; omega
    · funext k
      exact (hV0 b _ p ⟨64, by omega⟩).trans (if_pos rfl)
  · unfold outAt
    rw [if_neg (show ¬ 1 * 64 + e.val < 64 by omega)]
    congr 1
    · funext k
      unfold score
      congr 1
      rw [sum_lanes, ← Cert.Softmax.dot_scale _ _ c hc]
      refine (congrArg₂ (· + ·) (Finset.sum_eq_zero fun e' _ => ?_) (Finset.sum_congr rfl fun e' _ => ?_)).trans (zero_add _)
      · rw [hK1 b _ p ⟨e'.val, by omega⟩, dif_pos (show e'.val < 64 by omega)]
        exact mul_zero _
      · rw [hK1 b _ p ⟨64 + e'.val, by omega⟩, dif_neg (show ¬ 64 + e'.val < 64 by omega)]
        refine congrArg₂ (· * ·) (hq _ _ _ _ (by show p.val * 256 + j.val * 128 + (64 + e'.val) = (p.val * 4 + (j.val * 2 + 1)) * 64 + e'.val; omega)) ?_
        congr 1
        apply Fin.ext; show 64 + e'.val - 64 = e'.val; omega
    · funext k
      refine (hV1 b _ p ⟨1 * 64 + e.val, by omega⟩).trans ?_
      rw [if_neg (show ¬ 1 * 64 + e.val = 0 by omega), dif_neg (show ¬ 1 * 64 + e.val < 64 by omega)]
      congr 1
      apply Fin.ext; show 1 * 64 + e.val - 64 = e.val; omega
    · funext k
      exact (hV1 b _ p ⟨0, by omega⟩).trans (if_pos rfl)

end Cert.KernelIdeal.Attn
end
-- ==== Proof.AttnPoint.lean ====
module
public import proofs.«01_k».proof.Proof.AttnBlock
@[expose] public section
set_option maxRecDepth 16384
noncomputable section
open Idealize.ShloMosaic Idealize.ShloMosaic.TcCoe Idealize.SL.Sem
open Idealize.ShloMosaic.Pipeline (Dat)

namespace Cert.KernelIdeal.Attn
open Cert.KernelIdeal Cert.KernelIdeal.Gen

/-- Pair 0, its first query tile: what is stored is the array's values. -/
theorem pair0_top (Q K V : S4x8448x512.Idx → EReal) (Z : S8.Idx → EReal) (t : Fin 66) (b : Fin 4)
    (bias : FVec Ideal S256x640 .f32) (KK VV : FVec Ideal S640x512 .bf16) (qa qb : FVec Ideal S128x128 .bf16) (s0 s1 s2 s3 : EReal)
    (hb : ∀ (r : Fin 256) (k : Fin 640), bias (ix2 r k) = if Seen t.val (r.val % 128) k.val then 0 else ⊥)
    (hK : ∀ (k : Fin 640) (l : Fin 512), KK (ix2 k l) = K (ix3 b (krow t k) l))
    (hV : ∀ (k : Fin 640) (l : Fin 512), VV (ix2 k l) = V (ix3 b (krow t k) l))
    (hq : ∀ r d : Fin 128, qa (ix2 r d) = Q (ix3 b ⟨t.val * 128 + r.val, by omega⟩ ⟨0 + d.val, by omega⟩))
    (hs : s0 = Z (ix1 0)) (hs' : s2 = Z (ix1 1))
    (x : S1x128x128.Idx) (i : S4x8448x512.Idx) (h0 : (i 0).val = b.val) (h1 : (i 1).val = t.val * 128 + (x 1).val)
    (h2 : (i 2).val = 0 + (x 2).val) :
    topT (F := Ideal) (pair0 bias KK VV qa qb s0 s1 s2 s3) x = outArr Q K V Z i := by
  refine top_piece Q K V Z t b 0 bias _ _ _ _ qa qb s0 s1 s2 s3 hb ?_ ?_ ?_ ?_ ?_ hs hs' x i h0 h1 ?_
  · intro k l
    refine Eq.trans ?_ (hK k ⟨0 + l.val, by omega⟩)
    pointwise
  · intro k l
    refine Eq.trans ?_ ((hK k ⟨128 + l.val, by omega⟩).trans (congrArg (fun n => K (ix3 b (krow t k) n)) (Fin.ext (by show 128 + l.val = 0 * 256 + (128 + l.val); omega))))
    pointwise
  · intro k l
    refine Eq.trans ?_ (hV k ⟨0 + l.val, by omega⟩)
    pointwise
  · intro k l
    refine Eq.trans ?_ ((hV k ⟨128 + l.val, by omega⟩).trans (congrArg (fun n => V (ix3 b (krow t k) n)) (Fin.ext (by show 128 + l.val = 0 * 256 + (128 + l.val); omega))))
    pointwise
  · exact fun r d => hq r d
  · exact h2

/-- Pair 0, its second query tile: what is stored is the array's values. -/
theorem pair0_bot (Q K V : S4x8448x512.Idx → EReal) (Z : S8.Idx → EReal) (t : Fin 66) (b : Fin 4)
    (bias : FVec Ideal S256x640 .f32) (KK VV : FVec Ideal S640x512 .bf16) (qa qb : FVec Ideal S128x128 .bf16) (s0 s1 s2 s3 : EReal)
    (hb : ∀ (r : Fin 256) (k : Fin 640), bias (ix2 r k) = if Seen t.val (r.val % 128) k.val then 0 else ⊥)
    (hK : ∀ (k : Fin 640) (l : Fin 512), KK (ix2 k l) = K (ix3 b (krow t k) l))
    (hV : ∀ (k : Fin 640) (l : Fin 512), VV (ix2 k l) = V (ix3 b (krow t k) l))
    (hq : ∀ r d : Fin 128, qb (ix2 r d) = Q (ix3 b ⟨t.val * 128 + r.val, by omega⟩ ⟨128 + d.val, by omega⟩))
    (hs : s1 = Z (ix1 2)) (hs' : s3 = Z (ix1 3))
    (x : S1x128x128.Idx) (i : S4x8448x512.Idx) (h0 : (i 0).val = b.val) (h1 : (i 1).val = t.val * 128 + (x 1).val)
    (h2 : (i 2).val = 128 + (x 2).val) :
    botT (F := Ideal) (pair0 bias KK VV qa qb s0 s1 s2 s3) x = outArr Q K V Z i := by
  refine bot_piece Q K V Z t b 0 bias _ _ _ _ qa qb s0 s1 s2 s3 hb ?_ ?_ ?_ ?_ ?_ hs hs' x i h0 h1 ?_
  · intro k l
    refine Eq.trans ?_ (hK k ⟨0 + l.val, by omega⟩)
    pointwise
  · intro k l
    refine Eq.trans ?_ ((hK k ⟨128 + l.val, by omega⟩).trans (congrArg (fun n => K (ix3 b (krow t k) n)) (Fin.ext (by show 128 + l.val = 0 * 256 + (128 + l.val); omega))))
    pointwise
  · intro k l
    refine Eq.trans ?_ (hV k ⟨0 + l.val, by omega⟩)
    pointwise
  · intro k l
    refine Eq.trans ?_ ((hV k ⟨128 + l.val, by omega⟩).trans (congrArg (fun n => V (ix3 b (krow t k) n)) (Fin.ext (by show 128 + l.val = 0 * 256 + (128 + l.val); omega))))
    pointwise
  · exact fun r d => hq r d
  · exact h2

/-- Pair 1, its first query tile: what is stored is the array's values. -/
theorem pair1_top (Q K V : S4x8448x512.Idx → EReal) (Z : S8.Idx → EReal) (t : Fin 66) (b : Fin 4)
    (bias : FVec Ideal S256x640 .f32) (KK VV : FVec Ideal S640x512 .bf16) (qa qb : FVec Ideal S128x128 .bf16) (s0 s1 s2 s3 : EReal)
    (hb : ∀ (r : Fin 256) (k : Fin 640), bias (ix2 r k) = if Seen t.val (r.val % 128) k.val then 0 else ⊥)
    (hK : ∀ (k : Fin 640) (l : Fin 512), KK (ix2 k l) = K (ix3 b (krow t k) l))
    (hV : ∀ (k : Fin 640) (l : Fin 512), VV (ix2 k l) = V (ix3 b (krow t k) l))
    (hq : ∀ r d : Fin 128, qa (ix2 r d) = Q (ix3 b ⟨t.val * 128 + r.val, by omega⟩ ⟨256 + d.val, by omega⟩))
    (hs : s0 = Z (ix1 4)) (hs' : s2 = Z (ix1 5))
    (x : S1x128x128.Idx) (i : S4x8448x512.Idx) (h0 : (i 0).val = b.val) (h1 : (i 1).val = t.val * 128 + (x 1).val)
    (h2 : (i 2).val = 256 + (x 2).val) :
    topT (F := Ideal) (pair1 bias KK VV qa qb s0 s1 s2 s3) x = outArr Q K V Z i := by
  refine top_piece Q K V Z t b 1 bias _ _ _ _ qa qb s0 s1 s2 s3 hb ?_ ?_ ?_ ?_ ?_ hs hs' x i h0 h1 ?_
  · intro k l
    refine Eq.trans ?_ (hK k ⟨256 + l.val, by omega⟩)
    pointwise
  · intro k l
    refine Eq.trans ?_ ((hK k ⟨384 + l.val, by omega⟩).trans (congrArg (fun n => K (ix3 b (krow t k) n)) (Fin.ext (by show 384 + l.val = 1 * 256 + (128 + l.val); omega))))
    pointwise
  · intro k l
    refine Eq.trans ?_ (hV k ⟨256 + l.val, by omega⟩)
    pointwise
  · intro k l
    refine Eq.trans ?_ ((hV k ⟨384 + l.val, by omega⟩).trans (congrArg (fun n => V (ix3 b (krow t k) n)) (Fin.ext (by show 384 + l.val = 1 * 256 + (128 + l.val); omega))))
    pointwise
  · exact fun r d => hq r d
  · exact h2

/-- Pair 1, its second query tile: what is stored is the array's values. -/
theorem pair1_bot (Q K V : S4x8448x512.Idx → EReal) (Z : S8.Idx → EReal) (t : Fin 66) (b : Fin 4)
    (bias : FVec Ideal S256x640 .f32) (KK VV : FVec Ideal S640x512 .bf16) (qa qb : FVec Ideal S128x128 .bf16) (s0 s1 s2 s3 : EReal)
    (hb : ∀ (r : Fin 256) (k : Fin 640), bias (ix2 r k) = if Seen t.val (r.val % 128) k.val then 0 else ⊥)
    (hK : ∀ (k : Fin 640) (l : Fin 512), KK (ix2 k l) = K (ix3 b (krow t k) l))
    (hV : ∀ (k : Fin 640) (l : Fin 512), VV (ix2 k l) = V (ix3 b (krow t k) l))
    (hq : ∀ r d : Fin 128, qb (ix2 r d) = Q (ix3 b ⟨t.val * 128 + r.val, by omega⟩ ⟨384 + d.val, by omega⟩))
    (hs : s1 = Z (ix1 6)) (hs' : s3 = Z (ix1 7))
    (x : S1x128x128.Idx) (i : S4x8448x512.Idx) (h0 : (i 0).val = b.val) (h1 : (i 1).val = t.val * 128 + (x 1).val)
    (h2 : (i 2).val = 384 + (x 2).val) :
    botT (F := Ideal) (pair1 bias KK VV qa qb s0 s1 s2 s3) x = outArr Q K V Z i := by
  refine bot_piece Q K V Z t b 1 bias _ _ _ _ qa qb s0 s1 s2 s3 hb ?_ ?_ ?_ ?_ ?_ hs hs' x i h0 h1 ?_
  · intro k l
    refine Eq.trans ?_ (hK k ⟨256 + l.val, by omega⟩)
    pointwise
  · intro k l
    refine Eq.trans ?_ ((hK k ⟨384 + l.val, by omega⟩).trans (congrArg (fun n => K (ix3 b (krow t k) n)) (Fin.ext (by show 384 + l.val = 1 * 256 + (128 + l.val); omega))))
    pointwise
  · intro k l
    refine Eq.trans ?_ (hV k ⟨256 + l.val, by omega⟩)
    pointwise
  · intro k l
    refine Eq.trans ?_ ((hV k ⟨384 + l.val, by omega⟩).trans (congrArg (fun n => V (ix3 b (krow t k) n)) (Fin.ext (by show 384 + l.val = 1 * 256 + (128 + l.val); omega))))
    pointwise
  · exact fun r d => hq r d
  · exact h2

/-- One sink logit, loaded from the sink block. -/
theorem sink_rd (B : S8.Idx → EReal) (n : ℕ) (hn : n < 8) (i1 : ∀ a, (![n] : Fin 1 → ℕ) a + (![1] : Fin 1 → ℕ) a ≤ S8.size a) (h) :
    View.ld (Val := Elt Ideal) (S := S8) (e' := .f32) B (Rect.unit (s := S8) ![n] ![1] i1) (Shape.Idx.first h) = B (ix1 ⟨n, hn⟩) := by
  pointwise

set_option maxHeartbeats 2000000 in
/-- What one grid point leaves in its output block is the array's values there. -/
theorem point (m : (ℓ : Loc nD τ sig) → Buf (Elt Ideal) ℓ) (c : Dev nD) (Q K V : S4x8448x512.Idx → EReal) (Z : S8.Idx → EReal) (t : Fin cfg0.N)
    (hZ : ∀ n : Fin 8, iblk m c 0 t (ix1 n) = Z (ix1 n))
    (hQ : ∀ (g : Fin 4) (r : Fin 128) (l : Fin 512), iblk m c 1 t (ix3 g r l) = Q (ix3 g ⟨t.val * 128 + r.val, by have := lt66 t; omega⟩ l))
    (hk0 : ∀ (g : Fin 4) (r : Fin 128) (l : Fin 512), iblk m c 2 t (ix3 g r l) = K (ix3 g ⟨(t.val - 1) * 128 + r.val, by have := lt66 t; omega⟩ l))
    (hk1 : ∀ (g : Fin 4) (r : Fin 128) (l : Fin 512), iblk m c 3 t (ix3 g r l) = K (ix3 g ⟨t.val * 128 + r.val, by have := lt66 t; omega⟩ l))
    (hk2 : ∀ (g : Fin 4) (r : Fin 128) (l : Fin 512), iblk m c 4 t (ix3 g r l) = K (ix3 g ⟨min (t.val + 1) 65 * 128 + r.val, by have := lt66 t; omega⟩ l))
    (hk3 : ∀ (g : Fin 4) (r : Fin 256) (l : Fin 512), iblk m c 5 t (ix3 g r l) = K (ix3 g ⟨r.val, by have := lt66 t; omega⟩ l))
    (hv0 : ∀ (g : Fin 4) (r : Fin 128) (l : Fin 512), iblk m c 6 t (ix3 g r l) = V (ix3 g ⟨(t.val - 1) * 128 + r.val, by have := lt66 t; omega⟩ l))
    (hv1 : ∀ (g : Fin 4) (r : Fin 128) (l : Fin 512), iblk m c 7 t (ix3 g r l) = V (ix3 g ⟨t.val * 128 + r.val, by have := lt66 t; omega⟩ l))
    (hv2 : ∀ (g : Fin 4) (r : Fin 128) (l : Fin 512), iblk m c 8 t (ix3 g r l) = V (ix3 g ⟨min (t.val + 1) 65 * 128 + r.val, by have := lt66 t; omega⟩ l))
    (hv3 : ∀ (g : Fin 4) (r : Fin 256) (l : Fin 512), iblk m c 9 t (ix3 g r l) = V (ix3 g ⟨r.val, by have := lt66 t; omega⟩ l))
    (y : S4x128x512.Idx) (i : S4x8448x512.Idx) (e0 : (i 0).val = (y 0).val) (e1 : (i 1).val = t.val * 128 + (y 1).val) (e2 : (i 2).val = (y 2).val) :
    (dats m 0 c).after 10 t y = outArr Q K V Z i := by
  have hB := bias_row (grid0.coords t) ⟨t.val, lt66 t⟩ (idx_val t).2.2.2.2.2.2.2.2.2.2.2
  rw [after0_10]; unfold outsAt0
  frame_out
  canon_tiles x h
  case piece0 =>
    show botT (pair1 _ (stack _ _ _ _) (stack _ _ _ _) _ _ _ _ _ _) x = _
    refine pair1_bot Q K V Z ⟨t.val, lt66 t⟩ 3 _ _ _ _ _ _ _ _ _ hB (stacked K _ _ _ _ _ hk0 hk1 hk2 hk3 3 (by omega) _ _ _ _) (stacked V _ _ _ _ _ hv0 hv1 hv2 hv3 3 (by omega) _ _ _ _)
      (fun r d => (qread _ _ _ 3 384 (by omega) (by omega) _ _ _ _ _ _ r d).trans (hQ 3 r ⟨384 + d.val, by omega⟩))
      ((sink_rd _ 6 (by omega) _ _).trans (hZ 6)) ((sink_rd _ 7 (by omega) _ _).trans (hZ 7)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece1 =>
    show topT (pair1 _ (stack _ _ _ _) (stack _ _ _ _) _ _ _ _ _ _) x = _
    refine pair1_top Q K V Z ⟨t.val, lt66 t⟩ 3 _ _ _ _ _ _ _ _ _ hB (stacked K _ _ _ _ _ hk0 hk1 hk2 hk3 3 (by omega) _ _ _ _) (stacked V _ _ _ _ _ hv0 hv1 hv2 hv3 3 (by omega) _ _ _ _)
      (fun r d => (qread _ _ _ 3 256 (by omega) (by omega) _ _ _ _ _ _ r d).trans (hQ 3 r ⟨256 + d.val, by omega⟩))
      ((sink_rd _ 4 (by omega) _ _).trans (hZ 4)) ((sink_rd _ 5 (by omega) _ _).trans (hZ 5)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece2 =>
    show botT (pair0 _ (stack _ _ _ _) (stack _ _ _ _) _ _ _ _ _ _) x = _
    refine pair0_bot Q K V Z ⟨t.val, lt66 t⟩ 3 _ _ _ _ _ _ _ _ _ hB (stacked K _ _ _ _ _ hk0 hk1 hk2 hk3 3 (by omega) _ _ _ _) (stacked V _ _ _ _ _ hv0 hv1 hv2 hv3 3 (by omega) _ _ _ _)
      (fun r d => (qread _ _ _ 3 128 (by omega) (by omega) _ _ _ _ _ _ r d).trans (hQ 3 r ⟨128 + d.val, by omega⟩))
      ((sink_rd _ 2 (by omega) _ _).trans (hZ 2)) ((sink_rd _ 3 (by omega) _ _).trans (hZ 3)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece3 =>
    show topT (pair0 _ (stack _ _ _ _) (stack _ _ _ _) _ _ _ _ _ _) x = _
    refine pair0_top Q K V Z ⟨t.val, lt66 t⟩ 3 _ _ _ _ _ _ _ _ _ hB (stacked K _ _ _ _ _ hk0 hk1 hk2 hk3 3 (by omega) _ _ _ _) (stacked V _ _ _ _ _ hv0 hv1 hv2 hv3 3 (by omega) _ _ _ _)
      (fun r d => (qread _ _ _ 3 0 (by omega) (by omega) _ _ _ _ _ _ r d).trans (hQ 3 r ⟨0 + d.val, by omega⟩))
      ((sink_rd _ 0 (by omega) _ _).trans (hZ 0)) ((sink_rd _ 1 (by omega) _ _).trans (hZ 1)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece4 =>
    show botT (pair1 _ (stack _ _ _ _) (stack _ _ _ _) _ _ _ _ _ _) x = _
    refine pair1_bot Q K V Z ⟨t.val, lt66 t⟩ 2 _ _ _ _ _ _ _ _ _ hB (stacked K _ _ _ _ _ hk0 hk1 hk2 hk3 2 (by omega) _ _ _ _) (stacked V _ _ _ _ _ hv0 hv1 hv2 hv3 2 (by omega) _ _ _ _)
      (fun r d => (qread _ _ _ 2 384 (by omega) (by omega) _ _ _ _ _ _ r d).trans (hQ 2 r ⟨384 + d.val, by omega⟩))
      ((sink_rd _ 6 (by omega) _ _).trans (hZ 6)) ((sink_rd _ 7 (by omega) _ _).trans (hZ 7)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece5 =>
    show topT (pair1 _ (stack _ _ _ _) (stack _ _ _ _) _ _ _ _ _ _) x = _
    refine pair1_top Q K V Z ⟨t.val, lt66 t⟩ 2 _ _ _ _ _ _ _ _ _ hB (stacked K _ _ _ _ _ hk0 hk1 hk2 hk3 2 (by omega) _ _ _ _) (stacked V _ _ _ _ _ hv0 hv1 hv2 hv3 2 (by omega) _ _ _ _)
      (fun r d => (qread _ _ _ 2 256 (by omega) (by omega) _ _ _ _ _ _ r d).trans (hQ 2 r ⟨256 + d.val, by omega⟩))
      ((sink_rd _ 4 (by omega) _ _).trans (hZ 4)) ((sink_rd _ 5 (by omega) _ _).trans (hZ 5)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece6 =>
    show botT (pair0 _ (stack _ _ _ _) (stack _ _ _ _) _ _ _ _ _ _) x = _
    refine pair0_bot Q K V Z ⟨t.val, lt66 t⟩ 2 _ _ _ _ _ _ _ _ _ hB (stacked K _ _ _ _ _ hk0 hk1 hk2 hk3 2 (by omega) _ _ _ _) (stacked V _ _ _ _ _ hv0 hv1 hv2 hv3 2 (by omega) _ _ _ _)
      (fun r d => (qread _ _ _ 2 128 (by omega) (by omega) _ _ _ _ _ _ r d).trans (hQ 2 r ⟨128 + d.val, by omega⟩))
      ((sink_rd _ 2 (by omega) _ _).trans (hZ 2)) ((sink_rd _ 3 (by omega) _ _).trans (hZ 3)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece7 =>
    show topT (pair0 _ (stack _ _ _ _) (stack _ _ _ _) _ _ _ _ _ _) x = _
    refine pair0_top Q K V Z ⟨t.val, lt66 t⟩ 2 _ _ _ _ _ _ _ _ _ hB (stacked K _ _ _ _ _ hk0 hk1 hk2 hk3 2 (by omega) _ _ _ _) (stacked V _ _ _ _ _ hv0 hv1 hv2 hv3 2 (by omega) _ _ _ _)
      (fun r d => (qread _ _ _ 2 0 (by omega) (by omega) _ _ _ _ _ _ r d).trans (hQ 2 r ⟨0 + d.val, by omega⟩))
      ((sink_rd _ 0 (by omega) _ _).trans (hZ 0)) ((sink_rd _ 1 (by omega) _ _).trans (hZ 1)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece8 =>
    show botT (pair1 _ (stack _ _ _ _) (stack _ _ _ _) _ _ _ _ _ _) x = _
    refine pair1_bot Q K V Z ⟨t.val, lt66 t⟩ 1 _ _ _ _ _ _ _ _ _ hB (stacked K _ _ _ _ _ hk0 hk1 hk2 hk3 1 (by omega) _ _ _ _) (stacked V _ _ _ _ _ hv0 hv1 hv2 hv3 1 (by omega) _ _ _ _)
      (fun r d => (qread _ _ _ 1 384 (by omega) (by omega) _ _ _ _ _ _ r d).trans (hQ 1 r ⟨384 + d.val, by omega⟩))
      ((sink_rd _ 6 (by omega) _ _).trans (hZ 6)) ((sink_rd _ 7 (by omega) _ _).trans (hZ 7)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece9 =>
    show topT (pair1 _ (stack _ _ _ _) (stack _ _ _ _) _ _ _ _ _ _) x = _
    refine pair1_top Q K V Z ⟨t.val, lt66 t⟩ 1 _ _ _ _ _ _ _ _ _ hB (stacked K _ _ _ _ _ hk0 hk1 hk2 hk3 1 (by omega) _ _ _ _) (stacked V _ _ _ _ _ hv0 hv1 hv2 hv3 1 (by omega) _ _ _ _)
      (fun r d => (qread _ _ _ 1 256 (by omega) (by omega) _ _ _ _ _ _ r d).trans (hQ 1 r ⟨256 + d.val, by omega⟩))
      ((sink_rd _ 4 (by omega) _ _).trans (hZ 4)) ((sink_rd _ 5 (by omega) _ _).trans (hZ 5)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece10 =>
    show botT (pair0 _ (stack _ _ _ _) (stack _ _ _ _) _ _ _ _ _ _) x = _
    refine pair0_bot Q K V Z ⟨t.val, lt66 t⟩ 1 _ _ _ _ _ _ _ _ _ hB (stacked K _ _ _ _ _ hk0 hk1 hk2 hk3 1 (by omega) _ _ _ _) (stacked V _ _ _ _ _ hv0 hv1 hv2 hv3 1 (by omega) _ _ _ _)
      (fun r d => (qread _ _ _ 1 128 (by omega) (by omega) _ _ _ _ _ _ r d).trans (hQ 1 r ⟨128 + d.val, by omega⟩))
      ((sink_rd _ 2 (by omega) _ _).trans (hZ 2)) ((sink_rd _ 3 (by omega) _ _).trans (hZ 3)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece11 =>
    show topT (pair0 _ (stack _ _ _ _) (stack _ _ _ _) _ _ _ _ _ _) x = _
    refine pair0_top Q K V Z ⟨t.val, lt66 t⟩ 1 _ _ _ _ _ _ _ _ _ hB (stacked K _ _ _ _ _ hk0 hk1 hk2 hk3 1 (by omega) _ _ _ _) (stacked V _ _ _ _ _ hv0 hv1 hv2 hv3 1 (by omega) _ _ _ _)
      (fun r d => (qread _ _ _ 1 0 (by omega) (by omega) _ _ _ _ _ _ r d).trans (hQ 1 r ⟨0 + d.val, by omega⟩))
      ((sink_rd _ 0 (by omega) _ _).trans (hZ 0)) ((sink_rd _ 1 (by omega) _ _).trans (hZ 1)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece12 =>
    show botT (pair1 _ (stack _ _ _ _) (stack _ _ _ _) _ _ _ _ _ _) x = _
    refine pair1_bot Q K V Z ⟨t.val, lt66 t⟩ 0 _ _ _ _ _ _ _ _ _ hB (stacked K _ _ _ _ _ hk0 hk1 hk2 hk3 0 (by omega) _ _ _ _) (stacked V _ _ _ _ _ hv0 hv1 hv2 hv3 0 (by omega) _ _ _ _)
      (fun r d => (qread _ _ _ 0 384 (by omega) (by omega) _ _ _ _ _ _ r d).trans (hQ 0 r ⟨384 + d.val, by omega⟩))
      ((sink_rd _ 6 (by omega) _ _).trans (hZ 6)) ((sink_rd _ 7 (by omega) _ _).trans (hZ 7)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece13 =>
    show topT (pair1 _ (stack _ _ _ _) (stack _ _ _ _) _ _ _ _ _ _) x = _
    refine pair1_top Q K V Z ⟨t.val, lt66 t⟩ 0 _ _ _ _ _ _ _ _ _ hB (stacked K _ _ _ _ _ hk0 hk1 hk2 hk3 0 (by omega) _ _ _ _) (stacked V _ _ _ _ _ hv0 hv1 hv2 hv3 0 (by omega) _ _ _ _)
      (fun r d => (qread _ _ _ 0 256 (by omega) (by omega) _ _ _ _ _ _ r d).trans (hQ 0 r ⟨256 + d.val, by omega⟩))
      ((sink_rd _ 4 (by omega) _ _).trans (hZ 4)) ((sink_rd _ 5 (by omega) _ _).trans (hZ 5)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece14 =>
    show botT (pair0 _ (stack _ _ _ _) (stack _ _ _ _) _ _ _ _ _ _) x = _
    refine pair0_bot Q K V Z ⟨t.val, lt66 t⟩ 0 _ _ _ _ _ _ _ _ _ hB (stacked K _ _ _ _ _ hk0 hk1 hk2 hk3 0 (by omega) _ _ _ _) (stacked V _ _ _ _ _ hv0 hv1 hv2 hv3 0 (by omega) _ _ _ _)
      (fun r d => (qread _ _ _ 0 128 (by omega) (by omega) _ _ _ _ _ _ r d).trans (hQ 0 r ⟨128 + d.val, by omega⟩))
      ((sink_rd _ 2 (by omega) _ _).trans (hZ 2)) ((sink_rd _ 3 (by omega) _ _).trans (hZ 3)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega
  case piece15 =>
    show topT (pair0 _ (stack _ _ _ _) (stack _ _ _ _) _ _ _ _ _ _) x = _
    refine pair0_top Q K V Z ⟨t.val, lt66 t⟩ 0 _ _ _ _ _ _ _ _ _ hB (stacked K _ _ _ _ _ hk0 hk1 hk2 hk3 0 (by omega) _ _ _ _) (stacked V _ _ _ _ _ hv0 hv1 hv2 hv3 0 (by omega) _ _ _ _)
      (fun r d => (qread _ _ _ 0 0 (by omega) (by omega) _ _ _ _ _ _ r d).trans (hQ 0 r ⟨0 + d.val, by omega⟩))
      ((sink_rd _ 0 (by omega) _ _).trans (hZ 0)) ((sink_rd _ 1 (by omega) _ _).trans (hZ 1)) x i ?_ ?_ ?_
    · clear hB hZ hQ hk0 hk1 hk2 hk3 hv0 hv1 hv2 hv3
      omega
    · clear hB hZ hQ hk0 hk1 hk2 hk3 hv0 hv1 hv2 hv3
      show _ = t.val * 128 + _
      omega
    · clear hB hZ hQ hk0 hk1 hk2 hk3 hv0 hv1 hv2 hv3
      omega

/-- The output array after the run, when every grid point leaves `G`'s values in its block. -/
theorem arr_of_points (m : (ℓ : Loc nD τ sig) → Buf (Elt Ideal) ℓ) (c : Dev nD) (G : S4x8448x512.Idx → EReal)
    (hG : ∀ (t : Fin cfg0.N) (y : S4x128x512.Idx) (i : S4x8448x512.Idx), (i 0).val = (y 0).val → (i 1).val = t.val * 128 + (y 1).val →
      (i 2).val = (y 2).val → (dats m 0 c).after 10 t y = G i) :
    (dats m 0 c).arrAt 10 cfg0.N = G := by
  refine (dats m 0 c).arrAt_eq_of_covers 10 G (by decide +kernel) fun t hf y => ?_
  blk_simp
  refine hG t _ _ ?_ ?_ ?_ <;> blk_simp [idx_val t]

/-- The output array after the run. -/
theorem final (m : (ℓ : Loc nD τ sig) → Buf (Elt Ideal) ℓ) (c : Dev nD) :
    (dats m 0 c).arrAt 10 cfg0.N = outArr (V m c main_v40) (V m c main_v41) (V m c main_v42) (m ((c : Thread nD τ).loc main_arg6)) :=
  arr_of_points m c _ fun t y i e0 e1 e2 => point m c _ _ _ _ t (blk0 m c t) (fun g r l => blk1 m c t g r l _)
    (fun g r l => blk2 m c t g r l _) (fun g r l => blk3 m c t g r l _) (fun g r l => blk4 m c t g r l _) (fun g r l => blk5 m c t g r l _)
    (fun g r l => blk6 m c t g r l _) (fun g r l => blk7 m c t g r l _) (fun g r l => blk8 m c t g r l _) (fun g r l => blk9 m c t g r l _)
    y i e0 e1 e2

end Cert.KernelIdeal.Attn
end
-- ==== Proof.AttnHost.lean ====
module
public import proofs.«01_k».proof.Proof.AttnPoint
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.KernelIdeal.Attn
open Cert.KernelIdeal Cert.KernelIdeal.Gen

/-- Row `r`, lane `d` of the `n`-th spread copy of a two-head row array: the lanes of half `n % 2` hold head `n / 2`, the other lanes hold zero. -/
def spreadAt (Z : S33792x128.Idx → EReal) (n : ℕ) (hn : n < 4) (r : Fin 33792) (d : Fin 128) : EReal :=
  if d.val / 64 = n % 2 then Z (ix2 r ⟨n / 2 * 64 + d.val % 64, by omega⟩) else 0

/-- A choice by a lane's being in the first half. -/
theorem sel_lt (n : ℕ) (hn : n < 128) (x y : EReal) :
    Scalar.select (IntOp.cmpi .slt (BitVec.ofNat 32 n) 64#32) x y = if n < 64 then x else y := by
  by_cases h : n < 64
  · rw [if_pos h]; word_cmp; rw [if_pos h]
  · rw [if_neg h]; word_cmp; rw [if_neg h]

/-- A choice by a lane's being lane 64. -/
theorem sel_64 (n : ℕ) (hn : n < 128) (x y : EReal) :
    Scalar.select (IntOp.cmpi .eq (BitVec.ofNat 32 n) 64#32) x y = if n = 64 then x else y := by
  by_cases h : n = 64
  · subst h; rfl
  · rw [if_neg h]; word_cmp; rw [if_neg h]

/-- A choice by a lane's being lane 0. -/
theorem sel_0 (n : ℕ) (hn : n < 128) (x y : EReal) :
    Scalar.select (IntOp.cmpi .eq (BitVec.ofNat 32 n) 0#32) x y = if n = 0 then x else y := by
  by_cases h : n = 0
  · subst h; rfl
  · rw [if_neg h]; word_cmp; rw [if_neg h]

/-- The lane mask both spreads use. -/
abbrev laneMask : IVec S33792x128 1 := cmpi .slt (iotaInDim S33792x128 32 1) (broadcastInDim S33792x128 ![] bcast_S_S33792x128 (constantI S_ 32 64#32))

/-- The zero both spreads use. -/
abbrev zeroS : FVec Ideal S_ .f32 := constant S_ .f32 0x00000000#32

/-- The queries' rows. -/
abbrev rowsQ (x : FVec Ideal S4x256x8x64 .f32) (y : FVec Ideal S4x8192x8x64 .f32) : FVec Ideal S33792x512 .f32 :=
  shapeCast S33792x512 (concatenate S4x8448x8x64 1 [⟨S4x256x8x64, x⟩, ⟨S4x8192x8x64, y⟩] concatenates_S4x256x8x64_S4x8192x8x64_S4x8448x8x64_d1) shapeCasts_S4x8448x8x64_S33792x512

/-- The keys' (or values') rows: the context tokens of each sample, then its latent tokens. -/
abbrev rowsKV (x : FVec Ideal S4x256x2x64 .f32) (y : FVec Ideal S4x8192x2x64 .f32) : FVec Ideal S33792x128 .f32 :=
  shapeCast S33792x128 (concatenate S4x8448x2x64 1 [⟨S4x256x2x64, x⟩, ⟨S4x8192x2x64, y⟩] concatenates_S4x256x2x64_S4x8192x2x64_S4x8448x2x64_d1) shapeCasts_S4x8448x2x64_S33792x128

variable (σ : Valuation τ sig (Elt Ideal))

/-- The first stretch leaves the keys' lane mask. -/
theorem a_v11 : (StableHlo.after (hostOps0) σ (Proc.devRef .tc main_v11) : IVec S33792x128 1) = laneMask := by
  simp only [hostOps0, List.cons_append, List.nil_append]
  entry_read
  try simp only [StableHlo.TRef.toBuf, StableHlo.TRef.ofBuf, cast_cast, cast_eq, id]
  try rfl

/-- … and its zero. -/
theorem a_cst : (StableHlo.after (hostOps0) σ (Proc.devRef .tc main_cst_0) : FVec Ideal S_ .f32) = zeroS := by
  simp only [hostOps0, List.cons_append, List.nil_append]
  entry_read
  try simp only [StableHlo.TRef.toBuf, StableHlo.TRef.ofBuf, cast_cast, cast_eq, id]
  try rfl

/-- … and the keys' rows. -/
theorem a_v6 : (StableHlo.after (hostOps0) σ (Proc.devRef .tc main_v6) : S33792x128.Idx → EReal) = rowsKV (σ (Proc.devRef .tc main_arg4)) (σ (Proc.devRef .tc main_arg1)) := by
  simp only [hostOps0, List.cons_append, List.nil_append]
  entry_read
  try simp only [StableHlo.TRef.toBuf, StableHlo.TRef.ofBuf, cast_cast, cast_eq, id]
  try rfl

/-- … and the values' rows. -/
theorem a_v8 : (StableHlo.after (hostOps0) σ (Proc.devRef .tc main_v8) : S33792x128.Idx → EReal) = rowsKV (σ (Proc.devRef .tc main_arg5)) (σ (Proc.devRef .tc main_arg2)) := by
  simp only [hostOps0, List.cons_append, List.nil_append]
  entry_read
  try simp only [StableHlo.TRef.toBuf, StableHlo.TRef.ofBuf, cast_cast, cast_eq, id]
  try rfl

/-- A later stretch leaves the values' lane mask. -/
theorem c_v20 : (StableHlo.after (hostOps0_6) σ (Proc.devRef .tc main_v20) : IVec S33792x128 1) = laneMask := by
  simp only [hostOps0_6, List.cons_append, List.nil_append]
  entry_read
  try simp only [StableHlo.TRef.toBuf, StableHlo.TRef.ofBuf, cast_cast, cast_eq, id]
  try rfl

/-- … and its zero. -/
theorem c_cst : (StableHlo.after (hostOps0_6) σ (Proc.devRef .tc main_cst_3) : FVec Ideal S_ .f32) = zeroS := by
  simp only [hostOps0_6, List.cons_append, List.nil_append]
  entry_read
  try simp only [StableHlo.TRef.toBuf, StableHlo.TRef.ofBuf, cast_cast, cast_eq, id]
  try rfl

/-- Stretch b keeps `main_v8`. -/
theorem b_keep_main_v8 : StableHlo.after (hostOps0_1 ++ (hostOps0_2 ++ (hostOps0_3 ++ (hostOps0_4 ++ (hostOps0_5))))) σ (Proc.devRef .tc main_v8) = σ (Proc.devRef .tc main_v8) := by
  simp only [hostOps0_1, hostOps0_2, hostOps0_3, hostOps0_4, hostOps0_5, List.cons_append, List.nil_append]
  entry_read
  rfl

/-- Stretch c keeps `main_v8`. -/
theorem c_keep_main_v8 : StableHlo.after (hostOps0_6) σ (Proc.devRef .tc main_v8) = σ (Proc.devRef .tc main_v8) := by
  simp only [hostOps0_6, List.cons_append, List.nil_append]
  entry_read
  rfl

/-- Stretch d keeps `main_v17`. -/
theorem d_keep_main_v17 : StableHlo.after (hostOps0_7 ++ (hostOps0_8 ++ (hostOps0_9 ++ (hostOps0_10 ++ (hostOps0_11))))) σ (Proc.devRef .tc main_v17) = σ (Proc.devRef .tc main_v17) := by
  simp only [hostOps0_7, hostOps0_8, hostOps0_9, hostOps0_10, hostOps0_11, List.cons_append, List.nil_append]
  entry_read
  rfl

/-- Stretch e keeps `main_v17`. -/
theorem e_keep_main_v17 : StableHlo.after (hostOps0_12 ++ (hostOps0_13 ++ (hostOps0_14 ++ (hostOps0_15 ++ (hostOps0_16 ++ (hostOps0_17 ++ (hostOps0_18 ++ (hostOps0_19)))))))) σ (Proc.devRef .tc main_v17) = σ (Proc.devRef .tc main_v17) := by
  simp only [hostOps0_12, hostOps0_13, hostOps0_14, hostOps0_15, hostOps0_16, hostOps0_17, hostOps0_18, hostOps0_19, List.cons_append, List.nil_append]
  entry_read
  rfl

/-- Spread copy 0 of the keys. -/
theorem key_spread0 (Z : S33792x128.Idx → EReal)
    (hm : (σ (Proc.devRef .tc main_v11) : IVec S33792x128 1) = laneMask)
    (hz : (σ (Proc.devRef .tc main_v6) : S33792x128.Idx → EReal) = Z) (hc : (σ (Proc.devRef .tc main_cst_0) : FVec Ideal S_ .f32) = zeroS) (r : Fin 33792) (d : Fin 128) :
    (StableHlo.after (hostOps0_1 ++ (hostOps0_2 ++ (hostOps0_3 ++ (hostOps0_4 ++ (hostOps0_5))))) σ (Proc.devRef .tc main_v12) : S33792x128.Idx → EReal) (ix2 r d) = spreadAt Z 0 (by omega) r d := by
  simp only [hostOps0_1, hostOps0_2, hostOps0_3, hostOps0_4, hostOps0_5, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 1 of the keys. -/
theorem key_spread1 (Z : S33792x128.Idx → EReal)
    (hm : (σ (Proc.devRef .tc main_v11) : IVec S33792x128 1) = laneMask)
    (hz : (σ (Proc.devRef .tc main_v6) : S33792x128.Idx → EReal) = Z) (hc : (σ (Proc.devRef .tc main_cst_0) : FVec Ideal S_ .f32) = zeroS) (r : Fin 33792) (d : Fin 128) :
    (StableHlo.after (hostOps0_1 ++ (hostOps0_2 ++ (hostOps0_3 ++ (hostOps0_4 ++ (hostOps0_5))))) σ (Proc.devRef .tc main_v14) : S33792x128.Idx → EReal) (ix2 r d) = spreadAt Z 1 (by omega) r d := by
  simp only [hostOps0_1, hostOps0_2, hostOps0_3, hostOps0_4, hostOps0_5, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 2 of the keys. -/
theorem key_spread2 (Z : S33792x128.Idx → EReal)
    (hm : (σ (Proc.devRef .tc main_v11) : IVec S33792x128 1) = laneMask)
    (hz : (σ (Proc.devRef .tc main_v6) : S33792x128.Idx → EReal) = Z) (hc : (σ (Proc.devRef .tc main_cst_0) : FVec Ideal S_ .f32) = zeroS) (r : Fin 33792) (d : Fin 128) :
    (StableHlo.after (hostOps0_1 ++ (hostOps0_2 ++ (hostOps0_3 ++ (hostOps0_4 ++ (hostOps0_5))))) σ (Proc.devRef .tc main_v15) : S33792x128.Idx → EReal) (ix2 r d) = spreadAt Z 2 (by omega) r d := by
  simp only [hostOps0_1, hostOps0_2, hostOps0_3, hostOps0_4, hostOps0_5, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 3 of the keys. -/
theorem key_spread3 (Z : S33792x128.Idx → EReal)
    (hm : (σ (Proc.devRef .tc main_v11) : IVec S33792x128 1) = laneMask)
    (hz : (σ (Proc.devRef .tc main_v6) : S33792x128.Idx → EReal) = Z) (hc : (σ (Proc.devRef .tc main_cst_0) : FVec Ideal S_ .f32) = zeroS) (r : Fin 33792) (d : Fin 128) :
    (StableHlo.after (hostOps0_1 ++ (hostOps0_2 ++ (hostOps0_3 ++ (hostOps0_4 ++ (hostOps0_5))))) σ (Proc.devRef .tc main_v13) : S33792x128.Idx → EReal) (ix2 r d) = spreadAt Z 3 (by omega) r d := by
  simp only [hostOps0_1, hostOps0_2, hostOps0_3, hostOps0_4, hostOps0_5, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 0 of the values. -/
theorem value_spread0 (Z : S33792x128.Idx → EReal)
    (hm : (σ (Proc.devRef .tc main_v20) : IVec S33792x128 1) = laneMask)
    (hz : (σ (Proc.devRef .tc main_v8) : S33792x128.Idx → EReal) = Z) (hc : (σ (Proc.devRef .tc main_cst_3) : FVec Ideal S_ .f32) = zeroS) (r : Fin 33792) (d : Fin 128) :
    (StableHlo.after (hostOps0_7 ++ (hostOps0_8 ++ (hostOps0_9 ++ (hostOps0_10 ++ (hostOps0_11))))) σ (Proc.devRef .tc main_v21) : S33792x128.Idx → EReal) (ix2 r d) = spreadAt Z 0 (by omega) r d := by
  simp only [hostOps0_7, hostOps0_8, hostOps0_9, hostOps0_10, hostOps0_11, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 1 of the values. -/
theorem value_spread1 (Z : S33792x128.Idx → EReal)
    (hm : (σ (Proc.devRef .tc main_v20) : IVec S33792x128 1) = laneMask)
    (hz : (σ (Proc.devRef .tc main_v8) : S33792x128.Idx → EReal) = Z) (hc : (σ (Proc.devRef .tc main_cst_3) : FVec Ideal S_ .f32) = zeroS) (r : Fin 33792) (d : Fin 128) :
    (StableHlo.after (hostOps0_7 ++ (hostOps0_8 ++ (hostOps0_9 ++ (hostOps0_10 ++ (hostOps0_11))))) σ (Proc.devRef .tc main_v23) : S33792x128.Idx → EReal) (ix2 r d) = spreadAt Z 1 (by omega) r d := by
  simp only [hostOps0_7, hostOps0_8, hostOps0_9, hostOps0_10, hostOps0_11, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 2 of the values. -/
theorem value_spread2 (Z : S33792x128.Idx → EReal)
    (hm : (σ (Proc.devRef .tc main_v20) : IVec S33792x128 1) = laneMask)
    (hz : (σ (Proc.devRef .tc main_v8) : S33792x128.Idx → EReal) = Z) (hc : (σ (Proc.devRef .tc main_cst_3) : FVec Ideal S_ .f32) = zeroS) (r : Fin 33792) (d : Fin 128) :
    (StableHlo.after (hostOps0_7 ++ (hostOps0_8 ++ (hostOps0_9 ++ (hostOps0_10 ++ (hostOps0_11))))) σ (Proc.devRef .tc main_v24) : S33792x128.Idx → EReal) (ix2 r d) = spreadAt Z 2 (by omega) r d := by
  simp only [hostOps0_7, hostOps0_8, hostOps0_9, hostOps0_10, hostOps0_11, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- Spread copy 3 of the values. -/
theorem value_spread3 (Z : S33792x128.Idx → EReal)
    (hm : (σ (Proc.devRef .tc main_v20) : IVec S33792x128 1) = laneMask)
    (hz : (σ (Proc.devRef .tc main_v8) : S33792x128.Idx → EReal) = Z) (hc : (σ (Proc.devRef .tc main_cst_3) : FVec Ideal S_ .f32) = zeroS) (r : Fin 33792) (d : Fin 128) :
    (StableHlo.after (hostOps0_7 ++ (hostOps0_8 ++ (hostOps0_9 ++ (hostOps0_10 ++ (hostOps0_11))))) σ (Proc.devRef .tc main_v22) : S33792x128.Idx → EReal) (ix2 r d) = spreadAt Z 3 (by omega) r d := by
  simp only [hostOps0_7, hostOps0_8, hostOps0_9, hostOps0_10, hostOps0_11, List.cons_append, List.nil_append]
  entry_read
  rw [hm, hz]
  try rw [hc]
  simp only [StableHlo.TRef.toBuf, StableHlo.TRef.ofBuf, cast_cast, cast_eq, id]
  unfold spreadAt
  pointwise
  by_cases h : d.val < 64
  · try rw [dif_pos h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])
  · try rw [dif_neg h]
    rw [sel_lt _ (by omega)]
    first | (rw [if_pos (by omega), if_pos (by omega)] <;> blk_ext) | (refine (if_pos (by omega)).trans (Eq.trans ?_ (if_pos (by omega)).symm); exact congrArg (fun n : Fin 128 => Z (ix2 r n)) (Fin.ext (by omega : d.val - 64 = d.val % 64) : (⟨d.val - 64, by omega⟩ : Fin 128) = ⟨d.val % 64, by omega⟩)) | (rw [if_pos (by omega), if_neg (by omega)]) | (rw [if_neg (by omega), if_pos (by omega)] <;> blk_ext) | (rw [if_neg (by omega), if_neg (by omega)])

/-- The keys' lane tile 0. -/
theorem c_tile0 (r : Fin 33792) (d : Fin 128) : (StableHlo.after hostOps0_6 σ (Proc.devRef .tc main_v17) : S33792x512.Idx → EReal) (ix2 r ⟨0 + d.val, by omega⟩)
    = (σ (Proc.devRef .tc main_v12) : S33792x128.Idx → EReal) (ix2 r d) := by
  simp only [hostOps0_6, List.cons_append, List.nil_append]
  entry_read
  pointwise
  try rw [dif_pos (by omega)]
  try blk_ext

/-- The keys' lane tile 1. -/
theorem c_tile1 (r : Fin 33792) (d : Fin 128) : (StableHlo.after hostOps0_6 σ (Proc.devRef .tc main_v17) : S33792x512.Idx → EReal) (ix2 r ⟨128 + d.val, by omega⟩)
    = (σ (Proc.devRef .tc main_v14) : S33792x128.Idx → EReal) (ix2 r d) := by
  simp only [hostOps0_6, List.cons_append, List.nil_append]
  entry_read
  pointwise
  try rw [dif_neg (by omega), dif_pos (by omega)]
  try blk_ext

/-- The keys' lane tile 2. -/
theorem c_tile2 (r : Fin 33792) (d : Fin 128) : (StableHlo.after hostOps0_6 σ (Proc.devRef .tc main_v17) : S33792x512.Idx → EReal) (ix2 r ⟨256 + d.val, by omega⟩)
    = (σ (Proc.devRef .tc main_v15) : S33792x128.Idx → EReal) (ix2 r d) := by
  simp only [hostOps0_6, List.cons_append, List.nil_append]
  entry_read
  pointwise
  try rw [dif_neg (by omega), dif_neg (by omega), dif_pos (by omega)]
  try blk_ext

/-- The keys' lane tile 3. -/
theorem c_tile3 (r : Fin 33792) (d : Fin 128) : (StableHlo.after hostOps0_6 σ (Proc.devRef .tc main_v17) : S33792x512.Idx → EReal) (ix2 r ⟨384 + d.val, by omega⟩)
    = (σ (Proc.devRef .tc main_v13) : S33792x128.Idx → EReal) (ix2 r d) := by
  simp only [hostOps0_6, List.cons_append, List.nil_append]
  entry_read
  pointwise
  try rw [dif_neg (by omega), dif_neg (by omega), dif_neg (by omega)]
  try blk_ext

/-- The values' lane tile 0 before the join: a lane of ones in the empty half. -/
theorem e_tile0 (r : Fin 33792) (d : Fin 128) : (StableHlo.after (hostOps0_12 ++ (hostOps0_13 ++ (hostOps0_14 ++ (hostOps0_15 ++ (hostOps0_16 ++ (hostOps0_17 ++ (hostOps0_18 ++ (hostOps0_19)))))))) σ (Proc.devRef .tc main_v28) : S33792x128.Idx → EReal) (ix2 r d)
    = if d.val = 64 then (1 : EReal) else (σ (Proc.devRef .tc main_v21) : S33792x128.Idx → EReal) (ix2 r d) := by
  simp only [hostOps0_12, hostOps0_13, hostOps0_14, hostOps0_15, hostOps0_16, hostOps0_17, hostOps0_18, hostOps0_19, List.cons_append, List.nil_append]
  entry_read
  simp only [StableHlo.TRef.toBuf, StableHlo.TRef.ofBuf, cast_cast, cast_eq, id]
  pointwise
  rw [sel_64 _ (by omega)]

/-- The values' lane tile 0. -/
theorem f_tile0 (b : Fin 4) (row : Fin 8448) (d : Fin 128) : (StableHlo.after hostOps0_20 σ (Proc.devRef .tc main_v42) : S4x8448x512.Idx → EReal) (ix3 b row ⟨0 + d.val, by omega⟩)
    = (σ (Proc.devRef .tc main_v28) : S33792x128.Idx → EReal) (ix2 ⟨b.val * 8448 + row.val, by omega⟩ d) := by
  simp only [hostOps0_20, List.cons_append, List.nil_append]
  entry_read
  pointwise
  try rw [dif_pos (by omega)]
  try blk_ext

/-- The values' lane tile 1 before the join: a lane of ones in the empty half. -/
theorem e_tile1 (r : Fin 33792) (d : Fin 128) : (StableHlo.after (hostOps0_12 ++ (hostOps0_13 ++ (hostOps0_14 ++ (hostOps0_15 ++ (hostOps0_16 ++ (hostOps0_17 ++ (hostOps0_18 ++ (hostOps0_19)))))))) σ (Proc.devRef .tc main_v31) : S33792x128.Idx → EReal) (ix2 r d)
    = if d.val = 0 then (1 : EReal) else (σ (Proc.devRef .tc main_v23) : S33792x128.Idx → EReal) (ix2 r d) := by
  simp only [hostOps0_12, hostOps0_13, hostOps0_14, hostOps0_15, hostOps0_16, hostOps0_17, hostOps0_18, hostOps0_19, List.cons_append, List.nil_append]
  entry_read
  simp only [StableHlo.TRef.toBuf, StableHlo.TRef.ofBuf, cast_cast, cast_eq, id]
  pointwise
  rw [sel_0 _ (by omega)]

/-- The values' lane tile 1. -/
theorem f_tile1 (b : Fin 4) (row : Fin 8448) (d : Fin 128) : (StableHlo.after hostOps0_20 σ (Proc.devRef .tc main_v42) : S4x8448x512.Idx → EReal) (ix3 b row ⟨128 + d.val, by omega⟩)
    = (σ (Proc.devRef .tc main_v31) : S33792x128.Idx → EReal) (ix2 ⟨b.val * 8448 + row.val, by omega⟩ d) := by
  simp only [hostOps0_20, List.cons_append, List.nil_append]
  entry_read
  pointwise
  try rw [dif_neg (by omega), dif_pos (by omega)]
  try blk_ext

/-- The values' lane tile 2 before the join: a lane of ones in the empty half. -/
theorem e_tile2 (r : Fin 33792) (d : Fin 128) : (StableHlo.after (hostOps0_12 ++ (hostOps0_13 ++ (hostOps0_14 ++ (hostOps0_15 ++ (hostOps0_16 ++ (hostOps0_17 ++ (hostOps0_18 ++ (hostOps0_19)))))))) σ (Proc.devRef .tc main_v34) : S33792x128.Idx → EReal) (ix2 r d)
    = if d.val = 64 then (1 : EReal) else (σ (Proc.devRef .tc main_v24) : S33792x128.Idx → EReal) (ix2 r d) := by
  simp only [hostOps0_12, hostOps0_13, hostOps0_14, hostOps0_15, hostOps0_16, hostOps0_17, hostOps0_18, hostOps0_19, List.cons_append, List.nil_append]
  entry_read
  simp only [StableHlo.TRef.toBuf, StableHlo.TRef.ofBuf, cast_cast, cast_eq, id]
  pointwise
  rw [sel_64 _ (by omega)]

/-- The values' lane tile 2. -/
theorem f_tile2 (b : Fin 4) (row : Fin 8448) (d : Fin 128) : (StableHlo.after hostOps0_20 σ (Proc.devRef .tc main_v42) : S4x8448x512.Idx → EReal) (ix3 b row ⟨256 + d.val, by omega⟩)
    = (σ (Proc.devRef .tc main_v34) : S33792x128.Idx → EReal) (ix2 ⟨b.val * 8448 + row.val, by omega⟩ d) := by
  simp only [hostOps0_20, List.cons_append, List.nil_append]
  entry_read
  pointwise
  try rw [dif_neg (by omega), dif_neg (by omega), dif_pos (by omega)]
  try blk_ext

/-- The values' lane tile 3 before the join: a lane of ones in the empty half. -/
theorem e_tile3 (r : Fin 33792) (d : Fin 128) : (StableHlo.after (hostOps0_12 ++ (hostOps0_13 ++ (hostOps0_14 ++ (hostOps0_15 ++ (hostOps0_16 ++ (hostOps0_17 ++ (hostOps0_18 ++ (hostOps0_19)))))))) σ (Proc.devRef .tc main_v37) : S33792x128.Idx → EReal) (ix2 r d)
    = if d.val = 0 then (1 : EReal) else (σ (Proc.devRef .tc main_v22) : S33792x128.Idx → EReal) (ix2 r d) := by
  simp only [hostOps0_12, hostOps0_13, hostOps0_14, hostOps0_15, hostOps0_16, hostOps0_17, hostOps0_18, hostOps0_19, List.cons_append, List.nil_append]
  entry_read
  simp only [StableHlo.TRef.toBuf, StableHlo.TRef.ofBuf, cast_cast, cast_eq, id]
  pointwise
  rw [sel_0 _ (by omega)]

/-- The values' lane tile 3. -/
theorem f_tile3 (b : Fin 4) (row : Fin 8448) (d : Fin 128) : (StableHlo.after hostOps0_20 σ (Proc.devRef .tc main_v42) : S4x8448x512.Idx → EReal) (ix3 b row ⟨384 + d.val, by omega⟩)
    = (σ (Proc.devRef .tc main_v37) : S33792x128.Idx → EReal) (ix2 ⟨b.val * 8448 + row.val, by omega⟩ d) := by
  simp only [hostOps0_20, List.cons_append, List.nil_append]
  entry_read
  pointwise
  try rw [dif_neg (by omega), dif_neg (by omega), dif_neg (by omega)]
  try blk_ext

/-- The keys as the call receives them: the rows, a sample at a time. -/
theorem f_v41 (b : Fin 4) (row : Fin 8448) (l : Fin 512) : (StableHlo.after hostOps0_20 σ (Proc.devRef .tc main_v41) : S4x8448x512.Idx → EReal) (ix3 b row l)
    = (σ (Proc.devRef .tc main_v17) : S33792x512.Idx → EReal) (ix2 ⟨b.val * 8448 + row.val, by omega⟩ l) := by
  simp only [hostOps0_20, List.cons_append, List.nil_append]
  entry_read
  pointwise
  try blk_ext

section run
variable (m : (ℓ : Loc nD τ sig) → Buf (Elt Ideal) ℓ) (c : Dev nD)

/-- What the region finds, stretch by stretch. -/
theorem V_stretches (b : Ref sig .tc) : V m c b = StableHlo.after hostOps0_20 (StableHlo.after (hostOps0_12 ++ (hostOps0_13 ++ (hostOps0_14 ++ (hostOps0_15 ++ (hostOps0_16 ++ (hostOps0_17 ++ (hostOps0_18 ++ (hostOps0_19)))))))) (StableHlo.after (hostOps0_7 ++ (hostOps0_8 ++ (hostOps0_9 ++ (hostOps0_10 ++ (hostOps0_11)))))
    (StableHlo.after hostOps0_6 (StableHlo.after (hostOps0_1 ++ (hostOps0_2 ++ (hostOps0_3 ++ (hostOps0_4 ++ (hostOps0_5))))) (StableHlo.after hostOps0 (fun b => m (c, b))))))) (Proc.devRef .tc b) := by
  unfold V
  simp only [List.flatten_cons, List.flatten_nil, List.append_nil, StableHlo.after_append]

/-- The keys' rows. -/
abbrev keysK : FVec Ideal S33792x128 .f32 := rowsKV (m ((c : Thread nD τ).loc main_arg4)) (m ((c : Thread nD τ).loc main_arg1))
/-- The values' rows. -/
abbrev valsK : FVec Ideal S33792x128 .f32 := rowsKV (m ((c : Thread nD τ).loc main_arg5)) (m ((c : Thread nD τ).loc main_arg2))

/-- Lane tile 0 of the keys the call receives. -/
theorem V41_0 (b : Fin 4) (row : Fin 8448) (d : Fin 128) : (V m c main_v41 : S4x8448x512.Idx → EReal) (ix3 b row ⟨0 + d.val, by omega⟩)
    = spreadAt (keysK m c) 0 (by omega) ⟨b.val * 8448 + row.val, by omega⟩ d := by
  rw [V_stretches]
  refine (f_v41 _ b row _).trans ?_
  rw [e_keep_main_v17, d_keep_main_v17]
  refine (c_tile0 _ _ d).trans ?_
  exact key_spread0 _ _ (a_v11 _) (a_v6 _) (a_cst _) _ d

/-- Lane tile 0 of the values the call receives: a lane of ones in the empty half. -/
theorem V42_0 (b : Fin 4) (row : Fin 8448) (d : Fin 128) : (V m c main_v42 : S4x8448x512.Idx → EReal) (ix3 b row ⟨0 + d.val, by omega⟩)
    = if d.val = 64 then (1 : EReal) else spreadAt (valsK m c) 0 (by omega) ⟨b.val * 8448 + row.val, by omega⟩ d := by
  rw [V_stretches]
  refine (f_tile0 _ b row d).trans ?_
  refine (e_tile0 _ _ d).trans ?_
  refine congrArg (fun x : EReal => if d.val = 64 then (1 : EReal) else x) ?_
  refine value_spread0 _ _ (c_v20 _) ?_ (c_cst _) _ d
  rw [c_keep_main_v8, b_keep_main_v8]
  exact a_v8 _

/-- Lane tile 1 of the keys the call receives. -/
theorem V41_1 (b : Fin 4) (row : Fin 8448) (d : Fin 128) : (V m c main_v41 : S4x8448x512.Idx → EReal) (ix3 b row ⟨128 + d.val, by omega⟩)
    = spreadAt (keysK m c) 1 (by omega) ⟨b.val * 8448 + row.val, by omega⟩ d := by
  rw [V_stretches]
  refine (f_v41 _ b row _).trans ?_
  rw [e_keep_main_v17, d_keep_main_v17]
  refine (c_tile1 _ _ d).trans ?_
  exact key_spread1 _ _ (a_v11 _) (a_v6 _) (a_cst _) _ d

/-- Lane tile 1 of the values the call receives: a lane of ones in the empty half. -/
theorem V42_1 (b : Fin 4) (row : Fin 8448) (d : Fin 128) : (V m c main_v42 : S4x8448x512.Idx → EReal) (ix3 b row ⟨128 + d.val, by omega⟩)
    = if d.val = 0 then (1 : EReal) else spreadAt (valsK m c) 1 (by omega) ⟨b.val * 8448 + row.val, by omega⟩ d := by
  rw [V_stretches]
  refine (f_tile1 _ b row d).trans ?_
  refine (e_tile1 _ _ d).trans ?_
  refine congrArg (fun x : EReal => if d.val = 0 then (1 : EReal) else x) ?_
  refine value_spread1 _ _ (c_v20 _) ?_ (c_cst _) _ d
  rw [c_keep_main_v8, b_keep_main_v8]
  exact a_v8 _

/-- Lane tile 2 of the keys the call receives. -/
theorem V41_2 (b : Fin 4) (row : Fin 8448) (d : Fin 128) : (V m c main_v41 : S4x8448x512.Idx → EReal) (ix3 b row ⟨256 + d.val, by omega⟩)
    = spreadAt (keysK m c) 2 (by omega) ⟨b.val * 8448 + row.val, by omega⟩ d := by
  rw [V_stretches]
  refine (f_v41 _ b row _).trans ?_
  rw [e_keep_main_v17, d_keep_main_v17]
  refine (c_tile2 _ _ d).trans ?_
  exact key_spread2 _ _ (a_v11 _) (a_v6 _) (a_cst _) _ d

/-- Lane tile 2 of the values the call receives: a lane of ones in the empty half. -/
theorem V42_2 (b : Fin 4) (row : Fin 8448) (d : Fin 128) : (V m c main_v42 : S4x8448x512.Idx → EReal) (ix3 b row ⟨256 + d.val, by omega⟩)
    = if d.val = 64 then (1 : EReal) else spreadAt (valsK m c) 2 (by omega) ⟨b.val * 8448 + row.val, by omega⟩ d := by
  rw [V_stretches]
  refine (f_tile2 _ b row d).trans ?_
  refine (e_tile2 _ _ d).trans ?_
  refine congrArg (fun x : EReal => if d.val = 64 then (1 : EReal) else x) ?_
  refine value_spread2 _ _ (c_v20 _) ?_ (c_cst _) _ d
  rw [c_keep_main_v8, b_keep_main_v8]
  exact a_v8 _

/-- Lane tile 3 of the keys the call receives. -/
theorem V41_3 (b : Fin 4) (row : Fin 8448) (d : Fin 128) : (V m c main_v41 : S4x8448x512.Idx → EReal) (ix3 b row ⟨384 + d.val, by omega⟩)
    = spreadAt (keysK m c) 3 (by omega) ⟨b.val * 8448 + row.val, by omega⟩ d := by
  rw [V_stretches]
  refine (f_v41 _ b row _).trans ?_
  rw [e_keep_main_v17, d_keep_main_v17]
  refine (c_tile3 _ _ d).trans ?_
  exact key_spread3 _ _ (a_v11 _) (a_v6 _) (a_cst _) _ d

/-- Lane tile 3 of the values the call receives: a lane of ones in the empty half. -/
theorem V42_3 (b : Fin 4) (row : Fin 8448) (d : Fin 128) : (V m c main_v42 : S4x8448x512.Idx → EReal) (ix3 b row ⟨384 + d.val, by omega⟩)
    = if d.val = 0 then (1 : EReal) else spreadAt (valsK m c) 3 (by omega) ⟨b.val * 8448 + row.val, by omega⟩ d := by
  rw [V_stretches]
  refine (f_tile3 _ b row d).trans ?_
  refine (e_tile3 _ _ d).trans ?_
  refine congrArg (fun x : EReal => if d.val = 0 then (1 : EReal) else x) ?_
  refine value_spread3 _ _ (c_v20 _) ?_ (c_cst _) _ d
  rw [c_keep_main_v8, b_keep_main_v8]
  exact a_v8 _

/-- The queries the call receives, scaled. -/
theorem V40 (b : Fin 4) (row : Fin 8448) (l : Fin 512) : (V m c main_v40 : S4x8448x512.Idx → EReal) (ix3 b row l)
    = rowsQ (m ((c : Thread nD τ).loc main_arg3)) (m ((c : Thread nD τ).loc main_arg0)) (ix2 ⟨b.val * 8448 + row.val, by omega⟩ l) * Ideal.ofBits .f32 0x3E000000#32 := by
  unfold V
  simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, hostOps0_20, List.flatten_cons, List.flatten_nil, List.append_nil, List.cons_append, List.nil_append]
  entry_read
  pointwise
  have e1 : (b.val * 8448 + row.val) % 8448 = row.val := by omega
  have e2 : (b.val * 8448 + row.val) / 8448 = b.val := by omega
  simp only [e1, e2]

end run

end Cert.KernelIdeal.Attn
end
-- ==== Proof.AttnArr.lean ====
module
public import proofs.«01_k».proof.Proof.AttnLink
public import proofs.«01_k».proof.Proof.AttnHost
@[expose] public section
set_option maxRecDepth 16384
noncomputable section
open Idealize.ShloMosaic Idealize.ShloMosaic.TcCoe Idealize.SL.Sem

namespace Cert.KernelIdeal.Attn
open Cert.KernelIdeal Cert.KernelIdeal.Gen

/-- The queries of all tokens of a sample: the context's, then the latents'. -/
def allQ (x : S4x256x8x64.Idx → EReal) (y : S4x8192x8x64.Idx → EReal) (b : Fin 4) (row : Fin 8448) (h : Fin 8) (e : Fin 64) : EReal :=
  if hr : row.val < 256 then x (ix4 b ⟨row.val, hr⟩ h e) else y (ix4 b ⟨row.val - 256, by omega⟩ h e)

/-- The keys (or values) of all tokens of a sample: the context's, then the latents'. -/
def allKV (x : S4x256x2x64.Idx → EReal) (y : S4x8192x2x64.Idx → EReal) (b : Fin 4) (row : Fin 8448) (p : Fin 2) (e : Fin 64) : EReal :=
  if hr : row.val < 256 then x (ix4 b ⟨row.val, hr⟩ p e) else y (ix4 b ⟨row.val - 256, by omega⟩ p e)

theorem rowsQ_at (x : FVec Ideal S4x256x8x64 .f32) (y : FVec Ideal S4x8192x8x64 .f32) (b : Fin 4) (row : Fin 8448) (h : Fin 8) (e : Fin 64) :
    rowsQ x y (ix2 ⟨b.val * 8448 + row.val, by omega⟩ ⟨h.val * 64 + e.val, by omega⟩) = allQ x y b row h e := by
  unfold rowsQ allQ
  pointwise

theorem rowsKV_at (x : FVec Ideal S4x256x2x64 .f32) (y : FVec Ideal S4x8192x2x64 .f32) (b : Fin 4) (row : Fin 8448) (p : Fin 2) (e : Fin 64) :
    rowsKV x y (ix2 ⟨b.val * 8448 + row.val, by omega⟩ ⟨p.val * 64 + e.val, by omega⟩) = allKV x y b row p e := by
  unfold rowsKV allKV
  pointwise

theorem eighth : Ideal.ofBits .f32 0x3E000000#32 = (((1 / 8 : ℝ) : ℝ) : EReal) := by
  simp [Ideal.ofBits, Ideal.ieee]
  rw [← EReal.coe_mul]
  norm_num

/-- A spread copy's lanes of its own half hold the head. -/
theorem spread_at (x : FVec Ideal S4x256x2x64 .f32) (y : FVec Ideal S4x8192x2x64 .f32) (n : ℕ) (hn : n < 4) (b : Fin 4) (row : Fin 8448) (d : Fin 128)
    (h : d.val / 64 = n % 2) :
    spreadAt (rowsKV x y) n hn ⟨b.val * 8448 + row.val, by omega⟩ d = allKV x y b row ⟨n / 2, by omega⟩ ⟨d.val % 64, by omega⟩ := by
  unfold spreadAt
  rw [if_pos h]
  exact rowsKV_at x y b row ⟨n / 2, by omega⟩ ⟨d.val % 64, by omega⟩

/-- … and its other lanes hold zero. -/
theorem spread_off (Z : S33792x128.Idx → EReal) (n : ℕ) (hn : n < 4) (r : Fin 33792) (d : Fin 128) (h : ¬ d.val / 64 = n % 2) :
    spreadAt Z n hn r d = 0 := by
  unfold spreadAt
  rw [if_neg h]

variable (m : (ℓ : Loc nD τ sig) → Buf (Elt Ideal) ℓ) (c : Dev nD)

/-- All queries, from the arguments. -/
abbrev argQ := allQ (m ((c : Thread nD τ).loc main_arg3)) (m ((c : Thread nD τ).loc main_arg0))
/-- All keys, from the arguments. -/
abbrev argK := allKV (m ((c : Thread nD τ).loc main_arg4)) (m ((c : Thread nD τ).loc main_arg1))
/-- All values, from the arguments. -/
abbrev argV := allKV (m ((c : Thread nD τ).loc main_arg5)) (m ((c : Thread nD τ).loc main_arg2))

theorem opQ (b : Fin 4) (row : Fin 8448) (h : Fin 8) (e : Fin 64) :
    (V m c main_v40 : S4x8448x512.Idx → EReal) (ix3 b row ⟨h.val * 64 + e.val, by omega⟩) = argQ m c b row h e * ((1 / 8 : ℝ) : EReal) := by
  rw [V40, eighth]
  exact congrArg (· * _) (rowsQ_at _ _ b row h e)

theorem keyTile (n : Fin 4) (b : Fin 4) (row : Fin 8448) (d : Fin 128) :
    (V m c main_v41 : S4x8448x512.Idx → EReal) (ix3 b row ⟨n.val * 128 + d.val, by omega⟩) = spreadAt (keysK m c) n.val n.isLt ⟨b.val * 8448 + row.val, by omega⟩ d := by
  obtain ⟨n, hn⟩ := n
  obtain rfl | rfl | rfl | rfl : n = 0 ∨ n = 1 ∨ n = 2 ∨ n = 3 := by omega
  · exact V41_0 m c b row d
  · exact V41_1 m c b row d
  · exact V41_2 m c b row d
  · exact V41_3 m c b row d

theorem valTile (n : Fin 4) (b : Fin 4) (row : Fin 8448) (d : Fin 128) :
    (V m c main_v42 : S4x8448x512.Idx → EReal) (ix3 b row ⟨n.val * 128 + d.val, by omega⟩) =
      if d.val = (if n.val % 2 = 0 then 64 else 0) then (1 : EReal) else spreadAt (valsK m c) n.val n.isLt ⟨b.val * 8448 + row.val, by omega⟩ d := by
  obtain ⟨n, hn⟩ := n
  obtain rfl | rfl | rfl | rfl : n = 0 ∨ n = 1 ∨ n = 2 ∨ n = 3 := by omega
  · exact (V42_0 m c b row d).trans (if_congr (by simp) rfl rfl)
  · exact (V42_1 m c b row d).trans (if_congr (by simp) rfl rfl)
  · exact (V42_2 m c b row d).trans (if_congr (by simp) rfl rfl)
  · exact (V42_3 m c b row d).trans (if_congr (by simp) rfl rfl)

theorem key_lo (b : Fin 4) (row : Fin 8448) (p : Fin 2) (d : Fin 128) (a : ℕ) (ha : a < 512) (h : a = p.val * 256 + d.val) :
    (V m c main_v41 : S4x8448x512.Idx → EReal) (ix3 b row ⟨a, ha⟩) = if h : d.val < 64 then argK m c b row p ⟨d.val, h⟩ else 0 := by
  have e : (⟨a, ha⟩ : Fin 512) = ⟨(⟨p.val * 2, by omega⟩ : Fin 4).val * 128 + d.val, by show p.val * 2 * 128 + d.val < 512; omega⟩ := by
    apply Fin.ext; show a = p.val * 2 * 128 + d.val; omega
  rw [e, keyTile]
  split_ifs with hd
  · refine (spread_at _ _ _ _ b row d (by show d.val / 64 = p.val * 2 % 2; omega)).trans ?_
    congr 1
    · apply Fin.ext; show p.val * 2 / 2 = p.val; omega
    · apply Fin.ext; show d.val % 64 = d.val; omega
  · exact spread_off _ _ _ _ d (by show ¬ d.val / 64 = p.val * 2 % 2; omega)

theorem key_hi (b : Fin 4) (row : Fin 8448) (p : Fin 2) (d : Fin 128) (a : ℕ) (ha : a < 512) (h : a = p.val * 256 + (128 + d.val)) :
    (V m c main_v41 : S4x8448x512.Idx → EReal) (ix3 b row ⟨a, ha⟩) = if h : d.val < 64 then 0 else argK m c b row p ⟨d.val - 64, by omega⟩ := by
  have e : (⟨a, ha⟩ : Fin 512) = ⟨(⟨p.val * 2 + 1, by omega⟩ : Fin 4).val * 128 + d.val, by show (p.val * 2 + 1) * 128 + d.val < 512; omega⟩ := by
    apply Fin.ext; show a = (p.val * 2 + 1) * 128 + d.val; omega
  rw [e, keyTile]
  split_ifs with hd
  · exact spread_off _ _ _ _ d (by show ¬ d.val / 64 = (p.val * 2 + 1) % 2; omega)
  · refine (spread_at _ _ _ _ b row d (by show d.val / 64 = (p.val * 2 + 1) % 2; omega)).trans ?_
    congr 1
    · apply Fin.ext; show (p.val * 2 + 1) / 2 = p.val; omega
    · apply Fin.ext; show d.val % 64 = d.val - 64; omega

theorem val_lo (b : Fin 4) (row : Fin 8448) (p : Fin 2) (d : Fin 128) (a : ℕ) (ha : a < 512) (h : a = p.val * 256 + d.val) :
    (V m c main_v42 : S4x8448x512.Idx → EReal) (ix3 b row ⟨a, ha⟩) = if d.val = 64 then 1 else if h : d.val < 64 then argV m c b row p ⟨d.val, h⟩ else 0 := by
  have e : (⟨a, ha⟩ : Fin 512) = ⟨(⟨p.val * 2, by omega⟩ : Fin 4).val * 128 + d.val, by show p.val * 2 * 128 + d.val < 512; omega⟩ := by
    apply Fin.ext; show a = p.val * 2 * 128 + d.val; omega
  rw [e, valTile, if_pos (show p.val * 2 % 2 = 0 by omega)]
  refine if_congr Iff.rfl rfl ?_
  split_ifs with hd
  · refine (spread_at _ _ _ _ b row d (by show d.val / 64 = p.val * 2 % 2; omega)).trans ?_
    congr 1
    · apply Fin.ext; show p.val * 2 / 2 = p.val; omega
    · apply Fin.ext; show d.val % 64 = d.val; omega
  · exact spread_off _ _ _ _ d (by show ¬ d.val / 64 = p.val * 2 % 2; omega)

theorem val_hi (b : Fin 4) (row : Fin 8448) (p : Fin 2) (d : Fin 128) (a : ℕ) (ha : a < 512) (h : a = p.val * 256 + (128 + d.val)) :
    (V m c main_v42 : S4x8448x512.Idx → EReal) (ix3 b row ⟨a, ha⟩) = if d.val = 0 then 1 else if h : d.val < 64 then 0 else argV m c b row p ⟨d.val - 64, by omega⟩ := by
  have e : (⟨a, ha⟩ : Fin 512) = ⟨(⟨p.val * 2 + 1, by omega⟩ : Fin 4).val * 128 + d.val, by show (p.val * 2 + 1) * 128 + d.val < 512; omega⟩ := by
    apply Fin.ext; show a = (p.val * 2 + 1) * 128 + d.val; omega
  rw [e, valTile, if_neg (show ¬ (p.val * 2 + 1) % 2 = 0 by omega)]
  refine if_congr Iff.rfl rfl ?_
  split_ifs with hd
  · exact spread_off _ _ _ _ d (by show ¬ d.val / 64 = (p.val * 2 + 1) % 2; omega)
  · refine (spread_at _ _ _ _ b row d (by show d.val / 64 = (p.val * 2 + 1) % 2; omega)).trans ?_
    congr 1
    · apply Fin.ext; show (p.val * 2 + 1) / 2 = p.val; omega
    · apply Fin.ext; show d.val % 64 = d.val - 64; omega

/-- The array the call leaves, at sample `b`, array row `t * 128 + r`, head `p * 4 + (j * 2 + half)`, dimension `e`, from the
    program's arguments. -/
theorem kernel_out (b : Fin 4) (t : Fin 66) (r : Fin 128) (p j half : Fin 2) (e : Fin 64) (i : S4x8448x512.Idx)
    (h0 : (i 0).val = b.val) (h1 : (i 1).val = t.val * 128 + r.val) (h2 : (i 2).val = p.val * 256 + j.val * 128 + (half.val * 64 + e.val)) :
    outArr (V m c main_v40) (V m c main_v41) (V m c main_v42) (m ((c : Thread nD τ).loc main_arg6)) i =
      att (score (argQ m c) (argK m c) ((1 / 8 : ℝ) : EReal) b t r p ⟨p.val * 4 + (j.val * 2 + half.val), by omega⟩) (fun k => argV m c b (krow t k) p e) (fun _ => 1)
        ((m ((c : Thread nD τ).loc main_arg6) : S8.Idx → EReal) (ix1 ⟨p.val * 4 + (j.val * 2 + half.val), by omega⟩)) := by
  refine (outArr_eq _ _ _ _ i b t r p j ⟨half.val * 64 + e.val, by omega⟩ h0 h1 h2).trans ?_
  exact outAt_heads _ _ _ _ (argQ m c) (argK m c) (argV m c) (1 / 8) (by norm_num) (opQ m c)
    (fun b row p d => key_lo m c b row p d _ _ rfl) (fun b row p d => key_hi m c b row p d _ _ rfl)
    (fun b row p d => val_lo m c b row p d _ _ rfl) (fun b row p d => val_hi m c b row p d _ _ rfl) b t r p j half e

end Cert.KernelIdeal.Attn
end
-- ==== Proof.BandWord.lean ====
module
public import Idealize.ShloMosaic.Lib.Pipeline.ValueKit
public import Idealize.ShloMosaic.Lib.Pointwise
@[expose] public section
noncomputable section
open Idealize.ShloMosaic
namespace Cert.Words

/-- A small integer's word, read back. -/
theorem toInt_small (z : ℤ) (h0 : -100000 ≤ z) (h1 : z ≤ 100000) : (BitVec.ofInt 32 z).toInt = z := by
  rw [BitVec.toInt_ofInt]
  unfold Int.bmod
  dsimp only
  split <;> omega

/-- A signed comparison of small integers' words. -/
theorem sle_small (x y : ℤ) (hx : -100000 ≤ x ∧ x ≤ 100000) (hy : -100000 ≤ y ∧ y ≤ 100000) :
    IntOp.cmpi .sle (BitVec.ofInt 32 x) (BitVec.ofInt 32 y) = if x ≤ y then 1#1 else 0#1 := by
  unfold IntOp.cmpi
  simp only [BitVec.sle, toInt_small _ hx.1 hx.2, toInt_small _ hy.1 hy.2]
  by_cases h : x ≤ y <;> simp [h]

theorem sge_small (x y : ℤ) (hx : -100000 ≤ x ∧ x ≤ 100000) (hy : -100000 ≤ y ∧ y ≤ 100000) :
    IntOp.cmpi .sge (BitVec.ofInt 32 x) (BitVec.ofInt 32 y) = if y ≤ x then 1#1 else 0#1 := by
  unfold IntOp.cmpi
  simp only [BitVec.sle, toInt_small _ hx.1 hx.2, toInt_small _ hy.1 hy.2]
  by_cases h : y ≤ x <;> simp [h]

theorem slt_small (x y : ℤ) (hx : -100000 ≤ x ∧ x ≤ 100000) (hy : -100000 ≤ y ∧ y ≤ 100000) :
    IntOp.cmpi .slt (BitVec.ofInt 32 x) (BitVec.ofInt 32 y) = if x < y then 1#1 else 0#1 := by
  unfold IntOp.cmpi
  simp only [BitVec.slt, toInt_small _ hx.1 hx.2, toInt_small _ hy.1 hy.2]
  by_cases h : x < y <;> simp [h]

/-- The absolute value of a small integer's word. -/
theorem abs_small (z : ℤ) (h0 : -100000 ≤ z) (h1 : z ≤ 100000) : IntOp.absi (BitVec.ofInt 32 z) = BitVec.ofInt 32 |z| := by
  unfold IntOp.absi
  rw [BitVec.msb_eq_toInt, toInt_small _ h0 h1]
  by_cases h : z < 0
  · rw [if_pos (by simpa using h), abs_of_neg h, BitVec.ofInt_neg]
  · rw [if_neg (by simpa using h), abs_of_nonneg (by omega)]

/-- The key position of a band's column, as a word. -/
theorem pos_word (n κ : ℕ) : IntOp.addi (IntOp.muli (IntOp.subi (BitVec.ofNat 32 n) 1#32) 128#32) (BitVec.ofNat 32 κ)
    = BitVec.ofInt 32 (((n : ℤ) - 1) * 128 + κ) := by
  unfold IntOp.addi IntOp.muli IntOp.subi
  rw [BitVec.ofInt_add, BitVec.ofInt_mul, sub_eq_add_neg, BitVec.ofInt_add, BitVec.sub_eq_add_neg]
  rfl

/-- The difference of two words. -/
theorem sub_word (q : ℕ) (z : ℤ) : IntOp.subi (BitVec.ofNat 32 q) (BitVec.ofInt 32 z) = BitVec.ofInt 32 ((q : ℤ) - z) := by
  unfold IntOp.subi
  rw [sub_eq_add_neg, BitVec.ofInt_add, BitVec.sub_eq_add_neg, BitVec.ofInt_neg]
  rfl

/-- The band's mask at one query and one key: within 128 positions of each other and inside the sequence. -/
theorem band_word (n r κ : ℕ) (hn : n < 64) (hr : r < 128) (hκ : κ < 384) :
    IntOp.andi (IntOp.andi
        (IntOp.cmpi .sle (IntOp.absi (IntOp.subi (BitVec.ofNat 32 (n * 128 + r))
          (IntOp.addi (IntOp.muli (IntOp.subi (BitVec.ofNat 32 n) 1#32) 128#32) (BitVec.ofNat 32 κ)))) 128#32)
        (IntOp.cmpi .sge (IntOp.addi (IntOp.muli (IntOp.subi (BitVec.ofNat 32 n) 1#32) 128#32) (BitVec.ofNat 32 κ)) 0#32))
      (IntOp.cmpi .slt (IntOp.addi (IntOp.muli (IntOp.subi (BitVec.ofNat 32 n) 1#32) 128#32) (BitVec.ofNat 32 κ)) 8192#32)
    = if (r ≤ κ ∧ κ ≤ r + 256) ∧ 128 ≤ n * 128 + κ ∧ n * 128 + κ < 8320 then 1#1 else 0#1 := by
  rw [pos_word, sub_word, abs_small _ (by push_cast; omega) (by push_cast; omega)]
  rw [show (128#32 : BitVec 32) = BitVec.ofInt 32 128 from rfl, show (0#32 : BitVec 32) = BitVec.ofInt 32 0 from rfl,
    show (8192#32 : BitVec 32) = BitVec.ofInt 32 8192 from rfl]
  have ha : |((n * 128 + r : ℕ) : ℤ) - (((n : ℤ) - 1) * 128 + κ)| ≤ 128 ↔ (r ≤ κ ∧ κ ≤ r + 256) := by
    rw [abs_le]; push_cast; omega
  have hb : |((n * 128 + r : ℕ) : ℤ) - (((n : ℤ) - 1) * 128 + κ)| ≤ 100000 := by
    rw [abs_le]; push_cast; omega
  have h0 := abs_nonneg (((n * 128 + r : ℕ) : ℤ) - (((n : ℤ) - 1) * 128 + κ))
  rw [sle_small _ _ ⟨by omega, hb⟩ (by omega), sge_small _ _ (by omega) (by omega), slt_small _ _ (by omega) (by omega)]
  rw [if_congr ha rfl rfl, if_congr (show (0 : ℤ) ≤ ((n : ℤ) - 1) * 128 + κ ↔ 128 ≤ n * 128 + κ by omega) rfl rfl,
    if_congr (show ((n : ℤ) - 1) * 128 + κ < 8192 ↔ n * 128 + κ < 8320 by omega) rfl rfl]
  by_cases h1 : r ≤ κ ∧ κ ≤ r + 256 <;> by_cases h2 : 128 ≤ n * 128 + κ <;> by_cases h3 : n * 128 + κ < 8320 <;>
    simp only [h1, h2, h3, true_and, and_true, and_self, false_and, and_false, if_true, if_false] <;> rfl

end Cert.Words
end
-- ==== Proof.RefRead.lean ====
module
public import proofs.«01_k».proof.Proof.Gen.ReferenceIdeal.Read
public import proofs.«01_k».proof.Proof.BandWord
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read

/-- Whether column `κ` of the band around block `n` is inside the sequence and within 128 positions of query `r`. -/
def Band (n r κ : ℕ) : Prop := (r ≤ κ ∧ κ ≤ r + 256) ∧ 128 ≤ n * 128 + κ ∧ n * 128 + κ < 8320

instance (n r κ : ℕ) : Decidable (Band n r κ) := by unfold Band; infer_instance

/-- Column `κ` of the band around block `n`, zero outside the sequence. -/
def around (x : S4x8192x2x64.Idx → EReal) (b : Fin 4) (n : Fin 64) (κ : Fin 384) (p : Fin 2) (e : Fin 64) : EReal :=
  if h : 128 ≤ n.val * 128 + κ.val ∧ n.val * 128 + κ.val < 8320 then x (ix4 b ⟨n.val * 128 + κ.val - 128, by omega⟩ p e) else 0

theorem zero_word : (FloatOps.sitofp (F := Ideal) FTy.f32 0#32 : EReal) = 0 := by
  show (((0#32 : BitVec 32).toInt : ℝ) : EReal) = 0
  simp

theorem neg_inf : Ideal.ofBits .f32 0xFF800000#32 = ⊥ := by simp [Ideal.ofBits, Ideal.ieee]

/-- The padded array of blocks. -/
theorem pad_read (x : S4x8192x2x64.Idx → EReal) (b : Fin 4) (m : Fin 66) (r : Fin 128) (p : Fin 2) (e : Fin 64) :
    (val_main_v2 (F := Ideal) x : S4x66x128x2x64.Idx → EReal) (ix5 b m r p e) =
      if h : 128 ≤ m.val * 128 + r.val ∧ m.val * 128 + r.val < 8320 then x (ix4 b ⟨m.val * 128 + r.val - 128, by omega⟩ p e) else 0 := by
  unfold val_main_v2 val_main_v1 val_main_call0_v0 val_main_c
  pointwise
  by_cases h : 128 ≤ m.val * 128 + r.val ∧ m.val * 128 + r.val < 8320
  · rw [dif_pos h, dif_pos (by omega)]
  · rw [dif_neg h, dif_neg (by omega)]
    exact zero_word

/-- The band of keys around a block. -/
theorem keys_read (x : S4x8192x2x64.Idx → EReal) (b : Fin 4) (n : Fin 64) (κ : Fin 384) (p : Fin 2) (e : Fin 64) :
    (val_main_v6 (F := Ideal) x : S4x64x384x2x64.Idx → EReal) (ix5 b n κ p e) = around x b n κ p e := by
  unfold val_main_v6 val_main_v5 val_main_v4 val_main_v3 around
  pointwise
  simp only [pad_read]
  have e1 : ∀ (a a' : ℕ) (ha : a = a'), (if h : 128 ≤ a ∧ a < 8320 then x (ix4 b ⟨a - 128, by omega⟩ p e) else 0)
      = if h : 128 ≤ a' ∧ a' < 8320 then x (ix4 b ⟨a' - 128, by omega⟩ p e) else 0 := by
    intro a a' ha; subst ha; rfl
  by_cases h1 : κ.val < 128
  · rw [dif_pos h1]
  · rw [dif_neg h1]
    by_cases h2 : κ.val - 128 < 128
    · rw [dif_pos h2]; exact e1 _ _ (by omega)
    · rw [dif_neg h2]; exact e1 _ _ (by omega)

/-- The band of values around a block. -/
theorem vals_read (x : S4x8192x2x64.Idx → EReal) (b : Fin 4) (n : Fin 64) (κ : Fin 384) (p : Fin 2) (e : Fin 64) :
    (val_main_v12 (F := Ideal) x : S4x64x384x2x64.Idx → EReal) (ix5 b n κ p e) = around x b n κ p e :=
  keys_read x b n κ p e

/-- The band's mask. -/
theorem mask_read (n : Fin 64) (r : Fin 128) (κ : Fin 384) :
    (val_main_v51 (F := Ideal) : S64x128x384.Idx → BitVec 1) (ix3 n r κ) = if Band n.val r.val κ.val then 1#1 else 0#1 := by
  pointwise [val_main_v51, val_main_v50, val_main_v49, val_main_v48, val_main_c_6, val_main_v47, val_main_v46, val_main_v45, val_main_v44, val_main_v43, val_main_c_5, val_main_v42, val_main_v41, val_main_v40, val_main_c_4, val_main_v39, val_main_v38, val_main_v37, val_main_v36, val_main_v35, val_main_v34, val_main_v33, val_main_v32, val_main_v31, val_main_v30, val_main_v29, val_main_v28, val_main_v27, val_main_v26, val_main_v25, val_main_v24, val_main_v23, val_main_v22, val_main_v21, val_main_c_2, val_main_c_3]
  exact Cert.Words.band_word n.val r.val κ.val n.isLt r.isLt κ.isLt

/-- The masked logits of the band. -/
theorem local_read (x0 : S4x8192x8x64.Idx → EReal) (x1 : S4x8192x2x64.Idx → EReal) (b : Fin 4) (n : Fin 64) (p : Fin 2) (g : Fin 4) (r : Fin 128) (κ : Fin 384) :
    (val_main_v53 (F := Ideal) x0 x1 : S4x64x2x4x128x384.Idx → EReal) (ix6 b n p g r κ) =
      if Band n.val r.val κ.val then
        (∑ e : Fin 64, around x1 b n κ p e * x0 (ix4 b ⟨n.val * 128 + r.val, by omega⟩ ⟨p.val * 4 + g.val, by omega⟩ e)) * Ideal.ofBits .f32 0x3E000000#32
      else ⊥ := by
  unfold val_main_v53 val_main_call2_v2 val_main_call2_v1 val_main_call2_v0 val_main_v52 val_main_cst_7 val_main_v16 val_main_v15 val_main_v14 val_main_v13 val_main_v0 val_main_cst
  simp only [id_eq]
  pointwise
  rw [mask_read]
  simp only [keys_read]
  by_cases h : Band n.val r.val κ.val
  · rw [if_pos h, if_pos h]; rfl
  · rw [if_neg h, if_neg h]; exact (rfl : _ = Ideal.ofBits .f32 0xFF800000#32).trans neg_inf

/-- The logits of the context's keys. -/
theorem ctx_read (x0 : S4x8192x8x64.Idx → EReal) (x4 : S4x256x2x64.Idx → EReal) (b : Fin 4) (n : Fin 64) (p : Fin 2) (g : Fin 4) (r : Fin 128) (κ : Fin 256) :
    (val_main_v20 (F := Ideal) x0 x4 : S4x64x2x4x128x256.Idx → EReal) (ix6 b n p g r κ) =
        (∑ e : Fin 64, x4 (ix4 b κ p e) * x0 (ix4 b ⟨n.val * 128 + r.val, by omega⟩ ⟨p.val * 4 + g.val, by omega⟩ e)) * Ideal.ofBits .f32 0x3E000000#32 := by
  unfold val_main_v20 val_main_v19 val_main_v18 val_main_v17 val_main_v0 val_main_cst_1
  pointwise

theorem sink_read (x6 : S8.Idx → EReal) (b : Fin 4) (n : Fin 64) (p : Fin 2) (g : Fin 4) (r : Fin 128) :
    (val_main_v56 (F := Ideal) x6 : S4x64x2x4x128x1.Idx → EReal) (ix6 b n p g r 0) = x6 (ix1 ⟨p.val * 4 + g.val, by omega⟩) := by
  unfold val_main_v56 val_main_v54
  pointwise

/-- All logits of one latent query: the band's, the context's, the sink's. -/
theorem full_read (x0 : S4x8192x8x64.Idx → EReal) (x1 : S4x8192x2x64.Idx → EReal) (x4 : S4x256x2x64.Idx → EReal) (x6 : S8.Idx → EReal)
    (b : Fin 4) (n : Fin 64) (p : Fin 2) (g : Fin 4) (r : Fin 128) (k : Fin 641) :
    (val_main_v57 (F := Ideal) x0 x1 x4 x6 : S4x64x2x4x128x641.Idx → EReal) (ix6 b n p g r k) =
      if h : k.val < 640 then
        (if h : k.val < 384 then (val_main_v53 (F := Ideal) x0 x1 : S4x64x2x4x128x384.Idx → EReal) (ix6 b n p g r ⟨k.val, h⟩)
         else (val_main_v20 (F := Ideal) x0 x4 : S4x64x2x4x128x256.Idx → EReal) (ix6 b n p g r ⟨k.val - 384, by omega⟩))
      else x6 (ix1 ⟨p.val * 4 + g.val, by omega⟩) := by
  unfold val_main_v57 val_main_v55 val_main_v56 val_main_v54
  pointwise

end Cert.ReferenceIdeal.Attn
end
-- ==== Proof.RefMax.lean ====
module
public import proofs.«01_k».proof.Proof.RefRead
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read

/-- A maximum over an axis is a real number when no entry is infinite and one is not minus infinity. -/
theorem reduce_real {s t u : Shape} {axes : List (Fin s.rank)} (x : FVec Ideal s .f32) (init : FVec Ideal u .f32) (h : s.ReducesTo axes t) (hu : 0 < u.numel)
    (j : t.Idx) (hi : init (Shape.Idx.first hu) = (⊥ : EReal)) (hx : ∀ i, x i ≠ (⊤ : EReal)) (i0 : s.Idx) (hi0 : h.drop i0 = j) (hx0 : x i0 ≠ (⊥ : EReal)) :
    ∃ M : ℝ, (Host.reduce (FloatOps.maximumf (F := Ideal) (φ := .f32)) x init h hu j : EReal) = (M : EReal) := by
  classical
  rw [Host.reduce_eq_fold, hi]
  show ∃ M : ℝ, (Finset.univ.filter fun i => h.drop i = j).fold max (⊥ : EReal) x = (M : EReal)
  have ht : (Finset.univ.filter fun i => h.drop i = j).fold max (⊥ : EReal) x ≠ ⊤ := by
    apply ne_of_lt
    rw [Finset.fold_max_lt]
    exact ⟨bot_lt_top, fun k _ => lt_top_iff_ne_top.2 (hx k)⟩
  have h2 : (Finset.univ.filter fun i => h.drop i = j).fold max (⊥ : EReal) x ≠ ⊥ := fun hh =>
    hx0 (le_bot_iff.1 (hh ▸ ((Finset.le_fold_max (x i0)).2 (Or.inr ⟨i0, by simp [hi0], le_rfl⟩))))
  exact ⟨_, (EReal.coe_toReal ht h2).symm⟩

theorem c8 (i : S_.Idx) : (val_main_cst_8 (F := Ideal) : S_.Idx → EReal) i = ⊥ := neg_inf
theorem c9 (i : S_.Idx) : (val_main_cst_9 (F := Ideal) : S_.Idx → EReal) i = ⊥ := neg_inf
theorem c12 (i : S_.Idx) : (val_main_cst_12 (F := Ideal) : S_.Idx → EReal) i = ⊥ := neg_inf
theorem c13 (i : S_.Idx) : (val_main_cst_13 (F := Ideal) : S_.Idx → EReal) i = ⊥ := neg_inf

theorem drop6 (b : Fin 4) (n : Fin 64) (p : Fin 2) (g : Fin 4) (r : Fin 128) :
    reducesTo_S4x64x2x4x128x641_S4x64x2x4x128_d5.drop (ix6 b n p g r (⟨640, by omega⟩ : Fin 641)) = ix5 b n p g r := by
  refine funext fun a => Fin.ext ?_
  match a with
  | ⟨0, _⟩ => rfl
  | ⟨1, _⟩ => rfl
  | ⟨2, _⟩ => rfl
  | ⟨3, _⟩ => rfl
  | ⟨4, _⟩ => rfl

theorem drop5 (b : Fin 4) (p : Fin 2) (g : Fin 4) (r : Fin 256) :
    reducesTo_S4x2x4x256x257_S4x2x4x256_d4.drop (ix5 b p g r (⟨256, by omega⟩ : Fin 257)) = ix4 b p g r := by
  refine funext fun a => Fin.ext ?_
  match a with
  | ⟨0, _⟩ => rfl
  | ⟨1, _⟩ => rfl
  | ⟨2, _⟩ => rfl
  | ⟨3, _⟩ => rfl

theorem max6 (y : S4x64x2x4x128x641.Idx → EReal) (b : Fin 4) (n : Fin 64) (p : Fin 2) (g : Fin 4) (r : Fin 128)
    (ht : ∀ i : S4x64x2x4x128x641.Idx, y i ≠ ⊤) (hz : y (ix6 b n p g r ⟨640, by omega⟩) ≠ ⊥) :
    ∃ M : ℝ, (Host.reduce (FloatOps.maximumf (F := Ideal) (φ := .f32)) (y : FVec Ideal S4x64x2x4x128x641 .f32) (val_main_cst_8 (F := Ideal)) reducesTo_S4x64x2x4x128x641_S4x64x2x4x128_d5 h_S_ (ix5 b n p g r) : EReal) = (M : EReal) :=
  reduce_real (s := S4x64x2x4x128x641) (t := S4x64x2x4x128) (u := S_) y (val_main_cst_8 (F := Ideal)) reducesTo_S4x64x2x4x128x641_S4x64x2x4x128_d5 h_S_ (ix5 b n p g r) (c8 _) ht
    (ix6 b n p g r ⟨640, by omega⟩) (drop6 b n p g r) hz

theorem max5 (y : S4x2x4x256x257.Idx → EReal) (b : Fin 4) (p : Fin 2) (g : Fin 4) (r : Fin 256)
    (ht : ∀ i : S4x2x4x256x257.Idx, y i ≠ ⊤) (hz : y (ix5 b p g r ⟨256, by omega⟩) ≠ ⊥) :
    ∃ M : ℝ, (Host.reduce (FloatOps.maximumf (F := Ideal) (φ := .f32)) (y : FVec Ideal S4x2x4x256x257 .f32) (val_main_cst_12 (F := Ideal)) reducesTo_S4x2x4x256x257_S4x2x4x256_d4 h_S_ (ix4 b p g r) : EReal) = (M : EReal) :=
  reduce_real (s := S4x2x4x256x257) (t := S4x2x4x256) (u := S_) y (val_main_cst_12 (F := Ideal)) reducesTo_S4x2x4x256x257_S4x2x4x256_d4 h_S_ (ix4 b p g r) (c12 _) ht
    (ix5 b p g r ⟨256, by omega⟩) (drop5 b p g r) hz

/-- The greatest of a latent query's logits is a real number. -/
theorem max_latent (x0 : S4x8192x8x64.Idx → EReal) (x1 : S4x8192x2x64.Idx → EReal) (x4 : S4x256x2x64.Idx → EReal) (x6 : S8.Idx → EReal)
    (b : Fin 4) (n : Fin 64) (p : Fin 2) (g : Fin 4) (r : Fin 128)
    (ht : ∀ i : S4x64x2x4x128x641.Idx, (val_main_v57 (F := Ideal) x0 x1 x4 x6 : S4x64x2x4x128x641.Idx → EReal) i ≠ ⊤)
    (hz : (val_main_v57 (F := Ideal) x0 x1 x4 x6 : S4x64x2x4x128x641.Idx → EReal) (ix6 b n p g r ⟨640, by omega⟩) ≠ ⊥) :
    ∃ M : ℝ, (val_main_v60 (F := Ideal) x0 x1 x4 x6 : S4x64x2x4x128.Idx → EReal) (ix5 b n p g r) = (M : EReal) := by
  rw [val_main_v60_apply, val_main_v59_apply, c9]
  unfold val_main_v58
  generalize val_main_v57 (F := Ideal) x0 x1 x4 x6 = y at ht hz ⊢
  obtain ⟨M, hM⟩ := max6 y b n p g r ht hz
  refine ⟨M, Eq.trans ?_ hM⟩
  generalize Host.reduce (FloatOps.maximumf (F := Ideal) (φ := .f32)) (y : FVec Ideal S4x64x2x4x128x641 .f32) (val_main_cst_8 (F := Ideal)) reducesTo_S4x64x2x4x128x641_S4x64x2x4x128_d5 h_S_ (ix5 b n p g r) = w
  exact max_eq_right bot_le

/-- The greatest of a context query's logits is a real number. -/
theorem max_context (x3 : S4x256x8x64.Idx → EReal) (x4 : S4x256x2x64.Idx → EReal) (x6 : S8.Idx → EReal)
    (b : Fin 4) (p : Fin 2) (g : Fin 4) (r : Fin 256)
    (ht : ∀ i : S4x2x4x256x257.Idx, (val_main_v85 (F := Ideal) x3 x4 x6 : S4x2x4x256x257.Idx → EReal) i ≠ ⊤)
    (hz : (val_main_v85 (F := Ideal) x3 x4 x6 : S4x2x4x256x257.Idx → EReal) (ix5 b p g r ⟨256, by omega⟩) ≠ ⊥) :
    ∃ M : ℝ, (val_main_v88 (F := Ideal) x3 x4 x6 : S4x2x4x256.Idx → EReal) (ix4 b p g r) = (M : EReal) := by
  rw [val_main_v88_apply, val_main_v87_apply, c13]
  unfold val_main_v86
  generalize val_main_v85 (F := Ideal) x3 x4 x6 = y at ht hz ⊢
  obtain ⟨M, hM⟩ := max5 y b p g r ht hz
  refine ⟨M, Eq.trans ?_ hM⟩
  generalize Host.reduce (FloatOps.maximumf (F := Ideal) (φ := .f32)) (y : FVec Ideal S4x2x4x256x257 .f32) (val_main_cst_12 (F := Ideal)) reducesTo_S4x2x4x256x257_S4x2x4x256_d4 h_S_ (ix4 b p g r) = w
  exact max_eq_right bot_le

end Cert.ReferenceIdeal.Attn
end
-- ==== Proof.RefOut.lean ====
module
public import proofs.«01_k».proof.Proof.RefRead
public import Idealize.ShloMosaic.Lib.Pipeline.ValueKit
public import Idealize.ShloMosaic.Lib.Pointwise
@[expose] public section
set_option maxRecDepth 16384
noncomputable section
open Idealize.ShloMosaic Idealize.ShloMosaic.TcCoe Idealize.SL.Sem

namespace Cert.ReferenceIdeal.Attn
open Cert.ReferenceIdeal Cert.ReferenceIdeal.Gen Cert.ReferenceIdeal.Read

/-- The normalised weight of one key. -/
theorem prob_read (x0 : S4x8192x8x64.Idx → EReal) (x1 : S4x8192x2x64.Idx → EReal) (x4 : S4x256x2x64.Idx → EReal) (x6 : S8.Idx → EReal)
    (b : Fin 4) (n : Fin 64) (p : Fin 2) (g : Fin 4) (r : Fin 128) (k : Fin 641) :
    (val_main_v68 (F := Ideal) x0 x1 x4 x6 : S4x64x2x4x128x641.Idx → EReal) (ix6 b n p g r k) =
      Ideal.div (Ideal.exp ((val_main_v57 (F := Ideal) x0 x1 x4 x6 : S4x64x2x4x128x641.Idx → EReal) (ix6 b n p g r k) - (val_main_v60 (F := Ideal) x0 x1 x4 x6 : S4x64x2x4x128.Idx → EReal) (ix5 b n p g r)))
        (∑ k' : Fin 641, Ideal.exp ((val_main_v57 (F := Ideal) x0 x1 x4 x6 : S4x64x2x4x128x641.Idx → EReal) (ix6 b n p g r k') - (val_main_v60 (F := Ideal) x0 x1 x4 x6 : S4x64x2x4x128.Idx → EReal) (ix5 b n p g r))) := by
  unfold val_main_v68 val_main_v67 val_main_v66 val_main_v65 val_main_v64 val_main_v63 val_main_v62 val_main_v61 val_main_cst_10
  generalize val_main_v57 (F := Ideal) x0 x1 x4 x6 = y
  generalize val_main_v60 (F := Ideal) x0 x1 x4 x6 = z
  pointwise
  rw [Ideal.hostReduceAdd_single reducesTo_S4x64x2x4x128x641_S4x64x2x4x128_d5 (by decide), zero_add]
  refine congrArg (Ideal.div _) (Finset.sum_congr rfl fun k _ => ?_)
  have e : (Shape.Reduces.lift (by decide : S4x64x2x4x128x641.Reduces [5] S4x64x2x4x128) (ix5 b n p g r) k : S4x64x2x4x128x641.Idx) = ix6 b n p g r k :=
    funext fun a => Fin.ext (by match a with | ⟨0, _⟩ => rfl | ⟨1, _⟩ => rfl | ⟨2, _⟩ => rfl | ⟨3, _⟩ => rfl | ⟨4, _⟩ => rfl | ⟨5, _⟩ => rfl)
  rw [e]
  pointwise

/-- The part of a lane of the latent attention that the band gives. -/
theorem band_sum (x0 : S4x8192x8x64.Idx → EReal) (x1 x2 : S4x8192x2x64.Idx → EReal) (x4 x5 : S4x256x2x64.Idx → EReal) (x6 : S8.Idx → EReal)
    (b : Fin 4) (n : Fin 64) (r : Fin 128) (p : Fin 2) (g : Fin 4) (e : Fin 64) :
    (val_main_v73 (F := Ideal) x0 x1 x2 x4 x6 : S4x64x128x2x4x64.Idx → EReal) (ix6 b n r p g e) =
      ∑ κ : Fin 384, (val_main_v12 (F := Ideal) x2 : S4x64x384x2x64.Idx → EReal) (ix5 b n κ p e) * (val_main_v70 (F := Ideal) x0 x1 x4 x6 : S4x64x2x4x128x384.Idx → EReal) (ix6 b n p g r κ) := by
  unfold val_main_v73 val_main_v72
  generalize val_main_v70 (F := Ideal) x0 x1 x4 x6 = y
  generalize val_main_v12 (F := Ideal) x2 = z
  pointwise

/-- The part of a lane of the latent attention that the context gives. -/
theorem ctx_sum (x0 : S4x8192x8x64.Idx → EReal) (x1 x2 : S4x8192x2x64.Idx → EReal) (x4 x5 : S4x256x2x64.Idx → EReal) (x6 : S8.Idx → EReal)
    (b : Fin 4) (n : Fin 64) (r : Fin 128) (p : Fin 2) (g : Fin 4) (e : Fin 64) :
    (val_main_v75 (F := Ideal) x0 x1 x4 x5 x6 : S4x64x128x2x4x64.Idx → EReal) (ix6 b n r p g e) =
      ∑ κ : Fin 256, x5 (ix4 b κ p e) * (val_main_v71 (F := Ideal) x0 x1 x4 x6 : S4x64x2x4x128x256.Idx → EReal) (ix6 b n p g r κ) := by
  unfold val_main_v75 val_main_v74
  generalize val_main_v71 (F := Ideal) x0 x1 x4 x6 = y
  pointwise

/-- A weight on the band is the weight on the same column of all keys. -/
theorem w_band (x0 : S4x8192x8x64.Idx → EReal) (x1 x2 : S4x8192x2x64.Idx → EReal) (x4 x5 : S4x256x2x64.Idx → EReal) (x6 : S8.Idx → EReal)
    (b : Fin 4) (n : Fin 64) (r : Fin 128) (p : Fin 2) (g : Fin 4) (e : Fin 64) (κ : Fin 384) :
    (val_main_v70 (F := Ideal) x0 x1 x4 x6 : S4x64x2x4x128x384.Idx → EReal) (ix6 b n p g r κ) = (val_main_v68 (F := Ideal) x0 x1 x4 x6 : S4x64x2x4x128x641.Idx → EReal) (ix6 b n p g r ⟨κ.val, by omega⟩) := by
  unfold val_main_v70 val_main_v69
  generalize val_main_v68 (F := Ideal) x0 x1 x4 x6 = y
  pointwise

/-- A weight on the context is the weight on the columns after the band. -/
theorem w_ctx (x0 : S4x8192x8x64.Idx → EReal) (x1 x2 : S4x8192x2x64.Idx → EReal) (x4 x5 : S4x256x2x64.Idx → EReal) (x6 : S8.Idx → EReal)
    (b : Fin 4) (n : Fin 64) (r : Fin 128) (p : Fin 2) (g : Fin 4) (e : Fin 64) (κ : Fin 256) :
    (val_main_v71 (F := Ideal) x0 x1 x4 x6 : S4x64x2x4x128x256.Idx → EReal) (ix6 b n p g r κ) = (val_main_v68 (F := Ideal) x0 x1 x4 x6 : S4x64x2x4x128x641.Idx → EReal) (ix6 b n p g r ⟨384 + κ.val, by omega⟩) := by
  unfold val_main_v71 val_main_v69
  generalize val_main_v68 (F := Ideal) x0 x1 x4 x6 = y
  pointwise

/-- One lane of the latent attention: the band's values and the context's, each by its normalised weight. -/
theorem latent_read (x0 : S4x8192x8x64.Idx → EReal) (x1 x2 : S4x8192x2x64.Idx → EReal) (x4 x5 : S4x256x2x64.Idx → EReal) (x6 : S8.Idx → EReal)
    (b : Fin 4) (n : Fin 64) (r : Fin 128) (p : Fin 2) (g : Fin 4) (e : Fin 64) :
    (val_main_v76 (F := Ideal) x0 x1 x2 x4 x5 x6 : S4x64x128x2x4x64.Idx → EReal) (ix6 b n r p g e) =
      (∑ κ : Fin 384, around x2 b n κ p e * (val_main_v68 (F := Ideal) x0 x1 x4 x6 : S4x64x2x4x128x641.Idx → EReal) (ix6 b n p g r ⟨κ.val, by omega⟩))
      + ∑ κ : Fin 256, x5 (ix4 b κ p e) * (val_main_v68 (F := Ideal) x0 x1 x4 x6 : S4x64x2x4x128x641.Idx → EReal) (ix6 b n p g r ⟨384 + κ.val, by omega⟩) := by
  refine Eq.trans (b := (val_main_v73 (F := Ideal) x0 x1 x2 x4 x6 : S4x64x128x2x4x64.Idx → EReal) (ix6 b n r p g e) + (val_main_v75 (F := Ideal) x0 x1 x4 x5 x6 : S4x64x128x2x4x64.Idx → EReal) (ix6 b n r p g e)) rfl ?_
  rw [band_sum x0 x1 x2 x4 x5 x6, ctx_sum x0 x1 x2 x4 x5 x6]
  refine congrArg₂ (· + ·) (Finset.sum_congr rfl fun κ _ => ?_) (Finset.sum_congr rfl fun κ _ => ?_)
  · rw [vals_read, w_band x0 x1 x2 x4 x5 x6 b n r p g e]
  · rw [w_ctx x0 x1 x2 x4 x5 x6 b n r p g e]

/-- The context's logits among the context: its keys', then the sink's. -/
theorem cfull_read (x3 : S4x256x8x64.Idx → EReal) (x4 : S4x256x2x64.Idx → EReal) (x6 : S8.Idx → EReal)
    (b : Fin 4) (p : Fin 2) (g : Fin 4) (r : Fin 256) (k : Fin 257) :
    (val_main_v85 (F := Ideal) x3 x4 x6 : S4x2x4x256x257.Idx → EReal) (ix5 b p g r k) =
      if h : k.val < 256 then (∑ e : Fin 64, x4 (ix4 b ⟨k.val, h⟩ p e) * x3 (ix4 b r ⟨p.val * 4 + g.val, by omega⟩ e)) * Ideal.ofBits .f32 0x3E000000#32
      else x6 (ix1 ⟨p.val * 4 + g.val, by omega⟩) := by
  unfold val_main_v85 val_main_v84 val_main_v83 val_main_v82 val_main_v81 val_main_v80 val_main_v79 val_main_v78 val_main_cst_11
  pointwise

/-- The normalised weight of one key. -/
theorem cprob_read (x3 : S4x256x8x64.Idx → EReal) (x4 : S4x256x2x64.Idx → EReal) (x6 : S8.Idx → EReal)
    (b : Fin 4) (p : Fin 2) (g : Fin 4) (r : Fin 256) (k : Fin 257) :
    (val_main_v96 (F := Ideal) x3 x4 x6 : S4x2x4x256x257.Idx → EReal) (ix5 b p g r k) =
      Ideal.div (Ideal.exp ((val_main_v85 (F := Ideal) x3 x4 x6 : S4x2x4x256x257.Idx → EReal) (ix5 b p g r k) - (val_main_v88 (F := Ideal) x3 x4 x6 : S4x2x4x256.Idx → EReal) (ix4 b p g r)))
        (∑ k' : Fin 257, Ideal.exp ((val_main_v85 (F := Ideal) x3 x4 x6 : S4x2x4x256x257.Idx → EReal) (ix5 b p g r k') - (val_main_v88 (F := Ideal) x3 x4 x6 : S4x2x4x256.Idx → EReal) (ix4 b p g r))) := by
  unfold val_main_v96 val_main_v95 val_main_v94 val_main_v93 val_main_v92 val_main_v91 val_main_v90 val_main_v89 val_main_cst_14
  generalize val_main_v85 (F := Ideal) x3 x4 x6 = y
  generalize val_main_v88 (F := Ideal) x3 x4 x6 = z
  pointwise
  try rw [zero_add]

/-- One lane of the context's attention. -/
theorem context_read (x3 : S4x256x8x64.Idx → EReal) (x4 x5 : S4x256x2x64.Idx → EReal) (x6 : S8.Idx → EReal)
    (b : Fin 4) (r : Fin 256) (p : Fin 2) (g : Fin 4) (e : Fin 64) :
    (val_main_v99 (F := Ideal) x3 x4 x5 x6 : S4x256x2x4x64.Idx → EReal) (ix5 b r p g e) =
      ∑ κ : Fin 256, x5 (ix4 b κ p e) * (val_main_v96 (F := Ideal) x3 x4 x6 : S4x2x4x256x257.Idx → EReal) (ix5 b p g r ⟨κ.val, by omega⟩) := by
  unfold val_main_v99 val_main_v98 val_main_v97
  generalize val_main_v96 (F := Ideal) x3 x4 x6 = y
  pointwise

/-- The result at a context row and at a latent row. -/
theorem result_read (x0 : S4x8192x8x64.Idx → EReal) (x1 x2 : S4x8192x2x64.Idx → EReal) (x3 : S4x256x8x64.Idx → EReal) (x4 x5 : S4x256x2x64.Idx → EReal) (x6 : S8.Idx → EReal)
    (b : Fin 4) (row : Fin 8448) (l : Fin 512) :
    (val_main_v102 (F := Ideal) x0 x1 x2 x3 x4 x5 x6 : S4x8448x512.Idx → EReal) (ix3 b row l) =
      if h : row.val < 256 then (val_main_v99 (F := Ideal) x3 x4 x5 x6 : S4x256x2x4x64.Idx → EReal) (ix5 b ⟨row.val, h⟩ ⟨l.val / 256, by omega⟩ ⟨l.val / 64 % 4, by omega⟩ ⟨l.val % 64, by omega⟩)
      else (val_main_v76 (F := Ideal) x0 x1 x2 x4 x5 x6 : S4x64x128x2x4x64.Idx → EReal)
        (ix6 b ⟨(row.val - 256) / 128, by omega⟩ ⟨(row.val - 256) % 128, by omega⟩ ⟨l.val / 256, by omega⟩ ⟨l.val / 64 % 4, by omega⟩ ⟨l.val % 64, by omega⟩) := by
  unfold val_main_v102 val_main_v101 val_main_v100 val_main_v77
  generalize val_main_v99 (F := Ideal) x3 x4 x5 x6 = y
  generalize val_main_v76 (F := Ideal) x0 x1 x2 x4 x5 x6 = z
  pointwise

end Cert.ReferenceIdeal.Attn
end
-- ==== Proof.AttnEq.lean ====
module
public import proofs.«01_k».proof.Proof.AttnSum
public import proofs.«01_k».proof.Proof.AttnArr
public import proofs.«01_k».proof.Proof.RefMax
public import proofs.«01_k».proof.Proof.RefOut
@[expose] public section
set_option maxRecDepth 16384
noncomputable section
open Idealize.ShloMosaic Idealize.ShloMosaic.TcCoe Idealize.SL.Sem

namespace Cert.AttnEq
open Cert.Softmax Cert.KernelIdeal.Attn Cert.ReferenceIdeal.Attn Cert.ReferenceIdeal Cert.ReferenceIdeal.Gen Cert.ReferenceIdeal.Read

/-- A key of a latent block is seen by a row exactly when it lies in the reference's band. -/
theorem seen_iff (n r k : ℕ) (hn : n < 64) (hr : r < 128) (hk : k < 384) : Seen (n + 2) r k ↔ Band n r k := by
  unfold Seen Band
  split
  · omega
  · split
    · omega
    · omega

/-- A context row sees no key of the band. -/
theorem not_seen (t r k : ℕ) (ht : t < 2) (hk : k < 384) : ¬ Seen t r k := by
  unfold Seen
  split
  · omega
  · split
    · omega
    · omega

/-- The context's keys are always seen. -/
theorem seen_ctx (t r k : ℕ) (hk : 384 ≤ k) : Seen t r k := by
  unfold Seen
  rw [if_neg (by omega), if_neg (by omega), if_neg (by omega)]
  trivial

/-- In the band, the kernel's row of a key is the reference's. -/
theorem band_row (u : S4x256x2x64.Idx → EReal) (x : S4x8192x2x64.Idx → EReal) (b : Fin 4) (n : Fin 64) (r : ℕ) (k : Fin 640) (hk : k.val < 384)
    (p : Fin 2) (e : Fin 64) (h : Band n.val r k.val) :
    allKV u x b (krow ⟨n.val + 2, by omega⟩ k) p e = around x b n ⟨k.val, hk⟩ p e := by
  have hrow : (krow ⟨n.val + 2, by omega⟩ k).val = (n.val + 1) * 128 + k.val := by
    unfold Band at h
    unfold krow
    split
    · show (n.val + 2 - 1) * 128 + k.val = _; omega
    · split
      · show (n.val + 2) * 128 + (k.val - 128) = _; omega
      · show min (n.val + 2 + 1) 65 * 128 + (k.val - 256) = _; omega
  unfold allKV around
  unfold Band at h
  rw [dif_neg (by omega), dif_pos (show 128 ≤ n.val * 128 + k.val ∧ n.val * 128 + k.val < 8320 from h.2)]
  congr 2
  apply Fin.ext
  show (krow ⟨n.val + 2, by omega⟩ k).val - 256 = n.val * 128 + k.val - 128
  omega

/-- The kernel's row of a context key. -/
theorem ctx_row (u : S4x256x2x64.Idx → EReal) (x : S4x8192x2x64.Idx → EReal) (b : Fin 4) (t : Fin 66) (k : Fin 640) (hk : ¬ k.val < 384)
    (p : Fin 2) (e : Fin 64) :
    allKV u x b (krow t k) p e = u (ix4 b ⟨k.val - 384, by omega⟩ p e) := by
  have hrow : (krow t k).val = k.val - 384 := by
    unfold krow
    rw [dif_neg (by omega), dif_neg (by omega), dif_neg hk]
  unfold allKV
  rw [dif_pos (show (krow t k).val < 256 by omega)]
  congr 2
  exact Fin.ext hrow

variable (x0 : S4x8192x8x64.Idx → EReal) (x1 x2 : S4x8192x2x64.Idx → EReal) (x3 : S4x256x8x64.Idx → EReal) (x4 x5 : S4x256x2x64.Idx → EReal) (x6 : S8.Idx → EReal)

/-- No logit of the kernel is plus infinity, the queries and keys being finite. -/
theorem score_ne_top (h0 : ∀ i, Fin' (x0 i)) (h1 : ∀ i, Fin' (x1 i)) (h3 : ∀ i, Fin' (x3 i)) (h4 : ∀ i, Fin' (x4 i))
    (b : Fin 4) (t : Fin 66) (r : Fin 128) (p : Fin 2) (h : Fin 8) (k : Fin 640) :
    score (allQ x3 x0) (allKV x4 x1) ((1 / 8 : ℝ) : EReal) b t r p h k ≠ ⊤ := by
  unfold score
  obtain ⟨a, ha⟩ := dot_real (fun e => allKV x4 x1 b (krow t k) p e) (fun e => allQ x3 x0 b ⟨t.val * 128 + r.val, by omega⟩ h e)
    (fun e => by unfold allKV; split <;> first | exact h4 _ | exact h1 _) (fun e => by unfold allQ; split <;> first | exact h3 _ | exact h0 _)
  rw [ha, ← EReal.coe_mul]
  split
  · rw [add_zero]; exact EReal.coe_ne_top _
  · rw [EReal.add_bot]; exact bot_ne_top

/-- The kernel's logit of a latent row is the reference's. -/
theorem latent_logit (b : Fin 4) (n : Fin 64) (p : Fin 2) (g : Fin 4) (r : Fin 128) (k : Fin 640) :
    (val_main_v57 (F := Ideal) x0 x1 x4 x6 : S4x64x2x4x128x641.Idx → EReal) (ix6 b n p g r ⟨k.val, by omega⟩) =
      score (allQ x3 x0) (allKV x4 x1) ((1 / 8 : ℝ) : EReal) b ⟨n.val + 2, by omega⟩ r p ⟨p.val * 4 + g.val, by omega⟩ k := by
  have hq : ∀ e : Fin 64, allQ x3 x0 b ⟨(n.val + 2) * 128 + r.val, by omega⟩ ⟨p.val * 4 + g.val, by omega⟩ e
      = x0 (ix4 b ⟨n.val * 128 + r.val, by omega⟩ ⟨p.val * 4 + g.val, by omega⟩ e) := by
    intro e
    unfold allQ
    rw [dif_neg (show ¬ (n.val + 2) * 128 + r.val < 256 by omega)]
    congr 2
    apply Fin.ext
    show (n.val + 2) * 128 + r.val - 256 = n.val * 128 + r.val
    omega
  rw [full_read, dif_pos (show k.val < 640 from k.isLt)]
  unfold score
  simp only [hq]
  by_cases hk : k.val < 384
  · rw [dif_pos hk, local_read, eighth]
    have hS := seen_iff n.val r.val k.val n.isLt r.isLt hk
    by_cases hB : Band n.val r.val k.val
    · rw [if_pos hB, if_pos (hS.2 hB), add_zero]
      refine congrArg (· * _) (Finset.sum_congr rfl fun e _ => ?_)
      rw [band_row x4 x1 b n r.val k hk p e hB]
    · rw [if_neg hB, if_neg (fun h => hB (hS.1 h)), EReal.add_bot]
  · rw [dif_neg hk, ctx_read, eighth, if_pos (seen_ctx _ _ _ (by omega)), add_zero]
    refine congrArg (· * _) (Finset.sum_congr rfl fun e _ => ?_)
    rw [ctx_row x4 x1 b _ k hk p e]

/-- The sink's column among a latent query's logits. -/
theorem latent_sink (b : Fin 4) (n : Fin 64) (p : Fin 2) (g : Fin 4) (r : Fin 128) :
    (val_main_v57 (F := Ideal) x0 x1 x4 x6 : S4x64x2x4x128x641.Idx → EReal) (ix6 b n p g r ⟨640, by omega⟩) = x6 (ix1 ⟨p.val * 4 + g.val, by omega⟩) := by
  rw [full_read]
  exact dif_neg (by show ¬ 640 < 640; omega)

/-- A latent row of the kernel's attention is the reference's. -/
theorem latent (h0 : ∀ i, Fin' (x0 i)) (h1 : ∀ i, Fin' (x1 i)) (h3 : ∀ i, Fin' (x3 i)) (h4 : ∀ i, Fin' (x4 i)) (h6 : ∀ i, Fin' (x6 i))
    (b : Fin 4) (n : Fin 64) (r : Fin 128) (p : Fin 2) (g : Fin 4) (e : Fin 64) :
    att (score (allQ x3 x0) (allKV x4 x1) ((1 / 8 : ℝ) : EReal) b ⟨n.val + 2, by omega⟩ r p ⟨p.val * 4 + g.val, by omega⟩)
        (fun k => allKV x5 x2 b (krow ⟨n.val + 2, by omega⟩ k) p e) (fun _ => 1) (x6 (ix1 ⟨p.val * 4 + g.val, by omega⟩)) =
      (val_main_v76 (F := Ideal) x0 x1 x2 x4 x5 x6 : S4x64x128x2x4x64.Idx → EReal) (ix6 b n r p g e) := by
  have hy : ∀ i : S4x64x2x4x128x641.Idx, (val_main_v57 (F := Ideal) x0 x1 x4 x6 : S4x64x2x4x128x641.Idx → EReal) i ≠ ⊤ := by
    have key : ∀ (b : Fin 4) (n : Fin 64) (p : Fin 2) (g : Fin 4) (r : Fin 128) (k : Fin 641), (val_main_v57 (F := Ideal) x0 x1 x4 x6 : S4x64x2x4x128x641.Idx → EReal) (ix6 b n p g r k) ≠ ⊤ := by
      intro b n p g r k
      by_cases hk : k.val < 640
      · exact latent_logit x0 x1 x3 x4 x6 b n p g r ⟨k.val, hk⟩ ▸ score_ne_top x0 x1 x3 x4 h0 h1 h3 h4 b _ r p _ _
      · rw [show k = ⟨640, by omega⟩ from Fin.ext (by show k.val = 640; omega), latent_sink]; exact (h6 _).2
    intro i
    idx_vars i
    exact key _ _ _ _ _ _
  obtain ⟨M, hM⟩ := max_latent x0 x1 x4 x6 b n p g r hy (by rw [latent_sink]; exact (h6 _).1)
  rw [att_eq _ _ (fun k => if h : k.val < 384 then around x2 b n ⟨k.val, h⟩ p e else x5 (ix4 b ⟨k.val - 384, by omega⟩ p e)) _ M
    (score_ne_top x0 x1 x3 x4 h0 h1 h3 h4 b _ r p _) (h6 _) ?_]
  · rw [latent_read]
    simp only [prob_read, hM]
    refine latent_sum _ _ _ (fun k => (val_main_v57 (F := Ideal) x0 x1 x4 x6 : S4x64x2x4x128x641.Idx → EReal) (ix6 b n p g r k))
      (fun k => latent_logit x0 x1 x3 x4 x6 b n p g r k) (latent_sink x0 x1 x4 x6 b n p g r) _ _ _ (fun κ => ?_) (fun κ => ?_)
    · exact dif_pos κ.isLt
    · refine (dif_neg (show ¬ 384 + κ.val < 384 by omega)).trans ?_
      exact congrArg (fun q => x5 (ix4 b q p e)) (Fin.ext (by show 384 + κ.val - 384 = κ.val; omega))
  · intro k hk
    by_cases hk' : k.val < 384
    · rw [dif_pos hk']
      refine band_row x5 x2 b n r.val k hk' p e ?_
      by_contra hB
      apply hk
      unfold score
      rw [if_neg (fun h => hB ((seen_iff n.val r.val k.val n.isLt r.isLt hk').1 h)), EReal.add_bot]
    · rw [dif_neg hk']
      exact ctx_row x5 x2 b _ k hk' p e

/-- The kernel's logit of a context row against a context key is the reference's. -/
theorem context_logit (b : Fin 4) (t : Fin 66) (ht : t.val < 2) (r : Fin 128) (p : Fin 2) (g : Fin 4) (κ : Fin 256) :
    (val_main_v85 (F := Ideal) x3 x4 x6 : S4x2x4x256x257.Idx → EReal) (ix5 b p g ⟨t.val * 128 + r.val, by omega⟩ ⟨κ.val, by omega⟩) =
      score (allQ x3 x0) (allKV x4 x1) ((1 / 8 : ℝ) : EReal) b t r p ⟨p.val * 4 + g.val, by omega⟩ ⟨384 + κ.val, by omega⟩ := by
  rw [cfull_read, dif_pos (show κ.val < 256 from κ.isLt), eighth]
  unfold score
  rw [if_pos (seen_ctx _ _ _ (by show 384 ≤ 384 + κ.val; omega)), add_zero]
  refine congrArg (· * _) (Finset.sum_congr rfl fun e _ => ?_)
  rw [ctx_row x4 x1 b _ _ (by show ¬ 384 + κ.val < 384; omega) p e]
  unfold allQ
  rw [dif_pos (show t.val * 128 + r.val < 256 by omega)]
  congr 3
  apply Fin.ext; show κ.val = 384 + κ.val - 384; omega

/-- The sink's column among a context query's logits. -/
theorem context_sink (b : Fin 4) (p : Fin 2) (g : Fin 4) (r : Fin 256) :
    (val_main_v85 (F := Ideal) x3 x4 x6 : S4x2x4x256x257.Idx → EReal) (ix5 b p g r ⟨256, by omega⟩) = x6 (ix1 ⟨p.val * 4 + g.val, by omega⟩) := by
  rw [cfull_read]
  exact dif_neg (by show ¬ 256 < 256; omega)

/-- A context row of the kernel's attention is the reference's. -/
theorem context (h0 : ∀ i, Fin' (x0 i)) (h1 : ∀ i, Fin' (x1 i)) (h3 : ∀ i, Fin' (x3 i)) (h4 : ∀ i, Fin' (x4 i)) (h6 : ∀ i, Fin' (x6 i))
    (b : Fin 4) (t : Fin 66) (ht : t.val < 2) (r : Fin 128) (p : Fin 2) (g : Fin 4) (e : Fin 64) :
    att (score (allQ x3 x0) (allKV x4 x1) ((1 / 8 : ℝ) : EReal) b t r p ⟨p.val * 4 + g.val, by omega⟩)
        (fun k => allKV x5 x2 b (krow t k) p e) (fun _ => 1) (x6 (ix1 ⟨p.val * 4 + g.val, by omega⟩)) =
      (val_main_v99 (F := Ideal) x3 x4 x5 x6 : S4x256x2x4x64.Idx → EReal) (ix5 b ⟨t.val * 128 + r.val, by omega⟩ p g e) := by
  have hy : ∀ i : S4x2x4x256x257.Idx, (val_main_v85 (F := Ideal) x3 x4 x6 : S4x2x4x256x257.Idx → EReal) i ≠ ⊤ := by
    have key : ∀ (b : Fin 4) (p : Fin 2) (g : Fin 4) (q : Fin 256) (k : Fin 257), (val_main_v85 (F := Ideal) x3 x4 x6 : S4x2x4x256x257.Idx → EReal) (ix5 b p g q k) ≠ ⊤ := by
      intro b p g q k
      by_cases hk : k.val < 256
      · have hq : q = ⟨(⟨q.val / 128, by omega⟩ : Fin 66).val * 128 + (⟨q.val % 128, by omega⟩ : Fin 128).val, by show q.val / 128 * 128 + q.val % 128 < 256; omega⟩ :=
          Fin.ext (by show q.val = q.val / 128 * 128 + q.val % 128; omega)
        rw [hq]
        exact context_logit x0 x1 x3 x4 x6 b ⟨q.val / 128, by omega⟩ (by show q.val / 128 < 2; omega) ⟨q.val % 128, by omega⟩ p g ⟨k.val, hk⟩ ▸ score_ne_top x0 x1 x3 x4 h0 h1 h3 h4 b _ _ p _ _
      · rw [show k = ⟨256, by omega⟩ from Fin.ext (by show k.val = 256; omega), context_sink]; exact (h6 _).2
    intro i
    idx_vars i
    exact key _ _ _ _ _
  obtain ⟨M, hM⟩ := max_context x3 x4 x6 b p g ⟨t.val * 128 + r.val, by omega⟩ hy (by rw [context_sink]; exact (h6 _).1)
  have hbot : ∀ k : Fin 640, k.val < 384 → score (allQ x3 x0) (allKV x4 x1) ((1 / 8 : ℝ) : EReal) b t r p ⟨p.val * 4 + g.val, by omega⟩ k = ⊥ := by
    intro k hk
    unfold score
    rw [if_neg (not_seen _ _ _ ht hk), EReal.add_bot]
  rw [att_eq _ _ (fun k => if h : k.val < 384 then 0 else x5 (ix4 b ⟨k.val - 384, by omega⟩ p e)) _ M
    (score_ne_top x0 x1 x3 x4 h0 h1 h3 h4 b _ r p _) (h6 _) ?_]
  · rw [context_read]
    simp only [cprob_read, hM]
    refine context_sum _ _ _ (fun k => (val_main_v85 (F := Ideal) x3 x4 x6 : S4x2x4x256x257.Idx → EReal) (ix5 b p g ⟨t.val * 128 + r.val, by omega⟩ k))
      (fun κ => context_logit x0 x1 x3 x4 x6 b t ht r p g κ) (fun κ => hbot _ κ.isLt) (context_sink x3 x4 x6 b p g _) _ _ (fun κ => ?_) (fun κ => ?_)
    · exact dif_pos κ.isLt
    · refine (dif_neg (show ¬ 384 + κ.val < 384 by omega)).trans ?_
      exact congrArg (fun q => x5 (ix4 b q p e)) (Fin.ext (by show 384 + κ.val - 384 = κ.val; omega))
  · intro k hk
    by_cases hk' : k.val < 384
    · exact absurd (hbot k hk') hk
    · rw [dif_neg hk']
      exact ctx_row x5 x2 b _ k hk' p e

end Cert.AttnEq
end
-- ==== Proof.AttnFinal.lean ====
module
public import proofs.«01_k».proof.Defs
public import proofs.«01_k».proof.Proof.AttnEq
public import proofs.«01_k».proof.Proof.AttnPoint
public import Idealize.ShloMosaic.PureOps.Ideal.Laws
@[expose] public section
set_option maxRecDepth 16384
noncomputable section
open Idealize.ShloMosaic Idealize.ShloMosaic.TcCoe Idealize.SL.Sem

namespace Cert.AttnEq
open Cert.Softmax Cert.KernelIdeal.Attn Cert.ReferenceIdeal.Attn Cert.KernelIdeal Cert.KernelIdeal.Gen Cert.ReferenceIdeal.Read

theorem inf_word : Ideal.ofBits .f32 0x7F800000#32 = ⊤ := by simp [Ideal.ofBits, Ideal.ieee]

/-- A number whose magnitude is below infinity is neither infinity. -/
theorem finite_of_word (a : EReal) (h : Ideal.cmp .olt (max a (-a)) (Ideal.ofBits .f32 0x7F800000#32) = 1#1) : Fin' a := by
  rw [inf_word] at h
  induction a with
  | bot => simp [Ideal.cmp] at h
  | top => simp [Ideal.cmp] at h
  | coe r => exact ⟨EReal.coe_ne_bot r, EReal.coe_ne_top r⟩

/-- The precondition's test of one array, all ones, makes every entry finite. -/
theorem finite_of {s : Shape} (x : FVec Ideal s .f32) {u : Shape} (dims : Fin u.rank → Fin s.rank) (hb : u.BroadcastsInDim s dims)
    (h : cmpf .olt (Host.absf x) (broadcastInDim s dims hb (constant (F := Ideal) u .f32 0x7F800000#32)) = fun _ => 1#1) (i : s.Idx) : Fin' (x i) :=
  finite_of_word (x i) (congrFun h i)

/-- The precondition's program states its shape relations; they hold. -/
theorem pre_facts : Cert.Pre_finite_logits.Facts where
  bcast_S_S4x8192x8x64 := by decide
  bcast_S_S4x8192x2x64 := by decide
  bcast_S_S4x256x8x64 := by decide
  bcast_S_S4x256x2x64 := by decide
  bcast_S_S8 := by decide

variable (m : (ℓ : Loc nD τ sig) → Buf (Elt Ideal) ℓ) (c : Dev nD)

/-- Under the precondition the queries, keys and sinks are finite. -/
theorem finite_args [hP : Cert.Pre_finite_logits.Facts] (h : Cert.Pre_KernelIdeal_finite_logits m) :
    (∀ i, Fin' ((m ((c : Thread nD τ).loc main_arg0) : S4x8192x8x64.Idx → EReal) i)) ∧
    (∀ i, Fin' ((m ((c : Thread nD τ).loc main_arg1) : S4x8192x2x64.Idx → EReal) i)) ∧
    (∀ i, Fin' ((m ((c : Thread nD τ).loc main_arg3) : S4x256x8x64.Idx → EReal) i)) ∧
    (∀ i, Fin' ((m ((c : Thread nD τ).loc main_arg4) : S4x256x2x64.Idx → EReal) i)) ∧
    (∀ i, Fin' ((m ((c : Thread nD τ).loc main_arg6) : S8.Idx → EReal) i)) := by
  obtain ⟨h0, h1, h2, h3, h4⟩ := h c
  exact ⟨finite_of _ _ _ h0, finite_of _ _ _ h1, finite_of _ _ _ h2, finite_of _ _ _ h3, finite_of _ _ _ h4⟩

/-- The kernel's output array is the reference's result on the same arguments. -/
theorem out_eq [hP : Cert.Pre_finite_logits.Facts] (h : Cert.Pre_KernelIdeal_finite_logits m) :
    (dats m 0 c).arrAt 10 cfg0.N =
      (val_main_v102 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6))) := by
  obtain ⟨h0, h1, h3, h4, h6⟩ := finite_args m c h
  rw [final]
  have key : ∀ (b : Fin 4) (row : Fin 8448) (l : Fin 512), outArr (V m c main_v40) (V m c main_v41) (V m c main_v42) (m ((c : Thread nD τ).loc main_arg6)) (ix3 b row l) =
      (val_main_v102 (F := Ideal) (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) (m ((c : Thread nD τ).loc main_arg6)) : S4x8448x512.Idx → EReal) (ix3 b row l) := by
    intro b row l
    have hg : (⟨l.val / 256 * 4 + (l.val / 128 % 2 * 2 + l.val / 64 % 2), by omega⟩ : Fin 8) = ⟨(⟨l.val / 256, by omega⟩ : Fin 2).val * 4 + (⟨l.val / 64 % 4, by omega⟩ : Fin 4).val, by show l.val / 256 * 4 + l.val / 64 % 4 < 8; omega⟩ :=
      Fin.ext (by show l.val / 256 * 4 + (l.val / 128 % 2 * 2 + l.val / 64 % 2) = l.val / 256 * 4 + l.val / 64 % 4; omega)
    refine (kernel_out m c b ⟨row.val / 128, by omega⟩ ⟨row.val % 128, by omega⟩ ⟨l.val / 256, by omega⟩ ⟨l.val / 128 % 2, by omega⟩ ⟨l.val / 64 % 2, by omega⟩ ⟨l.val % 64, by omega⟩ (ix3 b row l)
      rfl (by show row.val = row.val / 128 * 128 + row.val % 128; omega) (by show l.val = l.val / 256 * 256 + l.val / 128 % 2 * 128 + (l.val / 64 % 2 * 64 + l.val % 64); omega)).trans ?_
    refine Eq.trans ?_ (result_read _ _ _ _ _ _ _ b row l).symm
    simp only [hg]
    by_cases hr : row.val < 256
    · rw [dif_pos hr]
      refine (context _ _ _ _ _ _ _ h0 h1 h3 h4 h6 b ⟨row.val / 128, by omega⟩ (by show row.val / 128 < 2; omega) ⟨row.val % 128, by omega⟩ ⟨l.val / 256, by omega⟩ ⟨l.val / 64 % 4, by omega⟩ ⟨l.val % 64, by omega⟩).trans ?_
      refine congrArg (fun q => (val_main_v99 (F := Ideal) _ _ _ _ : Cert.ReferenceIdeal.S4x256x2x4x64.Idx → EReal) (ix5 b q _ _ _)) (Fin.ext ?_)
      show row.val / 128 * 128 + row.val % 128 = row.val
      omega
    · rw [dif_neg hr]
      have ht : (⟨row.val / 128, by omega⟩ : Fin 66) = ⟨(⟨(row.val - 256) / 128, by omega⟩ : Fin 64).val + 2, by show (row.val - 256) / 128 + 2 < 66; omega⟩ :=
        Fin.ext (by show row.val / 128 = (row.val - 256) / 128 + 2; omega)
      have hq : (⟨row.val % 128, by omega⟩ : Fin 128) = ⟨(row.val - 256) % 128, by omega⟩ := Fin.ext (by show row.val % 128 = (row.val - 256) % 128; omega)
      rw [ht, hq]
      exact latent _ _ _ _ _ _ _ h0 h1 h3 h4 h6 b ⟨(row.val - 256) / 128, by omega⟩ ⟨(row.val - 256) % 128, by omega⟩ ⟨l.val / 256, by omega⟩ ⟨l.val / 64 % 4, by omega⟩ ⟨l.val % 64, by omega⟩
  funext i
  have hi : i = (ix3 (i 0) (i 1) (i 2) : S4x8448x512.Idx) := funext fun a => by match a with | ⟨0, _⟩ => rfl | ⟨1, _⟩ => rfl | ⟨2, _⟩ => rfl
  rw [hi]
  exact key (i 0) (i 1) (i 2)

end Cert.AttnEq
end
-- ==== Proof.MergeRun.lean ====
module

public import proofs.«01_k».proof.Proof.Gen.Kernel2Ideal.Frame.Runs

/-! The run of the merge's body at one grid point, for any floats. -/

@[expose] public section

set_option maxRecDepth 16384

noncomputable section

namespace Cert.Kernel2Ideal.Merge
open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 16000000 in
/-- The pieces that the body's stores leave in the output block and in its two scratch buffers, with the proof that the
    body, started on its input blocks and on any contents of the other buffers, ends with the inputs as they were and with
    these pieces written over the output and the scratch buffers. -/
noncomputable def kernelRun0_A (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3072 .bf16) (harg10 : arg10.IsWhole) (arg11 : Memref sig .tc .vmem S9x5x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole)
    (x0 : Vec F S512x1024 .f32) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (x8 : Vec F S512x3072 .bf16) (x9 : Vec F S9x5x1024 .f32) (x10 : Vec F S1x128 .f32) (x11 : Vec F S1x128 .f32) (x12 : Vec F S512x1024 .bf16) (x13 : Vec F S512x1024 .bf16) (x14 : Vec F S512x1024 .bf16) (x15 : Vec F S1024x1024 .bf16) (x16 : Vec F S1x1024 .f32) (x17 : Vec F S1024x5632 .bf16) (x18 : Vec F S2816x1024 .bf16) :
    Σ' (L19 : List (View.Piece (Elt F) S512x1024 .f32)), Σ' (LT0 : List (View.Piece (Elt F) S512x1024 .bf16)), { LT1 : List (View.Piece (Elt F) S512x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ owns (c : Thread nD τ) arg18 fullShare x16 ∗ owns (c : Thread nD τ) arg19 fullShare x17 ∗ owns (c : Thread nD τ) arg20 fullShare x18 ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f LT0) ∗ (∃ f, arg23.view.loc (c : Thread nD τ) ↦[arg23.view.set]{fullShare} arg23.view.writes (Elt F) f LT1)) -∗ K ⟨⟩))
          ⊢ wp frame (wpE (defs₀ (F := F)) Variants.none c none) E (cc0_merge_ffn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, fun E K => ?run⟩
  case run =>
    simp only [cc0_merge_ffn_eq_skeleton]; unfold cc0_merge_ffn_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%d19, %f19, -, H19⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg18.eq_unread hf16; obtain rfl := harg19.eq_unread hf17; obtain rfl := harg20.eq_unread hf18
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]
    · iexists _; isplitr; · ipureintro; exact harg18.read_unread _
      iexact H16
    isplitl [H17]
    · iexists _; isplitr; · ipureintro; exact harg19.read_unread _
      iexact H17
    isplitl [H18]
    · iexists _; isplitr; · ipureintro; exact harg20.read_unread _
      iexact H18
    isplitl [H19]; · iexists _; iexact H19
    isplitl [HS0]; · iexists _; iexact HS0
    iexists _; iexact HS1

end Cert.Kernel2Ideal.Merge

end
-- ==== Proof.MergeFrame.lean ====
module

public import proofs.«01_k».proof.Proof.MergeRun
public import Idealize.ShloMosaic.Lib.Claim

/-! The frame of the merge call, for any floats, from the run of its body at a point. -/

@[expose] public section

set_option maxRecDepth 16384

noncomputable section

namespace Cert.Kernel2Ideal.Merge
open Cert.Kernel2Ideal Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 19 tile its block (one store of the whole block), so they cover it. -/
theorem cover0_A_19 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3072 .bf16) (harg10 : arg10.IsWhole) (arg11 : Memref sig .tc .vmem S9x5x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole)
    (x0 : Vec F S512x1024 .f32) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (x8 : Vec F S512x3072 .bf16) (x9 : Vec F S9x5x1024 .f32) (x10 : Vec F S1x128 .f32) (x11 : Vec F S1x128 .f32) (x12 : Vec F S512x1024 .bf16) (x13 : Vec F S512x1024 .bf16) (x14 : Vec F S512x1024 .bf16) (x15 : Vec F S1024x1024 .bf16) (x16 : Vec F S1x1024 .f32) (x17 : Vec F S1024x5632 .bf16) (x18 : Vec F S2816x1024 .bf16) (y : S512x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18).1 S512x1024.size (by sl_kernel_rfl) y

/-- What the run leaves in output 19's staging buffer: its pieces read back over junk. -/
def out0_A_19 (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3072 .bf16) (harg10 : arg10.IsWhole) (arg11 : Memref sig .tc .vmem S9x5x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole)
    (x0 : Vec F S512x1024 .f32) (x1 : Vec F S512x512 .bf16) (x2 : Vec F S512x512 .bf16) (x3 : Vec F S512x512 .bf16) (x4 : Vec F S512x512 .bf16) (x5 : Vec F S512x512 .bf16) (x6 : Vec F S512x512 .bf16) (x7 : Vec F S512x512 .bf16) (x8 : Vec F S512x3072 .bf16) (x9 : Vec F S9x5x1024 .f32) (x10 : Vec F S1x128 .f32) (x11 : Vec F S1x128 .f32) (x12 : Vec F S512x1024 .bf16) (x13 : Vec F S512x1024 .bf16) (x14 : Vec F S512x1024 .bf16) (x15 : Vec F S1024x1024 .bf16) (x16 : Vec F S1x1024 .f32) (x17 : Vec F S1024x5632 .bf16) (x18 : Vec F S2816x1024 .bf16) : Vec F S512x1024 .f32 :=
  VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18).1)

/-! ## What the outputs hold after each point -/

/-- What the outputs' staging buffers hold after the body at point `t`: the run's contents at
    the point's memrefs and input blocks. -/
def outsAt0 (c : Dev nD) (t : Fin cfg0.N) : Vec F S512x1024 .f32 :=
  out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)

/-! ## The pipeline's proof data -/

/-- The proof data of the one pipeline on core `c`: the arrays as the region finds them (`V`); after the body at
    point `t` each input's buffer at its block and the outputs' at `outsAt0`; the invariant
    holds the scratch buffers and the random-number register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => (outsAt0 m c t)
    | ⟨_ + 20, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = (outsAt0 m c t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d

/-! ## The body obligation, at a generic point -/

/-- What the body is called with at point `t` (the windows one by one). -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d)))

/-- What the body at point `t` returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t))

set_option maxHeartbeats 2000000 in
/-- The body at any point: the inputs' buffers hold their blocks, so the run applies; the invariant hands the body
    its scratch buffers at some contents and takes them back at some contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19]
  rw [show (dats m 0 c).Φ t.castSucc = Pipeline.ΦA spec0 c from rfl, PhiA0_eq]
  unfold outsAt0
  unfold out0_A_19
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
  iapply ((kernelRun0_A c (grid0.coords t) _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexists _; iexact H19
  isplitl [HS0]; · iexact HS0
  isplitl [HS1]; · iexact HS1
  iintro ⟨H0, H1, H2, H3, H4, H5, H6, H7, H8, H9, H10, H11, H12, H13, H14, H15, H16, H17, H18, ⟨%e19, H19⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  unfold owns; iexists _; isplitr
  swap; · iexact H19
  ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: the call ends with the arrays as the proof data say and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame at any float values: every argument as launched, every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel2Ideal.Merge

end
-- ==== Proof.MergeValue.lean ====
module

public import proofs.«01_k».proof.Proof.MergeFrame
public import Idealize.ShloMosaic.Lib.Pipeline.Value

/-! What the merge call leaves in its output array, block by block. -/

@[expose] public section

noncomputable section

namespace Cert.Kernel2Ideal.Merge

open Cert.Kernel2Ideal Cert.Kernel2Ideal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- What point `t` writes back to the output array: the output block after the body, read through the window's block. -/
theorem flushed19 (c : Dev nD) (t : Fin cfg0.N) :
    (dats m 0 c).flushed 19 t = (cfg0.win 19).cut (grid0.coords t) (outsAt0 m c t) := by
  show (cfg0.win 19).cut (grid0.coords t) ((dats m 0 c).after 19 t) = _
  rw [after0_19]

/-- So it is the run's output block at the point's buffers and input blocks. -/
theorem flushed19_A (c : Dev nD) (t : Fin cfg0.N) :
    (dats m 0 c).flushed 19 t = (cfg0.win 19).cut (grid0.coords t) (out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t)) := by
  simp only [flushed19, outsAt0]

/-- The index map sends distinct grid points to distinct block indices (decided over the 64 points). -/
theorem idx_inj19 : ∀ t t' : Fin cfg0.N, win0_19.index t = win0_19.index t' → t = t' :=
  (by decide +kernel : ∀ t t' : Fin grid0.N, win0_19.index t = win0_19.index t' → t = t')

/-- So the blocks of two points share no array index. -/
theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (idx_inj19 t t' h)

/-- Block `t` of the final array, read back through the window, is what point `t` wrote back (`flushed19`), for every
    point that writes back: no other point's block meets it. -/
theorem blocks19 (c : Dev nD) (t : Fin cfg0.N) (hf : (cfg0.win 19).flush t = true) :
    ((cfg0.win 19).blk t).view.read (Elt F) ((dats m 0 c).arrAt 19 cfg0.N) = (dats m 0 c).flushed 19 t :=
  (dats m 0 c).read_blk_arrAt_eq_flushed 19 disjoint19 cfg0.N t t.isLt hf

/-- An index that no flushing point's block covers keeps output window 19's array contents at region entry. -/
theorem entry19 (c : Dev nD) (i : S32768x1024.Idx) (h : ∀ t : Fin cfg0.N, (cfg0.win 19).flush t = true → i ∉ ((cfg0.win 19).blk t).view.set) :
    (dats m 0 c).arrAt 19 cfg0.N i = V m c (Pipeline.arrRef spec0 19) i := by
  rw [(dats m 0 c).arrAt_apply_of_forall_not_mem 19 cfg0.N i (fun t _ hf => h t hf), A_eq]

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v44) = (dats m 0 c).arrAt 19 cfg0.N :=
  (h c).1 19

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: no window stages it, and the run leaves the region's other buffers as they were. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).2 main_arg10 (Pipeline.mem_restRefs_of main_arg10 (by decide) (by decide))).trans (V_main_arg10 m c)

/-- After the frame run, argument `main_arg11` is as launched: no window stages it, and the run leaves the region's other buffers as they were. -/
theorem kept_main_arg11 (r : PUnit × MemSt nD τ sig (Elt F)) (h : Pipeline.FramePost cfgs (dats m) 0 (V m) r) (c : Dev nD) :
    r.2.mem ((c : Thread nD τ).loc main_arg11) = m ((c : Thread nD τ).loc main_arg11) :=
  ((h c).2 main_arg11 (Pipeline.mem_restRefs_of main_arg11 (by decide) (by decide))).trans (V_main_arg11 m c)

/-- After the frame run, argument `main_arg12` is as launched: no window stages it, and the run leaves the region's other buffers as they were. -/
theorem kept_main_arg12 (r : PUnit × MemSt nD τ sig (Elt F)) (h : Pipeline.FramePost cfgs (dats m) 0 (V m) r) (c : Dev nD) :
    r.2.mem ((c : Thread nD τ).loc main_arg12) = m ((c : Thread nD τ).loc main_arg12) :=
  ((h c).2 main_arg12 (Pipeline.mem_restRefs_of main_arg12 (by decide) (by decide))).trans (V_main_arg12 m c)

/-- After the frame run, argument `main_arg13` is as launched: no window stages it, and the run leaves the region's other buffers as they were. -/
theorem kept_main_arg13 (r : PUnit × MemSt nD τ sig (Elt F)) (h : Pipeline.FramePost cfgs (dats m) 0 (V m) r) (c : Dev nD) :
    r.2.mem ((c : Thread nD τ).loc main_arg13) = m ((c : Thread nD τ).loc main_arg13) :=
  ((h c).2 main_arg13 (Pipeline.mem_restRefs_of main_arg13 (by decide) (by decide))).trans (V_main_arg13 m c)

/-- After the frame run, argument `main_arg14` is as launched: no window stages it, and the run leaves the region's other buffers as they were. -/
theorem kept_main_arg14 (r : PUnit × MemSt nD τ sig (Elt F)) (h : Pipeline.FramePost cfgs (dats m) 0 (V m) r) (c : Dev nD) :
    r.2.mem ((c : Thread nD τ).loc main_arg14) = m ((c : Thread nD τ).loc main_arg14) :=
  ((h c).2 main_arg14 (Pipeline.mem_restRefs_of main_arg14 (by decide) (by decide))).trans (V_main_arg14 m c)

/-- After the frame run, argument `main_arg15` is as launched: no window stages it, and the run leaves the region's other buffers as they were. -/
theorem kept_main_arg15 (r : PUnit × MemSt nD τ sig (Elt F)) (h : Pipeline.FramePost cfgs (dats m) 0 (V m) r) (c : Dev nD) :
    r.2.mem ((c : Thread nD τ).loc main_arg15) = m ((c : Thread nD τ).loc main_arg15) :=
  ((h c).2 main_arg15 (Pipeline.mem_restRefs_of main_arg15 (by decide) (by decide))).trans (V_main_arg15 m c)

/-- After the frame run, argument `main_arg16` is as launched: no window stages it, and the run leaves the region's other buffers as they were. -/
theorem kept_main_arg16 (r : PUnit × MemSt nD τ sig (Elt F)) (h : Pipeline.FramePost cfgs (dats m) 0 (V m) r) (c : Dev nD) :
    r.2.mem ((c : Thread nD τ).loc main_arg16) = m ((c : Thread nD τ).loc main_arg16) :=
  ((h c).2 main_arg16 (Pipeline.mem_restRefs_of main_arg16 (by decide) (by decide))).trans (V_main_arg16 m c)

/-- After the frame run, argument `main_arg17` is as launched: no window stages it, and the run leaves the region's other buffers as they were. -/
theorem kept_main_arg17 (r : PUnit × MemSt nD τ sig (Elt F)) (h : Pipeline.FramePost cfgs (dats m) 0 (V m) r) (c : Dev nD) :
    r.2.mem ((c : Thread nD τ).loc main_arg17) = m ((c : Thread nD τ).loc main_arg17) :=
  ((h c).2 main_arg17 (Pipeline.mem_restRefs_of main_arg17 (by decide) (by decide))).trans (V_main_arg17 m c)

/-- After the frame run, argument `main_arg18` is as launched: no window stages it, and the run leaves the region's other buffers as they were. -/
theorem kept_main_arg18 (r : PUnit × MemSt nD τ sig (Elt F)) (h : Pipeline.FramePost cfgs (dats m) 0 (V m) r) (c : Dev nD) :
    r.2.mem ((c : Thread nD τ).loc main_arg18) = m ((c : Thread nD τ).loc main_arg18) :=
  ((h c).2 main_arg18 (Pipeline.mem_restRefs_of main_arg18 (by decide) (by decide))).trans (V_main_arg18 m c)

/-- After the frame run, argument `main_arg19` is as launched: no window stages it, and the run leaves the region's other buffers as they were. -/
theorem kept_main_arg19 (r : PUnit × MemSt nD τ sig (Elt F)) (h : Pipeline.FramePost cfgs (dats m) 0 (V m) r) (c : Dev nD) :
    r.2.mem ((c : Thread nD τ).loc main_arg19) = m ((c : Thread nD τ).loc main_arg19) :=
  ((h c).2 main_arg19 (Pipeline.mem_restRefs_of main_arg19 (by decide) (by decide))).trans (V_main_arg19 m c)

/-- After the frame run, argument `main_arg20` is as launched: no window stages it, and the run leaves the region's other buffers as they were. -/
theorem kept_main_arg20 (r : PUnit × MemSt nD τ sig (Elt F)) (h : Pipeline.FramePost cfgs (dats m) 0 (V m) r) (c : Dev nD) :
    r.2.mem ((c : Thread nD τ).loc main_arg20) = m ((c : Thread nD τ).loc main_arg20) :=
  ((h c).2 main_arg20 (Pipeline.mem_restRefs_of main_arg20 (by decide) (by decide))).trans (V_main_arg20 m c)

/-- After the frame run, argument `main_arg21` is as launched: no window stages it, and the run leaves the region's other buffers as they were. -/
theorem kept_main_arg21 (r : PUnit × MemSt nD τ sig (Elt F)) (h : Pipeline.FramePost cfgs (dats m) 0 (V m) r) (c : Dev nD) :
    r.2.mem ((c : Thread nD τ).loc main_arg21) = m ((c : Thread nD τ).loc main_arg21) :=
  ((h c).2 main_arg21 (Pipeline.mem_restRefs_of main_arg21 (by decide) (by decide))).trans (V_main_arg21 m c)

/-- The frame run with the output array after the run named (its blocks are read by `blocks19`) and
    the arguments unchanged. -/
theorem run_blocks : θ_run defs (onTc (τ := τ) (main (F := F))) ⟨m, fun _ => 0, ρ⟩ fun r => ∀ c : Dev nD,
      r.2.mem ((c : Thread nD τ).loc main_v44) = (dats m 0 c).arrAt 19 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21) :=
  (θ_run defs _ _).mono (fun r h c => ⟨post19 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c⟩)
    (run_main m ρ)

end Cert.Kernel2Ideal.Merge

end
-- ==== Proof.MergeBlock.lean ====
module
public import proofs.«01_k».proof.Proof.Gen.Kernel2Ideal.Skeleton
public import proofs.«01_k».proof.Proof.MergeCore
public import Idealize.ShloMosaic.Lib.WordCmp
@[expose] public section
set_option maxRecDepth 16384
noncomputable section
open Idealize.ShloMosaic Idealize.ShloMosaic.TcCoe Idealize.SL.Sem

namespace Cert.Merge
open Cert.Kernel2Ideal Cert.Kernel2Ideal.Gen

/-- One head's 128 lanes of a 512-lane block, divided by their root mean square, times the norm's weights. -/
def headT (A : FVec Ideal S512x512 .f32) (g : FVec Ideal S1x128 .f32) (o : ℕ) (h : S512x512.Slices ![0, o] S512x128) : FVec Ideal S512x128 .f32 :=
  mulf (mulf (extractStridedSlice S512x128 ![0, o] A h)
    (broadcastTo S512x128 (rsqrt (addf (divf (shapeCast S512x1 (multiReduction .add [1] S512
      (mulf (extractStridedSlice S512x128 ![0, o] A h) (extractStridedSlice S512x128 ![0, o] A h)) 0x00000000#32 reduces_S512x128_S512 (.inl rfl) rfl)
      shapeCasts_S512_S512x1) (broadcast S512x1 (Scalar.ofBits .f32 0x43000000#32))) (broadcast S512x1 (Scalar.ofBits .f32 0x358637BD#32))))
      broadcasts_S512x1_S512x128))
    (broadcastTo S512x128 g broadcasts_S1x128_S512x128)

/-- All four heads. -/
def normT (A : FVec Ideal S512x512 .f32) (g : FVec Ideal S1x128 .f32) : FVec Ideal S512x512 .f32 :=
  concatenate S512x512 1 [⟨S512x128, headT A g 0 slices_S512x512_o0_0_S512x128⟩, ⟨S512x128, headT A g 128 slices_S512x512_o0_128_S512x128⟩,
    ⟨S512x128, headT A g 256 slices_S512x512_o0_256_S512x128⟩, ⟨S512x128, headT A g 384 slices_S512x512_o0_384_S512x128⟩]
    concatenates_S512x128_S512x128_S512x128_S512x128_S512x512_d1

theorem headT_at (A : FVec Ideal S512x512 .f32) (g : FVec Ideal S1x128 .f32) (o : ℕ) (h : S512x512.Slices ![0, o] S512x128) (ho : o + 128 ≤ 512)
    (r : Fin 512) (l : Fin 128) :
    headT A g o h (ix2 r l) = A (ix2 r ⟨o + l.val, by omega⟩)
      * meanInv n128 (fun k : Fin 128 => A (ix2 r ⟨o + k.val, by omega⟩)) * g (ix2 0 l) := by
  unfold meanInv
  pointwise [headT]

theorem normT_at (A : FVec Ideal S512x512 .f32) (g : FVec Ideal S1x128 .f32) (r : Fin 512) (j : Fin 512) :
    normT A g (ix2 r j) = headn (fun l => A (ix2 r l)) (fun l => g (ix2 0 l)) j := by
  obtain ⟨p, l, rfl⟩ : ∃ (p : Fin 4) (l : Fin 128), j = ⟨p.val * 128 + l.val, by omega⟩ :=
    ⟨⟨j.val / 128, by omega⟩, ⟨j.val % 128, by omega⟩, Fin.ext (by show j.val = j.val / 128 * 128 + j.val % 128; omega)⟩
  have key : normT A g (ix2 r ⟨p.val * 128 + l.val, by omega⟩) = A (ix2 r ⟨p.val * 128 + l.val, by omega⟩)
      * meanInv n128 (fun k : Fin 128 => A (ix2 r ⟨p.val * 128 + k.val, by omega⟩)) * g (ix2 0 l) := by
    obtain ⟨p, hp⟩ := p
    obtain rfl | rfl | rfl | rfl : p = 0 ∨ p = 1 ∨ p = 2 ∨ p = 3 := by omega
    · refine Eq.trans ?_ (headT_at A g 0 slices_S512x512_o0_0_S512x128 (by omega) r l)
      pointwise [normT]
    · refine Eq.trans ?_ (headT_at A g 128 slices_S512x512_o0_128_S512x128 (by omega) r l)
      pointwise [normT]
    · refine Eq.trans ?_ (headT_at A g 256 slices_S512x512_o0_256_S512x128 (by omega) r l)
      pointwise [normT]
      rw [dif_neg (by omega), dif_neg (by omega), dif_pos (by omega)]
      exact congrArg (fun q => headT A g 256 slices_S512x512_o0_256_S512x128 (ix2 r q)) (Fin.ext (by show 256 + l.val - 128 - 128 = l.val; omega))
    · refine Eq.trans ?_ (headT_at A g 384 slices_S512x512_o0_384_S512x128 (by omega) r l)
      pointwise [normT]
      rw [dif_neg (by omega), dif_neg (by omega), dif_neg (by omega)]
      exact congrArg (fun q => headT A g 384 slices_S512x512_o0_384_S512x128 (ix2 r q)) (Fin.ext (by show 384 + l.val - 128 - 128 - 128 = l.val; omega))
  rw [key]
  unfold headn
  have e1 : ∀ k : ℕ, (p.val * 128 + l.val) / 128 * 128 + k = p.val * 128 + k := fun k => by omega
  have e2 : (p.val * 128 + l.val) % 128 = l.val := by omega
  simp only [e1, e2]

/-- The first normalised pair of streams, times its gate. -/
theorem pay9_at (a b : Vec Ideal S512x512 .bf16) (g : Vec Ideal S1x128 .f32) (z : Vec Ideal S512x512 .bf16) (r j : Fin 512) :
    k0_pay9 (F := Ideal) (k0_pay3 a b) (k0_pay4 g) (k0_pay5 a b g) (k0_pay6 a b g) (k0_pay7 a b) (k0_pay8 a b) z (ix2 r j)
      = headn (fun l => a (ix2 r l) + b (ix2 r l)) (fun l => g (ix2 0 l)) j * z (ix2 r j) := by
  have e : k0_pay9 (F := Ideal) (k0_pay3 a b) (k0_pay4 g) (k0_pay5 a b g) (k0_pay6 a b g) (k0_pay7 a b) (k0_pay8 a b) z
    = truncf .bf16 (mulf (normT (k0_pay3 a b) (k0_pay4 g)) (extf .f32 (shapeCast S512x512 z shapeCasts_S512x512_S512x512 : FVec Ideal S512x512 .bf16) bitsLt_bf16_f32)) bitsLt_bf16_f32 := rfl
  have ea : ∀ l : Fin 512, k0_pay3 (F := Ideal) a b (ix2 r l) = a (ix2 r l) + b (ix2 r l) := fun l => by pointwise [k0_pay3]
  have eg : ∀ l : Fin 128, k0_pay4 (F := Ideal) g (ix2 0 l) = g (ix2 0 l) := fun l => by pointwise [k0_pay4]
  rw [e]
  have := normT_at (k0_pay3 (F := Ideal) a b) (k0_pay4 (F := Ideal) g) r j
  simp only [ea, eg] at this
  rw [← this]
  pointwise

/-- The second normalised pair of streams. -/
theorem pay14_at (a b : Vec Ideal S512x512 .bf16) (g : Vec Ideal S1x128 .f32) (r j : Fin 512) :
    k0_pay14 (F := Ideal) (k0_pay10 a b) (k0_pay11 g) (k0_pay12 a b) (k0_pay13 a b) (Scalar.ofBits .f32 0x358637BD#32) (ix2 r j)
      = headn (fun l => a (ix2 r l) + b (ix2 r l)) (fun l => g (ix2 0 l)) j := by
  have e : k0_pay14 (F := Ideal) (k0_pay10 a b) (k0_pay11 g) (k0_pay12 a b) (k0_pay13 a b) (Scalar.ofBits .f32 0x358637BD#32)
    = normT (k0_pay10 a b) (k0_pay11 g) := rfl
  have ea : ∀ l : Fin 512, k0_pay10 (F := Ideal) a b (ix2 r l) = a (ix2 r l) + b (ix2 r l) := fun l => by pointwise [k0_pay10]
  have eg : ∀ l : Fin 128, k0_pay11 (F := Ideal) g (ix2 0 l) = g (ix2 0 l) := fun l => by pointwise [k0_pay11]
  rw [e, normT_at]
  simp only [ea, eg]

/-- The gated sum of the three products. -/
theorem pay16_at (B : FVec Ideal S512x512 .bf16) (C : FVec Ideal S512x512 .f32) (z : Vec Ideal S512x512 .bf16) (sa sg sm : Vec Ideal S512x1024 .bf16)
    (a : Vec Ideal S512x512 .bf16) (wa wg wm : Vec Ideal S512x1024 .bf16) (r : Fin 512) (j : Fin 1024) :
    k0_pay16 (F := Ideal) B C (k0_pay15 z) sa a wa sg wg sm wm (ix2 r j)
      = mixed (fun k => a (ix2 r k)) (fun k => B (ix2 r k)) (fun k => C (ix2 r k) * z (ix2 r k))
        (fun k j => wa (ix2 k j)) (fun k j => wg (ix2 k j)) (fun k j => wm (ix2 k j))
        (fun j => sa (ix2 r j)) (fun j => sg (ix2 r j)) (fun j => sm (ix2 r j)) j := by
  unfold mixed
  pointwise [k0_pay16, k0_pay15]

/-- No row of a grid point is a context row. -/
theorem row_word (n r : ℕ) (hn : n < 16) (hr : r < 512) (x y : EReal) :
    Scalar.select (IntOp.cmpi .slt (IntOp.addi (Scalar.addi (256#32) (Scalar.muli (BitVec.ofNat 32 n) 512#32)) (BitVec.ofNat 32 r)) 256#32) x y = y := by
  have e : IntOp.addi (Scalar.addi (256#32) (Scalar.muli (BitVec.ofNat 32 n) 512#32)) (BitVec.ofNat 32 r)
      = BitVec.ofNat 32 (256 + n * 512 + r) := by
    apply BitVec.eq_of_toNat_eq
    simp [IntOp.addi, Scalar.addi, Scalar.muli, IntOp.muli]
  rw [e]
  word_cmp
  rw [if_neg (by omega)]

/-- The residual row after the merge. -/
theorem pay20_at (i : grid0.Coords) (y : FVec Ideal S512x1024 .f32) (g g' : Vec Ideal S1x1x1024 .f32) (x : Vec Ideal S512x1024 .f32) (wo : Vec Ideal S1024x1024 .bf16)
    (r : Fin 512) (j : Fin 1024) :
    k0_pay20 (F := Ideal) y (k0_pay17 g) (k0_pay18 g') (k0_pay19 (k0_pay2 i)) x wo (ix2 r j)
      = resid (fun j => x (ix2 r j)) (fun j => g (ix3 0 0 j)) (fun j => y (ix2 r j)) (fun k j => wo (ix2 k j)) j := by
  unfold resid
  pointwise [k0_pay20, k0_pay17, k0_pay18, k0_pay19, k0_pay2]
  refine congrArg (fun q => x (ix2 r j) + q * _) ?_
  exact row_word (i 1).val r.val (i 1).isLt r.isLt _ _

/-- The modulated norm of that row. -/
theorem pay21_at (y : FVec Ideal S512x1024 .f32) (g g' : FVec Ideal S1x1024 .f32) (M : IVec S512x1024 1) (x : Vec Ideal S512x1024 .f32) (wo : Vec Ideal S1024x1024 .bf16)
    (gain : Vec Ideal S1x1024 .f32) (shift scale : Vec Ideal S1x1x1024 .f32)
    (r : Fin 512) (j : Fin 1024) :
    k0_pay21 (F := Ideal) y g g' M x wo gain shift scale (ix2 r j)
      = hrow (fun j => k0_pay20 (F := Ideal) y g g' M x wo (ix2 r j)) (fun j => gain (ix2 0 j)) (fun j => scale (ix3 0 0 j)) (fun j => shift (ix3 0 0 j)) j := by
  unfold hrow meanInv
  generalize hX : k0_pay20 (F := Ideal) y g g' M x wo = X
  unfold k0_pay21
  rw [hX]
  pointwise

/-- The feed-forward's gate row. -/
theorem pay22_at (i : grid0.Coords) (g g' : Vec Ideal S1x1x1024 .f32) (r : Fin 512) (j : Fin 1024) :
    k0_pay22 (F := Ideal) (k0_pay2 i) g g' (ix2 r j) = g (ix3 0 0 j) := by
  pointwise [k0_pay22, k0_pay2]
  exact row_word (i 1).val r.val (i 1).isLt r.isLt _ _

/-- One chunk of the feed-forward: its hidden lanes' products with the down weights. -/
def chunkT (h : FVec Ideal S512x1024 .bf16) (a b : Vec Ideal S1024x256 .bf16) (v : Vec Ideal S256x1024 .bf16) : FVec Ideal S512x1024 .f32 :=
  k0_pay23 (F := Ideal) h a h b v

theorem chunkT_at (h : FVec Ideal S512x1024 .bf16) (a b : Vec Ideal S1024x256 .bf16) (v : Vec Ideal S256x1024 .bf16) (r : Fin 512) (j : Fin 1024) :
    chunkT h a b v (ix2 r j) = ∑ f : Fin 256, siluK (∑ k, h (ix2 r k) * a (ix2 k f)) * (∑ k, h (ix2 r k) * b (ix2 k f)) * v (ix2 f j) := by
  unfold siluK
  pointwise [chunkT, k0_pay23]

theorem out_at (x g : FVec Ideal S512x1024 .f32) (acc : Vec Ideal S512x1024 .f32) (r : Fin 512) (j : Fin 1024) :
    k0_pay1 (F := Ideal) x g (k0_pay42 (F := Ideal)) acc (ix2 r j) = x (ix2 r j) + half * g (ix2 r j) * acc (ix2 r j) := by
  pointwise [k0_pay1, k0_pay42]

end Cert.Merge
end
-- ==== Proof.MergeOut.lean ====
module
public import proofs.«01_k».proof.Proof.MergeValue
public import proofs.«01_k».proof.Proof.MergeBlock
@[expose] public section
set_option maxRecDepth 16384
noncomputable section
open Idealize.ShloMosaic Idealize.ShloMosaic.TcCoe Idealize.SL.Sem
open Idealize.ShloMosaic.Pipeline (Dat)

namespace Cert.Merge
open Cert.Kernel2Ideal Cert.Kernel2Ideal.Gen Cert.Kernel2Ideal.Merge

/-- The next accumulator: the last one plus one chunk of the feed-forward. -/
def stepT (h : FVec Ideal S512x1024 .bf16) (a b : Vec Ideal S1024x256 .bf16) (v : Vec Ideal S256x1024 .bf16) (acc : FVec Ideal S512x1024 .f32) : FVec Ideal S512x1024 .f32 :=
  addf acc (chunkT h a b v)

section Steps
variable (h : Vec Ideal S512x1024 .bf16) (a b : Vec Ideal S1024x256 .bf16) (v : Vec Ideal S256x1024 .bf16) (acc : Vec Ideal S512x1024 .f32)
/-- Payload 24 is one such step. -/
theorem step24 : k0_pay24 (F := Ideal) h a h b v acc = stepT h a b v acc := by
  simp only [stepT, chunkT, k0_pay23, k0_pay24, shapeCast_self]
/-- Payload 28 is one such step. -/
theorem step28 : k0_pay28 (F := Ideal) (k0_pay25 h a) (k0_pay26 h b) (k0_pay27 (F := Ideal)) v acc = stepT h a b v acc := by
  simp only [stepT, chunkT, k0_pay23, k0_pay25, k0_pay26, k0_pay27, k0_pay28, shapeCast_self]
/-- Payload 30 is one such step. -/
theorem step30 : k0_pay30 (F := Ideal) (k0_pay29 h a h b v acc) = stepT h a b v acc := by
  simp only [stepT, chunkT, k0_pay23, k0_pay29, k0_pay30, shapeCast_self]
/-- Payload 31 is one such step. -/
theorem step31 : k0_pay31 (F := Ideal) h a h b v acc = stepT h a b v acc := by
  simp only [stepT, chunkT, k0_pay23, k0_pay31, shapeCast_self]
/-- Payload 33 is one such step. -/
theorem step33 : k0_pay33 (F := Ideal) (k0_pay32 h a) h b v acc = stepT h a b v acc := by
  simp only [stepT, chunkT, k0_pay23, k0_pay32, k0_pay33, shapeCast_self]
/-- Payload 35 is one such step. -/
theorem step35 : k0_pay35 (F := Ideal) (k0_pay34 h a h b v) acc = stepT h a b v acc := by
  simp only [stepT, chunkT, k0_pay23, k0_pay34, k0_pay35, shapeCast_self]
/-- Payload 36 is one such step. -/
theorem step36 : k0_pay36 (F := Ideal) h a h b v acc = stepT h a b v acc := by
  simp only [stepT, chunkT, k0_pay23, k0_pay36, shapeCast_self]
/-- Payload 38 is one such step. -/
theorem step38 : k0_pay38 (F := Ideal) h (k0_pay37 a) (constant S512x256 .f32 0x00000000#32) h b v acc = stepT h a b v acc := by
  simp only [stepT, chunkT, k0_pay23, k0_pay37, k0_pay38, shapeCast_self]
/-- Payload 40 is one such step. -/
theorem step40 : k0_pay40 (F := Ideal) (k0_pay39 h a h b) v acc = stepT h a b v acc := by
  simp only [stepT, chunkT, k0_pay23, k0_pay39, k0_pay40, shapeCast_self]
/-- Payload 41 is one such step. -/
theorem step41 : k0_pay41 (F := Ideal) h a h b v acc = stepT h a b v acc := by
  simp only [stepT, chunkT, k0_pay23, k0_pay41, shapeCast_self]
end Steps

section Point
variable (i : grid0.Coords) (x0 : Vec Ideal S512x1024 .f32) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x512 .bf16) (x8 : Vec Ideal S512x3072 .bf16) (x9 : Vec Ideal S9x5x1024 .f32) (x10 : Vec Ideal S1x128 .f32) (x11 : Vec Ideal S1x128 .f32) (x12 : Vec Ideal S512x1024 .bf16) (x13 : Vec Ideal S512x1024 .bf16) (x14 : Vec Ideal S512x1024 .bf16) (x15 : Vec Ideal S1024x1024 .bf16) (x16 : Vec Ideal S1x1024 .f32) (x17 : Vec Ideal S1024x5632 .bf16) (x18 : Vec Ideal S2816x1024 .bf16)

/-- Window 9's row at an offset. -/
abbrev rowAt (off : Fin 3 → ℕ) (inb : ∀ a, off a + S1x1x1024.size a ≤ S9x5x1024.size a) : Vec Ideal S1x1x1024 .f32 :=
  View.ld (Val := Elt Ideal) (S := S9x5x1024) (e' := .f32) x9 (Rect.unit (s := S9x5x1024) off S1x1x1024.size inb)

/-- A gate's lanes of window 8. -/
abbrev gateAt (off : Fin 2 → ℕ) (inb : ∀ a, off a + S512x1024.size a ≤ S512x3072.size a) : Vec Ideal S512x1024 .bf16 :=
  View.ld (Val := Elt Ideal) (S := S512x3072) (e' := .bf16) x8 (Rect.unit (s := S512x3072) off S512x1024.size inb)

/-- A chunk's columns of the up weights. -/
abbrev upAt (off : Fin 2 → ℕ) (inb : ∀ a, off a + S1024x256.size a ≤ S1024x5632.size a) : Vec Ideal S1024x256 .bf16 :=
  View.ld (Val := Elt Ideal) (S := S1024x5632) (e' := .bf16) x17 (Rect.unit (s := S1024x5632) off S1024x256.size inb)

/-- A chunk's rows of the down weights. -/
abbrev downAt (off : Fin 2 → ℕ) (inb : ∀ a, off a + S256x1024.size a ≤ S2816x1024.size a) : Vec Ideal S256x1024 .bf16 :=
  View.ld (Val := Elt Ideal) (S := S2816x1024) (e' := .bf16) x18 (Rect.unit (s := S2816x1024) off S256x1024.size inb)

/-- The gated sum of the branches. -/
def mixT : FVec Ideal S512x1024 .f32 :=
  k0_pay16 (F := Ideal) (k0_pay9 (F := Ideal) (k0_pay3 x2 x3) (k0_pay4 x10) (k0_pay5 x2 x3 x10) (k0_pay6 x2 x3 x10) (k0_pay7 x2 x3) (k0_pay8 x2 x3) x6)
    (k0_pay14 (F := Ideal) (k0_pay10 x4 x5) (k0_pay11 x11) (k0_pay12 x4 x5) (k0_pay13 x4 x5) (Scalar.ofBits .f32 0x358637BD#32)) (k0_pay15 x7)
    (gateAt x8 ![0, 0] inb_S512x3072_S512x1024_0_0) x1 x12 (gateAt x8 ![0, 1024] inb_S512x3072_S512x1024_0_1024) x13 (gateAt x8 ![0, 2048] inb_S512x3072_S512x1024_0_2048) x14

/-- The residual rows after the merge. -/
def resT : FVec Ideal S512x1024 .f32 :=
  k0_pay20 (F := Ideal) (mixT x1 x2 x3 x4 x5 x6 x7 x8 x10 x11 x12 x13 x14) (k0_pay17 (rowAt x9 (k0_off1 i) (k0_off1_inb i))) (k0_pay18 (rowAt x9 ![5, 4, 0] inb_S9x5x1024_S1x1x1024_5_4_0))
    (k0_pay19 (k0_pay2 i)) x0 x15

/-- The modulated norm of them. -/
def normedT : FVec Ideal S512x1024 .bf16 :=
  k0_pay21 (F := Ideal) (mixT x1 x2 x3 x4 x5 x6 x7 x8 x10 x11 x12 x13 x14) (k0_pay17 (rowAt x9 (k0_off1 i) (k0_off1_inb i))) (k0_pay18 (rowAt x9 ![5, 4, 0] inb_S9x5x1024_S1x1x1024_5_4_0))
    (k0_pay19 (k0_pay2 i)) x0 x15 x16 (rowAt x9 (k0_off2 i) (k0_off2_inb i)) (rowAt x9 (k0_off3 i) (k0_off3_inb i))

/-- The feed-forward's gate rows. -/
def gateT : FVec Ideal S512x1024 .f32 :=
  k0_pay22 (F := Ideal) (k0_pay2 i) (rowAt x9 (k0_off4 i) (k0_off4_inb i)) (rowAt x9 ![8, 4, 0] inb_S9x5x1024_S1x1x1024_8_4_0)

/-- The accumulator after the eleven chunks. -/
def accT (h : FVec Ideal S512x1024 .bf16) : FVec Ideal S512x1024 .f32 :=
  stepT h (upAt x17 ![0, 2560] inb_S1024x5632_S1024x256_0_2560) (upAt x17 ![0, 5376] inb_S1024x5632_S1024x256_0_5376) (downAt x18 ![2560, 0] inb_S2816x1024_S256x1024_2560_0)
    (stepT h (upAt x17 ![0, 2304] inb_S1024x5632_S1024x256_0_2304) (upAt x17 ![0, 5120] inb_S1024x5632_S1024x256_0_5120) (downAt x18 ![2304, 0] inb_S2816x1024_S256x1024_2304_0)
    (stepT h (upAt x17 ![0, 2048] inb_S1024x5632_S1024x256_0_2048) (upAt x17 ![0, 4864] inb_S1024x5632_S1024x256_0_4864) (downAt x18 ![2048, 0] inb_S2816x1024_S256x1024_2048_0)
    (stepT h (upAt x17 ![0, 1792] inb_S1024x5632_S1024x256_0_1792) (upAt x17 ![0, 4608] inb_S1024x5632_S1024x256_0_4608) (downAt x18 ![1792, 0] inb_S2816x1024_S256x1024_1792_0)
    (stepT h (upAt x17 ![0, 1536] inb_S1024x5632_S1024x256_0_1536) (upAt x17 ![0, 4352] inb_S1024x5632_S1024x256_0_4352) (downAt x18 ![1536, 0] inb_S2816x1024_S256x1024_1536_0)
    (stepT h (upAt x17 ![0, 1280] inb_S1024x5632_S1024x256_0_1280) (upAt x17 ![0, 4096] inb_S1024x5632_S1024x256_0_4096) (downAt x18 ![1280, 0] inb_S2816x1024_S256x1024_1280_0)
    (stepT h (upAt x17 ![0, 1024] inb_S1024x5632_S1024x256_0_1024) (upAt x17 ![0, 3840] inb_S1024x5632_S1024x256_0_3840) (downAt x18 ![1024, 0] inb_S2816x1024_S256x1024_1024_0)
    (stepT h (upAt x17 ![0, 768] inb_S1024x5632_S1024x256_0_768) (upAt x17 ![0, 3584] inb_S1024x5632_S1024x256_0_3584) (downAt x18 ![768, 0] inb_S2816x1024_S256x1024_768_0)
    (stepT h (upAt x17 ![0, 512] inb_S1024x5632_S1024x256_0_512) (upAt x17 ![0, 3328] inb_S1024x5632_S1024x256_0_3328) (downAt x18 ![512, 0] inb_S2816x1024_S256x1024_512_0)
    (stepT h (upAt x17 ![0, 256] inb_S1024x5632_S1024x256_0_256) (upAt x17 ![0, 3072] inb_S1024x5632_S1024x256_0_3072) (downAt x18 ![256, 0] inb_S2816x1024_S256x1024_256_0)
    (k0_pay23 (F := Ideal) h (upAt x17 ![0, 0] inb_S1024x5632_S1024x256_0_0) h (upAt x17 ![0, 2816] inb_S1024x5632_S1024x256_0_2816) (downAt x18 ![0, 0] inb_S2816x1024_S256x1024_0_0)))))))))))

end Point

theorem hz2 : (![0, 0] : Fin 2 → ℕ) = fun _ => 0 := by decide

set_option maxHeartbeats 4000000 in
/-- What a grid point stores into its output block. -/
theorem out_eq (c : Dev nD) (i : grid0.Coords) (arg2 : Memref sig .tc .vmem S512x1024 .f32) (harg2 : arg2.IsWhole) (arg3 : Memref sig .tc .vmem S512x512 .bf16) (harg3 : arg3.IsWhole) (arg4 : Memref sig .tc .vmem S512x512 .bf16) (harg4 : arg4.IsWhole) (arg5 : Memref sig .tc .vmem S512x512 .bf16) (harg5 : arg5.IsWhole) (arg6 : Memref sig .tc .vmem S512x512 .bf16) (harg6 : arg6.IsWhole) (arg7 : Memref sig .tc .vmem S512x512 .bf16) (harg7 : arg7.IsWhole) (arg8 : Memref sig .tc .vmem S512x512 .bf16) (harg8 : arg8.IsWhole) (arg9 : Memref sig .tc .vmem S512x512 .bf16) (harg9 : arg9.IsWhole) (arg10 : Memref sig .tc .vmem S512x3072 .bf16) (harg10 : arg10.IsWhole) (arg11 : Memref sig .tc .vmem S9x5x1024 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S512x1024 .bf16) (harg14 : arg14.IsWhole) (arg15 : Memref sig .tc .vmem S512x1024 .bf16) (harg15 : arg15.IsWhole) (arg16 : Memref sig .tc .vmem S512x1024 .bf16) (harg16 : arg16.IsWhole) (arg17 : Memref sig .tc .vmem S1024x1024 .bf16) (harg17 : arg17.IsWhole) (arg18 : Memref sig .tc .vmem S1x1024 .f32) (harg18 : arg18.IsWhole) (arg19 : Memref sig .tc .vmem S1024x5632 .bf16) (harg19 : arg19.IsWhole) (arg20 : Memref sig .tc .vmem S2816x1024 .bf16) (harg20 : arg20.IsWhole) (arg21 : Memref sig .tc .vmem S512x1024 .f32) (harg21 : arg21.IsWhole) (arg22 : Memref sig .tc .vmem S512x1024 .bf16) (harg22 : arg22.IsWhole) (arg23 : Memref sig .tc .vmem S512x1024 .f32) (harg23 : arg23.IsWhole)
    (x0 : Vec Ideal S512x1024 .f32) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x512 .bf16) (x8 : Vec Ideal S512x3072 .bf16) (x9 : Vec Ideal S9x5x1024 .f32) (x10 : Vec Ideal S1x128 .f32) (x11 : Vec Ideal S1x128 .f32) (x12 : Vec Ideal S512x1024 .bf16) (x13 : Vec Ideal S512x1024 .bf16) (x14 : Vec Ideal S512x1024 .bf16) (x15 : Vec Ideal S1024x1024 .bf16) (x16 : Vec Ideal S1x1024 .f32) (x17 : Vec Ideal S1024x5632 .bf16) (x18 : Vec Ideal S2816x1024 .bf16) :
    out0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18 = k0_pay1 (F := Ideal) (resT i x0 x1 x2 x3 x4 x5 x6 x7 x8 x9 x10 x11 x12 x13 x14 x15) (gateT i x9) (k0_pay42 (F := Ideal)) (accT x17 x18 (normedT i x0 x1 x2 x3 x4 x5 x6 x7 x8 x9 x10 x11 x12 x13 x14 x15 x16)) := by
  unfold out0_A_19
  rw [View.read_writes_eq_canon _ _ _ (cover0_A_19 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13 x14 x15 x16 x17 x18)]
  unfold kernelRun0_A
  dsimp only
  sl_unfold_words
  rw [View.canon_unit_zero (S := S512x1024) hz2]
  simp only [View.readCov_cons_unit_lit', View.readCov_cons_toLoadRect, View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, harg16.read_unread, harg17.read_unread, harg18.read_unread, harg19.read_unread, harg20.read_unread, harg21.read_unread, harg22.read_unread, harg23.read_unread, View.ld_unit_zero (S := S512x1024) hz2, View.ld_unit_zero (S := S512x512) hz2, View.ld_unit_zero (S := S1x128) hz2, View.ld_unit_zero (S := S1x1024) hz2, View.ld_unit_zero (S := S1024x1024) hz2]
  simp only [step24, step28, step30, step31, step33, step35, step36, step38, step40, step41]
  rfl

end Cert.Merge
end
-- ==== Proof.MergeBlk.lean ====
module
public import proofs.«01_k».proof.Proof.MergeOut
@[expose] public section
set_option maxRecDepth 16384
noncomputable section
open Idealize.ShloMosaic Idealize.ShloMosaic.TcCoe Idealize.SL.Sem
open Idealize.ShloMosaic.Pipeline (Dat)

namespace Cert.Merge
open Cert.Kernel2Ideal Cert.Kernel2Ideal.Gen Cert.Kernel2Ideal.Merge

/-- The row of the joined streams at which a grid point's block begins. -/
abbrev base (t : ℕ) : ℕ := t / 16 * 8448 + 256 + t % 16 * 512

theorem idx_val : ∀ t : Fin cfg0.N, cc0_transform_0 (grid0.coords t) = ![base t.val, 0] ∧ cc0_transform_1 (grid0.coords t) = ![base t.val, 0] ∧ cc0_transform_2 (grid0.coords t) = ![base t.val, 0] ∧ cc0_transform_3 (grid0.coords t) = ![base t.val, 0] ∧ cc0_transform_4 (grid0.coords t) = ![base t.val, 0] ∧ cc0_transform_5 (grid0.coords t) = ![base t.val, 0] ∧ cc0_transform_6 (grid0.coords t) = ![base t.val, 0] ∧ cc0_transform_7 (grid0.coords t) = ![base t.val, 0] ∧ cc0_transform_8 (grid0.coords t) = ![base t.val, 0]
    ∧ win0_9.index t = ![0, 0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![t.val, 0]
    ∧ (grid0.coords t 0).val = t.val / 16 :=
  (by decide +kernel : ∀ t : Fin grid0.N, _)

theorem lt64 (t : Fin cfg0.N) : t.val < 64 := lt_of_lt_of_eq t.isLt N_0

/-- A block's rows lie within the joined streams. -/
theorem base_lt (t : Fin cfg0.N) (r : Fin 512) : base t.val + r.val < 33792 := by
  have := lt64 t
  show t.val / 16 * 8448 + 256 + t.val % 16 * 512 + r.val < 33792
  omega

/-- Window 0's block at one index, for any contents of the buffers. -/
theorem rd0 (c : Dev nD) (A : (b : Ref sig .tc) → Buf (Elt Ideal) ((c : Thread nD τ).loc b)) (t : Fin cfg0.N) (r : Fin 512) (j : Fin 1024) (h : base t.val + r.val < 33792) :
    ((cfg0.win 0).blk t).view.read (Elt Ideal) (A (Pipeline.arrRef spec0 0)) (ix2 r j) = A main_v5 (ix2 ⟨base t.val + r.val, h⟩ j) := by
  blk_ext
  · show cc0_transform_0 (grid0.coords t) 0 + 1 * r.val = _
    rw [(idx_val t).1]
    show base t.val + 1 * r.val = _
    omega
  · show cc0_transform_0 (grid0.coords t) 1 + 1 * j.val = _
    rw [(idx_val t).1]
    show 0 + 1 * j.val = _
    omega
/-- Window 0's block at one index. -/
theorem blk0 (m : (ℓ : Loc nD τ sig) → Buf (Elt Ideal) ℓ) (c : Dev nD) (t : Fin cfg0.N) (r : Fin 512) (j : Fin 1024) :
    iblk m c 0 t (ix2 r j) = V m c main_v5 (ix2 ⟨base t.val + r.val, base_lt t r⟩ j) := by
  unfold iblk
  exact rd0 c (V m c) t r j _

/-- Window 1's block at one index, for any contents of the buffers. -/
theorem rd1 (c : Dev nD) (A : (b : Ref sig .tc) → Buf (Elt Ideal) ((c : Thread nD τ).loc b)) (t : Fin cfg0.N) (r : Fin 512) (j : Fin 512) (h : base t.val + r.val < 33792) :
    ((cfg0.win 1).blk t).view.read (Elt Ideal) (A (Pipeline.arrRef spec0 1)) (ix2 r j) = A main_v7 (ix2 ⟨base t.val + r.val, h⟩ j) := by
  blk_ext
  · show cc0_transform_1 (grid0.coords t) 0 + 1 * r.val = _
    rw [(idx_val t).2.1]
    show base t.val + 1 * r.val = _
    omega
  · show cc0_transform_1 (grid0.coords t) 1 + 1 * j.val = _
    rw [(idx_val t).2.1]
    show 0 + 1 * j.val = _
    omega
/-- Window 1's block at one index. -/
theorem blk1 (m : (ℓ : Loc nD τ sig) → Buf (Elt Ideal) ℓ) (c : Dev nD) (t : Fin cfg0.N) (r : Fin 512) (j : Fin 512) :
    iblk m c 1 t (ix2 r j) = V m c main_v7 (ix2 ⟨base t.val + r.val, base_lt t r⟩ j) := by
  unfold iblk
  exact rd1 c (V m c) t r j _

/-- Window 2's block at one index, for any contents of the buffers. -/
theorem rd2 (c : Dev nD) (A : (b : Ref sig .tc) → Buf (Elt Ideal) ((c : Thread nD τ).loc b)) (t : Fin cfg0.N) (r : Fin 512) (j : Fin 512) (h : base t.val + r.val < 33792) :
    ((cfg0.win 2).blk t).view.read (Elt Ideal) (A (Pipeline.arrRef spec0 2)) (ix2 r j) = A main_v9 (ix2 ⟨base t.val + r.val, h⟩ j) := by
  blk_ext
  · show cc0_transform_2 (grid0.coords t) 0 + 1 * r.val = _
    rw [(idx_val t).2.2.1]
    show base t.val + 1 * r.val = _
    omega
  · show cc0_transform_2 (grid0.coords t) 1 + 1 * j.val = _
    rw [(idx_val t).2.2.1]
    show 0 + 1 * j.val = _
    omega
/-- Window 2's block at one index. -/
theorem blk2 (m : (ℓ : Loc nD τ sig) → Buf (Elt Ideal) ℓ) (c : Dev nD) (t : Fin cfg0.N) (r : Fin 512) (j : Fin 512) :
    iblk m c 2 t (ix2 r j) = V m c main_v9 (ix2 ⟨base t.val + r.val, base_lt t r⟩ j) := by
  unfold iblk
  exact rd2 c (V m c) t r j _

/-- Window 3's block at one index, for any contents of the buffers. -/
theorem rd3 (c : Dev nD) (A : (b : Ref sig .tc) → Buf (Elt Ideal) ((c : Thread nD τ).loc b)) (t : Fin cfg0.N) (r : Fin 512) (j : Fin 512) (h : base t.val + r.val < 33792) :
    ((cfg0.win 3).blk t).view.read (Elt Ideal) (A (Pipeline.arrRef spec0 3)) (ix2 r j) = A main_v11 (ix2 ⟨base t.val + r.val, h⟩ j) := by
  blk_ext
  · show cc0_transform_3 (grid0.coords t) 0 + 1 * r.val = _
    rw [(idx_val t).2.2.2.1]
    show base t.val + 1 * r.val = _
    omega
  · show cc0_transform_3 (grid0.coords t) 1 + 1 * j.val = _
    rw [(idx_val t).2.2.2.1]
    show 0 + 1 * j.val = _
    omega
/-- Window 3's block at one index. -/
theorem blk3 (m : (ℓ : Loc nD τ sig) → Buf (Elt Ideal) ℓ) (c : Dev nD) (t : Fin cfg0.N) (r : Fin 512) (j : Fin 512) :
    iblk m c 3 t (ix2 r j) = V m c main_v11 (ix2 ⟨base t.val + r.val, base_lt t r⟩ j) := by
  unfold iblk
  exact rd3 c (V m c) t r j _

/-- Window 4's block at one index, for any contents of the buffers. -/
theorem rd4 (c : Dev nD) (A : (b : Ref sig .tc) → Buf (Elt Ideal) ((c : Thread nD τ).loc b)) (t : Fin cfg0.N) (r : Fin 512) (j : Fin 512) (h : base t.val + r.val < 33792) :
    ((cfg0.win 4).blk t).view.read (Elt Ideal) (A (Pipeline.arrRef spec0 4)) (ix2 r j) = A main_v13 (ix2 ⟨base t.val + r.val, h⟩ j) := by
  blk_ext
  · show cc0_transform_4 (grid0.coords t) 0 + 1 * r.val = _
    rw [(idx_val t).2.2.2.2.1]
    show base t.val + 1 * r.val = _
    omega
  · show cc0_transform_4 (grid0.coords t) 1 + 1 * j.val = _
    rw [(idx_val t).2.2.2.2.1]
    show 0 + 1 * j.val = _
    omega
/-- Window 4's block at one index. -/
theorem blk4 (m : (ℓ : Loc nD τ sig) → Buf (Elt Ideal) ℓ) (c : Dev nD) (t : Fin cfg0.N) (r : Fin 512) (j : Fin 512) :
    iblk m c 4 t (ix2 r j) = V m c main_v13 (ix2 ⟨base t.val + r.val, base_lt t r⟩ j) := by
  unfold iblk
  exact rd4 c (V m c) t r j _

/-- Window 5's block at one index, for any contents of the buffers. -/
theorem rd5 (c : Dev nD) (A : (b : Ref sig .tc) → Buf (Elt Ideal) ((c : Thread nD τ).loc b)) (t : Fin cfg0.N) (r : Fin 512) (j : Fin 512) (h : base t.val + r.val < 33792) :
    ((cfg0.win 5).blk t).view.read (Elt Ideal) (A (Pipeline.arrRef spec0 5)) (ix2 r j) = A main_v15 (ix2 ⟨base t.val + r.val, h⟩ j) := by
  blk_ext
  · show cc0_transform_5 (grid0.coords t) 0 + 1 * r.val = _
    rw [(idx_val t).2.2.2.2.2.1]
    show base t.val + 1 * r.val = _
    omega
  · show cc0_transform_5 (grid0.coords t) 1 + 1 * j.val = _
    rw [(idx_val t).2.2.2.2.2.1]
    show 0 + 1 * j.val = _
    omega
/-- Window 5's block at one index. -/
theorem blk5 (m : (ℓ : Loc nD τ sig) → Buf (Elt Ideal) ℓ) (c : Dev nD) (t : Fin cfg0.N) (r : Fin 512) (j : Fin 512) :
    iblk m c 5 t (ix2 r j) = V m c main_v15 (ix2 ⟨base t.val + r.val, base_lt t r⟩ j) := by
  unfold iblk
  exact rd5 c (V m c) t r j _

/-- Window 6's block at one index, for any contents of the buffers. -/
theorem rd6 (c : Dev nD) (A : (b : Ref sig .tc) → Buf (Elt Ideal) ((c : Thread nD τ).loc b)) (t : Fin cfg0.N) (r : Fin 512) (j : Fin 512) (h : base t.val + r.val < 33792) :
    ((cfg0.win 6).blk t).view.read (Elt Ideal) (A (Pipeline.arrRef spec0 6)) (ix2 r j) = A main_v22 (ix2 ⟨base t.val + r.val, h⟩ j) := by
  blk_ext
  · show cc0_transform_6 (grid0.coords t) 0 + 1 * r.val = _
    rw [(idx_val t).2.2.2.2.2.2.1]
    show base t.val + 1 * r.val = _
    omega
  · show cc0_transform_6 (grid0.coords t) 1 + 1 * j.val = _
    rw [(idx_val t).2.2.2.2.2.2.1]
    show 0 + 1 * j.val = _
    omega
/-- Window 6's block at one index. -/
theorem blk6 (m : (ℓ : Loc nD τ sig) → Buf (Elt Ideal) ℓ) (c : Dev nD) (t : Fin cfg0.N) (r : Fin 512) (j : Fin 512) :
    iblk m c 6 t (ix2 r j) = V m c main_v22 (ix2 ⟨base t.val + r.val, base_lt t r⟩ j) := by
  unfold iblk
  exact rd6 c (V m c) t r j _

/-- Window 7's block at one index, for any contents of the buffers. -/
theorem rd7 (c : Dev nD) (A : (b : Ref sig .tc) → Buf (Elt Ideal) ((c : Thread nD τ).loc b)) (t : Fin cfg0.N) (r : Fin 512) (j : Fin 512) (h : base t.val + r.val < 33792) :
    ((cfg0.win 7).blk t).view.read (Elt Ideal) (A (Pipeline.arrRef spec0 7)) (ix2 r j) = A main_v31 (ix2 ⟨base t.val + r.val, h⟩ j) := by
  blk_ext
  · show cc0_transform_7 (grid0.coords t) 0 + 1 * r.val = _
    rw [(idx_val t).2.2.2.2.2.2.2.1]
    show base t.val + 1 * r.val = _
    omega
  · show cc0_transform_7 (grid0.coords t) 1 + 1 * j.val = _
    rw [(idx_val t).2.2.2.2.2.2.2.1]
    show 0 + 1 * j.val = _
    omega
/-- Window 7's block at one index. -/
theorem blk7 (m : (ℓ : Loc nD τ sig) → Buf (Elt Ideal) ℓ) (c : Dev nD) (t : Fin cfg0.N) (r : Fin 512) (j : Fin 512) :
    iblk m c 7 t (ix2 r j) = V m c main_v31 (ix2 ⟨base t.val + r.val, base_lt t r⟩ j) := by
  unfold iblk
  exact rd7 c (V m c) t r j _

/-- Window 8's block at one index, for any contents of the buffers. -/
theorem rd8 (c : Dev nD) (A : (b : Ref sig .tc) → Buf (Elt Ideal) ((c : Thread nD τ).loc b)) (t : Fin cfg0.N) (r : Fin 512) (j : Fin 3072) (h : base t.val + r.val < 33792) :
    ((cfg0.win 8).blk t).view.read (Elt Ideal) (A (Pipeline.arrRef spec0 8)) (ix2 r j) = A main_v4 (ix2 ⟨base t.val + r.val, h⟩ j) := by
  blk_ext
  · show cc0_transform_8 (grid0.coords t) 0 + 1 * r.val = _
    rw [(idx_val t).2.2.2.2.2.2.2.2.1]
    show base t.val + 1 * r.val = _
    omega
  · show cc0_transform_8 (grid0.coords t) 1 + 1 * j.val = _
    rw [(idx_val t).2.2.2.2.2.2.2.2.1]
    show 0 + 1 * j.val = _
    omega
/-- Window 8's block at one index. -/
theorem blk8 (m : (ℓ : Loc nD τ sig) → Buf (Elt Ideal) ℓ) (c : Dev nD) (t : Fin cfg0.N) (r : Fin 512) (j : Fin 3072) :
    iblk m c 8 t (ix2 r j) = V m c main_v4 (ix2 ⟨base t.val + r.val, base_lt t r⟩ j) := by
  unfold iblk
  exact rd8 c (V m c) t r j _

/-- Window 9's block at one index, for any contents of the buffers. -/
theorem rd9 (c : Dev nD) (A : (b : Ref sig .tc) → Buf (Elt Ideal) ((c : Thread nD τ).loc b)) (t : Fin cfg0.N) (g : Fin 9) (r : Fin 5) (l : Fin 1024) :
    ((cfg0.win 9).blk t).view.read (Elt Ideal) (A (Pipeline.arrRef spec0 9)) (ix3 g r l) = A main_v34 (ix3 g r l) := by
  blk_ext [idx_val t]
/-- Window 9's block at one index. -/
theorem blk9 (m : (ℓ : Loc nD τ sig) → Buf (Elt Ideal) ℓ) (c : Dev nD) (t : Fin cfg0.N) (g : Fin 9) (r : Fin 5) (l : Fin 1024) :
    iblk m c 9 t (ix3 g r l) = V m c main_v34 (ix3 g r l) := by
  unfold iblk
  exact rd9 c (V m c) t g r l

/-- Window 10's block at one index, for any contents of the buffers. -/
theorem rd10 (c : Dev nD) (A : (b : Ref sig .tc) → Buf (Elt Ideal) ((c : Thread nD τ).loc b)) (t : Fin cfg0.N) (r : Fin 1) (j : Fin 128) :
    ((cfg0.win 10).blk t).view.read (Elt Ideal) (A (Pipeline.arrRef spec0 10)) (ix2 r j) = A main_v35 (ix2 r j) := by
  blk_ext [idx_val t]
/-- Window 10's block at one index. -/
theorem blk10 (m : (ℓ : Loc nD τ sig) → Buf (Elt Ideal) ℓ) (c : Dev nD) (t : Fin cfg0.N) (r : Fin 1) (j : Fin 128) :
    iblk m c 10 t (ix2 r j) = V m c main_v35 (ix2 r j) := by
  unfold iblk
  exact rd10 c (V m c) t r j

/-- Window 11's block at one index, for any contents of the buffers. -/
theorem rd11 (c : Dev nD) (A : (b : Ref sig .tc) → Buf (Elt Ideal) ((c : Thread nD τ).loc b)) (t : Fin cfg0.N) (r : Fin 1) (j : Fin 128) :
    ((cfg0.win 11).blk t).view.read (Elt Ideal) (A (Pipeline.arrRef spec0 11)) (ix2 r j) = A main_v36 (ix2 r j) := by
  blk_ext [idx_val t]
/-- Window 11's block at one index. -/
theorem blk11 (m : (ℓ : Loc nD τ sig) → Buf (Elt Ideal) ℓ) (c : Dev nD) (t : Fin cfg0.N) (r : Fin 1) (j : Fin 128) :
    iblk m c 11 t (ix2 r j) = V m c main_v36 (ix2 r j) := by
  unfold iblk
  exact rd11 c (V m c) t r j

/-- Window 12's block at one index, for any contents of the buffers. -/
theorem rd12 (c : Dev nD) (A : (b : Ref sig .tc) → Buf (Elt Ideal) ((c : Thread nD τ).loc b)) (t : Fin cfg0.N) (r : Fin 512) (j : Fin 1024) :
    ((cfg0.win 12).blk t).view.read (Elt Ideal) (A (Pipeline.arrRef spec0 12)) (ix2 r j) = A main_v37 (ix2 r j) := by
  blk_ext [idx_val t]
/-- Window 12's block at one index. -/
theorem blk12 (m : (ℓ : Loc nD τ sig) → Buf (Elt Ideal) ℓ) (c : Dev nD) (t : Fin cfg0.N) (r : Fin 512) (j : Fin 1024) :
    iblk m c 12 t (ix2 r j) = V m c main_v37 (ix2 r j) := by
  unfold iblk
  exact rd12 c (V m c) t r j

/-- Window 13's block at one index, for any contents of the buffers. -/
theorem rd13 (c : Dev nD) (A : (b : Ref sig .tc) → Buf (Elt Ideal) ((c : Thread nD τ).loc b)) (t : Fin cfg0.N) (r : Fin 512) (j : Fin 1024) :
    ((cfg0.win 13).blk t).view.read (Elt Ideal) (A (Pipeline.arrRef spec0 13)) (ix2 r j) = A main_v38 (ix2 r j) := by
  blk_ext [idx_val t]
/-- Window 13's block at one index. -/
theorem blk13 (m : (ℓ : Loc nD τ sig) → Buf (Elt Ideal) ℓ) (c : Dev nD) (t : Fin cfg0.N) (r : Fin 512) (j : Fin 1024) :
    iblk m c 13 t (ix2 r j) = V m c main_v38 (ix2 r j) := by
  unfold iblk
  exact rd13 c (V m c) t r j

/-- Window 14's block at one index, for any contents of the buffers. -/
theorem rd14 (c : Dev nD) (A : (b : Ref sig .tc) → Buf (Elt Ideal) ((c : Thread nD τ).loc b)) (t : Fin cfg0.N) (r : Fin 512) (j : Fin 1024) :
    ((cfg0.win 14).blk t).view.read (Elt Ideal) (A (Pipeline.arrRef spec0 14)) (ix2 r j) = A main_v39 (ix2 r j) := by
  blk_ext [idx_val t]
/-- Window 14's block at one index. -/
theorem blk14 (m : (ℓ : Loc nD τ sig) → Buf (Elt Ideal) ℓ) (c : Dev nD) (t : Fin cfg0.N) (r : Fin 512) (j : Fin 1024) :
    iblk m c 14 t (ix2 r j) = V m c main_v39 (ix2 r j) := by
  unfold iblk
  exact rd14 c (V m c) t r j

/-- Window 15's block at one index, for any contents of the buffers. -/
theorem rd15 (c : Dev nD) (A : (b : Ref sig .tc) → Buf (Elt Ideal) ((c : Thread nD τ).loc b)) (t : Fin cfg0.N) (r : Fin 1024) (j : Fin 1024) :
    ((cfg0.win 15).blk t).view.read (Elt Ideal) (A (Pipeline.arrRef spec0 15)) (ix2 r j) = A main_v40 (ix2 r j) := by
  blk_ext [idx_val t]
/-- Window 15's block at one index. -/
theorem blk15 (m : (ℓ : Loc nD τ sig) → Buf (Elt Ideal) ℓ) (c : Dev nD) (t : Fin cfg0.N) (r : Fin 1024) (j : Fin 1024) :
    iblk m c 15 t (ix2 r j) = V m c main_v40 (ix2 r j) := by
  unfold iblk
  exact rd15 c (V m c) t r j

/-- Window 16's block at one index, for any contents of the buffers. -/
theorem rd16 (c : Dev nD) (A : (b : Ref sig .tc) → Buf (Elt Ideal) ((c : Thread nD τ).loc b)) (t : Fin cfg0.N) (r : Fin 1) (j : Fin 1024) :
    ((cfg0.win 16).blk t).view.read (Elt Ideal) (A (Pipeline.arrRef spec0 16)) (ix2 r j) = A main_v41 (ix2 r j) := by
  blk_ext [idx_val t]
/-- Window 16's block at one index. -/
theorem blk16 (m : (ℓ : Loc nD τ sig) → Buf (Elt Ideal) ℓ) (c : Dev nD) (t : Fin cfg0.N) (r : Fin 1) (j : Fin 1024) :
    iblk m c 16 t (ix2 r j) = V m c main_v41 (ix2 r j) := by
  unfold iblk
  exact rd16 c (V m c) t r j

/-- Window 17's block at one index, for any contents of the buffers. -/
theorem rd17 (c : Dev nD) (A : (b : Ref sig .tc) → Buf (Elt Ideal) ((c : Thread nD τ).loc b)) (t : Fin cfg0.N) (r : Fin 1024) (j : Fin 5632) :
    ((cfg0.win 17).blk t).view.read (Elt Ideal) (A (Pipeline.arrRef spec0 17)) (ix2 r j) = A main_v42 (ix2 r j) := by
  blk_ext [idx_val t]
/-- Window 17's block at one index. -/
theorem blk17 (m : (ℓ : Loc nD τ sig) → Buf (Elt Ideal) ℓ) (c : Dev nD) (t : Fin cfg0.N) (r : Fin 1024) (j : Fin 5632) :
    iblk m c 17 t (ix2 r j) = V m c main_v42 (ix2 r j) := by
  unfold iblk
  exact rd17 c (V m c) t r j

/-- Window 18's block at one index, for any contents of the buffers. -/
theorem rd18 (c : Dev nD) (A : (b : Ref sig .tc) → Buf (Elt Ideal) ((c : Thread nD τ).loc b)) (t : Fin cfg0.N) (r : Fin 2816) (j : Fin 1024) :
    ((cfg0.win 18).blk t).view.read (Elt Ideal) (A (Pipeline.arrRef spec0 18)) (ix2 r j) = A main_v43 (ix2 r j) := by
  blk_ext [idx_val t]
/-- Window 18's block at one index. -/
theorem blk18 (m : (ℓ : Loc nD τ sig) → Buf (Elt Ideal) ℓ) (c : Dev nD) (t : Fin cfg0.N) (r : Fin 2816) (j : Fin 1024) :
    iblk m c 18 t (ix2 r j) = V m c main_v43 (ix2 r j) := by
  unfold iblk
  exact rd18 c (V m c) t r j

end Cert.Merge
end
-- ==== Proof.MergePoint.lean ====
module
public import proofs.«01_k».proof.Proof.MergeBlk
@[expose] public section
set_option maxRecDepth 16384
noncomputable section
open Idealize.ShloMosaic Idealize.ShloMosaic.TcCoe Idealize.SL.Sem
open Idealize.ShloMosaic.Pipeline (Dat)

namespace Cert.Merge
open Cert.Kernel2Ideal Cert.Kernel2Ideal.Gen Cert.Kernel2Ideal.Merge

/-- A sum of eleven terms, from the left. -/
theorem sum11 (g : Fin 11 → EReal) : ∑ n : Fin 11, g n = g 0 + g 1 + g 2 + g 3 + g 4 + g 5 + g 6 + g 7 + g 8 + g 9 + g 10 := by
  rw [Fin.sum_univ_castSucc, Fin.sum_univ_castSucc, Fin.sum_univ_castSucc, Fin.sum_univ_eight]
  rfl

theorem stepT_at (h : FVec Ideal S512x1024 .bf16) (a b : Vec Ideal S1024x256 .bf16) (v : Vec Ideal S256x1024 .bf16) (acc : FVec Ideal S512x1024 .f32) (y : S512x1024.Idx) :
    stepT h a b v acc y = acc y + chunkT h a b v y := rfl

/-- Columns of the up weights. -/
theorem up_rd (x17 : Vec Ideal S1024x5632 .bf16) (k : ℕ) (inb) (hk : k + 256 ≤ 5632) (q : Fin 1024) (f : Fin 256) :
    upAt x17 ![0, k] inb (ix2 q f) = x17 (ix2 q ⟨k + f.val, by omega⟩) := by
  refine congrArg x17 (funext fun a => ?_)
  fin_cases a
  · exact Fin.ext (by show 0 + 1 * q.val = q.val; omega)
  · exact Fin.ext (by show k + 1 * f.val = k + f.val; omega)

/-- Rows of the down weights. -/
theorem down_rd (x18 : Vec Ideal S2816x1024 .bf16) (k : ℕ) (inb) (hk : k + 256 ≤ 2816) (f : Fin 256) (j : Fin 1024) :
    downAt x18 ![k, 0] inb (ix2 f j) = x18 (ix2 ⟨k + f.val, by omega⟩ j) := by
  refine congrArg x18 (funext fun a => ?_)
  fin_cases a
  · exact Fin.ext (by show k + 1 * f.val = k + f.val; omega)
  · exact Fin.ext (by show 0 + 1 * j.val = j.val; omega)

/-- A gate's lanes. -/
theorem gate_rd (x8 : Vec Ideal S512x3072 .bf16) (k : ℕ) (inb) (hk : k + 1024 ≤ 3072) (r : Fin 512) (j : Fin 1024) :
    gateAt x8 ![0, k] inb (ix2 r j) = x8 (ix2 r ⟨k + j.val, by omega⟩) := by
  refine congrArg x8 (funext fun a => ?_)
  fin_cases a
  · exact Fin.ext (by show 0 + 1 * r.val = r.val; omega)
  · exact Fin.ext (by show k + 1 * j.val = k + j.val; omega)

/-- A modulation row. -/
theorem row_rd (x9 : Vec Ideal S9x5x1024 .f32) (off : Fin 3 → ℕ) (inb) (g : Fin 9) (b : Fin 5) (h0 : off 0 = g.val) (h1 : off 1 = b.val) (h2 : off 2 = 0) (j : Fin 1024) :
    rowAt x9 off inb (ix3 0 0 j) = x9 (ix3 g b j) := by
  refine congrArg x9 (funext fun a => ?_)
  fin_cases a
  · exact Fin.ext (by show off 0 + 1 * 0 = g.val; omega)
  · exact Fin.ext (by show off 1 + 1 * 0 = b.val; omega)
  · exact Fin.ext (by show off 2 + 1 * j.val = j.val; omega)

/-- One chunk, as the chunk of the whole sum. -/
theorem chunk_at (x17 : Vec Ideal S1024x5632 .bf16) (x18 : Vec Ideal S2816x1024 .bf16) (h : FVec Ideal S512x1024 .bf16) (n : Fin 11) (k k' : ℕ)
    (hk : k = n.val * 256) (hk' : k' = 2816 + n.val * 256) (i1) (i2) (i3) (r : Fin 512) (j : Fin 1024) :
    chunkT h (upAt x17 ![0, k] i1) (upAt x17 ![0, k'] i2) (downAt x18 ![k, 0] i3) (ix2 r j)
      = chunk siluK (fun q => h (ix2 r q)) (fun q f => x17 (ix2 q f)) (fun f j => x18 (ix2 f j)) n j := by
  subst hk hk'
  rw [chunkT_at]
  unfold chunk argA argB
  refine Finset.sum_congr rfl fun f _ => ?_
  have e1 : ∀ q, upAt x17 ![0, n.val * 256] i1 (ix2 q f) = x17 (ix2 q ⟨n.val * 256 + f.val, by omega⟩) := fun q => up_rd x17 _ i1 (by omega) q f
  have e2 : ∀ q, upAt x17 ![0, 2816 + n.val * 256] i2 (ix2 q f) = x17 (ix2 q ⟨2816 + (n.val * 256 + f.val), by omega⟩) := fun q =>
    (up_rd x17 _ i2 (by omega) q f).trans (congrArg (fun z => x17 (ix2 q z)) (Fin.ext (by show 2816 + n.val * 256 + f.val = 2816 + (n.val * 256 + f.val); omega)))
  have e3 : downAt x18 ![n.val * 256, 0] i3 (ix2 f j) = x18 (ix2 ⟨n.val * 256 + f.val, by omega⟩ j) := down_rd x18 _ i3 (by omega) f j
  simp only [e1, e2, e3]

/-- The accumulator is the whole sum. -/
theorem accT_at (x17 : Vec Ideal S1024x5632 .bf16) (x18 : Vec Ideal S2816x1024 .bf16) (h : FVec Ideal S512x1024 .bf16) (r : Fin 512) (j : Fin 1024) :
    accT x17 x18 h (ix2 r j) = ∑ f : Fin 2816, siluK (argA (fun q => h (ix2 r q)) (fun q f => x17 (ix2 q f)) f)
      * argB (fun q => h (ix2 r q)) (fun q f => x17 (ix2 q f)) f * x18 (ix2 f j) := by
  rw [sum_chunks]
  refine Eq.trans ?_ (sum11 (fun n => chunk siluK (fun q => h (ix2 r q)) (fun q f => x17 (ix2 q f)) (fun f j => x18 (ix2 f j)) n j)).symm
  unfold accT
  simp only [stepT_at]
  refine congrArg₂ (· + ·) (congrArg₂ (· + ·) (congrArg₂ (· + ·) (congrArg₂ (· + ·) (congrArg₂ (· + ·) (congrArg₂ (· + ·) (congrArg₂ (· + ·) (congrArg₂ (· + ·)
    (congrArg₂ (· + ·) (congrArg₂ (· + ·) ?_ ?_) ?_) ?_) ?_) ?_) ?_) ?_) ?_) ?_) ?_
  · exact chunk_at x17 x18 h 0 _ _ rfl rfl _ _ _ r j
  · exact chunk_at x17 x18 h 1 _ _ rfl rfl _ _ _ r j
  · exact chunk_at x17 x18 h 2 _ _ rfl rfl _ _ _ r j
  · exact chunk_at x17 x18 h 3 _ _ rfl rfl _ _ _ r j
  · exact chunk_at x17 x18 h 4 _ _ rfl rfl _ _ _ r j
  · exact chunk_at x17 x18 h 5 _ _ rfl rfl _ _ _ r j
  · exact chunk_at x17 x18 h 6 _ _ rfl rfl _ _ _ r j
  · exact chunk_at x17 x18 h 7 _ _ rfl rfl _ _ _ r j
  · exact chunk_at x17 x18 h 8 _ _ rfl rfl _ _ _ r j
  · exact chunk_at x17 x18 h 9 _ _ rfl rfl _ _ _ r j
  · exact chunk_at x17 x18 h 10 _ _ rfl rfl _ _ _ r j

/-- The mixed row of a latent row: from the row's branch outputs and gates. -/
def mixRow (a gf gb hf hb zr zo : Fin 512 → EReal) (sa sg sm : Fin 1024 → EReal) (gn mn : Fin 128 → EReal) (wa wg wm : Fin 512 → Fin 1024 → EReal) : Fin 1024 → EReal :=
  mixed a (fun k => headn (fun l => gf l + gb l) gn k * zr k) (fun k => headn (fun l => hf l + hb l) mn k * zo k) wa wg wm sa sg sm

/-- The whole row: the residual after the merge, its modulated norm, the feed-forward. -/
def fullRow (s : EReal → EReal) (x : Fin 1024 → EReal) (y : Fin 1024 → EReal) (wo : Fin 1024 → Fin 1024 → EReal) (m5 m6 m7 m8 gain : Fin 1024 → EReal)
    (w : Fin 1024 → Fin 5632 → EReal) (v : Fin 2816 → Fin 1024 → EReal) : Fin 1024 → EReal :=
  outRow s (resid x m5 y wo) m8 (hrow (resid x m5 y wo) gain m7 m6) w v

section Point
variable (i : grid0.Coords) (x0 : Vec Ideal S512x1024 .f32) (x1 : Vec Ideal S512x512 .bf16) (x2 : Vec Ideal S512x512 .bf16) (x3 : Vec Ideal S512x512 .bf16) (x4 : Vec Ideal S512x512 .bf16) (x5 : Vec Ideal S512x512 .bf16) (x6 : Vec Ideal S512x512 .bf16) (x7 : Vec Ideal S512x512 .bf16) (x8 : Vec Ideal S512x3072 .bf16) (x9 : Vec Ideal S9x5x1024 .f32) (x10 : Vec Ideal S1x128 .f32) (x11 : Vec Ideal S1x128 .f32) (x12 : Vec Ideal S512x1024 .bf16) (x13 : Vec Ideal S512x1024 .bf16) (x14 : Vec Ideal S512x1024 .bf16) (x15 : Vec Ideal S1024x1024 .bf16) (x16 : Vec Ideal S1x1024 .f32) (x17 : Vec Ideal S1024x5632 .bf16) (x18 : Vec Ideal S2816x1024 .bf16)

theorem mixT_at (r : Fin 512) (j : Fin 1024) :
    mixT x1 x2 x3 x4 x5 x6 x7 x8 x10 x11 x12 x13 x14 (ix2 r j)
      = mixRow (fun k => x1 (ix2 r k)) (fun k => x2 (ix2 r k)) (fun k => x3 (ix2 r k)) (fun k => x4 (ix2 r k)) (fun k => x5 (ix2 r k)) (fun k => x6 (ix2 r k)) (fun k => x7 (ix2 r k))
        (fun j => x8 (ix2 r ⟨0 + j.val, by omega⟩)) (fun j => x8 (ix2 r ⟨1024 + j.val, by omega⟩)) (fun j => x8 (ix2 r ⟨2048 + j.val, by omega⟩))
        (fun l => x10 (ix2 0 l)) (fun l => x11 (ix2 0 l)) (fun k j => x12 (ix2 k j)) (fun k j => x13 (ix2 k j)) (fun k j => x14 (ix2 k j)) j := by
  unfold mixT
  rw [pay16_at]
  unfold mixRow
  have e0 : (fun j => gateAt x8 ![0, 0] inb_S512x3072_S512x1024_0_0 (ix2 r j)) = fun j : Fin 1024 => x8 (ix2 r ⟨0 + j.val, by omega⟩) := funext fun j => gate_rd x8 0 _ (by omega) r j
  have e1 : (fun j => gateAt x8 ![0, 1024] inb_S512x3072_S512x1024_0_1024 (ix2 r j)) = fun j : Fin 1024 => x8 (ix2 r ⟨1024 + j.val, by omega⟩) := funext fun j => gate_rd x8 1024 _ (by omega) r j
  have e2 : (fun j => gateAt x8 ![0, 2048] inb_S512x3072_S512x1024_0_2048 (ix2 r j)) = fun j : Fin 1024 => x8 (ix2 r ⟨2048 + j.val, by omega⟩) := funext fun j => gate_rd x8 2048 _ (by omega) r j
  rw [e0, e1, e2]
  simp only [pay9_at, pay14_at]

/-- What a grid point stores, at one row and lane: that row's value. -/
theorem stored (b : Fin 5) (hb : (i 0).val = b.val) (r : Fin 512) (j : Fin 1024) :
    k0_pay1 (F := Ideal) (resT i x0 x1 x2 x3 x4 x5 x6 x7 x8 x9 x10 x11 x12 x13 x14 x15) (gateT i x9) (k0_pay42 (F := Ideal))
      (accT x17 x18 (normedT i x0 x1 x2 x3 x4 x5 x6 x7 x8 x9 x10 x11 x12 x13 x14 x15 x16)) (ix2 r j)
      = fullRow siluK (fun j => x0 (ix2 r j))
        (mixRow (fun k => x1 (ix2 r k)) (fun k => x2 (ix2 r k)) (fun k => x3 (ix2 r k)) (fun k => x4 (ix2 r k)) (fun k => x5 (ix2 r k)) (fun k => x6 (ix2 r k)) (fun k => x7 (ix2 r k))
          (fun j => x8 (ix2 r ⟨0 + j.val, by omega⟩)) (fun j => x8 (ix2 r ⟨1024 + j.val, by omega⟩)) (fun j => x8 (ix2 r ⟨2048 + j.val, by omega⟩))
          (fun l => x10 (ix2 0 l)) (fun l => x11 (ix2 0 l)) (fun k j => x12 (ix2 k j)) (fun k j => x13 (ix2 k j)) (fun k j => x14 (ix2 k j)))
        (fun k j => x15 (ix2 k j)) (fun j => x9 (ix3 5 b j)) (fun j => x9 (ix3 6 b j)) (fun j => x9 (ix3 7 b j)) (fun j => x9 (ix3 8 b j)) (fun j => x16 (ix2 0 j))
        (fun k f => x17 (ix2 k f)) (fun f j => x18 (ix2 f j)) j := by
  have hw : (Scalar.indexCast (BitVec.ofNat 32 (i 0).val) : Index).toNat = b.val := by
    rw [hb]
    show (BitVec.ofNat 32 b.val).toNat = b.val
    rw [BitVec.toNat_ofNat]
    have := b.isLt
    omega
  have m5 : ∀ j, rowAt x9 (k0_off1 i) (k0_off1_inb i) (ix3 0 0 j) = x9 (ix3 5 b j) := row_rd x9 _ _ 5 b rfl hw rfl
  have m6 : ∀ j, rowAt x9 (k0_off2 i) (k0_off2_inb i) (ix3 0 0 j) = x9 (ix3 6 b j) := row_rd x9 _ _ 6 b rfl hw rfl
  have m7 : ∀ j, rowAt x9 (k0_off3 i) (k0_off3_inb i) (ix3 0 0 j) = x9 (ix3 7 b j) := row_rd x9 _ _ 7 b rfl hw rfl
  have m8 : ∀ j, rowAt x9 (k0_off4 i) (k0_off4_inb i) (ix3 0 0 j) = x9 (ix3 8 b j) := row_rd x9 _ _ 8 b rfl hw rfl
  have hres : ∀ j, resT i x0 x1 x2 x3 x4 x5 x6 x7 x8 x9 x10 x11 x12 x13 x14 x15 (ix2 r j) = resid (fun j => x0 (ix2 r j)) (fun j => x9 (ix3 5 b j))
      (mixRow (fun k => x1 (ix2 r k)) (fun k => x2 (ix2 r k)) (fun k => x3 (ix2 r k)) (fun k => x4 (ix2 r k)) (fun k => x5 (ix2 r k)) (fun k => x6 (ix2 r k)) (fun k => x7 (ix2 r k))
          (fun j => x8 (ix2 r ⟨0 + j.val, by omega⟩)) (fun j => x8 (ix2 r ⟨1024 + j.val, by omega⟩)) (fun j => x8 (ix2 r ⟨2048 + j.val, by omega⟩))
          (fun l => x10 (ix2 0 l)) (fun l => x11 (ix2 0 l)) (fun k j => x12 (ix2 k j)) (fun k j => x13 (ix2 k j)) (fun k j => x14 (ix2 k j))) (fun k j => x15 (ix2 k j)) j := by
    intro j
    unfold resT
    rw [pay20_at]
    simp only [m5, mixT_at]
  have hnorm : ∀ j, normedT i x0 x1 x2 x3 x4 x5 x6 x7 x8 x9 x10 x11 x12 x13 x14 x15 x16 (ix2 r j)
      = hrow (fun j => resT i x0 x1 x2 x3 x4 x5 x6 x7 x8 x9 x10 x11 x12 x13 x14 x15 (ix2 r j)) (fun j => x16 (ix2 0 j)) (fun j => x9 (ix3 7 b j)) (fun j => x9 (ix3 6 b j)) j := by
    intro j
    unfold normedT
    rw [pay21_at]
    simp only [m6, m7]
    rfl
  have hgate : gateT i x9 (ix2 r j) = x9 (ix3 8 b j) := by
    unfold gateT
    rw [pay22_at, m8]
  refine (out_at (resT i x0 x1 x2 x3 x4 x5 x6 x7 x8 x9 x10 x11 x12 x13 x14 x15) (gateT i x9) _ r j).trans ?_
  rw [accT_at, hgate]
  simp only [hnorm, hres]
  rfl

end Point

/-- The output's row and lane, from the whole arrays the pipeline reads: row `n` of sample `b` is row `b * 8448 + 256 + n` of the joined streams. -/
def outFn (X0 : S33792x1024.Idx → EReal) (X1 X2 X3 X4 X5 X6 X7 : S33792x512.Idx → EReal) (X8 : S33792x3072.Idx → EReal) (X9 : S9x5x1024.Idx → EReal)
    (X10 X11 : S1x128.Idx → EReal) (X12 X13 X14 : S512x1024.Idx → EReal) (X15 : S1024x1024.Idx → EReal) (X16 : S1x1024.Idx → EReal)
    (X17 : S1024x5632.Idx → EReal) (X18 : S2816x1024.Idx → EReal) (R : Fin 33792) (b : Fin 5) (j : Fin 1024) : EReal :=
  fullRow siluK (fun j => X0 (ix2 R j))
    (mixRow (fun k => X1 (ix2 R k)) (fun k => X2 (ix2 R k)) (fun k => X3 (ix2 R k)) (fun k => X4 (ix2 R k)) (fun k => X5 (ix2 R k)) (fun k => X6 (ix2 R k)) (fun k => X7 (ix2 R k))
      (fun j => X8 (ix2 R ⟨0 + j.val, by omega⟩)) (fun j => X8 (ix2 R ⟨1024 + j.val, by omega⟩)) (fun j => X8 (ix2 R ⟨2048 + j.val, by omega⟩))
      (fun l => X10 (ix2 0 l)) (fun l => X11 (ix2 0 l)) (fun k j => X12 (ix2 k j)) (fun k j => X13 (ix2 k j)) (fun k j => X14 (ix2 k j)))
    (fun k j => X15 (ix2 k j)) (fun j => X9 (ix3 5 b j)) (fun j => X9 (ix3 6 b j)) (fun j => X9 (ix3 7 b j)) (fun j => X9 (ix3 8 b j)) (fun j => X16 (ix2 0 j))
    (fun k f => X17 (ix2 k f)) (fun f j => X18 (ix2 f j)) j

/-- The output array's row belongs to this row of the joined streams … -/
def rowOf (i : S32768x1024.Idx) : Fin 33792 := ⟨(i 0).val / 8192 * 8448 + 256 + (i 0).val % 8192, by have : (i 0).val < 32768 := (i 0).isLt; omega⟩
/-- … and to this sample. -/
def sampOf (i : S32768x1024.Idx) : Fin 5 := ⟨(i 0).val / 8192, by have : (i 0).val < 32768 := (i 0).isLt; omega⟩

/-- What the pipeline leaves in its block at a grid point. -/
theorem point (m : (ℓ : Loc nD τ sig) → Buf (Elt Ideal) ℓ) (c : Dev nD) (t : Fin cfg0.N) (r : Fin 512) (j : Fin 1024) (b : Fin 5) (hb : t.val / 16 = b.val) :
    (dats m 0 c).after 19 t (ix2 r j) = outFn (V m c main_v5) (V m c main_v7) (V m c main_v9) (V m c main_v11) (V m c main_v13) (V m c main_v15) (V m c main_v22) (V m c main_v31)
      (V m c main_v4) (V m c main_v34) (V m c main_v35) (V m c main_v36) (V m c main_v37) (V m c main_v38) (V m c main_v39) (V m c main_v40) (V m c main_v41) (V m c main_v42) (V m c main_v43)
      ⟨base t.val + r.val, base_lt t r⟩ b j := by
  rw [after0_19]
  unfold outsAt0
  rw [out_eq]
  refine (stored (grid0.coords t) _ _ _ _ _ _ _ _ _ _ _ _ _ _ _ _ _ _ _ b (((idx_val t).2.2.2.2.2.2.2.2.2.2.2.2.2.2.2.2.2.2.2.2).trans hb) r j).trans ?_
  unfold outFn
  simp only [blk0, blk1, blk2, blk3, blk4, blk5, blk6, blk7, blk8, blk9, blk10, blk11, blk12, blk13, blk14, blk15, blk16, blk17, blk18]

/-- The output array after the run. -/
theorem final (m : (ℓ : Loc nD τ sig) → Buf (Elt Ideal) ℓ) (c : Dev nD) :
    (dats m 0 c).arrAt 19 cfg0.N = fun i => outFn (V m c main_v5) (V m c main_v7) (V m c main_v9) (V m c main_v11) (V m c main_v13) (V m c main_v15) (V m c main_v22) (V m c main_v31)
      (V m c main_v4) (V m c main_v34) (V m c main_v35) (V m c main_v36) (V m c main_v37) (V m c main_v38) (V m c main_v39) (V m c main_v40) (V m c main_v41) (V m c main_v42) (V m c main_v43)
      (rowOf i) (sampOf i) (i 1) := by
  have hG : ∀ (t : Fin cfg0.N) (y : S512x1024.Idx) (i : S32768x1024.Idx), (i 0).val = t.val * 512 + (y 0).val → (i 1).val = (y 1).val →
      (dats m 0 c).after 19 t y = outFn (V m c main_v5) (V m c main_v7) (V m c main_v9) (V m c main_v11) (V m c main_v13) (V m c main_v15) (V m c main_v22) (V m c main_v31)
      (V m c main_v4) (V m c main_v34) (V m c main_v35) (V m c main_v36) (V m c main_v37) (V m c main_v38) (V m c main_v39) (V m c main_v40) (V m c main_v41) (V m c main_v42) (V m c main_v43)
      (rowOf i) (sampOf i) (i 1) := by
    intro t y i e0 e1
    have h64 := lt64 t
    have hy : (y 0).val < 512 := (y 0).isLt
    have ey : y = ix2 (⟨(y 0).val, hy⟩ : Fin 512) (i 1) := funext fun a => Fin.ext (by
      match a with
      | ⟨0, _⟩ => rfl
      | ⟨1, _⟩ => exact e1.symm)
    have eR : rowOf i = ⟨base t.val + (y 0).val, base_lt t ⟨(y 0).val, hy⟩⟩ := Fin.ext (by
      show (i 0).val / 8192 * 8448 + 256 + (i 0).val % 8192 = t.val / 16 * 8448 + 256 + t.val % 16 * 512 + (y 0).val
      omega)
    have eb : t.val / 16 = (sampOf i).val := by
      show t.val / 16 = (i 0).val / 8192
      omega
    rw [eR]
    exact (congrArg _ ey).trans (point m c t ⟨(y 0).val, hy⟩ (i 1) (sampOf i) eb)
  refine (dats m 0 c).arrAt_eq_of_covers 19 _ (by decide +kernel) fun t hf y => ?_
  blk_simp
  refine hG t _ _ ?_ ?_ <;> blk_simp [idx_val t]

end Cert.Merge
end
-- ==== Proof.MergeHost.lean ====
module
public import proofs.«01_k».proof.Proof.MergePoint
public import Idealize.ShloMosaic.Lib.Claim
@[expose] public section
set_option maxRecDepth 16384
noncomputable section
open Idealize.ShloMosaic Idealize.ShloMosaic.TcCoe Idealize.SL.Sem
open Idealize.ShloMosaic.Pipeline (Dat)

namespace Cert.Merge
open Cert.Kernel2Ideal Cert.Kernel2Ideal.Gen

/-- Row `s` of sample `b` in a joined stream. -/
abbrev joined (b : Fin 4) (s : Fin 8448) : Fin 33792 := ⟨b.val * 8448 + s.val, by omega⟩

variable (σ : Valuation τ sig (Elt Ideal))

/-- The residual stream. -/
theorem host_x (b : Fin 4) (s : Fin 8448) (j : Fin 1024) :
    (StableHlo.after (hostOps0) σ (Proc.devRef .tc main_v5) : S33792x1024.Idx → EReal) (ix2 (joined b s) j) = (σ (Proc.devRef .tc main_arg0) : S4x8448x1024.Idx → EReal) (ix3 b s j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The attention's output. -/
theorem host_att (b : Fin 4) (s : Fin 8448) (j : Fin 512) :
    (StableHlo.after (hostOps0) σ (Proc.devRef .tc main_v7) : S33792x512.Idx → EReal) (ix2 (joined b s) j) = (σ (Proc.devRef .tc main_arg1) : S4x8448x512.Idx → EReal) (ix3 b s j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The first forward branch output. -/
theorem host_h2 (b : Fin 4) (s : Fin 8448) (j : Fin 512) :
    (StableHlo.after (hostOps0) σ (Proc.devRef .tc main_v9) : S33792x512.Idx → EReal) (ix2 (joined b s) j) = (σ (Proc.devRef .tc main_arg2) : S4x8448x4x128.Idx → EReal) (ix4 b s ⟨j.val / 128, by omega⟩ ⟨j.val % 128, by omega⟩) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The first backward branch output. -/
theorem host_h3 (b : Fin 4) (s : Fin 8448) (j : Fin 512) :
    (StableHlo.after (hostOps0) σ (Proc.devRef .tc main_v11) : S33792x512.Idx → EReal) (ix2 (joined b s) j) = (σ (Proc.devRef .tc main_arg3) : S4x8448x4x128.Idx → EReal) (ix4 b s ⟨j.val / 128, by omega⟩ ⟨j.val % 128, by omega⟩) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The second forward branch output. -/
theorem host_h4 (b : Fin 4) (s : Fin 8448) (j : Fin 512) :
    (StableHlo.after (hostOps0) σ (Proc.devRef .tc main_v13) : S33792x512.Idx → EReal) (ix2 (joined b s) j) = (σ (Proc.devRef .tc main_arg4) : S4x8448x4x128.Idx → EReal) (ix4 b s ⟨j.val / 128, by omega⟩ ⟨j.val % 128, by omega⟩) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The second backward branch output. -/
theorem host_h5 (b : Fin 4) (s : Fin 8448) (j : Fin 512) :
    (StableHlo.after (hostOps0) σ (Proc.devRef .tc main_v15) : S33792x512.Idx → EReal) (ix2 (joined b s) j) = (σ (Proc.devRef .tc main_arg5) : S4x8448x4x128.Idx → EReal) (ix4 b s ⟨j.val / 128, by omega⟩ ⟨j.val % 128, by omega⟩) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The first branch's gate, through the SiLU. -/
theorem host_gr (b : Fin 4) (s : Fin 8448) (j : Fin 512) :
    (StableHlo.after (hostOps0) σ (Proc.devRef .tc main_v22) : S33792x512.Idx → EReal) (ix2 (joined b s) j) = siluK ((σ (Proc.devRef .tc main_arg6) : S4x8448x512.Idx → EReal) (ix3 b s j)) := by
  simp only [hostOps0, List.cons_append, List.nil_append]
  entry_read
  try simp only [StableHlo.TRef.toBuf, StableHlo.TRef.ofBuf, cast_cast, cast_eq, id]
  pointwise
  have e1 : (b.val * 8448 + s.val) / 8448 = b.val := by omega
  have e2 : (b.val * 8448 + s.val) % 8448 = s.val := by omega
  simp only [e1, e2]
  rfl

/-- The second branch's gate, through the logistic. -/
theorem host_mo (b : Fin 4) (s : Fin 8448) (j : Fin 512) :
    (StableHlo.after (hostOps0) σ (Proc.devRef .tc main_v31) : S33792x512.Idx → EReal) (ix2 (joined b s) j) = sigK ((σ (Proc.devRef .tc main_arg7) : S4x8448x512.Idx → EReal) (ix3 b s j)) := by
  simp only [hostOps0, List.cons_append, List.nil_append]
  entry_read
  try simp only [StableHlo.TRef.toBuf, StableHlo.TRef.ofBuf, cast_cast, cast_eq, id]
  pointwise
  have e1 : (b.val * 8448 + s.val) / 8448 = b.val := by omega
  have e2 : (b.val * 8448 + s.val) % 8448 = s.val := by omega
  simp only [e1, e2]
  rfl

/-- The operations that lay the gates' rows out. -/
abbrev opsA : List (HloOp τ sig (Elt Ideal)) := (hostOps0 (F := Ideal)).take 3
/-- The operations that join the gates. -/
abbrev opsB : List (HloOp τ sig (Elt Ideal)) := ((hostOps0 (F := Ideal)).drop 3).take 2
/-- The other operations. -/
abbrev opsC : List (HloOp τ sig (Elt Ideal)) := (hostOps0 (F := Ideal)).drop 5

theorem ops_split : (hostOps0 (F := Ideal)) = opsA ++ (opsB ++ opsC) := rfl

/-- The joined gates stay as they are. -/
theorem gates_kept : StableHlo.after opsC σ (Proc.devRef .tc main_v4) = σ (Proc.devRef .tc main_v4) := by
  simp only [opsC, hostOps0, List.drop_succ_cons, List.drop_zero]
  entry_read
  try rfl

/-- The gates joined. -/
theorem gates_joined : (StableHlo.after opsB σ (Proc.devRef .tc main_v4) : S33792x3072.Idx → EReal) =
    concatenate S33792x3072 1 [⟨S33792x1024, (σ (Proc.devRef .tc main_v0) : S33792x1024.Idx → EReal)⟩, ⟨S33792x1024, (σ (Proc.devRef .tc main_v1) : S33792x1024.Idx → EReal)⟩, ⟨S33792x1024, (σ (Proc.devRef .tc main_v2) : S33792x1024.Idx → EReal)⟩] concatenates_S33792x1024_S33792x1024_S33792x1024_S33792x3072_d1 := by
  simp only [opsB, hostOps0, List.drop_succ_cons, List.drop_zero, List.take_succ_cons, List.take_zero, StableHlo.after_cons, StableHlo.after_nil]
  rw [StableHlo.unary_result, StableHlo.nary_result]
  rfl

/-- The first gate's rows. -/
theorem laid8 (b : Fin 4) (s : Fin 8448) (j : Fin 1024) :
    (StableHlo.after opsA σ (Proc.devRef .tc main_v0) : S33792x1024.Idx → EReal) (ix2 (joined b s) j) = (σ (Proc.devRef .tc main_arg8) : S4x8448x1024.Idx → EReal) (ix3 b s j) := by
  simp only [opsA, hostOps0, List.take_succ_cons, List.take_zero]
  entry_read
  try simp only [StableHlo.TRef.toBuf, StableHlo.TRef.ofBuf, cast_cast, cast_eq, id]
  pointwise
  all_goals try exact congrArg _ (by blk_ext <;> omega)

/-- The first output gate. -/
theorem host_g8 (b : Fin 4) (s : Fin 8448) (j : Fin 1024) :
    (StableHlo.after (hostOps0) σ (Proc.devRef .tc main_v4) : S33792x3072.Idx → EReal) (ix2 (joined b s) ⟨0 + j.val, by omega⟩) = (σ (Proc.devRef .tc main_arg8) : S4x8448x1024.Idx → EReal) (ix3 b s j) := by
  rw [ops_split, StableHlo.after_append, StableHlo.after_append, gates_kept, gates_joined]
  refine Eq.trans ?_ (laid8 σ b s j)
  generalize StableHlo.after opsA σ = τ'
  pointwise
  first
    | done
    | (rw [dif_neg (by omega), dif_neg (by omega)]
       exact congrArg (fun n : Fin 1024 => (τ' (Proc.devRef .tc main_v0) : S33792x1024.Idx → EReal) (ix2 (joined b s) n)) (Fin.ext (by show 0 + j.val - 1024 - 1024 = j.val; omega)))

/-- The second gate's rows. -/
theorem laid9 (b : Fin 4) (s : Fin 8448) (j : Fin 1024) :
    (StableHlo.after opsA σ (Proc.devRef .tc main_v1) : S33792x1024.Idx → EReal) (ix2 (joined b s) j) = (σ (Proc.devRef .tc main_arg9) : S4x8448x1024.Idx → EReal) (ix3 b s j) := by
  simp only [opsA, hostOps0, List.take_succ_cons, List.take_zero]
  entry_read
  try simp only [StableHlo.TRef.toBuf, StableHlo.TRef.ofBuf, cast_cast, cast_eq, id]
  pointwise
  all_goals try exact congrArg _ (by blk_ext <;> omega)

/-- The second output gate. -/
theorem host_g9 (b : Fin 4) (s : Fin 8448) (j : Fin 1024) :
    (StableHlo.after (hostOps0) σ (Proc.devRef .tc main_v4) : S33792x3072.Idx → EReal) (ix2 (joined b s) ⟨1024 + j.val, by omega⟩) = (σ (Proc.devRef .tc main_arg9) : S4x8448x1024.Idx → EReal) (ix3 b s j) := by
  rw [ops_split, StableHlo.after_append, StableHlo.after_append, gates_kept, gates_joined]
  refine Eq.trans ?_ (laid9 σ b s j)
  generalize StableHlo.after opsA σ = τ'
  pointwise
  first
    | done
    | (rw [dif_neg (by omega), dif_neg (by omega)]
       exact congrArg (fun n : Fin 1024 => (τ' (Proc.devRef .tc main_v1) : S33792x1024.Idx → EReal) (ix2 (joined b s) n)) (Fin.ext (by show 1024 + j.val - 1024 - 1024 = j.val; omega)))

/-- The third gate's rows. -/
theorem laid10 (b : Fin 4) (s : Fin 8448) (j : Fin 1024) :
    (StableHlo.after opsA σ (Proc.devRef .tc main_v2) : S33792x1024.Idx → EReal) (ix2 (joined b s) j) = (σ (Proc.devRef .tc main_arg10) : S4x8448x1024.Idx → EReal) (ix3 b s j) := by
  simp only [opsA, hostOps0, List.take_succ_cons, List.take_zero]
  entry_read
  try simp only [StableHlo.TRef.toBuf, StableHlo.TRef.ofBuf, cast_cast, cast_eq, id]
  pointwise
  all_goals try exact congrArg _ (by blk_ext <;> omega)

/-- The third output gate. -/
theorem host_g10 (b : Fin 4) (s : Fin 8448) (j : Fin 1024) :
    (StableHlo.after (hostOps0) σ (Proc.devRef .tc main_v4) : S33792x3072.Idx → EReal) (ix2 (joined b s) ⟨2048 + j.val, by omega⟩) = (σ (Proc.devRef .tc main_arg10) : S4x8448x1024.Idx → EReal) (ix3 b s j) := by
  rw [ops_split, StableHlo.after_append, StableHlo.after_append, gates_kept, gates_joined]
  refine Eq.trans ?_ (laid10 σ b s j)
  generalize StableHlo.after opsA σ = τ'
  pointwise
  first
    | done
    | (rw [dif_neg (by omega), dif_neg (by omega)]
       exact congrArg (fun n : Fin 1024 => (τ' (Proc.devRef .tc main_v2) : S33792x1024.Idx → EReal) (ix2 (joined b s) n)) (Fin.ext (by show 2048 + j.val - 1024 - 1024 = j.val; omega)))

/-- The modulation rows of a sample. -/
theorem host_mod (g : Fin 9) (b : Fin 4) (j : Fin 1024) :
    (StableHlo.after (hostOps0) σ (Proc.devRef .tc main_v34) : S9x5x1024.Idx → EReal) (ix3 g ⟨b.val, by omega⟩ j) = (σ (Proc.devRef .tc main_arg11) : S4x9x1024.Idx → EReal) (ix3 b g j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The first head gain. -/
theorem host_gn (l : Fin 128) :
    (StableHlo.after (hostOps0) σ (Proc.devRef .tc main_v35) : S1x128.Idx → EReal) (ix2 0 l) = (σ (Proc.devRef .tc main_arg13) : S128.Idx → EReal) (ix1 l) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The second head gain. -/
theorem host_mn (l : Fin 128) :
    (StableHlo.after (hostOps0) σ (Proc.devRef .tc main_v36) : S1x128.Idx → EReal) (ix2 0 l) = (σ (Proc.devRef .tc main_arg14) : S128.Idx → EReal) (ix1 l) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- The norm's gain. -/
theorem host_gain (l : Fin 1024) :
    (StableHlo.after (hostOps0) σ (Proc.devRef .tc main_v41) : S1x1024.Idx → EReal) (ix2 0 l) = (σ (Proc.devRef .tc main_arg19) : S1024.Idx → EReal) (ix1 l) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w15 (k : Fin 512) (j : Fin 1024) :
    (StableHlo.after (hostOps0) σ (Proc.devRef .tc main_v37) : S512x1024.Idx → EReal) (ix2 k j) = (σ (Proc.devRef .tc main_arg15) : S512x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w16 (k : Fin 512) (j : Fin 1024) :
    (StableHlo.after (hostOps0) σ (Proc.devRef .tc main_v38) : S512x1024.Idx → EReal) (ix2 k j) = (σ (Proc.devRef .tc main_arg16) : S512x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w17 (k : Fin 512) (j : Fin 1024) :
    (StableHlo.after (hostOps0) σ (Proc.devRef .tc main_v39) : S512x1024.Idx → EReal) (ix2 k j) = (σ (Proc.devRef .tc main_arg17) : S512x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w18 (k : Fin 1024) (j : Fin 1024) :
    (StableHlo.after (hostOps0) σ (Proc.devRef .tc main_v40) : S1024x1024.Idx → EReal) (ix2 k j) = (σ (Proc.devRef .tc main_arg18) : S1024x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w20 (k : Fin 1024) (j : Fin 5632) :
    (StableHlo.after (hostOps0) σ (Proc.devRef .tc main_v42) : S1024x5632.Idx → EReal) (ix2 k j) = (σ (Proc.devRef .tc main_arg20) : S1024x5632.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

/-- A weight. -/
theorem host_w21 (k : Fin 2816) (j : Fin 1024) :
    (StableHlo.after (hostOps0) σ (Proc.devRef .tc main_v43) : S2816x1024.Idx → EReal) (ix2 k j) = (σ (Proc.devRef .tc main_arg21) : S2816x1024.Idx → EReal) (ix2 k j) := by
  simp only [hostOps0, List.cons_append, List.nil_append]
  entry_read
  try simp only [StableHlo.TRef.toBuf, StableHlo.TRef.ofBuf, cast_cast, cast_eq, id]
  pointwise
  all_goals try exact congrArg _ (by blk_ext <;> omega)

end Cert.Merge
end
-- ==== Proof.MergeFinal.lean ====
module
public import proofs.«01_k».proof.Proof.MergeHost
public import proofs.«01_k».proof.Proof.MergePre
@[expose] public section
set_option maxRecDepth 16384
noncomputable section
open Idealize.ShloMosaic Idealize.ShloMosaic.TcCoe Idealize.SL.Sem

namespace Cert.Merge
open Cert.Reference2Ideal.Read Cert.Reference2Ideal.Merge Cert.Kernel2Ideal Cert.Kernel2Ideal.Gen Cert.Kernel2Ideal.Merge

/-- The output's value from the values of the arrays it reads. -/
theorem outFn_of (X0 : S33792x1024.Idx → EReal) (X1 X2 X3 X4 X5 X6 X7 : S33792x512.Idx → EReal) (X8 : S33792x3072.Idx → EReal) (X9 : S9x5x1024.Idx → EReal)
    (X10 X11 : S1x128.Idx → EReal) (X12 X13 X14 : S512x1024.Idx → EReal) (X15 : S1024x1024.Idx → EReal) (X16 : S1x1024.Idx → EReal)
    (X17 : S1024x5632.Idx → EReal) (X18 : S2816x1024.Idx → EReal) (R : Fin 33792) (b : Fin 5) (j : Fin 1024)
    (a0 : Fin 1024 → EReal) (a1 a2 a3 a4 a5 a6 a7 : Fin 512 → EReal) (g0 g1 g2 : Fin 1024 → EReal) (m5 m6 m7 m8 : Fin 1024 → EReal) (n0 n1 : Fin 128 → EReal)
    (w0 w1 w2 : Fin 512 → Fin 1024 → EReal) (wo : Fin 1024 → Fin 1024 → EReal) (gain : Fin 1024 → EReal) (w : Fin 1024 → Fin 5632 → EReal) (v : Fin 2816 → Fin 1024 → EReal)
    (H0 : ∀ j, X0 (ix2 R j) = a0 j) (H1 : ∀ j, X1 (ix2 R j) = a1 j) (H2 : ∀ j, X2 (ix2 R j) = a2 j) (H3 : ∀ j, X3 (ix2 R j) = a3 j) (H4 : ∀ j, X4 (ix2 R j) = a4 j) (H5 : ∀ j, X5 (ix2 R j) = a5 j) (H6 : ∀ j, X6 (ix2 R j) = a6 j) (H7 : ∀ j, X7 (ix2 R j) = a7 j)
    (G0 : ∀ j : Fin 1024, X8 (ix2 R ⟨0 + j.val, by omega⟩) = g0 j) (G1 : ∀ j : Fin 1024, X8 (ix2 R ⟨1024 + j.val, by omega⟩) = g1 j) (G2 : ∀ j : Fin 1024, X8 (ix2 R ⟨2048 + j.val, by omega⟩) = g2 j)
    (M5 : ∀ j, X9 (ix3 5 b j) = m5 j) (M6 : ∀ j, X9 (ix3 6 b j) = m6 j) (M7 : ∀ j, X9 (ix3 7 b j) = m7 j) (M8 : ∀ j, X9 (ix3 8 b j) = m8 j)
    (N0 : ∀ l, X10 (ix2 0 l) = n0 l) (N1 : ∀ l, X11 (ix2 0 l) = n1 l) (W0 : ∀ k j, X12 (ix2 k j) = w0 k j) (W1 : ∀ k j, X13 (ix2 k j) = w1 k j) (W2 : ∀ k j, X14 (ix2 k j) = w2 k j)
    (WO : ∀ k j, X15 (ix2 k j) = wo k j) (GA : ∀ j, X16 (ix2 0 j) = gain j) (WW : ∀ k f, X17 (ix2 k f) = w k f) (VV : ∀ f j, X18 (ix2 f j) = v f j) :
    outFn X0 X1 X2 X3 X4 X5 X6 X7 X8 X9 X10 X11 X12 X13 X14 X15 X16 X17 X18 R b j
      = fullRow siluK a0 (mixRow a1 a2 a3 a4 a5 a6 a7 g0 g1 g2 n0 n1 w0 w1 w2) wo m5 m6 m7 m8 gain w v j := by
  unfold outFn
  simp only [H0, H1, H2, H3, H4, H5, H6, H7, G0, G1, G2, M5, M6, M7, M8, N0, N1, W0, W1, W2, WO, GA, WW, VV]

/-- Row by row the kernel's value is the reference's, from the same arrays. -/
theorem value_eq (x0 : S4x8448x1024.Idx → EReal) (x1 : S4x8448x512.Idx → EReal) (x2 : S4x8448x4x128.Idx → EReal) (x3 : S4x8448x4x128.Idx → EReal) (x4 : S4x8448x4x128.Idx → EReal) (x5 : S4x8448x4x128.Idx → EReal) (x6 : S4x8448x512.Idx → EReal) (x7 : S4x8448x512.Idx → EReal) (x8 : S4x8448x1024.Idx → EReal) (x9 : S4x8448x1024.Idx → EReal) (x10 : S4x8448x1024.Idx → EReal) (x11 : S4x9x1024.Idx → EReal) (x13 : S128.Idx → EReal) (x14 : S128.Idx → EReal) (x15 : S512x1024.Idx → EReal) (x16 : S512x1024.Idx → EReal) (x17 : S512x1024.Idx → EReal) (x18 : S1024x1024.Idx → EReal) (x19 : S1024.Idx → EReal) (x20 : S1024x5632.Idx → EReal) (x21 : S2816x1024.Idx → EReal) (b : Fin 4) (n : Fin 8192) (j : Fin 1024)
    (hg : ∀ k, x6 (ix3 b (lat n) k) ≠ ⊥) (ha : ∀ f, (val_main_v93 (F := Ideal) x0 x1 x2 x3 x4 x5 x6 x7 x8 x9 x10 x11 x13 x14 x15 x16 x17 x18 x19 x20 : Cert.Reference2Ideal.S4x8192x2816.Idx → EReal) (ix3 b n f) ≠ ⊥) :
    fullRow siluK (fun j => x0 (ix3 b (lat n) j)) (mixRow (fun j => x1 (ix3 b (lat n) j))
      (fun j => x2 (ix4 b (lat n) ⟨j.val / 128, by omega⟩ ⟨j.val % 128, by omega⟩))
      (fun j => x3 (ix4 b (lat n) ⟨j.val / 128, by omega⟩ ⟨j.val % 128, by omega⟩))
      (fun j => x4 (ix4 b (lat n) ⟨j.val / 128, by omega⟩ ⟨j.val % 128, by omega⟩))
      (fun j => x5 (ix4 b (lat n) ⟨j.val / 128, by omega⟩ ⟨j.val % 128, by omega⟩))
      (fun j => siluK (x6 (ix3 b (lat n) j))) (fun j => sigK (x7 (ix3 b (lat n) j)))
      (fun j => x8 (ix3 b (lat n) j)) (fun j => x9 (ix3 b (lat n) j)) (fun j => x10 (ix3 b (lat n) j)) (fun l => x13 (ix1 l)) (fun l => x14 (ix1 l))
      (fun k j => x15 (ix2 k j)) (fun k j => x16 (ix2 k j)) (fun k j => x17 (ix2 k j))) (fun k j => x18 (ix2 k j))
      (fun j => x11 (ix3 b 5 j)) (fun j => x11 (ix3 b 6 j)) (fun j => x11 (ix3 b 7 j)) (fun j => x11 (ix3 b 8 j)) (fun j => x19 (ix1 j))
      (fun k j => x20 (ix2 k j)) (fun k j => x21 (ix2 k j)) j
      = (val_main_v100 (F := Ideal) x0 x1 x2 x3 x4 x5 x6 x7 x8 x9 x10 x11 x13 x14 x15 x16 x17 x18 x19 x20 x21 : Cert.Reference2Ideal.S4x8192x1024.Idx → EReal) (ix3 b n j) := by
  rw [ffn_ref]
  unfold fullRow
  have ey : mixRow (fun j => x1 (ix3 b (lat n) j))
      (fun j => x2 (ix4 b (lat n) ⟨j.val / 128, by omega⟩ ⟨j.val % 128, by omega⟩))
      (fun j => x3 (ix4 b (lat n) ⟨j.val / 128, by omega⟩ ⟨j.val % 128, by omega⟩))
      (fun j => x4 (ix4 b (lat n) ⟨j.val / 128, by omega⟩ ⟨j.val % 128, by omega⟩))
      (fun j => x5 (ix4 b (lat n) ⟨j.val / 128, by omega⟩ ⟨j.val % 128, by omega⟩))
      (fun j => siluK (x6 (ix3 b (lat n) j))) (fun j => sigK (x7 (ix3 b (lat n) j)))
      (fun j => x8 (ix3 b (lat n) j)) (fun j => x9 (ix3 b (lat n) j)) (fun j => x10 (ix3 b (lat n) j)) (fun l => x13 (ix1 l)) (fun l => x14 (ix1 l))
      (fun k j => x15 (ix2 k j)) (fun k j => x16 (ix2 k j)) (fun k j => x17 (ix2 k j))
      = fun j => (val_main_v57 (F := Ideal) x1 x2 x3 x4 x5 x6 x7 x8 x9 x10 x13 x14 x15 x16 x17 : Cert.Reference2Ideal.S4x8192x1024.Idx → EReal) (ix3 b n j) := by
    funext j
    rw [mix_ref]
    unfold mixRow
    simp only [branch1, branch2, silu_eq _ (hg _), sig_eq]
  rw [ey]
  have er : resid (fun j => x0 (ix3 b (lat n) j)) (fun j => x11 (ix3 b 5 j)) (fun j => (val_main_v57 (F := Ideal) x1 x2 x3 x4 x5 x6 x7 x8 x9 x10 x13 x14 x15 x16 x17 : Cert.Reference2Ideal.S4x8192x1024.Idx → EReal) (ix3 b n j)) (fun k j => x18 (ix2 k j))
      = fun j => (val_main_v64 (F := Ideal) x0 x1 x2 x3 x4 x5 x6 x7 x8 x9 x10 x11 x13 x14 x15 x16 x17 x18 : Cert.Reference2Ideal.S4x8192x1024.Idx → EReal) (ix3 b n j) := by
    funext j
    rw [res_ref]
  rw [er]
  have eh : hrow (fun j => (val_main_v64 (F := Ideal) x0 x1 x2 x3 x4 x5 x6 x7 x8 x9 x10 x11 x13 x14 x15 x16 x17 x18 : Cert.Reference2Ideal.S4x8192x1024.Idx → EReal) (ix3 b n j)) (fun j => x19 (ix1 j)) (fun j => x11 (ix3 b 7 j)) (fun j => x11 (ix3 b 6 j))
      = fun j => (val_main_v91 (F := Ideal) x0 x1 x2 x3 x4 x5 x6 x7 x8 x9 x10 x11 x13 x14 x15 x16 x17 x18 x19 : Cert.Reference2Ideal.S4x8192x1024.Idx → EReal) (ix3 b n j) := by
    funext j
    rw [norm_ref]
  rw [eh]
  refine outRow_eq _ _ _ _ _ _ fun f => ?_
  rw [← arg_ref]
  exact ha f

variable (m : (ℓ : Loc nD τ sig) → Buf (Elt Ideal) ℓ) (c : Dev nD)

/-- The kernel's output array is the reference's result on the same arguments. -/
theorem result_eq [hP : Cert.Pre_above_minus_inf.Facts] (h : Cert.Pre_Kernel2Ideal_above_minus_inf m) :
    (dats m 0 c).arrAt 19 cfg0.N = (val_main_v101 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) : S32768x1024.Idx → EReal) := by
  obtain ⟨p0, p1⟩ := h c
  have q0 := above_of _ _ _ ((pre_fst (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm.trans p0)
  have q1 := above_of _ _ _ ((pre_snd (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21))).symm.trans p1)
  rw [final]
  funext i
  obtain ⟨r, j, rfl⟩ : ∃ (r : Fin 32768) (j : Fin 1024), i = ix2 r j := ⟨i 0, i 1, funext fun a => by match a with | ⟨0, _⟩ => rfl | ⟨1, _⟩ => rfl⟩
  obtain ⟨b, hb⟩ : ∃ b : Fin 4, b.val = r.val / 8192 := ⟨⟨r.val / 8192, by omega⟩, rfl⟩
  obtain ⟨n, hn⟩ : ∃ n : Fin 8192, n.val = r.val % 8192 := ⟨⟨r.val % 8192, by omega⟩, rfl⟩
  have eR : rowOf (ix2 r j) = joined b (lat n) := Fin.ext (by
    show r.val / 8192 * 8448 + 256 + r.val % 8192 = b.val * 8448 + (256 + n.val)
    omega)
  have eB : sampOf (ix2 r j) = ⟨b.val, by omega⟩ := Fin.ext hb.symm
  refine Eq.trans ?_ (out_ref _ _ _ _ _ _ _ _ _ _ _ _ _ _ _ _ _ _ _ _ _ (ix2 r j) b n hb hn).symm
  show outFn (V m c main_v5) _ _ _ _ _ _ _ _ _ _ _ _ _ _ _ _ _ _ (rowOf (ix2 r j)) (sampOf (ix2 r j)) j = _
  rw [eR, eB]
  refine Eq.trans ?_ (value_eq _ _ _ _ _ _ _ _ _ _ _ _ _ _ _ _ _ _ _ _ _ b n j (fun k => (gate_ref _ b n k).symm.trans_ne (q0 (ix3 b n k))) (fun f => q1 (ix3 b n f)))
  exact outFn_of _ _ _ _ _ _ _ _ _ _ _ _ _ _ _ _ _ _ _ _ _ _ _ _ _ _ _ _ _ _ _ _ _ _ _ _ _ _ _ _ _ _ _ _ _ _
    (host_x _ b (lat n)) (host_att _ b (lat n)) (host_h2 _ b (lat n)) (host_h3 _ b (lat n)) (host_h4 _ b (lat n)) (host_h5 _ b (lat n)) (host_gr _ b (lat n)) (host_mo _ b (lat n))
    (host_g8 _ b (lat n)) (host_g9 _ b (lat n)) (host_g10 _ b (lat n)) (host_mod _ 5 b) (host_mod _ 6 b) (host_mod _ 7 b) (host_mod _ 8 b) (host_gn _) (host_mn _)
    (host_w15 _) (host_w16 _) (host_w17 _) (host_w18 _) (host_gain _) (host_w20 _) (host_w21 _)

end Cert.Merge
end
-- ==== Proof.MergeBits.lean ====
module

public import proofs.«01_k».proof.Defs
public import proofs.«01_k».proof.Proof.Gen.Kernel2
public import proofs.«01_k».proof.Proof.MergeFrame

/-! The merge call as the machine runs it: it is the same program as the ideal one, read at bit patterns, so its frame is
an instance of the run proved once for any floats. -/

@[expose] public section

set_option maxRecDepth 65536
set_option maxHeartbeats 4000000

noncomputable section

open Idealize.ShloMosaic Idealize.SL.Sem

namespace Cert.Merge

attribute [local instance] Cert.Kernel2.Gen.facts Cert.Kernel2Ideal.Gen.facts

/-- The two programs' tables of bodies are one table. -/
theorem bodies_eq : Cert.Kernel2.defs₀ (F := Bits) = Cert.Kernel2Ideal.defs₀ (F := Bits) := by
  unfold Cert.Kernel2.defs₀ Cert.Kernel2Ideal.defs₀
  refine congrArg Defs.onTc ?_
  funext l
  match l with
  | 0 =>
    funext ts
    obtain ⟨t, s⟩ := ts
    rfl

/-- So are their tables with the pipelines added. -/
theorem defs_eq : Cert.Kernel2.defs (F := Bits) = Cert.Kernel2Ideal.defs (F := Bits) :=
  congrArg (Pipeline.defs (Cert.Kernel2.pcfgs (F := Bits))) bodies_eq

/-- The merge call at bit patterns ends, leaves its arguments as they were and its semaphores at zero. -/
theorem frame2 : Cert.quiescent_Kernel2 (hKernel2 := Cert.Kernel2.Gen.facts) := fun m ρ _ => by
  rw [defs_eq]
  exact (θ_run Cert.Kernel2Ideal.defs _ _).mono (fun _ h => h) (Cert.Kernel2Ideal.Merge.frame (F := Bits) m ρ)

end Cert.Merge

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Reference2Ideal
public import proofs.«01_k».proof.Proof.Gen.Reference2Ideal.Read
public import proofs.«01_k».proof.Proof.Gen.Kernel3
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.FfnBits
public import proofs.«01_k».proof.Proof.FfnFinal
public import proofs.«01_k».proof.Proof.FfnSepBits
public import proofs.«01_k».proof.Proof.FfnSepFinal
public import Idealize.ShloMosaic.Adequacy
public import Idealize.ShloMosaic.Init
public import proofs.«01_k».proof.Proof.Gen.KernelIdeal.Value
public import proofs.«01_k».proof.Proof.Gen.ReferenceIdeal.Read
public import proofs.«01_k».proof.Proof.AttnFinal
public import proofs.«01_k».proof.Proof.MergeFinal
public import proofs.«01_k».proof.Proof.MergeBits

@[expose] public section

noncomputable section

namespace Cert.Proof

open Idealize.ShloMosaic Idealize.SL.Sem

/-- The reference runs, leaves its arguments as they were, and declares no semaphore. -/
theorem reference_frame : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From memories that agree on the arguments, the attention call and its reference end with equal results. -/
theorem algebraic : Cert.algebraic_KernelIdeal_ReferenceIdeal_pre_finite_logits (hKernelIdeal := Cert.KernelIdeal.Gen.facts)
    (hReferenceIdeal := Cert.ReferenceIdeal.Gen.facts) (hPre_finite_logits := Cert.AttnEq.pre_facts) := by
  intro m ρ m' ρ' hpre hag
  refine ⟨fun c => (Cert.KernelIdeal.Gen.dats m 0 c).arrAt 10 Cert.KernelIdeal.cfg0.N, Cert.KernelIdeal.Value.run_blocks m ρ,
    (θ_run _ _ _).mono (fun r h c => ⟨(h c).1.trans ?_, (h c).2⟩) (Cert.ReferenceIdeal.Value.run m' ρ')⟩
  obtain ⟨h0, h1, h2, h3, h4, h5, h6⟩ := hag c
  rw [Cert.ReferenceIdeal.Read.val_main_v102_eq m' c, h0, h1, h2, h3, h4, h5, h6]
  exact (Cert.AttnEq.out_eq (hP := Cert.AttnEq.pre_facts) m c hpre).symm

/-- The merge's reference runs, leaves its arguments as they were, and declares no semaphore. -/
theorem reference2_frame : Cert.quiescent_Reference2Ideal (hReference2Ideal := Cert.Reference2Ideal.Gen.facts) := fun m ρ _ =>
  (θ_run Cert.Reference2Ideal.defs _ _).mono (fun r h => ⟨fun c => (h c).2, sem_eq_zero_of_no_sems (by decide) r.2⟩)
    (Cert.Reference2Ideal.Value.run (F := Ideal) m ρ)

/-- From memories that agree on the arguments, the merge call and its reference end with equal results. -/
theorem algebraic2 : Cert.algebraic_Kernel2Ideal_Reference2Ideal_pre_above_minus_inf (hKernel2Ideal := Cert.Kernel2Ideal.Gen.facts)
    (hReference2Ideal := Cert.Reference2Ideal.Gen.facts) (hPre_above_minus_inf := Cert.Merge.pre_facts) := by
  intro m ρ m' ρ' hpre hag
  refine ⟨fun c => (Cert.Kernel2Ideal.Merge.dats m 0 c).arrAt 19 Cert.Kernel2Ideal.cfg0.N, Cert.Kernel2Ideal.Merge.run_blocks m ρ,
    (θ_run _ _ _).mono (fun r h c => ⟨(h c).1.trans ?_, (h c).2⟩) (Cert.Reference2Ideal.Value.run m' ρ')⟩
  obtain ⟨h0, h1, h2, h3, h4, h5, h6, h7, h8, h9, h10, h11, h12, h13, h14, h15, h16, h17, h18, h19, h20, h21⟩ := hag c
  rw [Cert.Reference2Ideal.Read.val_main_v101_eq m' c, h0, h1, h2, h3, h4, h5, h6, h7, h8, h9, h10, h11, h13, h14, h15, h16, h17, h18, h19, h20, h21]
  exact (Cert.Merge.result_eq (hP := Cert.Merge.pre_facts) m c hpre).symm

/-- The first feed-forward part's reference runs, leaves its arguments as they were, and declares no semaphore. -/
theorem reference3_frame : Cert.quiescent_Reference3Ideal (hReference3Ideal := Cert.Reference3Ideal.Gen.facts) := fun m ρ _ =>
  (θ_run Cert.Reference3Ideal.defs _ _).mono (fun r h => ⟨fun c => (h c).2, sem_eq_zero_of_no_sems (by decide) r.2⟩)
    (Cert.Reference3Ideal.Value.run (F := Ideal) m ρ)

/-- From memories that agree on the arguments, the first feed-forward call and its reference end with equal results. -/
theorem algebraic3 : Cert.algebraic_Kernel3Ideal_Reference3Ideal_pre_inner_above_minus_inf (hKernel3Ideal := Cert.Kernel3Ideal.Gen.facts)
    (hReference3Ideal := Cert.Reference3Ideal.Gen.facts) (hPre_inner_above_minus_inf := Cert.Ffn.pre_facts) := by
  intro m ρ m' ρ' hpre hag
  refine ⟨fun c => (Cert.Kernel3Ideal.Gen.dats m 0 c).arrAt 5 Cert.Kernel3Ideal.cfg0.N, Cert.Kernel3Ideal.Value.run_blocks m ρ,
    (θ_run _ _ _).mono (fun r h c => ⟨(h c).1.trans ?_, (h c).2⟩) (Cert.Reference3Ideal.Value.run m' ρ')⟩
  obtain ⟨h0, h1, h2, h3, h4, h5⟩ := hag c
  rw [Cert.Reference3Ideal.Read.val_main_v80_eq m' c, h0, h1, h2, h3, h4, h5]
  exact (Cert.Ffn.result_eq (hP := Cert.Ffn.pre_facts) m c hpre).symm

/-- The first feed-forward part's reference on separate streams runs, leaves its arguments as they were, and declares no semaphore. -/
theorem reference4_frame : Cert.quiescent_Reference4Ideal (hReference4Ideal := Cert.Reference4Ideal.Gen.facts) := fun m ρ _ =>
  (θ_run Cert.Reference4Ideal.defs _ _).mono (fun r h => ⟨fun c => (h c).2, sem_eq_zero_of_no_sems (by decide) r.2⟩)
    (Cert.Reference4Ideal.Value.run (F := Ideal) m ρ)

/-- From memories that agree on the arguments, the first feed-forward call on separate streams and its reference end with equal results. -/
theorem algebraic4 : Cert.algebraic_Kernel4Ideal_Reference4Ideal_pre_first_above_minus_inf (hKernel4Ideal := Cert.Kernel4Ideal.Gen.facts)
    (hReference4Ideal := Cert.Reference4Ideal.Gen.facts) (hPre_first_above_minus_inf := Cert.FfnSep.pre_facts) := by
  intro m ρ m' ρ' hpre hag
  refine ⟨fun c => (Cert.Kernel4Ideal.Gen.dats m 0 c).arrAt 7 Cert.Kernel4Ideal.cfg0.N, Cert.Kernel4Ideal.Value.run_blocks m ρ,
    (θ_run _ _ _).mono (fun r h c => ⟨(h c).1.trans ?_, (h c).2⟩) (Cert.Reference4Ideal.Value.run m' ρ')⟩
  obtain ⟨h0, h1, h2, h3, h4, h5, h6⟩ := hag c
  rw [Cert.Reference4Ideal.Read.val_main_v78_eq m' c, h0, h1, h2, h3, h4, h5, h6]
  exact (Cert.FfnSep.result_eq (hP := Cert.FfnSep.pre_facts) m c hpre).symm

/-- All claims. -/
theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.AttnEq.pre_facts, Cert.Merge.pre_facts, Cert.Ffn.pre_facts, Cert.FfnSep.pre_facts,
    fun m ρ _ => Cert.Kernel.Gen.frame m ρ, fun m ρ _ => Cert.KernelIdeal.Gen.frame m ρ, fun m ρ _ => Cert.KernelIdeal.Gen.frame m ρ,
    reference_frame, fun m ρ _ => reference_frame m ρ trivial,
    Cert.Merge.frame2, fun m ρ _ => Cert.Kernel2Ideal.Merge.frame m ρ, fun m ρ _ => Cert.Kernel2Ideal.Merge.frame m ρ,
    reference2_frame, fun m ρ _ => reference2_frame m ρ trivial,
    Cert.Ffn.frame3, fun m ρ _ => Cert.Kernel3Ideal.Gen.frame m ρ, fun m ρ _ => Cert.Kernel3Ideal.Gen.frame m ρ,
    reference3_frame, fun m ρ _ => reference3_frame m ρ trivial,
    Cert.FfnSep.frame4, fun m ρ _ => Cert.Kernel4Ideal.Gen.frame m ρ, fun m ρ _ => Cert.Kernel4Ideal.Gen.frame m ρ,
    reference4_frame, fun m ρ _ => reference4_frame m ρ trivial,
    trivial, algebraic, trivial, algebraic2, trivial, algebraic3, trivial, algebraic4⟩

end Cert.Proof

end
